-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v99)) (v2 : (c : Dev Cert.KernelIdeal.nD) → Buf (Elt Ideal) ((c.tc : Thread Cert.KernelIdeal.nD Cert.KernelIdeal.τ).loc Cert.KernelIdeal.main_v113)) (v3 : (c : Dev Cert.KernelIdeal.nD) → Buf (Elt Ideal) ((c.tc : Thread Cert.KernelIdeal.nD Cert.KernelIdeal.τ).loc Cert.KernelIdeal.main_v127)) (v4 : (c : Dev Cert.KernelIdeal.nD) → Buf (Elt Ideal) ((c.tc : Thread Cert.KernelIdeal.nD Cert.KernelIdeal.τ).loc Cert.KernelIdeal.main_v141)) (v5 : (c : Dev Cert.KernelIdeal.nD) → Buf (Elt Ideal) ((c.tc : Thread Cert.KernelIdeal.nD Cert.KernelIdeal.τ).loc Cert.KernelIdeal.main_v90)) (v6 : (c : Dev Cert.KernelIdeal.nD) → Buf (Elt Ideal) ((c.tc : Thread Cert.KernelIdeal.nD Cert.KernelIdeal.τ).loc Cert.KernelIdeal.main_v104)) (v7 : (c : Dev Cert.KernelIdeal.nD) → Buf (Elt Ideal) ((c.tc : Thread Cert.KernelIdeal.nD Cert.KernelIdeal.τ).loc Cert.KernelIdeal.main_v118)) (v8 : (c : Dev Cert.KernelIdeal.nD) → Buf (Elt Ideal) ((c.tc : Thread Cert.KernelIdeal.nD Cert.KernelIdeal.τ).loc Cert.KernelIdeal.main_v132)) (v9 : (c : Dev Cert.KernelIdeal.nD) → Buf (Elt Ideal) ((c.tc : Thread Cert.KernelIdeal.nD Cert.KernelIdeal.τ).loc Cert.KernelIdeal.main_v146)) (v10 : (c : Dev Cert.KernelIdeal.nD) → Buf (Elt Ideal) ((c.tc : Thread Cert.KernelIdeal.nD Cert.KernelIdeal.τ).loc Cert.KernelIdeal.main_v93)) (v11 : (c : Dev Cert.KernelIdeal.nD) → Buf (Elt Ideal) ((c.tc : Thread Cert.KernelIdeal.nD Cert.KernelIdeal.τ).loc Cert.KernelIdeal.main_v107)) (v12 : (c : Dev Cert.KernelIdeal.nD) → Buf (Elt Ideal) ((c.tc : Thread Cert.KernelIdeal.nD Cert.KernelIdeal.τ).loc Cert.KernelIdeal.main_v121)) (v13 : (c : Dev Cert.KernelIdeal.nD) → Buf (Elt Ideal) ((c.tc : Thread Cert.KernelIdeal.nD Cert.KernelIdeal.τ).loc Cert.KernelIdeal.main_v135)) (v14 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_v113) = v2 c
          ∧ r.2.mem ((c.tc : Thread Cert.KernelIdeal.nD Cert.KernelIdeal.τ).loc Cert.KernelIdeal.main_v127) = v3 c
          ∧ r.2.mem ((c.tc : Thread Cert.KernelIdeal.nD Cert.KernelIdeal.τ).loc Cert.KernelIdeal.main_v141) = v4 c
          ∧ r.2.mem ((c.tc : Thread Cert.KernelIdeal.nD Cert.KernelIdeal.τ).loc Cert.KernelIdeal.main_v90) = v5 c
          ∧ r.2.mem ((c.tc : Thread Cert.KernelIdeal.nD Cert.KernelIdeal.τ).loc Cert.KernelIdeal.main_v104) = v6 c
          ∧ r.2.mem ((c.tc : Thread Cert.KernelIdeal.nD Cert.KernelIdeal.τ).loc Cert.KernelIdeal.main_v118) = v7 c
          ∧ r.2.mem ((c.tc : Thread Cert.KernelIdeal.nD Cert.KernelIdeal.τ).loc Cert.KernelIdeal.main_v132) = v8 c
          ∧ r.2.mem ((c.tc : Thread Cert.KernelIdeal.nD Cert.KernelIdeal.τ).loc Cert.KernelIdeal.main_v146) = v9 c
          ∧ r.2.mem ((c.tc : Thread Cert.KernelIdeal.nD Cert.KernelIdeal.τ).loc Cert.KernelIdeal.main_v93) = v10 c
          ∧ r.2.mem ((c.tc : Thread Cert.KernelIdeal.nD Cert.KernelIdeal.τ).loc Cert.KernelIdeal.main_v107) = v11 c
          ∧ r.2.mem ((c.tc : Thread Cert.KernelIdeal.nD Cert.KernelIdeal.τ).loc Cert.KernelIdeal.main_v121) = v12 c
          ∧ r.2.mem ((c.tc : Thread Cert.KernelIdeal.nD Cert.KernelIdeal.τ).loc Cert.KernelIdeal.main_v135) = v13 c
          ∧ r.2.mem ((c.tc : Thread Cert.KernelIdeal.nD Cert.KernelIdeal.τ).loc Cert.KernelIdeal.main_v149) = v14 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v165) = v4 c
          ∧ r.2.mem ((c.tc : Thread Cert.ReferenceIdeal.nD Cert.ReferenceIdeal.τ).loc Cert.ReferenceIdeal.main_v203) = v5 c
          ∧ r.2.mem ((c.tc : Thread Cert.ReferenceIdeal.nD Cert.ReferenceIdeal.τ).loc Cert.ReferenceIdeal.main_v241) = v6 c
          ∧ r.2.mem ((c.tc : Thread Cert.ReferenceIdeal.nD Cert.ReferenceIdeal.τ).loc Cert.ReferenceIdeal.main_v279) = v7 c
          ∧ r.2.mem ((c.tc : Thread Cert.ReferenceIdeal.nD Cert.ReferenceIdeal.τ).loc Cert.ReferenceIdeal.main_v317) = v8 c
          ∧ r.2.mem ((c.tc : Thread Cert.ReferenceIdeal.nD Cert.ReferenceIdeal.τ).loc Cert.ReferenceIdeal.main_v355) = v9 c
          ∧ r.2.mem ((c.tc : Thread Cert.ReferenceIdeal.nD Cert.ReferenceIdeal.τ).loc Cert.ReferenceIdeal.main_v387) = v10 c
          ∧ r.2.mem ((c.tc : Thread Cert.ReferenceIdeal.nD Cert.ReferenceIdeal.τ).loc Cert.ReferenceIdeal.main_v419) = v11 c
          ∧ r.2.mem ((c.tc : Thread Cert.ReferenceIdeal.nD Cert.ReferenceIdeal.τ).loc Cert.ReferenceIdeal.main_v451) = v12 c
          ∧ r.2.mem ((c.tc : Thread Cert.ReferenceIdeal.nD Cert.ReferenceIdeal.τ).loc Cert.ReferenceIdeal.main_v483) = v13 c
          ∧ r.2.mem ((c.tc : Thread Cert.ReferenceIdeal.nD Cert.ReferenceIdeal.τ).loc Cert.ReferenceIdeal.main_v515) = v14 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x64x64 : Shape := ⟨4, ![1, 256, 64, 64]⟩
abbrev S1x256x32x32 : Shape := ⟨4, ![1, 256, 32, 32]⟩
abbrev S1x256x16x16 : Shape := ⟨4, ![1, 256, 16, 16]⟩
abbrev S1x256x8x8 : Shape := ⟨4, ![1, 256, 8, 8]⟩
abbrev S1x256x4x4 : Shape := ⟨4, ![1, 256, 4, 4]⟩
abbrev S4x256x256x3x3 : Shape := ⟨5, ![4, 256, 256, 3, 3]⟩
abbrev S4x256 : Shape := ⟨2, ![4, 256]⟩
abbrev S80x256x3x3 : Shape := ⟨4, ![80, 256, 3, 3]⟩
abbrev S80 : Shape := ⟨1, ![80]⟩
abbrev S4x256x3x3 : Shape := ⟨4, ![4, 256, 3, 3]⟩
abbrev S4 : Shape := ⟨1, ![4]⟩
abbrev S1x256x3x3 : Shape := ⟨4, ![1, 256, 3, 3]⟩
abbrev S1 : Shape := ⟨1, ![1]⟩
abbrev S5 : Shape := ⟨1, ![5]⟩
abbrev S_ : Shape := ⟨0, ![]⟩

class Facts : Prop where
  bcast_S_S1x256x64x64 : S_.BroadcastsInDim S1x256x64x64 (![] : Fin 0 → Fin S1x256x64x64.rank)
  reducesTo_S1x256x64x64_S_d0_1_2_3 : S1x256x64x64.ReducesTo [0, 1, 2, 3] S_
  h_S_ : 0 < S_.numel
  bcast_S_S1x256x32x32 : S_.BroadcastsInDim S1x256x32x32 (![] : Fin 0 → Fin S1x256x32x32.rank)
  reducesTo_S1x256x32x32_S_d0_1_2_3 : S1x256x32x32.ReducesTo [0, 1, 2, 3] S_
  bcast_S_S1x256x16x16 : S_.BroadcastsInDim S1x256x16x16 (![] : Fin 0 → Fin S1x256x16x16.rank)
  reducesTo_S1x256x16x16_S_d0_1_2_3 : S1x256x16x16.ReducesTo [0, 1, 2, 3] S_
  bcast_S_S1x256x8x8 : S_.BroadcastsInDim S1x256x8x8 (![] : Fin 0 → Fin S1x256x8x8.rank)
  reducesTo_S1x256x8x8_S_d0_1_2_3 : S1x256x8x8.ReducesTo [0, 1, 2, 3] S_
  bcast_S_S1x256x4x4 : S_.BroadcastsInDim S1x256x4x4 (![] : Fin 0 → Fin S1x256x4x4.rank)
  reducesTo_S1x256x4x4_S_d0_1_2_3 : S1x256x4x4.ReducesTo [0, 1, 2, 3] S_
  bcast_S_S4x256x256x3x3 : S_.BroadcastsInDim S4x256x256x3x3 (![] : Fin 0 → Fin S4x256x256x3x3.rank)
  reducesTo_S4x256x256x3x3_S_d0_1_2_3_4 : S4x256x256x3x3.ReducesTo [0, 1, 2, 3, 4] S_
  bcast_S_S4x256 : S_.BroadcastsInDim S4x256 (![] : Fin 0 → Fin S4x256.rank)
  reducesTo_S4x256_S_d0_1 : S4x256.ReducesTo [0, 1] S_

variable [Facts]

def fn_part3 {F : FTy → Type} [FloatOps F] (main_arg11 : FVec F S4x256 .f32) (main_arg12 : FVec F S4x256 .f32) (main_v48 : IVec S_ 1) (main_v49 : FVec F S4x256 .f32) (main_v50 : FVec F S4x256 .f32) : IVec S_ 1 :=
  let main_v51 : IVec S4x256 1 := cmpf .oeq main_v49 main_v50
  let main_c_19 : IVec S_ 1 := constantI S_ 1 1#1
  let main_v52 : IVec S_ 1 := (fun x v => Host.reduce IntOp.andi x v reducesTo_S4x256_S_d0_1 h_S_) main_v51 main_c_19
  let main_v53 : IVec S_ 1 := andi main_v48 main_v52
  let main_v54 : FVec F S4x256 .f32 := subf main_arg11 main_arg11
  let main_cst_20 : FVec F S_ .f32 := constant S_ .f32 0x00000000#32
  let main_v55 : FVec F S4x256 .f32 := broadcastInDim S4x256 ![] bcast_S_S4x256 main_cst_20
  let main_v56 : IVec S4x256 1 := cmpf .oeq main_v54 main_v55
  let main_c_21 : IVec S_ 1 := constantI S_ 1 1#1
  let main_v57 : IVec S_ 1 := (fun x v => Host.reduce IntOp.andi x v reducesTo_S4x256_S_d0_1 h_S_) main_v56 main_c_21
  let main_v58 : IVec S_ 1 := andi main_v53 main_v57
  let main_v59 : FVec F S4x256 .f32 := subf main_arg12 main_arg12
  let main_cst_22 : FVec F S_ .f32 := constant S_ .f32 0x00000000#32
  let main_v60 : FVec F S4x256 .f32 := broadcastInDim S4x256 ![] bcast_S_S4x256 main_cst_22
  let main_v61 : IVec S4x256 1 := cmpf .oeq main_v59 main_v60
  let main_c_23 : IVec S_ 1 := constantI S_ 1 1#1
  let main_v62 : IVec S_ 1 := (fun x v => Host.reduce IntOp.andi x v reducesTo_S4x256_S_d0_1 h_S_) main_v61 main_c_23
  let main_v63 : IVec S_ 1 := andi main_v58 main_v62
  main_v63

def fn_part2 {F : FTy → Type} [FloatOps F] (main_arg7 : FVec F S4x256 .f32) (main_arg8 : FVec F S4x256 .f32) (main_arg9 : FVec F S4x256x256x3x3 .f32) (main_arg10 : FVec F S4x256 .f32) (main_arg11 : FVec F S4x256 .f32) (main_arg12 : FVec F S4x256 .f32) (main_v33 : IVec S_ 1) : IVec S_ 1 :=
  let main_v34 : FVec F S4x256 .f32 := subf main_arg7 main_arg7
  let main_cst_12 : FVec F S_ .f32 := constant S_ .f32 0x00000000#32
  let main_v35 : FVec F S4x256 .f32 := broadcastInDim S4x256 ![] bcast_S_S4x256 main_cst_12
  let main_v36 : IVec S4x256 1 := cmpf .oeq main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S4x256 .f32 := subf main_arg8 main_arg8
  let main_cst_14 : FVec F S_ .f32 := constant S_ .f32 0x00000000#32
  let main_v40 : FVec F S4x256 .f32 := broadcastInDim S4x256 ![] bcast_S_S4x256 main_cst_14
  let main_v41 : IVec S4x256 1 := cmpf .oeq main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S4x256x256x3x3 .f32 := subf main_arg9 main_arg9
  let main_cst_16 : FVec F S_ .f32 := constant S_ .f32 0x00000000#32
  let main_v45 : FVec F S4x256x256x3x3 .f32 := broadcastInDim S4x256x256x3x3 ![] bcast_S_S4x256x256x3x3 main_cst_16
  let main_v46 : IVec S4x256x256x3x3 1 := cmpf .oeq main_v44 main_v45
  let main_c_17 : IVec S_ 1 := constantI S_ 1 1#1
  let main_v47 : IVec S_ 1 := (fun x v => Host.reduce IntOp.andi x v reducesTo_S4x256x256x3x3_S_d0_1_2_3_4 h_S_) main_v46 main_c_17
  let main_v48 : IVec S_ 1 := andi main_v43 main_v47
  let main_v49 : FVec F S4x256 .f32 := subf main_arg10 main_arg10
  let main_cst_18 : FVec F S_ .f32 := constant S_ .f32 0x00000000#32
  let main_v50 : FVec F S4x256 .f32 := broadcastInDim S4x256 ![] bcast_S_S4x256 main_cst_18
  fn_part3 (F := F) main_arg11 main_arg12 main_v48 main_v49 main_v50

def fn_part1 {F : FTy → Type} [FloatOps F] (main_arg4 : FVec F S1x256x4x4 .f32) (main_arg5 : FVec F S4x256x256x3x3 .f32) (main_arg6 : FVec F S4x256 .f32) (main_arg7 : FVec F S4x256 .f32) (main_arg8 : FVec F S4x256 .f32) (main_arg9 : FVec F S4x256x256x3x3 .f32) (main_arg10 : FVec F S4x256 .f32) (main_arg11 : FVec F S4x256 .f32) (main_arg12 : FVec F S4x256 .f32) (main_v13 : IVec S_ 1) (main_v16 : IVec S1x256x8x8 1) : IVec S_ 1 :=
  let main_c_5 : IVec S_ 1 := constantI S_ 1 1#1
  let main_v17 : IVec S_ 1 := (fun x v => Host.reduce IntOp.andi x v reducesTo_S1x256x8x8_S_d0_1_2_3 h_S_) main_v16 main_c_5
  let main_v18 : IVec S_ 1 := andi main_v13 main_v17
  let main_v19 : FVec F S1x256x4x4 .f32 := subf main_arg4 main_arg4
  let main_cst_6 : FVec F S_ .f32 := constant S_ .f32 0x00000000#32
  let main_v20 : FVec F S1x256x4x4 .f32 := broadcastInDim S1x256x4x4 ![] bcast_S_S1x256x4x4 main_cst_6
  let main_v21 : IVec S1x256x4x4 1 := cmpf .oeq main_v19 main_v20
  let main_c_7 : IVec S_ 1 := constantI S_ 1 1#1
  let main_v22 : IVec S_ 1 := (fun x v => Host.reduce IntOp.andi x v reducesTo_S1x256x4x4_S_d0_1_2_3 h_S_) main_v21 main_c_7
  let main_v23 : IVec S_ 1 := andi main_v18 main_v22
  let main_v24 : FVec F S4x256x256x3x3 .f32 := subf main_arg5 main_arg5
  let main_cst_8 : FVec F S_ .f32 := constant S_ .f32 0x00000000#32
  let main_v25 : FVec F S4x256x256x3x3 .f32 := broadcastInDim S4x256x256x3x3 ![] bcast_S_S4x256x256x3x3 main_cst_8
  let main_v26 : IVec S4x256x256x3x3 1 := cmpf .oeq main_v24 main_v25
  let main_c_9 : IVec S_ 1 := constantI S_ 1 1#1
  let main_v27 : IVec S_ 1 := (fun x v => Host.reduce IntOp.andi x v reducesTo_S4x256x256x3x3_S_d0_1_2_3_4 h_S_) main_v26 main_c_9
  let main_v28 : IVec S_ 1 := andi main_v23 main_v27
  let main_v29 : FVec F S4x256 .f32 := subf main_arg6 main_arg6
  let main_cst_10 : FVec F S_ .f32 := constant S_ .f32 0x00000000#32
  let main_v30 : FVec F S4x256 .f32 := broadcastInDim S4x256 ![] bcast_S_S4x256 main_cst_10
  let main_v31 : IVec S4x256 1 := cmpf .oeq main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1x256x64x64 .f32) (main_arg1 : FVec F S1x256x32x32 .f32) (main_arg2 : FVec F S1x256x16x16 .f32) (main_arg3 : FVec F S1x256x8x8 .f32) (main_arg4 : FVec F S1x256x4x4 .f32) (main_arg5 : FVec F S4x256x256x3x3 .f32) (main_arg6 : FVec F S4x256 .f32) (main_arg7 : FVec F S4x256 .f32) (main_arg8 : FVec F S4x256 .f32) (main_arg9 : FVec F S4x256x256x3x3 .f32) (main_arg10 : FVec F S4x256 .f32) (main_arg11 : FVec F S4x256 .f32) (main_arg12 : FVec F S4x256 .f32) (main_arg13 : FVec F S80x256x3x3 .f32) (main_arg14 : FVec F S80 .f32) (main_arg15 : FVec F S4x256x3x3 .f32) (main_arg16 : FVec F S4 .f32) (main_arg17 : FVec F S1x256x3x3 .f32) (main_arg18 : FVec F S1 .f32) (main_arg19 : FVec F S5 .f32) : IVec S_ 1 :=
  let main_v0 : FVec F S1x256x64x64 .f32 := subf main_arg0 main_arg0
  let main_cst : FVec F S_ .f32 := constant S_ .f32 0x00000000#32
  let main_v1 : FVec F S1x256x64x64 .f32 := broadcastInDim S1x256x64x64 ![] bcast_S_S1x256x64x64 main_cst
  let main_v2 : IVec S1x256x64x64 1 := cmpf .oeq main_v0 main_v1
  let main_c : IVec S_ 1 := constantI S_ 1 1#1
  let main_v3 : IVec S_ 1 := (fun x v => Host.reduce IntOp.andi x v reducesTo_S1x256x64x64_S_d0_1_2_3 h_S_) main_v2 main_c
  let main_v4 : FVec F S1x256x32x32 .f32 := subf main_arg1 main_arg1
  let main_cst_0 : FVec F S_ .f32 := constant S_ .f32 0x00000000#32
  let main_v5 : FVec F S1x256x32x32 .f32 := broadcastInDim S1x256x32x32 ![] bcast_S_S1x256x32x32 main_cst_0
  let main_v6 : IVec S1x256x32x32 1 := cmpf .oeq main_v4 main_v5
  let main_c_1 : IVec S_ 1 := constantI S_ 1 1#1
  let main_v7 : IVec S_ 1 := (fun x v => Host.reduce IntOp.andi x v reducesTo_S1x256x32x32_S_d0_1_2_3 h_S_) main_v6 main_c_1
  let main_v8 : IVec S_ 1 := andi main_v3 main_v7
  let main_v9 : FVec F S1x256x16x16 .f32 := subf main_arg2 main_arg2
  let main_cst_2 : FVec F S_ .f32 := constant S_ .f32 0x00000000#32
  let main_v10 : FVec F S1x256x16x16 .f32 := broadcastInDim S1x256x16x16 ![] bcast_S_S1x256x16x16 main_cst_2
  let main_v11 : IVec S1x256x16x16 1 := cmpf .oeq main_v9 main_v10
  let main_c_3 : IVec S_ 1 := constantI S_ 1 1#1
  let main_v12 : IVec S_ 1 := (fun x v => Host.reduce IntOp.andi x v reducesTo_S1x256x16x16_S_d0_1_2_3 h_S_) main_v11 main_c_3
  let main_v13 : IVec S_ 1 := andi main_v8 main_v12
  let main_v14 : FVec F S1x256x8x8 .f32 := subf main_arg3 main_arg3
  let main_cst_4 : FVec F S_ .f32 := constant S_ .f32 0x00000000#32
  let main_v15 : FVec F S1x256x8x8 .f32 := broadcastInDim S1x256x8x8 ![] bcast_S_S1x256x8x8 main_cst_4
  let main_v16 : IVec S1x256x8x8 1 := cmpf .oeq main_v14 main_v15
  fn_part1 (F := F) main_arg4 main_arg5 main_arg6 main_arg7 main_arg8 main_arg9 main_arg10 main_arg11 main_arg12 main_v13 main_v16
-- ==== Kernel.lean ====
abbrev S1x256x64x64 : Shape := ⟨4, ![1, 256, 64, 64]⟩
abbrev S1x256x32x32 : Shape := ⟨4, ![1, 256, 32, 32]⟩
abbrev S1x256x16x16 : Shape := ⟨4, ![1, 256, 16, 16]⟩
abbrev S1x256x8x8 : Shape := ⟨4, ![1, 256, 8, 8]⟩
abbrev S1x256x4x4 : Shape := ⟨4, ![1, 256, 4, 4]⟩
abbrev S4x256x256x3x3 : Shape := ⟨5, ![4, 256, 256, 3, 3]⟩
abbrev S4x256 : Shape := ⟨2, ![4, 256]⟩
abbrev S80x256x3x3 : Shape := ⟨4, ![80, 256, 3, 3]⟩
abbrev S80 : Shape := ⟨1, ![80]⟩
abbrev S4x256x3x3 : Shape := ⟨4, ![4, 256, 3, 3]⟩
abbrev S4 : Shape := ⟨1, ![4]⟩
abbrev S1x256x3x3 : Shape := ⟨4, ![1, 256, 3, 3]⟩
abbrev S1 : Shape := ⟨1, ![1]⟩
abbrev S5 : Shape := ⟨1, ![5]⟩
abbrev S4356x1 : Shape := ⟨2, ![4356, 1]⟩
abbrev S1156x1 : Shape := ⟨2, ![1156, 1]⟩
abbrev S324x1 : Shape := ⟨2, ![324, 1]⟩
abbrev S100x1 : Shape := ⟨2, ![100, 1]⟩
abbrev S36x1 : Shape := ⟨2, ![36, 1]⟩
abbrev S1x1x128 : Shape := ⟨3, ![1, 1, 128]⟩
abbrev S1x128 : Shape := ⟨2, ![1, 128]⟩
abbrev S256x256 : Shape := ⟨2, ![256, 256]⟩
abbrev S256x64x64 : Shape := ⟨3, ![256, 64, 64]⟩
abbrev S64x64x256 : Shape := ⟨3, ![64, 64, 256]⟩
abbrev S_ : Shape := ⟨0, ![]⟩
abbrev S66x66x256 : Shape := ⟨3, ![66, 66, 256]⟩
abbrev S4356x256 : Shape := ⟨2, ![4356, 256]⟩
abbrev S256x32x32 : Shape := ⟨3, ![256, 32, 32]⟩
abbrev S32x32x256 : Shape := ⟨3, ![32, 32, 256]⟩
abbrev S34x34x256 : Shape := ⟨3, ![34, 34, 256]⟩
abbrev S1156x256 : Shape := ⟨2, ![1156, 256]⟩
abbrev S256x16x16 : Shape := ⟨3, ![256, 16, 16]⟩
abbrev S16x16x256 : Shape := ⟨3, ![16, 16, 256]⟩
abbrev S18x18x256 : Shape := ⟨3, ![18, 18, 256]⟩
abbrev S324x256 : Shape := ⟨2, ![324, 256]⟩
abbrev S256x8x8 : Shape := ⟨3, ![256, 8, 8]⟩
abbrev S8x8x256 : Shape := ⟨3, ![8, 8, 256]⟩
abbrev S10x10x256 : Shape := ⟨3, ![10, 10, 256]⟩
abbrev S100x256 : Shape := ⟨2, ![100, 256]⟩
abbrev S256x4x4 : Shape := ⟨3, ![256, 4, 4]⟩
abbrev S4x4x256 : Shape := ⟨3, ![4, 4, 256]⟩
abbrev S6x6x256 : Shape := ⟨3, ![6, 6, 256]⟩
abbrev S36x256 : Shape := ⟨2, ![36, 256]⟩
abbrev S4x3x3x256x256 : Shape := ⟨5, ![4, 3, 3, 256, 256]⟩
abbrev S36x256x256 : Shape := ⟨3, ![36, 256, 256]⟩
abbrev S1x36x256x256 : Shape := ⟨4, ![1, 36, 256, 256]⟩
abbrev S2x36x256x256 : Shape := ⟨4, ![2, 36, 256, 256]⟩
abbrev S4x1x256 : Shape := ⟨3, ![4, 1, 256]⟩
abbrev S1x4x1x256 : Shape := ⟨4, ![1, 4, 1, 256]⟩
abbrev S2x4x1x256 : Shape := ⟨4, ![2, 4, 1, 256]⟩
abbrev S3x3x256x80 : Shape := ⟨4, ![3, 3, 256, 80]⟩
abbrev S9x256x80 : Shape := ⟨3, ![9, 256, 80]⟩
abbrev S9x256x128 : Shape := ⟨3, ![9, 256, 128]⟩
abbrev S5x256x3x3 : Shape := ⟨4, ![5, 256, 3, 3]⟩
abbrev S3x3x256x5 : Shape := ⟨4, ![3, 3, 256, 5]⟩
abbrev S9x256x5 : Shape := ⟨3, ![9, 256, 5]⟩
abbrev S1x9x256x128 : Shape := ⟨4, ![1, 9, 256, 128]⟩
abbrev S2x9x256x128 : Shape := ⟨4, ![2, 9, 256, 128]⟩
abbrev S128 : Shape := ⟨1, ![128]⟩
abbrev S2x1x128 : Shape := ⟨3, ![2, 1, 128]⟩
abbrev S5x1x1 : Shape := ⟨3, ![5, 1, 1]⟩
abbrev S5x1x128 : Shape := ⟨3, ![5, 1, 128]⟩
abbrev S1x5x1x128 : Shape := ⟨4, ![1, 5, 1, 128]⟩
abbrev S2x5x1x128 : Shape := ⟨4, ![2, 5, 1, 128]⟩
abbrev S2x4356x128 : Shape := ⟨3, ![2, 4356, 128]⟩
abbrev S2x1156x128 : Shape := ⟨3, ![2, 1156, 128]⟩
abbrev S2x324x128 : Shape := ⟨3, ![2, 324, 128]⟩
abbrev S2x100x128 : Shape := ⟨3, ![2, 100, 128]⟩
abbrev S2x36x128 : Shape := ⟨3, ![2, 36, 128]⟩
abbrev S4490x256 : Shape := ⟨2, ![4490, 256]⟩
abbrev S1226x256 : Shape := ⟨2, ![1226, 256]⟩
abbrev S362x256 : Shape := ⟨2, ![362, 256]⟩
abbrev S122x256 : Shape := ⟨2, ![122, 256]⟩
abbrev S50x256 : Shape := ⟨2, ![50, 256]⟩
abbrev S4358x256 : Shape := ⟨2, ![4358, 256]⟩
abbrev S1158x256 : Shape := ⟨2, ![1158, 256]⟩
abbrev S326x256 : Shape := ⟨2, ![326, 256]⟩
abbrev S102x256 : Shape := ⟨2, ![102, 256]⟩
abbrev S38x256 : Shape := ⟨2, ![38, 256]⟩
abbrev S1x1x256x256 : Shape := ⟨4, ![1, 1, 256, 256]⟩
abbrev S1x1x1x256 : Shape := ⟨4, ![1, 1, 1, 256]⟩
abbrev S1x256 : Shape := ⟨2, ![1, 256]⟩
abbrev S256 : Shape := ⟨1, ![256]⟩
abbrev S1x1x256x128 : Shape := ⟨4, ![1, 1, 256, 128]⟩
abbrev S256x128 : Shape := ⟨2, ![256, 128]⟩
abbrev S4356x128 : Shape := ⟨2, ![4356, 128]⟩
abbrev S1x1x1x128 : Shape := ⟨4, ![1, 1, 1, 128]⟩
abbrev S1x4356x128 : Shape := ⟨3, ![1, 4356, 128]⟩
abbrev S1156x128 : Shape := ⟨2, ![1156, 128]⟩
abbrev S1x1156x128 : Shape := ⟨3, ![1, 1156, 128]⟩
abbrev S324x128 : Shape := ⟨2, ![324, 128]⟩
abbrev S1x324x128 : Shape := ⟨3, ![1, 324, 128]⟩
abbrev S100x128 : Shape := ⟨2, ![100, 128]⟩
abbrev S1x100x128 : Shape := ⟨3, ![1, 100, 128]⟩
abbrev S36x128 : Shape := ⟨2, ![36, 128]⟩
abbrev S1x36x128 : Shape := ⟨3, ![1, 36, 128]⟩
abbrev S2x66x66x128 : Shape := ⟨4, ![2, 66, 66, 128]⟩
abbrev S1x64x64x80 : Shape := ⟨4, ![1, 64, 64, 80]⟩
abbrev S64x64x80 : Shape := ⟨3, ![64, 64, 80]⟩
abbrev S80x64x64 : Shape := ⟨3, ![80, 64, 64]⟩
abbrev S1x80x64x64 : Shape := ⟨4, ![1, 80, 64, 64]⟩
abbrev S1x64x64x5 : Shape := ⟨4, ![1, 64, 64, 5]⟩
abbrev S64x64x5 : Shape := ⟨3, ![64, 64, 5]⟩
abbrev S64x64x4 : Shape := ⟨3, ![64, 64, 4]⟩
abbrev S4x64x64 : Shape := ⟨3, ![4, 64, 64]⟩
abbrev S1x4x64x64 : Shape := ⟨4, ![1, 4, 64, 64]⟩
abbrev S64x64x1 : Shape := ⟨3, ![64, 64, 1]⟩
abbrev S1x64x64 : Shape := ⟨3, ![1, 64, 64]⟩
abbrev S1x1x64x64 : Shape := ⟨4, ![1, 1, 64, 64]⟩
abbrev S2x34x34x128 : Shape := ⟨4, ![2, 34, 34, 128]⟩
abbrev S1x32x32x80 : Shape := ⟨4, ![1, 32, 32, 80]⟩
abbrev S32x32x80 : Shape := ⟨3, ![32, 32, 80]⟩
abbrev S80x32x32 : Shape := ⟨3, ![80, 32, 32]⟩
abbrev S1x80x32x32 : Shape := ⟨4, ![1, 80, 32, 32]⟩
abbrev S1x32x32x5 : Shape := ⟨4, ![1, 32, 32, 5]⟩
abbrev S32x32x5 : Shape := ⟨3, ![32, 32, 5]⟩
abbrev S32x32x4 : Shape := ⟨3, ![32, 32, 4]⟩
abbrev S4x32x32 : Shape := ⟨3, ![4, 32, 32]⟩
abbrev S1x4x32x32 : Shape := ⟨4, ![1, 4, 32, 32]⟩
abbrev S32x32x1 : Shape := ⟨3, ![32, 32, 1]⟩
abbrev S1x32x32 : Shape := ⟨3, ![1, 32, 32]⟩
abbrev S1x1x32x32 : Shape := ⟨4, ![1, 1, 32, 32]⟩
abbrev S2x18x18x128 : Shape := ⟨4, ![2, 18, 18, 128]⟩
abbrev S1x16x16x80 : Shape := ⟨4, ![1, 16, 16, 80]⟩
abbrev S16x16x80 : Shape := ⟨3, ![16, 16, 80]⟩
abbrev S80x16x16 : Shape := ⟨3, ![80, 16, 16]⟩
abbrev S1x80x16x16 : Shape := ⟨4, ![1, 80, 16, 16]⟩
abbrev S1x16x16x5 : Shape := ⟨4, ![1, 16, 16, 5]⟩
abbrev S16x16x5 : Shape := ⟨3, ![16, 16, 5]⟩
abbrev S16x16x4 : Shape := ⟨3, ![16, 16, 4]⟩
abbrev S4x16x16 : Shape := ⟨3, ![4, 16, 16]⟩
abbrev S1x4x16x16 : Shape := ⟨4, ![1, 4, 16, 16]⟩
abbrev S16x16x1 : Shape := ⟨3, ![16, 16, 1]⟩
abbrev S1x16x16 : Shape := ⟨3, ![1, 16, 16]⟩
abbrev S1x1x16x16 : Shape := ⟨4, ![1, 1, 16, 16]⟩
abbrev S2x10x10x128 : Shape := ⟨4, ![2, 10, 10, 128]⟩
abbrev S1x8x8x80 : Shape := ⟨4, ![1, 8, 8, 80]⟩
abbrev S8x8x80 : Shape := ⟨3, ![8, 8, 80]⟩
abbrev S80x8x8 : Shape := ⟨3, ![80, 8, 8]⟩
abbrev S1x80x8x8 : Shape := ⟨4, ![1, 80, 8, 8]⟩
abbrev S1x8x8x5 : Shape := ⟨4, ![1, 8, 8, 5]⟩
abbrev S8x8x5 : Shape := ⟨3, ![8, 8, 5]⟩
abbrev S8x8x4 : Shape := ⟨3, ![8, 8, 4]⟩
abbrev S4x8x8 : Shape := ⟨3, ![4, 8, 8]⟩
abbrev S1x4x8x8 : Shape := ⟨4, ![1, 4, 8, 8]⟩
abbrev S8x8x1 : Shape := ⟨3, ![8, 8, 1]⟩
abbrev S1x8x8 : Shape := ⟨3, ![1, 8, 8]⟩
abbrev S1x1x8x8 : Shape := ⟨4, ![1, 1, 8, 8]⟩
abbrev S2x6x6x128 : Shape := ⟨4, ![2, 6, 6, 128]⟩
abbrev S1x4x4x80 : Shape := ⟨4, ![1, 4, 4, 80]⟩
abbrev S4x4x80 : Shape := ⟨3, ![4, 4, 80]⟩
abbrev S80x4x4 : Shape := ⟨3, ![80, 4, 4]⟩
abbrev S1x80x4x4 : Shape := ⟨4, ![1, 80, 4, 4]⟩
abbrev S1x4x4x5 : Shape := ⟨4, ![1, 4, 4, 5]⟩
abbrev S4x4x5 : Shape := ⟨3, ![4, 4, 5]⟩
abbrev S4x4x4 : Shape := ⟨3, ![4, 4, 4]⟩
abbrev S1x4x4x4 : Shape := ⟨4, ![1, 4, 4, 4]⟩
abbrev S4x4x1 : Shape := ⟨3, ![4, 4, 1]⟩
abbrev S1x4x4 : Shape := ⟨3, ![1, 4, 4]⟩
abbrev S1x1x4x4 : Shape := ⟨4, ![1, 1, 4, 4]⟩

abbrev nBuf : Space → Nat
  | .hbm => 207
  | .vmem => 34
  | .smem => 0
  | _ => 0

abbrev hbmTy0_0 (i : Nat) : BufTy := match i % 128 with
  | 0 => ⟨S1x256x64x64, .f32⟩
  | 1 => ⟨S1x256x32x32, .f32⟩
  | 2 => ⟨S1x256x16x16, .f32⟩
  | 3 => ⟨S1x256x8x8, .f32⟩
  | 4 => ⟨S1x256x4x4, .f32⟩
  | 5 => ⟨S4x256x256x3x3, .f32⟩
  | 6 => ⟨S4x256, .f32⟩
  | 7 => ⟨S4x256, .f32⟩
  | 8 => ⟨S4x256, .f32⟩
  | 9 => ⟨S4x256x256x3x3, .f32⟩
  | 10 => ⟨S4x256, .f32⟩
  | 11 => ⟨S4x256, .f32⟩
  | 12 => ⟨S4x256, .f32⟩
  | 13 => ⟨S80x256x3x3, .f32⟩
  | 14 => ⟨S80, .f32⟩
  | 15 => ⟨S4x256x3x3, .f32⟩
  | 16 => ⟨S4, .f32⟩
  | 17 => ⟨S1x256x3x3, .f32⟩
  | 18 => ⟨S1, .f32⟩
  | 19 => ⟨S5, .f32⟩
  | 20 => ⟨S4356x1, .f32⟩
  | 21 => ⟨S1156x1, .f32⟩
  | 22 => ⟨S324x1, .f32⟩
  | 23 => ⟨S100x1, .f32⟩
  | 24 => ⟨S36x1, .f32⟩
  | 25 => ⟨S1x1x128, .i1⟩
  | 26 => ⟨S1x128, .f32⟩
  | 27 => ⟨S256x256, .f32⟩
  | 28 => ⟨S256x64x64, .f32⟩
  | 29 => ⟨S64x64x256, .f32⟩
  | 30 => ⟨S_, .i32⟩
  | 31 => ⟨S_, .f32⟩
  | 32 => ⟨S66x66x256, .f32⟩
  | 33 => ⟨S4356x256, .f32⟩
  | 34 => ⟨S4356x256, .bf16⟩
  | 35 => ⟨S256x32x32, .f32⟩
  | 36 => ⟨S32x32x256, .f32⟩
  | 37 => ⟨S_, .i32⟩
  | 38 => ⟨S_, .f32⟩
  | 39 => ⟨S34x34x256, .f32⟩
  | 40 => ⟨S1156x256, .f32⟩
  | 41 => ⟨S1156x256, .bf16⟩
  | 42 => ⟨S256x16x16, .f32⟩
  | 43 => ⟨S16x16x256, .f32⟩
  | 44 => ⟨S_, .i32⟩
  | 45 => ⟨S_, .f32⟩
  | 46 => ⟨S18x18x256, .f32⟩
  | 47 => ⟨S324x256, .f32⟩
  | 48 => ⟨S324x256, .bf16⟩
  | 49 => ⟨S256x8x8, .f32⟩
  | 50 => ⟨S8x8x256, .f32⟩
  | 51 => ⟨S_, .i32⟩
  | 52 => ⟨S_, .f32⟩
  | 53 => ⟨S10x10x256, .f32⟩
  | 54 => ⟨S100x256, .f32⟩
  | 55 => ⟨S100x256, .bf16⟩
  | 56 => ⟨S256x4x4, .f32⟩
  | 57 => ⟨S4x4x256, .f32⟩
  | 58 => ⟨S_, .i32⟩
  | 59 => ⟨S_, .f32⟩
  | 60 => ⟨S6x6x256, .f32⟩
  | 61 => ⟨S36x256, .f32⟩
  | 62 => ⟨S36x256, .bf16⟩
  | 63 => ⟨S4x3x3x256x256, .f32⟩
  | 64 => ⟨S36x256x256, .f32⟩
  | 65 => ⟨S36x256x256, .bf16⟩
  | 66 => ⟨S4x3x3x256x256, .f32⟩
  | 67 => ⟨S36x256x256, .f32⟩
  | 68 => ⟨S36x256x256, .bf16⟩
  | 69 => ⟨S1x36x256x256, .bf16⟩
  | 70 => ⟨S1x36x256x256, .bf16⟩
  | 71 => ⟨S2x36x256x256, .bf16⟩
  | 72 => ⟨S4x1x256, .f32⟩
  | 73 => ⟨S4x1x256, .f32⟩
  | 74 => ⟨S1x4x1x256, .f32⟩
  | 75 => ⟨S1x4x1x256, .f32⟩
  | 76 => ⟨S2x4x1x256, .f32⟩
  | 77 => ⟨S4x1x256, .f32⟩
  | 78 => ⟨S4x1x256, .f32⟩
  | 79 => ⟨S1x4x1x256, .f32⟩
  | 80 => ⟨S1x4x1x256, .f32⟩
  | 81 => ⟨S2x4x1x256, .f32⟩
  | 82 => ⟨S4x1x256, .f32⟩
  | 83 => ⟨S4x1x256, .f32⟩
  | 84 => ⟨S1x4x1x256, .f32⟩
  | 85 => ⟨S1x4x1x256, .f32⟩
  | 86 => ⟨S2x4x1x256, .f32⟩
  | 87 => ⟨S3x3x256x80, .f32⟩
  | 88 => ⟨S9x256x80, .f32⟩
  | 89 => ⟨S_, .i32⟩
  | 90 => ⟨S_, .f32⟩
  | 91 => ⟨S9x256x128, .f32⟩
  | 92 => ⟨S9x256x128, .bf16⟩
  | 93 => ⟨S5x256x3x3, .f32⟩
  | 94 => ⟨S3x3x256x5, .f32⟩
  | 95 => ⟨S9x256x5, .f32⟩
  | 96 => ⟨S_, .i32⟩
  | 97 => ⟨S_, .f32⟩
  | 98 => ⟨S9x256x128, .f32⟩
  | 99 => ⟨S9x256x128, .bf16⟩
  | 100 => ⟨S1x9x256x128, .bf16⟩
  | 101 => ⟨S1x9x256x128, .bf16⟩
  | 102 => ⟨S2x9x256x128, .bf16⟩
  | 103 => ⟨S_, .i32⟩
  | 104 => ⟨S_, .f32⟩
  | 105 => ⟨S128, .f32⟩
  | 106 => ⟨S1x128, .f32⟩
  | 107 => ⟨S5, .f32⟩
  | 108 => ⟨S_, .i32⟩
  | 109 => ⟨S_, .f32⟩
  | 110 => ⟨S128, .f32⟩
  | 111 => ⟨S1x128, .f32⟩
  | 112 => ⟨S1x1x128, .f32⟩
  | 113 => ⟨S1x1x128, .f32⟩
  | 114 => ⟨S2x1x128, .f32⟩
  | 115 => ⟨S5x1x1, .f32⟩
  | 116 => ⟨S_, .f32⟩
  | 117 => ⟨S_, .f32⟩
  | 118 => ⟨S5x1x128, .i1⟩
  | 119 => ⟨S5x1x128, .f32⟩
  | 120 => ⟨S5x1x128, .f32⟩
  | 121 => ⟨S5x1x128, .f32⟩
  | 122 => ⟨S_, .f32⟩
  | 123 => ⟨S5x1x128, .f32⟩
  | 124 => ⟨S1x5x1x128, .f32⟩
  | 125 => ⟨S1x5x1x128, .f32⟩
  | 126 => ⟨S2x5x1x128, .f32⟩
  | 127 => ⟨S_, .f32⟩
  | _ => ⟨S1x256x64x64, .f32⟩

abbrev hbmTy0_1 (i : Nat) : BufTy := match i % 128 with
  | 0 => ⟨S1x128, .f32⟩
  | 1 => ⟨S1x1x128, .f32⟩
  | 2 => ⟨S1x1x128, .f32⟩
  | 3 => ⟨S2x1x128, .f32⟩
  | 4 => ⟨S2x4356x128, .bf16⟩
  | 5 => ⟨S2x1156x128, .bf16⟩
  | 6 => ⟨S2x324x128, .bf16⟩
  | 7 => ⟨S2x100x128, .bf16⟩
  | 8 => ⟨S2x36x128, .bf16⟩
  | 9 => ⟨S2x4356x128, .f32⟩
  | 10 => ⟨S2x66x66x128, .f32⟩
  | 11 => ⟨S1x64x64x80, .f32⟩
  | 12 => ⟨S64x64x80, .f32⟩
  | 13 => ⟨S80x64x64, .f32⟩
  | 14 => ⟨S1x80x64x64, .f32⟩
  | 15 => ⟨S1x64x64x5, .f32⟩
  | 16 => ⟨S64x64x5, .f32⟩
  | 17 => ⟨S64x64x4, .f32⟩
  | 18 => ⟨S4x64x64, .f32⟩
  | 19 => ⟨S1x4x64x64, .f32⟩
  | 20 => ⟨S64x64x1, .f32⟩
  | 21 => ⟨S1x64x64, .f32⟩
  | 22 => ⟨S1x1x64x64, .f32⟩
  | 23 => ⟨S2x1156x128, .f32⟩
  | 24 => ⟨S2x34x34x128, .f32⟩
  | 25 => ⟨S1x32x32x80, .f32⟩
  | 26 => ⟨S32x32x80, .f32⟩
  | 27 => ⟨S80x32x32, .f32⟩
  | 28 => ⟨S1x80x32x32, .f32⟩
  | 29 => ⟨S1x32x32x5, .f32⟩
  | 30 => ⟨S32x32x5, .f32⟩
  | 31 => ⟨S32x32x4, .f32⟩
  | 32 => ⟨S4x32x32, .f32⟩
  | 33 => ⟨S1x4x32x32, .f32⟩
  | 34 => ⟨S32x32x1, .f32⟩
  | 35 => ⟨S1x32x32, .f32⟩
  | 36 => ⟨S1x1x32x32, .f32⟩
  | 37 => ⟨S2x324x128, .f32⟩
  | 38 => ⟨S2x18x18x128, .f32⟩
  | 39 => ⟨S1x16x16x80, .f32⟩
  | 40 => ⟨S16x16x80, .f32⟩
  | 41 => ⟨S80x16x16, .f32⟩
  | 42 => ⟨S1x80x16x16, .f32⟩
  | 43 => ⟨S1x16x16x5, .f32⟩
  | 44 => ⟨S16x16x5, .f32⟩
  | 45 => ⟨S16x16x4, .f32⟩
  | 46 => ⟨S4x16x16, .f32⟩
  | 47 => ⟨S1x4x16x16, .f32⟩
  | 48 => ⟨S16x16x1, .f32⟩
  | 49 => ⟨S1x16x16, .f32⟩
  | 50 => ⟨S1x1x16x16, .f32⟩
  | 51 => ⟨S2x100x128, .f32⟩
  | 52 => ⟨S2x10x10x128, .f32⟩
  | 53 => ⟨S1x8x8x80, .f32⟩
  | 54 => ⟨S8x8x80, .f32⟩
  | 55 => ⟨S80x8x8, .f32⟩
  | 56 => ⟨S1x80x8x8, .f32⟩
  | 57 => ⟨S1x8x8x5, .f32⟩
  | 58 => ⟨S8x8x5, .f32⟩
  | 59 => ⟨S8x8x4, .f32⟩
  | 60 => ⟨S4x8x8, .f32⟩
  | 61 => ⟨S1x4x8x8, .f32⟩
  | 62 => ⟨S8x8x1, .f32⟩
  | 63 => ⟨S1x8x8, .f32⟩
  | 64 => ⟨S1x1x8x8, .f32⟩
  | 65 => ⟨S2x36x128, .f32⟩
  | 66 => ⟨S2x6x6x128, .f32⟩
  | 67 => ⟨S1x4x4x80, .f32⟩
  | 68 => ⟨S4x4x80, .f32⟩
  | 69 => ⟨S80x4x4, .f32⟩
  | 70 => ⟨S1x80x4x4, .f32⟩
  | 71 => ⟨S1x4x4x5, .f32⟩
  | 72 => ⟨S4x4x5, .f32⟩
  | 73 => ⟨S4x4x4, .f32⟩
  | 74 => ⟨S4x4x4, .f32⟩
  | 75 => ⟨S1x4x4x4, .f32⟩
  | 76 => ⟨S4x4x1, .f32⟩
  | 77 => ⟨S1x4x4, .f32⟩
  | 78 => ⟨S1x1x4x4, .f32⟩
  | _ => ⟨S1x256x64x64, .f32⟩

abbrev hbmTy (i : Nat) : BufTy := match i / 128 with
  | 0 => hbmTy0_0 i
  | 1 => hbmTy0_1 i
  | _ => ⟨S1x256x64x64, .f32⟩

abbrev bufTy : (tb : Table) → Fin (tcTables nBuf tb) → BufTy
  | .hbm, ⟨i, _⟩ => hbmTy i
  | .local _ .vmem, ⟨0, _⟩ => ⟨S4356x256, .bf16⟩
  | .local _ .vmem, ⟨1, _⟩ => ⟨S1156x256, .bf16⟩
  | .local _ .vmem, ⟨2, _⟩ => ⟨S324x256, .bf16⟩
  | .local _ .vmem, ⟨3, _⟩ => ⟨S100x256, .bf16⟩
  | .local _ .vmem, ⟨4, _⟩ => ⟨S36x256, .bf16⟩
  | .local _ .vmem, ⟨5, _⟩ => ⟨S2x36x256x256, .bf16⟩
  | .local _ .vmem, ⟨6, _⟩ => ⟨S2x4x1x256, .f32⟩
  | .local _ .vmem, ⟨7, _⟩ => ⟨S2x4x1x256, .f32⟩
  | .local _ .vmem, ⟨8, _⟩ => ⟨S2x4x1x256, .f32⟩
  | .local _ .vmem, ⟨9, _⟩ => ⟨S2x9x256x128, .bf16⟩
  | .local _ .vmem, ⟨10, _⟩ => ⟨S2x1x128, .f32⟩
  | .local _ .vmem, ⟨11, _⟩ => ⟨S2x5x1x128, .f32⟩
  | .local _ .vmem, ⟨12, _⟩ => ⟨S2x1x128, .f32⟩
  | .local _ .vmem, ⟨13, _⟩ => ⟨S256x256, .f32⟩
  | .local _ .vmem, ⟨14, _⟩ => ⟨S4356x1, .f32⟩
  | .local _ .vmem, ⟨15, _⟩ => ⟨S1156x1, .f32⟩
  | .local _ .vmem, ⟨16, _⟩ => ⟨S324x1, .f32⟩
  | .local _ .vmem, ⟨17, _⟩ => ⟨S100x1, .f32⟩
  | .local _ .vmem, ⟨18, _⟩ => ⟨S36x1, .f32⟩
  | .local _ .vmem, ⟨19, _⟩ => ⟨S2x4356x128, .bf16⟩
  | .local _ .vmem, ⟨20, _⟩ => ⟨S2x1156x128, .bf16⟩
  | .local _ .vmem, ⟨21, _⟩ => ⟨S2x324x128, .bf16⟩
  | .local _ .vmem, ⟨22, _⟩ => ⟨S2x100x128, .bf16⟩
  | .local _ .vmem, ⟨23, _⟩ => ⟨S2x36x128, .bf16⟩
  | .local _ .vmem, ⟨24, _⟩ => ⟨S4490x256, .bf16⟩
  | .local _ .vmem, ⟨25, _⟩ => ⟨S1226x256, .bf16⟩
  | .local _ .vmem, ⟨26, _⟩ => ⟨S362x256, .bf16⟩
  | .local _ .vmem, ⟨27, _⟩ => ⟨S122x256, .bf16⟩
  | .local _ .vmem, ⟨28, _⟩ => ⟨S50x256, .bf16⟩
  | .local _ .vmem, ⟨29, _⟩ => ⟨S4490x256, .bf16⟩
  | .local _ .vmem, ⟨30, _⟩ => ⟨S1226x256, .bf16⟩
  | .local _ .vmem, ⟨31, _⟩ => ⟨S362x256, .bf16⟩
  | .local _ .vmem, ⟨32, _⟩ => ⟨S122x256, .bf16⟩
  | .local _ .vmem, ⟨33, _⟩ => ⟨S50x256, .bf16⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_cst_1 : Ref sig .tc := ⟨.hbm, 22, rfl⟩
abbrev main_cst_2 : Ref sig .tc := ⟨.hbm, 23, rfl⟩
abbrev main_cst_3 : Ref sig .tc := ⟨.hbm, 24, rfl⟩
abbrev main_c : Ref sig .tc := ⟨.hbm, 25, rfl⟩
abbrev main_cst_4 : Ref sig .tc := ⟨.hbm, 26, rfl⟩
abbrev main_cst_5 : Ref sig .tc := ⟨.hbm, 27, rfl⟩
abbrev main_v0 : Ref sig .tc := ⟨.hbm, 28, rfl⟩
abbrev main_v1 : Ref sig .tc := ⟨.hbm, 29, rfl⟩
abbrev main_c_6 : Ref sig .tc := ⟨.hbm, 30, rfl⟩
abbrev main_call0_v0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c_7 : Ref sig .tc := ⟨.hbm, 37, rfl⟩
abbrev main_call1_v0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c_8 : Ref sig .tc := ⟨.hbm, 44, rfl⟩
abbrev main_call2_v0 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c_9 : Ref sig .tc := ⟨.hbm, 51, rfl⟩
abbrev main_call3_v0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_10 : Ref sig .tc := ⟨.hbm, 58, rfl⟩
abbrev main_call4_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_11 : Ref sig .tc := ⟨.hbm, 89, rfl⟩
abbrev main_call5_v0 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_12 : Ref sig .tc := ⟨.hbm, 96, rfl⟩
abbrev main_call6_v0 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_13 : Ref sig .tc := ⟨.hbm, 103, rfl⟩
abbrev main_call7_v0 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_c_14 : Ref sig .tc := ⟨.hbm, 108, rfl⟩
abbrev main_call8_v0 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_15 : Ref sig .tc := ⟨.hbm, 116, rfl⟩
abbrev main_call9_v0 : Ref sig .tc := ⟨.hbm, 117, rfl⟩
abbrev main_call9_v1 : Ref sig .tc := ⟨.hbm, 118, rfl⟩
abbrev main_call9_v2 : Ref sig .tc := ⟨.hbm, 119, rfl⟩
abbrev main_call9_v3 : Ref sig .tc := ⟨.hbm, 120, rfl⟩
abbrev main_v70 : Ref sig .tc := ⟨.hbm, 121, rfl⟩
abbrev main_cst_16 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_17 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79_0 : Ref sig .tc := ⟨.hbm, 132, rfl⟩
abbrev main_v79_1 : Ref sig .tc := ⟨.hbm, 133, rfl⟩
abbrev main_v79_2 : Ref sig .tc := ⟨.hbm, 134, rfl⟩
abbrev main_v79_3 : Ref sig .tc := ⟨.hbm, 135, rfl⟩
abbrev main_v79_4 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S4356x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1156x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S324x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x36x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x9x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x5x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4356x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1156x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S324x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S100x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S36x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x4356x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1156x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x324x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x100x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x36x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceIdeal.lean ====
abbrev S1x256x64x64 : Shape := ⟨4, ![1, 256, 64, 64]⟩
abbrev S1x256x32x32 : Shape := ⟨4, ![1, 256, 32, 32]⟩
abbrev S1x256x16x16 : Shape := ⟨4, ![1, 256, 16, 16]⟩
abbrev S1x256x8x8 : Shape := ⟨4, ![1, 256, 8, 8]⟩
abbrev S1x256x4x4 : Shape := ⟨4, ![1, 256, 4, 4]⟩
abbrev S4x256x256x3x3 : Shape := ⟨5, ![4, 256, 256, 3, 3]⟩
abbrev S4x256 : Shape := ⟨2, ![4, 256]⟩
abbrev S80x256x3x3 : Shape := ⟨4, ![80, 256, 3, 3]⟩
abbrev S80 : Shape := ⟨1, ![80]⟩
abbrev S4x256x3x3 : Shape := ⟨4, ![4, 256, 3, 3]⟩
abbrev S4 : Shape := ⟨1, ![4]⟩
abbrev S1x256x3x3 : Shape := ⟨4, ![1, 256, 3, 3]⟩
abbrev S1 : Shape := ⟨1, ![1]⟩
abbrev S5 : Shape := ⟨1, ![5]⟩
abbrev S256x64x64 : Shape := ⟨3, ![256, 64, 64]⟩
abbrev S256x32x32 : Shape := ⟨3, ![256, 32, 32]⟩
abbrev S256x16x16 : Shape := ⟨3, ![256, 16, 16]⟩
abbrev S256x8x8 : Shape := ⟨3, ![256, 8, 8]⟩
abbrev S256x4x4 : Shape := ⟨3, ![256, 4, 4]⟩
abbrev S_ : Shape := ⟨0, ![]⟩
abbrev S1x256x256x3x3 : Shape := ⟨5, ![1, 256, 256, 3, 3]⟩
abbrev S256x256x3x3 : Shape := ⟨4, ![256, 256, 3, 3]⟩
abbrev S1x256 : Shape := ⟨2, ![1, 256]⟩
abbrev S256 : Shape := ⟨1, ![256]⟩
abbrev S256x66x66 : Shape := ⟨3, ![256, 66, 66]⟩
abbrev S256x3x3x66x66 : Shape := ⟨5, ![256, 3, 3, 66, 66]⟩
abbrev S256x1x1x64x64 : Shape := ⟨5, ![256, 1, 1, 64, 64]⟩
abbrev S256x1x1 : Shape := ⟨3, ![256, 1, 1]⟩
abbrev S32x8x64x64 : Shape := ⟨4, ![32, 8, 64, 64]⟩
abbrev S32 : Shape := ⟨1, ![32]⟩
abbrev S32x1x1x1 : Shape := ⟨4, ![32, 1, 1, 1]⟩
abbrev S256x34x34 : Shape := ⟨3, ![256, 34, 34]⟩
abbrev S256x3x3x34x34 : Shape := ⟨5, ![256, 3, 3, 34, 34]⟩
abbrev S256x1x1x32x32 : Shape := ⟨5, ![256, 1, 1, 32, 32]⟩
abbrev S32x8x32x32 : Shape := ⟨4, ![32, 8, 32, 32]⟩
abbrev S256x18x18 : Shape := ⟨3, ![256, 18, 18]⟩
abbrev S256x3x3x18x18 : Shape := ⟨5, ![256, 3, 3, 18, 18]⟩
abbrev S256x1x1x16x16 : Shape := ⟨5, ![256, 1, 1, 16, 16]⟩
abbrev S32x8x16x16 : Shape := ⟨4, ![32, 8, 16, 16]⟩
abbrev S256x10x10 : Shape := ⟨3, ![256, 10, 10]⟩
abbrev S256x3x3x10x10 : Shape := ⟨5, ![256, 3, 3, 10, 10]⟩
abbrev S256x1x1x8x8 : Shape := ⟨5, ![256, 1, 1, 8, 8]⟩
abbrev S32x8x8x8 : Shape := ⟨4, ![32, 8, 8, 8]⟩
abbrev S256x6x6 : Shape := ⟨3, ![256, 6, 6]⟩
abbrev S256x3x3x6x6 : Shape := ⟨5, ![256, 3, 3, 6, 6]⟩
abbrev S256x1x1x4x4 : Shape := ⟨5, ![256, 1, 1, 4, 4]⟩
abbrev S32x8x4x4 : Shape := ⟨4, ![32, 8, 4, 4]⟩
abbrev S80x3x3x66x66 : Shape := ⟨5, ![80, 3, 3, 66, 66]⟩
abbrev S80x1x1x64x64 : Shape := ⟨5, ![80, 1, 1, 64, 64]⟩
abbrev S80x64x64 : Shape := ⟨3, ![80, 64, 64]⟩
abbrev S80x1x1 : Shape := ⟨3, ![80, 1, 1]⟩
abbrev S1x80x64x64 : Shape := ⟨4, ![1, 80, 64, 64]⟩
abbrev S80x3x3x34x34 : Shape := ⟨5, ![80, 3, 3, 34, 34]⟩
abbrev S80x1x1x32x32 : Shape := ⟨5, ![80, 1, 1, 32, 32]⟩
abbrev S80x32x32 : Shape := ⟨3, ![80, 32, 32]⟩
abbrev S1x80x32x32 : Shape := ⟨4, ![1, 80, 32, 32]⟩
abbrev S80x3x3x18x18 : Shape := ⟨5, ![80, 3, 3, 18, 18]⟩
abbrev S80x1x1x16x16 : Shape := ⟨5, ![80, 1, 1, 16, 16]⟩
abbrev S80x16x16 : Shape := ⟨3, ![80, 16, 16]⟩
abbrev S1x80x16x16 : Shape := ⟨4, ![1, 80, 16, 16]⟩
abbrev S80x3x3x10x10 : Shape := ⟨5, ![80, 3, 3, 10, 10]⟩
abbrev S80x1x1x8x8 : Shape := ⟨5, ![80, 1, 1, 8, 8]⟩
abbrev S80x8x8 : Shape := ⟨3, ![80, 8, 8]⟩
abbrev S1x80x8x8 : Shape := ⟨4, ![1, 80, 8, 8]⟩
abbrev S80x3x3x6x6 : Shape := ⟨5, ![80, 3, 3, 6, 6]⟩
abbrev S80x1x1x4x4 : Shape := ⟨5, ![80, 1, 1, 4, 4]⟩
abbrev S80x4x4 : Shape := ⟨3, ![80, 4, 4]⟩
abbrev S1x80x4x4 : Shape := ⟨4, ![1, 80, 4, 4]⟩
abbrev S4x3x3x66x66 : Shape := ⟨5, ![4, 3, 3, 66, 66]⟩
abbrev S4x1x1x64x64 : Shape := ⟨5, ![4, 1, 1, 64, 64]⟩
abbrev S4x64x64 : Shape := ⟨3, ![4, 64, 64]⟩
abbrev S4x1x1 : Shape := ⟨3, ![4, 1, 1]⟩
abbrev S1x4x64x64 : Shape := ⟨4, ![1, 4, 64, 64]⟩
abbrev S4x3x3x34x34 : Shape := ⟨5, ![4, 3, 3, 34, 34]⟩
abbrev S4x1x1x32x32 : Shape := ⟨5, ![4, 1, 1, 32, 32]⟩
abbrev S4x32x32 : Shape := ⟨3, ![4, 32, 32]⟩
abbrev S1x4x32x32 : Shape := ⟨4, ![1, 4, 32, 32]⟩
abbrev S4x3x3x18x18 : Shape := ⟨5, ![4, 3, 3, 18, 18]⟩
abbrev S4x1x1x16x16 : Shape := ⟨5, ![4, 1, 1, 16, 16]⟩
abbrev S4x16x16 : Shape := ⟨3, ![4, 16, 16]⟩
abbrev S1x4x16x16 : Shape := ⟨4, ![1, 4, 16, 16]⟩
abbrev S4x3x3x10x10 : Shape := ⟨5, ![4, 3, 3, 10, 10]⟩
abbrev S4x1x1x8x8 : Shape := ⟨5, ![4, 1, 1, 8, 8]⟩
abbrev S4x8x8 : Shape := ⟨3, ![4, 8, 8]⟩
abbrev S1x4x8x8 : Shape := ⟨4, ![1, 4, 8, 8]⟩
abbrev S4x3x3x6x6 : Shape := ⟨5, ![4, 3, 3, 6, 6]⟩
abbrev S4x1x1x4x4 : Shape := ⟨5, ![4, 1, 1, 4, 4]⟩
abbrev S4x4x4 : Shape := ⟨3, ![4, 4, 4]⟩
abbrev S1x4x4x4 : Shape := ⟨4, ![1, 4, 4, 4]⟩
abbrev S1x3x3x66x66 : Shape := ⟨5, ![1, 3, 3, 66, 66]⟩
abbrev S1x1x1x64x64 : Shape := ⟨5, ![1, 1, 1, 64, 64]⟩
abbrev S1x64x64 : Shape := ⟨3, ![1, 64, 64]⟩
abbrev S1x1x1 : Shape := ⟨3, ![1, 1, 1]⟩
abbrev S1x1x64x64 : Shape := ⟨4, ![1, 1, 64, 64]⟩
abbrev S1x3x3x34x34 : Shape := ⟨5, ![1, 3, 3, 34, 34]⟩
abbrev S1x1x1x32x32 : Shape := ⟨5, ![1, 1, 1, 32, 32]⟩
abbrev S1x32x32 : Shape := ⟨3, ![1, 32, 32]⟩
abbrev S1x1x32x32 : Shape := ⟨4, ![1, 1, 32, 32]⟩
abbrev S1x3x3x18x18 : Shape := ⟨5, ![1, 3, 3, 18, 18]⟩
abbrev S1x1x1x16x16 : Shape := ⟨5, ![1, 1, 1, 16, 16]⟩
abbrev S1x16x16 : Shape := ⟨3, ![1, 16, 16]⟩
abbrev S1x1x16x16 : Shape := ⟨4, ![1, 1, 16, 16]⟩
abbrev S1x3x3x10x10 : Shape := ⟨5, ![1, 3, 3, 10, 10]⟩
abbrev S1x1x1x8x8 : Shape := ⟨5, ![1, 1, 1, 8, 8]⟩
abbrev S1x8x8 : Shape := ⟨3, ![1, 8, 8]⟩
abbrev S1x1x8x8 : Shape := ⟨4, ![1, 1, 8, 8]⟩
abbrev S1x3x3x6x6 : Shape := ⟨5, ![1, 3, 3, 6, 6]⟩
abbrev S1x1x1x4x4 : Shape := ⟨5, ![1, 1, 1, 4, 4]⟩
abbrev S1x4x4 : Shape := ⟨3, ![1, 4, 4]⟩
abbrev S1x1x4x4 : Shape := ⟨4, ![1, 1, 4, 4]⟩

abbrev nBuf : Space → Nat
  | .hbm => 1274
  | .vmem => 0
  | .smem => 0
  | _ => 0

abbrev hbmTy0_0 (i : Nat) : BufTy := match i % 128 with
  | 0 => ⟨S1x256x64x64, .f32⟩
  | 1 => ⟨S1x256x32x32, .f32⟩
  | 2 => ⟨S1x256x16x16, .f32⟩
  | 3 => ⟨S1x256x8x8, .f32⟩
  | 4 => ⟨S1x256x4x4, .f32⟩
  | 5 => ⟨S4x256x256x3x3, .f32⟩
  | 6 => ⟨S4x256, .f32⟩
  | 7 => ⟨S4x256, .f32⟩
  | 8 => ⟨S4x256, .f32⟩
  | 9 => ⟨S4x256x256x3x3, .f32⟩
  | 10 => ⟨S4x256, .f32⟩
  | 11 => ⟨S4x256, .f32⟩
  | 12 => ⟨S4x256, .f32⟩
  | 13 => ⟨S80x256x3x3, .f32⟩
  | 14 => ⟨S80, .f32⟩
  | 15 => ⟨S4x256x3x3, .f32⟩
  | 16 => ⟨S4, .f32⟩
  | 17 => ⟨S1x256x3x3, .f32⟩
  | 18 => ⟨S1, .f32⟩
  | 19 => ⟨S5, .f32⟩
  | 20 => ⟨S256x64x64, .f32⟩
  | 21 => ⟨S256x32x32, .f32⟩
  | 22 => ⟨S256x16x16, .f32⟩
  | 23 => ⟨S256x8x8, .f32⟩
  | 24 => ⟨S256x4x4, .f32⟩
  | 25 => ⟨S_, .i32⟩
  | 26 => ⟨S4x256x256x3x3, .f32⟩
  | 27 => ⟨S4x256, .f32⟩
  | 28 => ⟨S4x256, .f32⟩
  | 29 => ⟨S4x256, .f32⟩
  | 30 => ⟨S4x256x256x3x3, .f32⟩
  | 31 => ⟨S4x256, .f32⟩
  | 32 => ⟨S4x256, .f32⟩
  | 33 => ⟨S4x256, .f32⟩
  | 34 => ⟨S_, .i32⟩
  | 35 => ⟨S256x64x64, .f32⟩
  | 36 => ⟨S256x32x32, .f32⟩
  | 37 => ⟨S256x16x16, .f32⟩
  | 38 => ⟨S256x8x8, .f32⟩
  | 39 => ⟨S256x4x4, .f32⟩
  | 40 => ⟨S256x64x64, .f32⟩
  | 41 => ⟨S256x32x32, .f32⟩
  | 42 => ⟨S256x16x16, .f32⟩
  | 43 => ⟨S256x8x8, .f32⟩
  | 44 => ⟨S256x4x4, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S1x256x256x3x3, .f32⟩
  | 52 => ⟨S256x256x3x3, .f32⟩
  | 53 => ⟨S_, .i32⟩
  | 54 => ⟨S1x256, .f32⟩
  | 55 => ⟨S256, .f32⟩
  | 56 => ⟨S_, .i32⟩
  | 57 => ⟨S1x256, .f32⟩
  | 58 => ⟨S256, .f32⟩
  | 59 => ⟨S_, .i32⟩
  | 60 => ⟨S1x256, .f32⟩
  | 61 => ⟨S256, .f32⟩
  | 62 => ⟨S_, .i32⟩
  | 63 => ⟨S_, .i32⟩
  | 64 => ⟨S_, .i32⟩
  | 65 => ⟨S_, .i32⟩
  | 66 => ⟨S1x256x256x3x3, .f32⟩
  | 67 => ⟨S256x256x3x3, .f32⟩
  | 68 => ⟨S_, .i32⟩
  | 69 => ⟨S1x256, .f32⟩
  | 70 => ⟨S256, .f32⟩
  | 71 => ⟨S_, .i32⟩
  | 72 => ⟨S1x256, .f32⟩
  | 73 => ⟨S256, .f32⟩
  | 74 => ⟨S_, .i32⟩
  | 75 => ⟨S1x256, .f32⟩
  | 76 => ⟨S256, .f32⟩
  | 77 => ⟨S_, .i32⟩
  | 78 => ⟨S_, .f32⟩
  | 79 => ⟨S256x66x66, .f32⟩
  | 80 => ⟨S256x3x3x66x66, .f32⟩
  | 81 => ⟨S256x1x1x64x64, .f32⟩
  | 82 => ⟨S256x64x64, .f32⟩
  | 83 => ⟨S256x1x1x64x64, .f32⟩
  | 84 => ⟨S256x64x64, .f32⟩
  | 85 => ⟨S256x64x64, .f32⟩
  | 86 => ⟨S256x1x1x64x64, .f32⟩
  | 87 => ⟨S256x64x64, .f32⟩
  | 88 => ⟨S256x64x64, .f32⟩
  | 89 => ⟨S256x1x1x64x64, .f32⟩
  | 90 => ⟨S256x64x64, .f32⟩
  | 91 => ⟨S256x64x64, .f32⟩
  | 92 => ⟨S256x1x1x64x64, .f32⟩
  | 93 => ⟨S256x64x64, .f32⟩
  | 94 => ⟨S256x64x64, .f32⟩
  | 95 => ⟨S256x1x1x64x64, .f32⟩
  | 96 => ⟨S256x64x64, .f32⟩
  | 97 => ⟨S256x64x64, .f32⟩
  | 98 => ⟨S256x1x1x64x64, .f32⟩
  | 99 => ⟨S256x64x64, .f32⟩
  | 100 => ⟨S256x64x64, .f32⟩
  | 101 => ⟨S256x1x1x64x64, .f32⟩
  | 102 => ⟨S256x64x64, .f32⟩
  | 103 => ⟨S256x64x64, .f32⟩
  | 104 => ⟨S256x1x1x64x64, .f32⟩
  | 105 => ⟨S256x64x64, .f32⟩
  | 106 => ⟨S256x64x64, .f32⟩
  | 107 => ⟨S256x1x1, .f32⟩
  | 108 => ⟨S256x64x64, .f32⟩
  | 109 => ⟨S256x64x64, .f32⟩
  | 110 => ⟨S32x8x64x64, .f32⟩
  | 111 => ⟨S_, .f32⟩
  | 112 => ⟨S32, .f32⟩
  | 113 => ⟨S32x1x1x1, .f32⟩
  | 114 => ⟨S_, .f32⟩
  | 115 => ⟨S32x1x1x1, .f32⟩
  | 116 => ⟨S32x1x1x1, .f32⟩
  | 117 => ⟨S32x8x64x64, .f32⟩
  | 118 => ⟨S32x8x64x64, .f32⟩
  | 119 => ⟨S32x8x64x64, .f32⟩
  | 120 => ⟨S_, .f32⟩
  | 121 => ⟨S32, .f32⟩
  | 122 => ⟨S32x1x1x1, .f32⟩
  | 123 => ⟨S_, .f32⟩
  | 124 => ⟨S32x1x1x1, .f32⟩
  | 125 => ⟨S32x1x1x1, .f32⟩
  | 126 => ⟨S_, .f32⟩
  | 127 => ⟨S32x1x1x1, .f32⟩
  | _ => ⟨S1x256x64x64, .f32⟩

abbrev hbmTy0_1 (i : Nat) : BufTy := match i % 128 with
  | 0 => ⟨S32x1x1x1, .f32⟩
  | 1 => ⟨S32x1x1x1, .f32⟩
  | 2 => ⟨S32x8x64x64, .f32⟩
  | 3 => ⟨S32x8x64x64, .f32⟩
  | 4 => ⟨S256x64x64, .f32⟩
  | 5 => ⟨S256x1x1, .f32⟩
  | 6 => ⟨S256x64x64, .f32⟩
  | 7 => ⟨S256x64x64, .f32⟩
  | 8 => ⟨S256x1x1, .f32⟩
  | 9 => ⟨S256x64x64, .f32⟩
  | 10 => ⟨S256x64x64, .f32⟩
  | 11 => ⟨S_, .f32⟩
  | 12 => ⟨S256x64x64, .f32⟩
  | 13 => ⟨S256x64x64, .f32⟩
  | 14 => ⟨S_, .i32⟩
  | 15 => ⟨S_, .f32⟩
  | 16 => ⟨S256x34x34, .f32⟩
  | 17 => ⟨S256x3x3x34x34, .f32⟩
  | 18 => ⟨S256x1x1x32x32, .f32⟩
  | 19 => ⟨S256x32x32, .f32⟩
  | 20 => ⟨S256x1x1x32x32, .f32⟩
  | 21 => ⟨S256x32x32, .f32⟩
  | 22 => ⟨S256x32x32, .f32⟩
  | 23 => ⟨S256x1x1x32x32, .f32⟩
  | 24 => ⟨S256x32x32, .f32⟩
  | 25 => ⟨S256x32x32, .f32⟩
  | 26 => ⟨S256x1x1x32x32, .f32⟩
  | 27 => ⟨S256x32x32, .f32⟩
  | 28 => ⟨S256x32x32, .f32⟩
  | 29 => ⟨S256x1x1x32x32, .f32⟩
  | 30 => ⟨S256x32x32, .f32⟩
  | 31 => ⟨S256x32x32, .f32⟩
  | 32 => ⟨S256x1x1x32x32, .f32⟩
  | 33 => ⟨S256x32x32, .f32⟩
  | 34 => ⟨S256x32x32, .f32⟩
  | 35 => ⟨S256x1x1x32x32, .f32⟩
  | 36 => ⟨S256x32x32, .f32⟩
  | 37 => ⟨S256x32x32, .f32⟩
  | 38 => ⟨S256x1x1x32x32, .f32⟩
  | 39 => ⟨S256x32x32, .f32⟩
  | 40 => ⟨S256x32x32, .f32⟩
  | 41 => ⟨S256x1x1x32x32, .f32⟩
  | 42 => ⟨S256x32x32, .f32⟩
  | 43 => ⟨S256x32x32, .f32⟩
  | 44 => ⟨S256x1x1, .f32⟩
  | 45 => ⟨S256x32x32, .f32⟩
  | 46 => ⟨S256x32x32, .f32⟩
  | 47 => ⟨S32x8x32x32, .f32⟩
  | 48 => ⟨S_, .f32⟩
  | 49 => ⟨S32, .f32⟩
  | 50 => ⟨S32x1x1x1, .f32⟩
  | 51 => ⟨S_, .f32⟩
  | 52 => ⟨S32x1x1x1, .f32⟩
  | 53 => ⟨S32x1x1x1, .f32⟩
  | 54 => ⟨S32x8x32x32, .f32⟩
  | 55 => ⟨S32x8x32x32, .f32⟩
  | 56 => ⟨S32x8x32x32, .f32⟩
  | 57 => ⟨S_, .f32⟩
  | 58 => ⟨S32, .f32⟩
  | 59 => ⟨S32x1x1x1, .f32⟩
  | 60 => ⟨S_, .f32⟩
  | 61 => ⟨S32x1x1x1, .f32⟩
  | 62 => ⟨S32x1x1x1, .f32⟩
  | 63 => ⟨S_, .f32⟩
  | 64 => ⟨S32x1x1x1, .f32⟩
  | 65 => ⟨S32x1x1x1, .f32⟩
  | 66 => ⟨S32x1x1x1, .f32⟩
  | 67 => ⟨S32x8x32x32, .f32⟩
  | 68 => ⟨S32x8x32x32, .f32⟩
  | 69 => ⟨S256x32x32, .f32⟩
  | 70 => ⟨S256x1x1, .f32⟩
  | 71 => ⟨S256x32x32, .f32⟩
  | 72 => ⟨S256x32x32, .f32⟩
  | 73 => ⟨S256x1x1, .f32⟩
  | 74 => ⟨S256x32x32, .f32⟩
  | 75 => ⟨S256x32x32, .f32⟩
  | 76 => ⟨S_, .f32⟩
  | 77 => ⟨S256x32x32, .f32⟩
  | 78 => ⟨S256x32x32, .f32⟩
  | 79 => ⟨S_, .i32⟩
  | 80 => ⟨S_, .f32⟩
  | 81 => ⟨S256x18x18, .f32⟩
  | 82 => ⟨S256x3x3x18x18, .f32⟩
  | 83 => ⟨S256x1x1x16x16, .f32⟩
  | 84 => ⟨S256x16x16, .f32⟩
  | 85 => ⟨S256x1x1x16x16, .f32⟩
  | 86 => ⟨S256x16x16, .f32⟩
  | 87 => ⟨S256x16x16, .f32⟩
  | 88 => ⟨S256x1x1x16x16, .f32⟩
  | 89 => ⟨S256x16x16, .f32⟩
  | 90 => ⟨S256x16x16, .f32⟩
  | 91 => ⟨S256x1x1x16x16, .f32⟩
  | 92 => ⟨S256x16x16, .f32⟩
  | 93 => ⟨S256x16x16, .f32⟩
  | 94 => ⟨S256x1x1x16x16, .f32⟩
  | 95 => ⟨S256x16x16, .f32⟩
  | 96 => ⟨S256x16x16, .f32⟩
  | 97 => ⟨S256x1x1x16x16, .f32⟩
  | 98 => ⟨S256x16x16, .f32⟩
  | 99 => ⟨S256x16x16, .f32⟩
  | 100 => ⟨S256x1x1x16x16, .f32⟩
  | 101 => ⟨S256x16x16, .f32⟩
  | 102 => ⟨S256x16x16, .f32⟩
  | 103 => ⟨S256x1x1x16x16, .f32⟩
  | 104 => ⟨S256x16x16, .f32⟩
  | 105 => ⟨S256x16x16, .f32⟩
  | 106 => ⟨S256x1x1x16x16, .f32⟩
  | 107 => ⟨S256x16x16, .f32⟩
  | 108 => ⟨S256x16x16, .f32⟩
  | 109 => ⟨S256x1x1, .f32⟩
  | 110 => ⟨S256x16x16, .f32⟩
  | 111 => ⟨S256x16x16, .f32⟩
  | 112 => ⟨S32x8x16x16, .f32⟩
  | 113 => ⟨S_, .f32⟩
  | 114 => ⟨S32, .f32⟩
  | 115 => ⟨S32x1x1x1, .f32⟩
  | 116 => ⟨S_, .f32⟩
  | 117 => ⟨S32x1x1x1, .f32⟩
  | 118 => ⟨S32x1x1x1, .f32⟩
  | 119 => ⟨S32x8x16x16, .f32⟩
  | 120 => ⟨S32x8x16x16, .f32⟩
  | 121 => ⟨S32x8x16x16, .f32⟩
  | 122 => ⟨S_, .f32⟩
  | 123 => ⟨S32, .f32⟩
  | 124 => ⟨S32x1x1x1, .f32⟩
  | 125 => ⟨S_, .f32⟩
  | 126 => ⟨S32x1x1x1, .f32⟩
  | 127 => ⟨S32x1x1x1, .f32⟩
  | _ => ⟨S1x256x64x64, .f32⟩

abbrev hbmTy0_2 (i : Nat) : BufTy := match i % 128 with
  | 0 => ⟨S_, .f32⟩
  | 1 => ⟨S32x1x1x1, .f32⟩
  | 2 => ⟨S32x1x1x1, .f32⟩
  | 3 => ⟨S32x1x1x1, .f32⟩
  | 4 => ⟨S32x8x16x16, .f32⟩
  | 5 => ⟨S32x8x16x16, .f32⟩
  | 6 => ⟨S256x16x16, .f32⟩
  | 7 => ⟨S256x1x1, .f32⟩
  | 8 => ⟨S256x16x16, .f32⟩
  | 9 => ⟨S256x16x16, .f32⟩
  | 10 => ⟨S256x1x1, .f32⟩
  | 11 => ⟨S256x16x16, .f32⟩
  | 12 => ⟨S256x16x16, .f32⟩
  | 13 => ⟨S_, .f32⟩
  | 14 => ⟨S256x16x16, .f32⟩
  | 15 => ⟨S256x16x16, .f32⟩
  | 16 => ⟨S_, .i32⟩
  | 17 => ⟨S_, .f32⟩
  | 18 => ⟨S256x10x10, .f32⟩
  | 19 => ⟨S256x3x3x10x10, .f32⟩
  | 20 => ⟨S256x1x1x8x8, .f32⟩
  | 21 => ⟨S256x8x8, .f32⟩
  | 22 => ⟨S256x1x1x8x8, .f32⟩
  | 23 => ⟨S256x8x8, .f32⟩
  | 24 => ⟨S256x8x8, .f32⟩
  | 25 => ⟨S256x1x1x8x8, .f32⟩
  | 26 => ⟨S256x8x8, .f32⟩
  | 27 => ⟨S256x8x8, .f32⟩
  | 28 => ⟨S256x1x1x8x8, .f32⟩
  | 29 => ⟨S256x8x8, .f32⟩
  | 30 => ⟨S256x8x8, .f32⟩
  | 31 => ⟨S256x1x1x8x8, .f32⟩
  | 32 => ⟨S256x8x8, .f32⟩
  | 33 => ⟨S256x8x8, .f32⟩
  | 34 => ⟨S256x1x1x8x8, .f32⟩
  | 35 => ⟨S256x8x8, .f32⟩
  | 36 => ⟨S256x8x8, .f32⟩
  | 37 => ⟨S256x1x1x8x8, .f32⟩
  | 38 => ⟨S256x8x8, .f32⟩
  | 39 => ⟨S256x8x8, .f32⟩
  | 40 => ⟨S256x1x1x8x8, .f32⟩
  | 41 => ⟨S256x8x8, .f32⟩
  | 42 => ⟨S256x8x8, .f32⟩
  | 43 => ⟨S256x1x1x8x8, .f32⟩
  | 44 => ⟨S256x8x8, .f32⟩
  | 45 => ⟨S256x8x8, .f32⟩
  | 46 => ⟨S256x1x1, .f32⟩
  | 47 => ⟨S256x8x8, .f32⟩
  | 48 => ⟨S256x8x8, .f32⟩
  | 49 => ⟨S32x8x8x8, .f32⟩
  | 50 => ⟨S_, .f32⟩
  | 51 => ⟨S32, .f32⟩
  | 52 => ⟨S32x1x1x1, .f32⟩
  | 53 => ⟨S_, .f32⟩
  | 54 => ⟨S32x1x1x1, .f32⟩
  | 55 => ⟨S32x1x1x1, .f32⟩
  | 56 => ⟨S32x8x8x8, .f32⟩
  | 57 => ⟨S32x8x8x8, .f32⟩
  | 58 => ⟨S32x8x8x8, .f32⟩
  | 59 => ⟨S_, .f32⟩
  | 60 => ⟨S32, .f32⟩
  | 61 => ⟨S32x1x1x1, .f32⟩
  | 62 => ⟨S_, .f32⟩
  | 63 => ⟨S32x1x1x1, .f32⟩
  | 64 => ⟨S32x1x1x1, .f32⟩
  | 65 => ⟨S_, .f32⟩
  | 66 => ⟨S32x1x1x1, .f32⟩
  | 67 => ⟨S32x1x1x1, .f32⟩
  | 68 => ⟨S32x1x1x1, .f32⟩
  | 69 => ⟨S32x8x8x8, .f32⟩
  | 70 => ⟨S32x8x8x8, .f32⟩
  | 71 => ⟨S256x8x8, .f32⟩
  | 72 => ⟨S256x1x1, .f32⟩
  | 73 => ⟨S256x8x8, .f32⟩
  | 74 => ⟨S256x8x8, .f32⟩
  | 75 => ⟨S256x1x1, .f32⟩
  | 76 => ⟨S256x8x8, .f32⟩
  | 77 => ⟨S256x8x8, .f32⟩
  | 78 => ⟨S_, .f32⟩
  | 79 => ⟨S256x8x8, .f32⟩
  | 80 => ⟨S256x8x8, .f32⟩
  | 81 => ⟨S_, .i32⟩
  | 82 => ⟨S_, .f32⟩
  | 83 => ⟨S256x6x6, .f32⟩
  | 84 => ⟨S256x3x3x6x6, .f32⟩
  | 85 => ⟨S256x1x1x4x4, .f32⟩
  | 86 => ⟨S256x4x4, .f32⟩
  | 87 => ⟨S256x1x1x4x4, .f32⟩
  | 88 => ⟨S256x4x4, .f32⟩
  | 89 => ⟨S256x4x4, .f32⟩
  | 90 => ⟨S256x1x1x4x4, .f32⟩
  | 91 => ⟨S256x4x4, .f32⟩
  | 92 => ⟨S256x4x4, .f32⟩
  | 93 => ⟨S256x1x1x4x4, .f32⟩
  | 94 => ⟨S256x4x4, .f32⟩
  | 95 => ⟨S256x4x4, .f32⟩
  | 96 => ⟨S256x1x1x4x4, .f32⟩
  | 97 => ⟨S256x4x4, .f32⟩
  | 98 => ⟨S256x4x4, .f32⟩
  | 99 => ⟨S256x1x1x4x4, .f32⟩
  | 100 => ⟨S256x4x4, .f32⟩
  | 101 => ⟨S256x4x4, .f32⟩
  | 102 => ⟨S256x1x1x4x4, .f32⟩
  | 103 => ⟨S256x4x4, .f32⟩
  | 104 => ⟨S256x4x4, .f32⟩
  | 105 => ⟨S256x1x1x4x4, .f32⟩
  | 106 => ⟨S256x4x4, .f32⟩
  | 107 => ⟨S256x4x4, .f32⟩
  | 108 => ⟨S256x1x1x4x4, .f32⟩
  | 109 => ⟨S256x4x4, .f32⟩
  | 110 => ⟨S256x4x4, .f32⟩
  | 111 => ⟨S256x1x1, .f32⟩
  | 112 => ⟨S256x4x4, .f32⟩
  | 113 => ⟨S256x4x4, .f32⟩
  | 114 => ⟨S32x8x4x4, .f32⟩
  | 115 => ⟨S_, .f32⟩
  | 116 => ⟨S32, .f32⟩
  | 117 => ⟨S32x1x1x1, .f32⟩
  | 118 => ⟨S_, .f32⟩
  | 119 => ⟨S32x1x1x1, .f32⟩
  | 120 => ⟨S32x1x1x1, .f32⟩
  | 121 => ⟨S32x8x4x4, .f32⟩
  | 122 => ⟨S32x8x4x4, .f32⟩
  | 123 => ⟨S32x8x4x4, .f32⟩
  | 124 => ⟨S_, .f32⟩
  | 125 => ⟨S32, .f32⟩
  | 126 => ⟨S32x1x1x1, .f32⟩
  | 127 => ⟨S_, .f32⟩
  | _ => ⟨S1x256x64x64, .f32⟩

abbrev hbmTy0_3 (i : Nat) : BufTy := match i % 128 with
  | 0 => ⟨S32x1x1x1, .f32⟩
  | 1 => ⟨S32x1x1x1, .f32⟩
  | 2 => ⟨S_, .f32⟩
  | 3 => ⟨S32x1x1x1, .f32⟩
  | 4 => ⟨S32x1x1x1, .f32⟩
  | 5 => ⟨S32x1x1x1, .f32⟩
  | 6 => ⟨S32x8x4x4, .f32⟩
  | 7 => ⟨S32x8x4x4, .f32⟩
  | 8 => ⟨S256x4x4, .f32⟩
  | 9 => ⟨S256x1x1, .f32⟩
  | 10 => ⟨S256x4x4, .f32⟩
  | 11 => ⟨S256x4x4, .f32⟩
  | 12 => ⟨S256x1x1, .f32⟩
  | 13 => ⟨S256x4x4, .f32⟩
  | 14 => ⟨S256x4x4, .f32⟩
  | 15 => ⟨S_, .f32⟩
  | 16 => ⟨S256x4x4, .f32⟩
  | 17 => ⟨S256x4x4, .f32⟩
  | 18 => ⟨S_, .i32⟩
  | 19 => ⟨S_, .f32⟩
  | 20 => ⟨S256x66x66, .f32⟩
  | 21 => ⟨S256x3x3x66x66, .f32⟩
  | 22 => ⟨S256x1x1x64x64, .f32⟩
  | 23 => ⟨S256x64x64, .f32⟩
  | 24 => ⟨S256x1x1x64x64, .f32⟩
  | 25 => ⟨S256x64x64, .f32⟩
  | 26 => ⟨S256x64x64, .f32⟩
  | 27 => ⟨S256x1x1x64x64, .f32⟩
  | 28 => ⟨S256x64x64, .f32⟩
  | 29 => ⟨S256x64x64, .f32⟩
  | 30 => ⟨S256x1x1x64x64, .f32⟩
  | 31 => ⟨S256x64x64, .f32⟩
  | 32 => ⟨S256x64x64, .f32⟩
  | 33 => ⟨S256x1x1x64x64, .f32⟩
  | 34 => ⟨S256x64x64, .f32⟩
  | 35 => ⟨S256x64x64, .f32⟩
  | 36 => ⟨S256x1x1x64x64, .f32⟩
  | 37 => ⟨S256x64x64, .f32⟩
  | 38 => ⟨S256x64x64, .f32⟩
  | 39 => ⟨S256x1x1x64x64, .f32⟩
  | 40 => ⟨S256x64x64, .f32⟩
  | 41 => ⟨S256x64x64, .f32⟩
  | 42 => ⟨S256x1x1x64x64, .f32⟩
  | 43 => ⟨S256x64x64, .f32⟩
  | 44 => ⟨S256x64x64, .f32⟩
  | 45 => ⟨S256x1x1x64x64, .f32⟩
  | 46 => ⟨S256x64x64, .f32⟩
  | 47 => ⟨S256x64x64, .f32⟩
  | 48 => ⟨S256x1x1, .f32⟩
  | 49 => ⟨S256x64x64, .f32⟩
  | 50 => ⟨S256x64x64, .f32⟩
  | 51 => ⟨S32x8x64x64, .f32⟩
  | 52 => ⟨S_, .f32⟩
  | 53 => ⟨S32, .f32⟩
  | 54 => ⟨S32x1x1x1, .f32⟩
  | 55 => ⟨S_, .f32⟩
  | 56 => ⟨S32x1x1x1, .f32⟩
  | 57 => ⟨S32x1x1x1, .f32⟩
  | 58 => ⟨S32x8x64x64, .f32⟩
  | 59 => ⟨S32x8x64x64, .f32⟩
  | 60 => ⟨S32x8x64x64, .f32⟩
  | 61 => ⟨S_, .f32⟩
  | 62 => ⟨S32, .f32⟩
  | 63 => ⟨S32x1x1x1, .f32⟩
  | 64 => ⟨S_, .f32⟩
  | 65 => ⟨S32x1x1x1, .f32⟩
  | 66 => ⟨S32x1x1x1, .f32⟩
  | 67 => ⟨S_, .f32⟩
  | 68 => ⟨S32x1x1x1, .f32⟩
  | 69 => ⟨S32x1x1x1, .f32⟩
  | 70 => ⟨S32x1x1x1, .f32⟩
  | 71 => ⟨S32x8x64x64, .f32⟩
  | 72 => ⟨S32x8x64x64, .f32⟩
  | 73 => ⟨S256x64x64, .f32⟩
  | 74 => ⟨S256x1x1, .f32⟩
  | 75 => ⟨S256x64x64, .f32⟩
  | 76 => ⟨S256x64x64, .f32⟩
  | 77 => ⟨S256x1x1, .f32⟩
  | 78 => ⟨S256x64x64, .f32⟩
  | 79 => ⟨S256x64x64, .f32⟩
  | 80 => ⟨S_, .f32⟩
  | 81 => ⟨S256x64x64, .f32⟩
  | 82 => ⟨S256x64x64, .f32⟩
  | 83 => ⟨S_, .i32⟩
  | 84 => ⟨S_, .f32⟩
  | 85 => ⟨S256x34x34, .f32⟩
  | 86 => ⟨S256x3x3x34x34, .f32⟩
  | 87 => ⟨S256x1x1x32x32, .f32⟩
  | 88 => ⟨S256x32x32, .f32⟩
  | 89 => ⟨S256x1x1x32x32, .f32⟩
  | 90 => ⟨S256x32x32, .f32⟩
  | 91 => ⟨S256x32x32, .f32⟩
  | 92 => ⟨S256x1x1x32x32, .f32⟩
  | 93 => ⟨S256x32x32, .f32⟩
  | 94 => ⟨S256x32x32, .f32⟩
  | 95 => ⟨S256x1x1x32x32, .f32⟩
  | 96 => ⟨S256x32x32, .f32⟩
  | 97 => ⟨S256x32x32, .f32⟩
  | 98 => ⟨S256x1x1x32x32, .f32⟩
  | 99 => ⟨S256x32x32, .f32⟩
  | 100 => ⟨S256x32x32, .f32⟩
  | 101 => ⟨S256x1x1x32x32, .f32⟩
  | 102 => ⟨S256x32x32, .f32⟩
  | 103 => ⟨S256x32x32, .f32⟩
  | 104 => ⟨S256x1x1x32x32, .f32⟩
  | 105 => ⟨S256x32x32, .f32⟩
  | 106 => ⟨S256x32x32, .f32⟩
  | 107 => ⟨S256x1x1x32x32, .f32⟩
  | 108 => ⟨S256x32x32, .f32⟩
  | 109 => ⟨S256x32x32, .f32⟩
  | 110 => ⟨S256x1x1x32x32, .f32⟩
  | 111 => ⟨S256x32x32, .f32⟩
  | 112 => ⟨S256x32x32, .f32⟩
  | 113 => ⟨S256x1x1, .f32⟩
  | 114 => ⟨S256x32x32, .f32⟩
  | 115 => ⟨S256x32x32, .f32⟩
  | 116 => ⟨S32x8x32x32, .f32⟩
  | 117 => ⟨S_, .f32⟩
  | 118 => ⟨S32, .f32⟩
  | 119 => ⟨S32x1x1x1, .f32⟩
  | 120 => ⟨S_, .f32⟩
  | 121 => ⟨S32x1x1x1, .f32⟩
  | 122 => ⟨S32x1x1x1, .f32⟩
  | 123 => ⟨S32x8x32x32, .f32⟩
  | 124 => ⟨S32x8x32x32, .f32⟩
  | 125 => ⟨S32x8x32x32, .f32⟩
  | 126 => ⟨S_, .f32⟩
  | 127 => ⟨S32, .f32⟩
  | _ => ⟨S1x256x64x64, .f32⟩

abbrev hbmTy0_4 (i : Nat) : BufTy := match i % 128 with
  | 0 => ⟨S32x1x1x1, .f32⟩
  | 1 => ⟨S_, .f32⟩
  | 2 => ⟨S32x1x1x1, .f32⟩
  | 3 => ⟨S32x1x1x1, .f32⟩
  | 4 => ⟨S_, .f32⟩
  | 5 => ⟨S32x1x1x1, .f32⟩
  | 6 => ⟨S32x1x1x1, .f32⟩
  | 7 => ⟨S32x1x1x1, .f32⟩
  | 8 => ⟨S32x8x32x32, .f32⟩
  | 9 => ⟨S32x8x32x32, .f32⟩
  | 10 => ⟨S256x32x32, .f32⟩
  | 11 => ⟨S256x1x1, .f32⟩
  | 12 => ⟨S256x32x32, .f32⟩
  | 13 => ⟨S256x32x32, .f32⟩
  | 14 => ⟨S256x1x1, .f32⟩
  | 15 => ⟨S256x32x32, .f32⟩
  | 16 => ⟨S256x32x32, .f32⟩
  | 17 => ⟨S_, .f32⟩
  | 18 => ⟨S256x32x32, .f32⟩
  | 19 => ⟨S256x32x32, .f32⟩
  | 20 => ⟨S_, .i32⟩
  | 21 => ⟨S_, .f32⟩
  | 22 => ⟨S256x18x18, .f32⟩
  | 23 => ⟨S256x3x3x18x18, .f32⟩
  | 24 => ⟨S256x1x1x16x16, .f32⟩
  | 25 => ⟨S256x16x16, .f32⟩
  | 26 => ⟨S256x1x1x16x16, .f32⟩
  | 27 => ⟨S256x16x16, .f32⟩
  | 28 => ⟨S256x16x16, .f32⟩
  | 29 => ⟨S256x1x1x16x16, .f32⟩
  | 30 => ⟨S256x16x16, .f32⟩
  | 31 => ⟨S256x16x16, .f32⟩
  | 32 => ⟨S256x1x1x16x16, .f32⟩
  | 33 => ⟨S256x16x16, .f32⟩
  | 34 => ⟨S256x16x16, .f32⟩
  | 35 => ⟨S256x1x1x16x16, .f32⟩
  | 36 => ⟨S256x16x16, .f32⟩
  | 37 => ⟨S256x16x16, .f32⟩
  | 38 => ⟨S256x1x1x16x16, .f32⟩
  | 39 => ⟨S256x16x16, .f32⟩
  | 40 => ⟨S256x16x16, .f32⟩
  | 41 => ⟨S256x1x1x16x16, .f32⟩
  | 42 => ⟨S256x16x16, .f32⟩
  | 43 => ⟨S256x16x16, .f32⟩
  | 44 => ⟨S256x1x1x16x16, .f32⟩
  | 45 => ⟨S256x16x16, .f32⟩
  | 46 => ⟨S256x16x16, .f32⟩
  | 47 => ⟨S256x1x1x16x16, .f32⟩
  | 48 => ⟨S256x16x16, .f32⟩
  | 49 => ⟨S256x16x16, .f32⟩
  | 50 => ⟨S256x1x1, .f32⟩
  | 51 => ⟨S256x16x16, .f32⟩
  | 52 => ⟨S256x16x16, .f32⟩
  | 53 => ⟨S32x8x16x16, .f32⟩
  | 54 => ⟨S_, .f32⟩
  | 55 => ⟨S32, .f32⟩
  | 56 => ⟨S32x1x1x1, .f32⟩
  | 57 => ⟨S_, .f32⟩
  | 58 => ⟨S32x1x1x1, .f32⟩
  | 59 => ⟨S32x1x1x1, .f32⟩
  | 60 => ⟨S32x8x16x16, .f32⟩
  | 61 => ⟨S32x8x16x16, .f32⟩
  | 62 => ⟨S32x8x16x16, .f32⟩
  | 63 => ⟨S_, .f32⟩
  | 64 => ⟨S32, .f32⟩
  | 65 => ⟨S32x1x1x1, .f32⟩
  | 66 => ⟨S_, .f32⟩
  | 67 => ⟨S32x1x1x1, .f32⟩
  | 68 => ⟨S32x1x1x1, .f32⟩
  | 69 => ⟨S_, .f32⟩
  | 70 => ⟨S32x1x1x1, .f32⟩
  | 71 => ⟨S32x1x1x1, .f32⟩
  | 72 => ⟨S32x1x1x1, .f32⟩
  | 73 => ⟨S32x8x16x16, .f32⟩
  | 74 => ⟨S32x8x16x16, .f32⟩
  | 75 => ⟨S256x16x16, .f32⟩
  | 76 => ⟨S256x1x1, .f32⟩
  | 77 => ⟨S256x16x16, .f32⟩
  | 78 => ⟨S256x16x16, .f32⟩
  | 79 => ⟨S256x1x1, .f32⟩
  | 80 => ⟨S256x16x16, .f32⟩
  | 81 => ⟨S256x16x16, .f32⟩
  | 82 => ⟨S_, .f32⟩
  | 83 => ⟨S256x16x16, .f32⟩
  | 84 => ⟨S256x16x16, .f32⟩
  | 85 => ⟨S_, .i32⟩
  | 86 => ⟨S_, .f32⟩
  | 87 => ⟨S256x10x10, .f32⟩
  | 88 => ⟨S256x3x3x10x10, .f32⟩
  | 89 => ⟨S256x1x1x8x8, .f32⟩
  | 90 => ⟨S256x8x8, .f32⟩
  | 91 => ⟨S256x1x1x8x8, .f32⟩
  | 92 => ⟨S256x8x8, .f32⟩
  | 93 => ⟨S256x8x8, .f32⟩
  | 94 => ⟨S256x1x1x8x8, .f32⟩
  | 95 => ⟨S256x8x8, .f32⟩
  | 96 => ⟨S256x8x8, .f32⟩
  | 97 => ⟨S256x1x1x8x8, .f32⟩
  | 98 => ⟨S256x8x8, .f32⟩
  | 99 => ⟨S256x8x8, .f32⟩
  | 100 => ⟨S256x1x1x8x8, .f32⟩
  | 101 => ⟨S256x8x8, .f32⟩
  | 102 => ⟨S256x8x8, .f32⟩
  | 103 => ⟨S256x1x1x8x8, .f32⟩
  | 104 => ⟨S256x8x8, .f32⟩
  | 105 => ⟨S256x8x8, .f32⟩
  | 106 => ⟨S256x1x1x8x8, .f32⟩
  | 107 => ⟨S256x8x8, .f32⟩
  | 108 => ⟨S256x8x8, .f32⟩
  | 109 => ⟨S256x1x1x8x8, .f32⟩
  | 110 => ⟨S256x8x8, .f32⟩
  | 111 => ⟨S256x8x8, .f32⟩
  | 112 => ⟨S256x1x1x8x8, .f32⟩
  | 113 => ⟨S256x8x8, .f32⟩
  | 114 => ⟨S256x8x8, .f32⟩
  | 115 => ⟨S256x1x1, .f32⟩
  | 116 => ⟨S256x8x8, .f32⟩
  | 117 => ⟨S256x8x8, .f32⟩
  | 118 => ⟨S32x8x8x8, .f32⟩
  | 119 => ⟨S_, .f32⟩
  | 120 => ⟨S32, .f32⟩
  | 121 => ⟨S32x1x1x1, .f32⟩
  | 122 => ⟨S_, .f32⟩
  | 123 => ⟨S32x1x1x1, .f32⟩
  | 124 => ⟨S32x1x1x1, .f32⟩
  | 125 => ⟨S32x8x8x8, .f32⟩
  | 126 => ⟨S32x8x8x8, .f32⟩
  | 127 => ⟨S32x8x8x8, .f32⟩
  | _ => ⟨S1x256x64x64, .f32⟩

abbrev hbmTy0_5 (i : Nat) : BufTy := match i % 128 with
  | 0 => ⟨S_, .f32⟩
  | 1 => ⟨S32, .f32⟩
  | 2 => ⟨S32x1x1x1, .f32⟩
  | 3 => ⟨S_, .f32⟩
  | 4 => ⟨S32x1x1x1, .f32⟩
  | 5 => ⟨S32x1x1x1, .f32⟩
  | 6 => ⟨S_, .f32⟩
  | 7 => ⟨S32x1x1x1, .f32⟩
  | 8 => ⟨S32x1x1x1, .f32⟩
  | 9 => ⟨S32x1x1x1, .f32⟩
  | 10 => ⟨S32x8x8x8, .f32⟩
  | 11 => ⟨S32x8x8x8, .f32⟩
  | 12 => ⟨S256x8x8, .f32⟩
  | 13 => ⟨S256x1x1, .f32⟩
  | 14 => ⟨S256x8x8, .f32⟩
  | 15 => ⟨S256x8x8, .f32⟩
  | 16 => ⟨S256x1x1, .f32⟩
  | 17 => ⟨S256x8x8, .f32⟩
  | 18 => ⟨S256x8x8, .f32⟩
  | 19 => ⟨S_, .f32⟩
  | 20 => ⟨S256x8x8, .f32⟩
  | 21 => ⟨S256x8x8, .f32⟩
  | 22 => ⟨S_, .i32⟩
  | 23 => ⟨S_, .f32⟩
  | 24 => ⟨S256x6x6, .f32⟩
  | 25 => ⟨S256x3x3x6x6, .f32⟩
  | 26 => ⟨S256x1x1x4x4, .f32⟩
  | 27 => ⟨S256x4x4, .f32⟩
  | 28 => ⟨S256x1x1x4x4, .f32⟩
  | 29 => ⟨S256x4x4, .f32⟩
  | 30 => ⟨S256x4x4, .f32⟩
  | 31 => ⟨S256x1x1x4x4, .f32⟩
  | 32 => ⟨S256x4x4, .f32⟩
  | 33 => ⟨S256x4x4, .f32⟩
  | 34 => ⟨S256x1x1x4x4, .f32⟩
  | 35 => ⟨S256x4x4, .f32⟩
  | 36 => ⟨S256x4x4, .f32⟩
  | 37 => ⟨S256x1x1x4x4, .f32⟩
  | 38 => ⟨S256x4x4, .f32⟩
  | 39 => ⟨S256x4x4, .f32⟩
  | 40 => ⟨S256x1x1x4x4, .f32⟩
  | 41 => ⟨S256x4x4, .f32⟩
  | 42 => ⟨S256x4x4, .f32⟩
  | 43 => ⟨S256x1x1x4x4, .f32⟩
  | 44 => ⟨S256x4x4, .f32⟩
  | 45 => ⟨S256x4x4, .f32⟩
  | 46 => ⟨S256x1x1x4x4, .f32⟩
  | 47 => ⟨S256x4x4, .f32⟩
  | 48 => ⟨S256x4x4, .f32⟩
  | 49 => ⟨S256x1x1x4x4, .f32⟩
  | 50 => ⟨S256x4x4, .f32⟩
  | 51 => ⟨S256x4x4, .f32⟩
  | 52 => ⟨S256x1x1, .f32⟩
  | 53 => ⟨S256x4x4, .f32⟩
  | 54 => ⟨S256x4x4, .f32⟩
  | 55 => ⟨S32x8x4x4, .f32⟩
  | 56 => ⟨S_, .f32⟩
  | 57 => ⟨S32, .f32⟩
  | 58 => ⟨S32x1x1x1, .f32⟩
  | 59 => ⟨S_, .f32⟩
  | 60 => ⟨S32x1x1x1, .f32⟩
  | 61 => ⟨S32x1x1x1, .f32⟩
  | 62 => ⟨S32x8x4x4, .f32⟩
  | 63 => ⟨S32x8x4x4, .f32⟩
  | 64 => ⟨S32x8x4x4, .f32⟩
  | 65 => ⟨S_, .f32⟩
  | 66 => ⟨S32, .f32⟩
  | 67 => ⟨S32x1x1x1, .f32⟩
  | 68 => ⟨S_, .f32⟩
  | 69 => ⟨S32x1x1x1, .f32⟩
  | 70 => ⟨S32x1x1x1, .f32⟩
  | 71 => ⟨S_, .f32⟩
  | 72 => ⟨S32x1x1x1, .f32⟩
  | 73 => ⟨S32x1x1x1, .f32⟩
  | 74 => ⟨S32x1x1x1, .f32⟩
  | 75 => ⟨S32x8x4x4, .f32⟩
  | 76 => ⟨S32x8x4x4, .f32⟩
  | 77 => ⟨S256x4x4, .f32⟩
  | 78 => ⟨S256x1x1, .f32⟩
  | 79 => ⟨S256x4x4, .f32⟩
  | 80 => ⟨S256x4x4, .f32⟩
  | 81 => ⟨S256x1x1, .f32⟩
  | 82 => ⟨S256x4x4, .f32⟩
  | 83 => ⟨S256x4x4, .f32⟩
  | 84 => ⟨S_, .f32⟩
  | 85 => ⟨S256x4x4, .f32⟩
  | 86 => ⟨S256x4x4, .f32⟩
  | 87 => ⟨S_, .i32⟩
  | 88 => ⟨S_, .i32⟩
  | 89 => ⟨S_, .i32⟩
  | 90 => ⟨S_, .f32⟩
  | 91 => ⟨S256x66x66, .f32⟩
  | 92 => ⟨S80x3x3x66x66, .f32⟩
  | 93 => ⟨S80x1x1x64x64, .f32⟩
  | 94 => ⟨S80x64x64, .f32⟩
  | 95 => ⟨S80x1x1x64x64, .f32⟩
  | 96 => ⟨S80x64x64, .f32⟩
  | 97 => ⟨S80x64x64, .f32⟩
  | 98 => ⟨S80x1x1x64x64, .f32⟩
  | 99 => ⟨S80x64x64, .f32⟩
  | 100 => ⟨S80x64x64, .f32⟩
  | 101 => ⟨S80x1x1x64x64, .f32⟩
  | 102 => ⟨S80x64x64, .f32⟩
  | 103 => ⟨S80x64x64, .f32⟩
  | 104 => ⟨S80x1x1x64x64, .f32⟩
  | 105 => ⟨S80x64x64, .f32⟩
  | 106 => ⟨S80x64x64, .f32⟩
  | 107 => ⟨S80x1x1x64x64, .f32⟩
  | 108 => ⟨S80x64x64, .f32⟩
  | 109 => ⟨S80x64x64, .f32⟩
  | 110 => ⟨S80x1x1x64x64, .f32⟩
  | 111 => ⟨S80x64x64, .f32⟩
  | 112 => ⟨S80x64x64, .f32⟩
  | 113 => ⟨S80x1x1x64x64, .f32⟩
  | 114 => ⟨S80x64x64, .f32⟩
  | 115 => ⟨S80x64x64, .f32⟩
  | 116 => ⟨S80x1x1x64x64, .f32⟩
  | 117 => ⟨S80x64x64, .f32⟩
  | 118 => ⟨S80x64x64, .f32⟩
  | 119 => ⟨S80x1x1, .f32⟩
  | 120 => ⟨S80x64x64, .f32⟩
  | 121 => ⟨S80x64x64, .f32⟩
  | 122 => ⟨S1x80x64x64, .f32⟩
  | 123 => ⟨S_, .i32⟩
  | 124 => ⟨S_, .f32⟩
  | 125 => ⟨S256x34x34, .f32⟩
  | 126 => ⟨S80x3x3x34x34, .f32⟩
  | 127 => ⟨S80x1x1x32x32, .f32⟩
  | _ => ⟨S1x256x64x64, .f32⟩

abbrev hbmTy0_6 (i : Nat) : BufTy := match i % 128 with
  | 0 => ⟨S80x32x32, .f32⟩
  | 1 => ⟨S80x1x1x32x32, .f32⟩
  | 2 => ⟨S80x32x32, .f32⟩
  | 3 => ⟨S80x32x32, .f32⟩
  | 4 => ⟨S80x1x1x32x32, .f32⟩
  | 5 => ⟨S80x32x32, .f32⟩
  | 6 => ⟨S80x32x32, .f32⟩
  | 7 => ⟨S80x1x1x32x32, .f32⟩
  | 8 => ⟨S80x32x32, .f32⟩
  | 9 => ⟨S80x32x32, .f32⟩
  | 10 => ⟨S80x1x1x32x32, .f32⟩
  | 11 => ⟨S80x32x32, .f32⟩
  | 12 => ⟨S80x32x32, .f32⟩
  | 13 => ⟨S80x1x1x32x32, .f32⟩
  | 14 => ⟨S80x32x32, .f32⟩
  | 15 => ⟨S80x32x32, .f32⟩
  | 16 => ⟨S80x1x1x32x32, .f32⟩
  | 17 => ⟨S80x32x32, .f32⟩
  | 18 => ⟨S80x32x32, .f32⟩
  | 19 => ⟨S80x1x1x32x32, .f32⟩
  | 20 => ⟨S80x32x32, .f32⟩
  | 21 => ⟨S80x32x32, .f32⟩
  | 22 => ⟨S80x1x1x32x32, .f32⟩
  | 23 => ⟨S80x32x32, .f32⟩
  | 24 => ⟨S80x32x32, .f32⟩
  | 25 => ⟨S80x1x1, .f32⟩
  | 26 => ⟨S80x32x32, .f32⟩
  | 27 => ⟨S80x32x32, .f32⟩
  | 28 => ⟨S1x80x32x32, .f32⟩
  | 29 => ⟨S_, .i32⟩
  | 30 => ⟨S_, .f32⟩
  | 31 => ⟨S256x18x18, .f32⟩
  | 32 => ⟨S80x3x3x18x18, .f32⟩
  | 33 => ⟨S80x1x1x16x16, .f32⟩
  | 34 => ⟨S80x16x16, .f32⟩
  | 35 => ⟨S80x1x1x16x16, .f32⟩
  | 36 => ⟨S80x16x16, .f32⟩
  | 37 => ⟨S80x16x16, .f32⟩
  | 38 => ⟨S80x1x1x16x16, .f32⟩
  | 39 => ⟨S80x16x16, .f32⟩
  | 40 => ⟨S80x16x16, .f32⟩
  | 41 => ⟨S80x1x1x16x16, .f32⟩
  | 42 => ⟨S80x16x16, .f32⟩
  | 43 => ⟨S80x16x16, .f32⟩
  | 44 => ⟨S80x1x1x16x16, .f32⟩
  | 45 => ⟨S80x16x16, .f32⟩
  | 46 => ⟨S80x16x16, .f32⟩
  | 47 => ⟨S80x1x1x16x16, .f32⟩
  | 48 => ⟨S80x16x16, .f32⟩
  | 49 => ⟨S80x16x16, .f32⟩
  | 50 => ⟨S80x1x1x16x16, .f32⟩
  | 51 => ⟨S80x16x16, .f32⟩
  | 52 => ⟨S80x16x16, .f32⟩
  | 53 => ⟨S80x1x1x16x16, .f32⟩
  | 54 => ⟨S80x16x16, .f32⟩
  | 55 => ⟨S80x16x16, .f32⟩
  | 56 => ⟨S80x1x1x16x16, .f32⟩
  | 57 => ⟨S80x16x16, .f32⟩
  | 58 => ⟨S80x16x16, .f32⟩
  | 59 => ⟨S80x1x1, .f32⟩
  | 60 => ⟨S80x16x16, .f32⟩
  | 61 => ⟨S80x16x16, .f32⟩
  | 62 => ⟨S1x80x16x16, .f32⟩
  | 63 => ⟨S_, .i32⟩
  | 64 => ⟨S_, .f32⟩
  | 65 => ⟨S256x10x10, .f32⟩
  | 66 => ⟨S80x3x3x10x10, .f32⟩
  | 67 => ⟨S80x1x1x8x8, .f32⟩
  | 68 => ⟨S80x8x8, .f32⟩
  | 69 => ⟨S80x1x1x8x8, .f32⟩
  | 70 => ⟨S80x8x8, .f32⟩
  | 71 => ⟨S80x8x8, .f32⟩
  | 72 => ⟨S80x1x1x8x8, .f32⟩
  | 73 => ⟨S80x8x8, .f32⟩
  | 74 => ⟨S80x8x8, .f32⟩
  | 75 => ⟨S80x1x1x8x8, .f32⟩
  | 76 => ⟨S80x8x8, .f32⟩
  | 77 => ⟨S80x8x8, .f32⟩
  | 78 => ⟨S80x1x1x8x8, .f32⟩
  | 79 => ⟨S80x8x8, .f32⟩
  | 80 => ⟨S80x8x8, .f32⟩
  | 81 => ⟨S80x1x1x8x8, .f32⟩
  | 82 => ⟨S80x8x8, .f32⟩
  | 83 => ⟨S80x8x8, .f32⟩
  | 84 => ⟨S80x1x1x8x8, .f32⟩
  | 85 => ⟨S80x8x8, .f32⟩
  | 86 => ⟨S80x8x8, .f32⟩
  | 87 => ⟨S80x1x1x8x8, .f32⟩
  | 88 => ⟨S80x8x8, .f32⟩
  | 89 => ⟨S80x8x8, .f32⟩
  | 90 => ⟨S80x1x1x8x8, .f32⟩
  | 91 => ⟨S80x8x8, .f32⟩
  | 92 => ⟨S80x8x8, .f32⟩
  | 93 => ⟨S80x1x1, .f32⟩
  | 94 => ⟨S80x8x8, .f32⟩
  | 95 => ⟨S80x8x8, .f32⟩
  | 96 => ⟨S1x80x8x8, .f32⟩
  | 97 => ⟨S_, .i32⟩
  | 98 => ⟨S_, .f32⟩
  | 99 => ⟨S256x6x6, .f32⟩
  | 100 => ⟨S80x3x3x6x6, .f32⟩
  | 101 => ⟨S80x1x1x4x4, .f32⟩
  | 102 => ⟨S80x4x4, .f32⟩
  | 103 => ⟨S80x1x1x4x4, .f32⟩
  | 104 => ⟨S80x4x4, .f32⟩
  | 105 => ⟨S80x4x4, .f32⟩
  | 106 => ⟨S80x1x1x4x4, .f32⟩
  | 107 => ⟨S80x4x4, .f32⟩
  | 108 => ⟨S80x4x4, .f32⟩
  | 109 => ⟨S80x1x1x4x4, .f32⟩
  | 110 => ⟨S80x4x4, .f32⟩
  | 111 => ⟨S80x4x4, .f32⟩
  | 112 => ⟨S80x1x1x4x4, .f32⟩
  | 113 => ⟨S80x4x4, .f32⟩
  | 114 => ⟨S80x4x4, .f32⟩
  | 115 => ⟨S80x1x1x4x4, .f32⟩
  | 116 => ⟨S80x4x4, .f32⟩
  | 117 => ⟨S80x4x4, .f32⟩
  | 118 => ⟨S80x1x1x4x4, .f32⟩
  | 119 => ⟨S80x4x4, .f32⟩
  | 120 => ⟨S80x4x4, .f32⟩
  | 121 => ⟨S80x1x1x4x4, .f32⟩
  | 122 => ⟨S80x4x4, .f32⟩
  | 123 => ⟨S80x4x4, .f32⟩
  | 124 => ⟨S80x1x1x4x4, .f32⟩
  | 125 => ⟨S80x4x4, .f32⟩
  | 126 => ⟨S80x4x4, .f32⟩
  | 127 => ⟨S80x1x1, .f32⟩
  | _ => ⟨S1x256x64x64, .f32⟩

abbrev hbmTy0_7 (i : Nat) : BufTy := match i % 128 with
  | 0 => ⟨S80x4x4, .f32⟩
  | 1 => ⟨S80x4x4, .f32⟩
  | 2 => ⟨S1x80x4x4, .f32⟩
  | 3 => ⟨S_, .i32⟩
  | 4 => ⟨S_, .f32⟩
  | 5 => ⟨S256x66x66, .f32⟩
  | 6 => ⟨S4x3x3x66x66, .f32⟩
  | 7 => ⟨S4x1x1x64x64, .f32⟩
  | 8 => ⟨S4x64x64, .f32⟩
  | 9 => ⟨S4x1x1x64x64, .f32⟩
  | 10 => ⟨S4x64x64, .f32⟩
  | 11 => ⟨S4x64x64, .f32⟩
  | 12 => ⟨S4x1x1x64x64, .f32⟩
  | 13 => ⟨S4x64x64, .f32⟩
  | 14 => ⟨S4x64x64, .f32⟩
  | 15 => ⟨S4x1x1x64x64, .f32⟩
  | 16 => ⟨S4x64x64, .f32⟩
  | 17 => ⟨S4x64x64, .f32⟩
  | 18 => ⟨S4x1x1x64x64, .f32⟩
  | 19 => ⟨S4x64x64, .f32⟩
  | 20 => ⟨S4x64x64, .f32⟩
  | 21 => ⟨S4x1x1x64x64, .f32⟩
  | 22 => ⟨S4x64x64, .f32⟩
  | 23 => ⟨S4x64x64, .f32⟩
  | 24 => ⟨S4x1x1x64x64, .f32⟩
  | 25 => ⟨S4x64x64, .f32⟩
  | 26 => ⟨S4x64x64, .f32⟩
  | 27 => ⟨S4x1x1x64x64, .f32⟩
  | 28 => ⟨S4x64x64, .f32⟩
  | 29 => ⟨S4x64x64, .f32⟩
  | 30 => ⟨S4x1x1x64x64, .f32⟩
  | 31 => ⟨S4x64x64, .f32⟩
  | 32 => ⟨S4x64x64, .f32⟩
  | 33 => ⟨S4x1x1, .f32⟩
  | 34 => ⟨S4x64x64, .f32⟩
  | 35 => ⟨S4x64x64, .f32⟩
  | 36 => ⟨S1, .f32⟩
  | 37 => ⟨S_, .f32⟩
  | 38 => ⟨S4x64x64, .f32⟩
  | 39 => ⟨S4x64x64, .f32⟩
  | 40 => ⟨S_, .f32⟩
  | 41 => ⟨S4x64x64, .f32⟩
  | 42 => ⟨S4x64x64, .f32⟩
  | 43 => ⟨S1x4x64x64, .f32⟩
  | 44 => ⟨S_, .i32⟩
  | 45 => ⟨S_, .f32⟩
  | 46 => ⟨S256x34x34, .f32⟩
  | 47 => ⟨S4x3x3x34x34, .f32⟩
  | 48 => ⟨S4x1x1x32x32, .f32⟩
  | 49 => ⟨S4x32x32, .f32⟩
  | 50 => ⟨S4x1x1x32x32, .f32⟩
  | 51 => ⟨S4x32x32, .f32⟩
  | 52 => ⟨S4x32x32, .f32⟩
  | 53 => ⟨S4x1x1x32x32, .f32⟩
  | 54 => ⟨S4x32x32, .f32⟩
  | 55 => ⟨S4x32x32, .f32⟩
  | 56 => ⟨S4x1x1x32x32, .f32⟩
  | 57 => ⟨S4x32x32, .f32⟩
  | 58 => ⟨S4x32x32, .f32⟩
  | 59 => ⟨S4x1x1x32x32, .f32⟩
  | 60 => ⟨S4x32x32, .f32⟩
  | 61 => ⟨S4x32x32, .f32⟩
  | 62 => ⟨S4x1x1x32x32, .f32⟩
  | 63 => ⟨S4x32x32, .f32⟩
  | 64 => ⟨S4x32x32, .f32⟩
  | 65 => ⟨S4x1x1x32x32, .f32⟩
  | 66 => ⟨S4x32x32, .f32⟩
  | 67 => ⟨S4x32x32, .f32⟩
  | 68 => ⟨S4x1x1x32x32, .f32⟩
  | 69 => ⟨S4x32x32, .f32⟩
  | 70 => ⟨S4x32x32, .f32⟩
  | 71 => ⟨S4x1x1x32x32, .f32⟩
  | 72 => ⟨S4x32x32, .f32⟩
  | 73 => ⟨S4x32x32, .f32⟩
  | 74 => ⟨S4x1x1, .f32⟩
  | 75 => ⟨S4x32x32, .f32⟩
  | 76 => ⟨S4x32x32, .f32⟩
  | 77 => ⟨S1, .f32⟩
  | 78 => ⟨S_, .f32⟩
  | 79 => ⟨S4x32x32, .f32⟩
  | 80 => ⟨S4x32x32, .f32⟩
  | 81 => ⟨S_, .f32⟩
  | 82 => ⟨S4x32x32, .f32⟩
  | 83 => ⟨S4x32x32, .f32⟩
  | 84 => ⟨S1x4x32x32, .f32⟩
  | 85 => ⟨S_, .i32⟩
  | 86 => ⟨S_, .f32⟩
  | 87 => ⟨S256x18x18, .f32⟩
  | 88 => ⟨S4x3x3x18x18, .f32⟩
  | 89 => ⟨S4x1x1x16x16, .f32⟩
  | 90 => ⟨S4x16x16, .f32⟩
  | 91 => ⟨S4x1x1x16x16, .f32⟩
  | 92 => ⟨S4x16x16, .f32⟩
  | 93 => ⟨S4x16x16, .f32⟩
  | 94 => ⟨S4x1x1x16x16, .f32⟩
  | 95 => ⟨S4x16x16, .f32⟩
  | 96 => ⟨S4x16x16, .f32⟩
  | 97 => ⟨S4x1x1x16x16, .f32⟩
  | 98 => ⟨S4x16x16, .f32⟩
  | 99 => ⟨S4x16x16, .f32⟩
  | 100 => ⟨S4x1x1x16x16, .f32⟩
  | 101 => ⟨S4x16x16, .f32⟩
  | 102 => ⟨S4x16x16, .f32⟩
  | 103 => ⟨S4x1x1x16x16, .f32⟩
  | 104 => ⟨S4x16x16, .f32⟩
  | 105 => ⟨S4x16x16, .f32⟩
  | 106 => ⟨S4x1x1x16x16, .f32⟩
  | 107 => ⟨S4x16x16, .f32⟩
  | 108 => ⟨S4x16x16, .f32⟩
  | 109 => ⟨S4x1x1x16x16, .f32⟩
  | 110 => ⟨S4x16x16, .f32⟩
  | 111 => ⟨S4x16x16, .f32⟩
  | 112 => ⟨S4x1x1x16x16, .f32⟩
  | 113 => ⟨S4x16x16, .f32⟩
  | 114 => ⟨S4x16x16, .f32⟩
  | 115 => ⟨S4x1x1, .f32⟩
  | 116 => ⟨S4x16x16, .f32⟩
  | 117 => ⟨S4x16x16, .f32⟩
  | 118 => ⟨S1, .f32⟩
  | 119 => ⟨S_, .f32⟩
  | 120 => ⟨S4x16x16, .f32⟩
  | 121 => ⟨S4x16x16, .f32⟩
  | 122 => ⟨S_, .f32⟩
  | 123 => ⟨S4x16x16, .f32⟩
  | 124 => ⟨S4x16x16, .f32⟩
  | 125 => ⟨S1x4x16x16, .f32⟩
  | 126 => ⟨S_, .i32⟩
  | 127 => ⟨S_, .f32⟩
  | _ => ⟨S1x256x64x64, .f32⟩

abbrev hbmTy0_8 (i : Nat) : BufTy := match i % 128 with
  | 0 => ⟨S256x10x10, .f32⟩
  | 1 => ⟨S4x3x3x10x10, .f32⟩
  | 2 => ⟨S4x1x1x8x8, .f32⟩
  | 3 => ⟨S4x8x8, .f32⟩
  | 4 => ⟨S4x1x1x8x8, .f32⟩
  | 5 => ⟨S4x8x8, .f32⟩
  | 6 => ⟨S4x8x8, .f32⟩
  | 7 => ⟨S4x1x1x8x8, .f32⟩
  | 8 => ⟨S4x8x8, .f32⟩
  | 9 => ⟨S4x8x8, .f32⟩
  | 10 => ⟨S4x1x1x8x8, .f32⟩
  | 11 => ⟨S4x8x8, .f32⟩
  | 12 => ⟨S4x8x8, .f32⟩
  | 13 => ⟨S4x1x1x8x8, .f32⟩
  | 14 => ⟨S4x8x8, .f32⟩
  | 15 => ⟨S4x8x8, .f32⟩
  | 16 => ⟨S4x1x1x8x8, .f32⟩
  | 17 => ⟨S4x8x8, .f32⟩
  | 18 => ⟨S4x8x8, .f32⟩
  | 19 => ⟨S4x1x1x8x8, .f32⟩
  | 20 => ⟨S4x8x8, .f32⟩
  | 21 => ⟨S4x8x8, .f32⟩
  | 22 => ⟨S4x1x1x8x8, .f32⟩
  | 23 => ⟨S4x8x8, .f32⟩
  | 24 => ⟨S4x8x8, .f32⟩
  | 25 => ⟨S4x1x1x8x8, .f32⟩
  | 26 => ⟨S4x8x8, .f32⟩
  | 27 => ⟨S4x8x8, .f32⟩
  | 28 => ⟨S4x1x1, .f32⟩
  | 29 => ⟨S4x8x8, .f32⟩
  | 30 => ⟨S4x8x8, .f32⟩
  | 31 => ⟨S1, .f32⟩
  | 32 => ⟨S_, .f32⟩
  | 33 => ⟨S4x8x8, .f32⟩
  | 34 => ⟨S4x8x8, .f32⟩
  | 35 => ⟨S_, .f32⟩
  | 36 => ⟨S4x8x8, .f32⟩
  | 37 => ⟨S4x8x8, .f32⟩
  | 38 => ⟨S1x4x8x8, .f32⟩
  | 39 => ⟨S_, .i32⟩
  | 40 => ⟨S_, .f32⟩
  | 41 => ⟨S256x6x6, .f32⟩
  | 42 => ⟨S4x3x3x6x6, .f32⟩
  | 43 => ⟨S4x1x1x4x4, .f32⟩
  | 44 => ⟨S4x4x4, .f32⟩
  | 45 => ⟨S4x1x1x4x4, .f32⟩
  | 46 => ⟨S4x4x4, .f32⟩
  | 47 => ⟨S4x4x4, .f32⟩
  | 48 => ⟨S4x1x1x4x4, .f32⟩
  | 49 => ⟨S4x4x4, .f32⟩
  | 50 => ⟨S4x4x4, .f32⟩
  | 51 => ⟨S4x1x1x4x4, .f32⟩
  | 52 => ⟨S4x4x4, .f32⟩
  | 53 => ⟨S4x4x4, .f32⟩
  | 54 => ⟨S4x1x1x4x4, .f32⟩
  | 55 => ⟨S4x4x4, .f32⟩
  | 56 => ⟨S4x4x4, .f32⟩
  | 57 => ⟨S4x1x1x4x4, .f32⟩
  | 58 => ⟨S4x4x4, .f32⟩
  | 59 => ⟨S4x4x4, .f32⟩
  | 60 => ⟨S4x1x1x4x4, .f32⟩
  | 61 => ⟨S4x4x4, .f32⟩
  | 62 => ⟨S4x4x4, .f32⟩
  | 63 => ⟨S4x1x1x4x4, .f32⟩
  | 64 => ⟨S4x4x4, .f32⟩
  | 65 => ⟨S4x4x4, .f32⟩
  | 66 => ⟨S4x1x1x4x4, .f32⟩
  | 67 => ⟨S4x4x4, .f32⟩
  | 68 => ⟨S4x4x4, .f32⟩
  | 69 => ⟨S4x1x1, .f32⟩
  | 70 => ⟨S4x4x4, .f32⟩
  | 71 => ⟨S4x4x4, .f32⟩
  | 72 => ⟨S1, .f32⟩
  | 73 => ⟨S_, .f32⟩
  | 74 => ⟨S4x4x4, .f32⟩
  | 75 => ⟨S4x4x4, .f32⟩
  | 76 => ⟨S_, .f32⟩
  | 77 => ⟨S4x4x4, .f32⟩
  | 78 => ⟨S4x4x4, .f32⟩
  | 79 => ⟨S1x4x4x4, .f32⟩
  | 80 => ⟨S_, .i32⟩
  | 81 => ⟨S_, .f32⟩
  | 82 => ⟨S256x66x66, .f32⟩
  | 83 => ⟨S1x3x3x66x66, .f32⟩
  | 84 => ⟨S1x1x1x64x64, .f32⟩
  | 85 => ⟨S1x64x64, .f32⟩
  | 86 => ⟨S1x1x1x64x64, .f32⟩
  | 87 => ⟨S1x64x64, .f32⟩
  | 88 => ⟨S1x64x64, .f32⟩
  | 89 => ⟨S1x1x1x64x64, .f32⟩
  | 90 => ⟨S1x64x64, .f32⟩
  | 91 => ⟨S1x64x64, .f32⟩
  | 92 => ⟨S1x1x1x64x64, .f32⟩
  | 93 => ⟨S1x64x64, .f32⟩
  | 94 => ⟨S1x64x64, .f32⟩
  | 95 => ⟨S1x1x1x64x64, .f32⟩
  | 96 => ⟨S1x64x64, .f32⟩
  | 97 => ⟨S1x64x64, .f32⟩
  | 98 => ⟨S1x1x1x64x64, .f32⟩
  | 99 => ⟨S1x64x64, .f32⟩
  | 100 => ⟨S1x64x64, .f32⟩
  | 101 => ⟨S1x1x1x64x64, .f32⟩
  | 102 => ⟨S1x64x64, .f32⟩
  | 103 => ⟨S1x64x64, .f32⟩
  | 104 => ⟨S1x1x1x64x64, .f32⟩
  | 105 => ⟨S1x64x64, .f32⟩
  | 106 => ⟨S1x64x64, .f32⟩
  | 107 => ⟨S1x1x1x64x64, .f32⟩
  | 108 => ⟨S1x64x64, .f32⟩
  | 109 => ⟨S1x64x64, .f32⟩
  | 110 => ⟨S1x1x1, .f32⟩
  | 111 => ⟨S1x64x64, .f32⟩
  | 112 => ⟨S1x64x64, .f32⟩
  | 113 => ⟨S1x1x64x64, .f32⟩
  | 114 => ⟨S_, .i32⟩
  | 115 => ⟨S_, .f32⟩
  | 116 => ⟨S256x34x34, .f32⟩
  | 117 => ⟨S1x3x3x34x34, .f32⟩
  | 118 => ⟨S1x1x1x32x32, .f32⟩
  | 119 => ⟨S1x32x32, .f32⟩
  | 120 => ⟨S1x1x1x32x32, .f32⟩
  | 121 => ⟨S1x32x32, .f32⟩
  | 122 => ⟨S1x32x32, .f32⟩
  | 123 => ⟨S1x1x1x32x32, .f32⟩
  | 124 => ⟨S1x32x32, .f32⟩
  | 125 => ⟨S1x32x32, .f32⟩
  | 126 => ⟨S1x1x1x32x32, .f32⟩
  | 127 => ⟨S1x32x32, .f32⟩
  | _ => ⟨S1x256x64x64, .f32⟩

abbrev hbmTy0_9 (i : Nat) : BufTy := match i % 128 with
  | 0 => ⟨S1x32x32, .f32⟩
  | 1 => ⟨S1x1x1x32x32, .f32⟩
  | 2 => ⟨S1x32x32, .f32⟩
  | 3 => ⟨S1x32x32, .f32⟩
  | 4 => ⟨S1x1x1x32x32, .f32⟩
  | 5 => ⟨S1x32x32, .f32⟩
  | 6 => ⟨S1x32x32, .f32⟩
  | 7 => ⟨S1x1x1x32x32, .f32⟩
  | 8 => ⟨S1x32x32, .f32⟩
  | 9 => ⟨S1x32x32, .f32⟩
  | 10 => ⟨S1x1x1x32x32, .f32⟩
  | 11 => ⟨S1x32x32, .f32⟩
  | 12 => ⟨S1x32x32, .f32⟩
  | 13 => ⟨S1x1x1x32x32, .f32⟩
  | 14 => ⟨S1x32x32, .f32⟩
  | 15 => ⟨S1x32x32, .f32⟩
  | 16 => ⟨S1x1x1, .f32⟩
  | 17 => ⟨S1x32x32, .f32⟩
  | 18 => ⟨S1x32x32, .f32⟩
  | 19 => ⟨S1x1x32x32, .f32⟩
  | 20 => ⟨S_, .i32⟩
  | 21 => ⟨S_, .f32⟩
  | 22 => ⟨S256x18x18, .f32⟩
  | 23 => ⟨S1x3x3x18x18, .f32⟩
  | 24 => ⟨S1x1x1x16x16, .f32⟩
  | 25 => ⟨S1x16x16, .f32⟩
  | 26 => ⟨S1x1x1x16x16, .f32⟩
  | 27 => ⟨S1x16x16, .f32⟩
  | 28 => ⟨S1x16x16, .f32⟩
  | 29 => ⟨S1x1x1x16x16, .f32⟩
  | 30 => ⟨S1x16x16, .f32⟩
  | 31 => ⟨S1x16x16, .f32⟩
  | 32 => ⟨S1x1x1x16x16, .f32⟩
  | 33 => ⟨S1x16x16, .f32⟩
  | 34 => ⟨S1x16x16, .f32⟩
  | 35 => ⟨S1x1x1x16x16, .f32⟩
  | 36 => ⟨S1x16x16, .f32⟩
  | 37 => ⟨S1x16x16, .f32⟩
  | 38 => ⟨S1x1x1x16x16, .f32⟩
  | 39 => ⟨S1x16x16, .f32⟩
  | 40 => ⟨S1x16x16, .f32⟩
  | 41 => ⟨S1x1x1x16x16, .f32⟩
  | 42 => ⟨S1x16x16, .f32⟩
  | 43 => ⟨S1x16x16, .f32⟩
  | 44 => ⟨S1x1x1x16x16, .f32⟩
  | 45 => ⟨S1x16x16, .f32⟩
  | 46 => ⟨S1x16x16, .f32⟩
  | 47 => ⟨S1x1x1x16x16, .f32⟩
  | 48 => ⟨S1x16x16, .f32⟩
  | 49 => ⟨S1x16x16, .f32⟩
  | 50 => ⟨S1x1x1, .f32⟩
  | 51 => ⟨S1x16x16, .f32⟩
  | 52 => ⟨S1x16x16, .f32⟩
  | 53 => ⟨S1x1x16x16, .f32⟩
  | 54 => ⟨S_, .i32⟩
  | 55 => ⟨S_, .f32⟩
  | 56 => ⟨S256x10x10, .f32⟩
  | 57 => ⟨S1x3x3x10x10, .f32⟩
  | 58 => ⟨S1x1x1x8x8, .f32⟩
  | 59 => ⟨S1x8x8, .f32⟩
  | 60 => ⟨S1x1x1x8x8, .f32⟩
  | 61 => ⟨S1x8x8, .f32⟩
  | 62 => ⟨S1x8x8, .f32⟩
  | 63 => ⟨S1x1x1x8x8, .f32⟩
  | 64 => ⟨S1x8x8, .f32⟩
  | 65 => ⟨S1x8x8, .f32⟩
  | 66 => ⟨S1x1x1x8x8, .f32⟩
  | 67 => ⟨S1x8x8, .f32⟩
  | 68 => ⟨S1x8x8, .f32⟩
  | 69 => ⟨S1x1x1x8x8, .f32⟩
  | 70 => ⟨S1x8x8, .f32⟩
  | 71 => ⟨S1x8x8, .f32⟩
  | 72 => ⟨S1x1x1x8x8, .f32⟩
  | 73 => ⟨S1x8x8, .f32⟩
  | 74 => ⟨S1x8x8, .f32⟩
  | 75 => ⟨S1x1x1x8x8, .f32⟩
  | 76 => ⟨S1x8x8, .f32⟩
  | 77 => ⟨S1x8x8, .f32⟩
  | 78 => ⟨S1x1x1x8x8, .f32⟩
  | 79 => ⟨S1x8x8, .f32⟩
  | 80 => ⟨S1x8x8, .f32⟩
  | 81 => ⟨S1x1x1x8x8, .f32⟩
  | 82 => ⟨S1x8x8, .f32⟩
  | 83 => ⟨S1x8x8, .f32⟩
  | 84 => ⟨S1x1x1, .f32⟩
  | 85 => ⟨S1x8x8, .f32⟩
  | 86 => ⟨S1x8x8, .f32⟩
  | 87 => ⟨S1x1x8x8, .f32⟩
  | 88 => ⟨S_, .i32⟩
  | 89 => ⟨S_, .f32⟩
  | 90 => ⟨S256x6x6, .f32⟩
  | 91 => ⟨S1x3x3x6x6, .f32⟩
  | 92 => ⟨S1x1x1x4x4, .f32⟩
  | 93 => ⟨S1x4x4, .f32⟩
  | 94 => ⟨S1x1x1x4x4, .f32⟩
  | 95 => ⟨S1x4x4, .f32⟩
  | 96 => ⟨S1x4x4, .f32⟩
  | 97 => ⟨S1x1x1x4x4, .f32⟩
  | 98 => ⟨S1x4x4, .f32⟩
  | 99 => ⟨S1x4x4, .f32⟩
  | 100 => ⟨S1x1x1x4x4, .f32⟩
  | 101 => ⟨S1x4x4, .f32⟩
  | 102 => ⟨S1x4x4, .f32⟩
  | 103 => ⟨S1x1x1x4x4, .f32⟩
  | 104 => ⟨S1x4x4, .f32⟩
  | 105 => ⟨S1x4x4, .f32⟩
  | 106 => ⟨S1x1x1x4x4, .f32⟩
  | 107 => ⟨S1x4x4, .f32⟩
  | 108 => ⟨S1x4x4, .f32⟩
  | 109 => ⟨S1x1x1x4x4, .f32⟩
  | 110 => ⟨S1x4x4, .f32⟩
  | 111 => ⟨S1x4x4, .f32⟩
  | 112 => ⟨S1x1x1x4x4, .f32⟩
  | 113 => ⟨S1x4x4, .f32⟩
  | 114 => ⟨S1x4x4, .f32⟩
  | 115 => ⟨S1x1x1x4x4, .f32⟩
  | 116 => ⟨S1x4x4, .f32⟩
  | 117 => ⟨S1x4x4, .f32⟩
  | 118 => ⟨S1x1x1, .f32⟩
  | 119 => ⟨S1x4x4, .f32⟩
  | 120 => ⟨S1x4x4, .f32⟩
  | 121 => ⟨S1x1x4x4, .f32⟩
  | _ => ⟨S1x256x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5_0 : Ref sig .tc := ⟨.hbm, 26, rfl⟩
abbrev main_v5_1 : Ref sig .tc := ⟨.hbm, 27, rfl⟩
abbrev main_v5_2 : Ref sig .tc := ⟨.hbm, 28, rfl⟩
abbrev main_v5_3 : Ref sig .tc := ⟨.hbm, 29, rfl⟩
abbrev main_v5_4 : Ref sig .tc := ⟨.hbm, 30, rfl⟩
abbrev main_v5_5 : Ref sig .tc := ⟨.hbm, 31, rfl⟩
abbrev main_v5_6 : Ref sig .tc := ⟨.hbm, 32, rfl⟩
abbrev main_v5_7 : Ref sig .tc := ⟨.hbm, 33, rfl⟩
abbrev main_v5_8 : Ref sig .tc := ⟨.hbm, 34, rfl⟩
abbrev main_v5_9 : Ref sig .tc := ⟨.hbm, 35, rfl⟩
abbrev main_v5_10 : Ref sig .tc := ⟨.hbm, 36, rfl⟩
abbrev main_v5_11 : Ref sig .tc := ⟨.hbm, 37, rfl⟩
abbrev main_v5_12 : Ref sig .tc := ⟨.hbm, 38, rfl⟩
abbrev main_v5_13 : Ref sig .tc := ⟨.hbm, 39, rfl⟩
abbrev main_v5_14 : Ref sig .tc := ⟨.hbm, 40, rfl⟩
abbrev main_v5_15 : Ref sig .tc := ⟨.hbm, 41, rfl⟩
abbrev main_v5_16 : Ref sig .tc := ⟨.hbm, 42, rfl⟩
abbrev main_v5_17 : Ref sig .tc := ⟨.hbm, 43, rfl⟩
abbrev main_v5_18 : Ref sig .tc := ⟨.hbm, 44, rfl⟩
abbrev main_while0c_c_37 : Ref sig .tc := ⟨.hbm, 45, rfl⟩
abbrev main_while0c_v516 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_c_2 : Ref sig .tc := ⟨.hbm, 50, rfl⟩
abbrev main_while0b_call0_v0 : Ref sig .tc := ⟨.hbm, 51, rfl⟩
abbrev main_while0b_v516 : Ref sig .tc := ⟨.hbm, 52, rfl⟩
abbrev main_while0b_call1_c : Ref sig .tc := ⟨.hbm, 53, rfl⟩
abbrev main_while0b_call1_v0 : Ref sig .tc := ⟨.hbm, 54, rfl⟩
abbrev main_while0b_v517 : Ref sig .tc := ⟨.hbm, 55, rfl⟩
abbrev main_while0b_call2_c : Ref sig .tc := ⟨.hbm, 56, rfl⟩
abbrev main_while0b_call2_v0 : Ref sig .tc := ⟨.hbm, 57, rfl⟩
abbrev main_while0b_v518 : Ref sig .tc := ⟨.hbm, 58, rfl⟩
abbrev main_while0b_call3_c : Ref sig .tc := ⟨.hbm, 59, rfl⟩
abbrev main_while0b_call3_v0 : Ref sig .tc := ⟨.hbm, 60, rfl⟩
abbrev main_while0b_v519 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v520 : Ref sig .tc := ⟨.hbm, 67, rfl⟩
abbrev main_while0b_call5_c : Ref sig .tc := ⟨.hbm, 68, rfl⟩
abbrev main_while0b_call5_v0 : Ref sig .tc := ⟨.hbm, 69, rfl⟩
abbrev main_while0b_v521 : Ref sig .tc := ⟨.hbm, 70, rfl⟩
abbrev main_while0b_call6_c : Ref sig .tc := ⟨.hbm, 71, rfl⟩
abbrev main_while0b_call6_v0 : Ref sig .tc := ⟨.hbm, 72, rfl⟩
abbrev main_while0b_v522 : Ref sig .tc := ⟨.hbm, 73, rfl⟩
abbrev main_while0b_call7_c : Ref sig .tc := ⟨.hbm, 74, rfl⟩
abbrev main_while0b_call7_v0 : Ref sig .tc := ⟨.hbm, 75, rfl⟩
abbrev main_while0b_v523 : Ref sig .tc := ⟨.hbm, 76, rfl⟩
abbrev main_while0b_c_37 : Ref sig .tc := ⟨.hbm, 77, rfl⟩
abbrev main_while0b_call8_v0 : Ref sig .tc := ⟨.hbm, 78, rfl⟩
abbrev main_while0b_v524 : Ref sig .tc := ⟨.hbm, 79, rfl⟩
abbrev main_while0b_v525 : Ref sig .tc := ⟨.hbm, 80, rfl⟩
abbrev main_while0b_v526 : Ref sig .tc := ⟨.hbm, 81, rfl⟩
abbrev main_while0b_v527 : Ref sig .tc := ⟨.hbm, 82, rfl⟩
abbrev main_while0b_v528 : Ref sig .tc := ⟨.hbm, 83, rfl⟩
abbrev main_while0b_v529 : Ref sig .tc := ⟨.hbm, 84, rfl⟩
abbrev main_while0b_v530 : Ref sig .tc := ⟨.hbm, 85, rfl⟩
abbrev main_while0b_v531 : Ref sig .tc := ⟨.hbm, 86, rfl⟩
abbrev main_while0b_v532 : Ref sig .tc := ⟨.hbm, 87, rfl⟩
abbrev main_while0b_v533 : Ref sig .tc := ⟨.hbm, 88, rfl⟩
abbrev main_while0b_v534 : Ref sig .tc := ⟨.hbm, 89, rfl⟩
abbrev main_while0b_v535 : Ref sig .tc := ⟨.hbm, 90, rfl⟩
abbrev main_while0b_v536 : Ref sig .tc := ⟨.hbm, 91, rfl⟩
abbrev main_while0b_v537 : Ref sig .tc := ⟨.hbm, 92, rfl⟩
abbrev main_while0b_v538 : Ref sig .tc := ⟨.hbm, 93, rfl⟩
abbrev main_while0b_v539 : Ref sig .tc := ⟨.hbm, 94, rfl⟩
abbrev main_while0b_v540 : Ref sig .tc := ⟨.hbm, 95, rfl⟩
abbrev main_while0b_v541 : Ref sig .tc := ⟨.hbm, 96, rfl⟩
abbrev main_while0b_v542 : Ref sig .tc := ⟨.hbm, 97, rfl⟩
abbrev main_while0b_v543 : Ref sig .tc := ⟨.hbm, 98, rfl⟩
abbrev main_while0b_v544 : Ref sig .tc := ⟨.hbm, 99, rfl⟩
abbrev main_while0b_v545 : Ref sig .tc := ⟨.hbm, 100, rfl⟩
abbrev main_while0b_v546 : Ref sig .tc := ⟨.hbm, 101, rfl⟩
abbrev main_while0b_v547 : Ref sig .tc := ⟨.hbm, 102, rfl⟩
abbrev main_while0b_v548 : Ref sig .tc := ⟨.hbm, 103, rfl⟩
abbrev main_while0b_v549 : Ref sig .tc := ⟨.hbm, 104, rfl⟩
abbrev main_while0b_v550 : Ref sig .tc := ⟨.hbm, 105, rfl⟩
abbrev main_while0b_v551 : Ref sig .tc := ⟨.hbm, 106, rfl⟩
abbrev main_while0b_v552 : Ref sig .tc := ⟨.hbm, 107, rfl⟩
abbrev main_while0b_v553 : Ref sig .tc := ⟨.hbm, 108, rfl⟩
abbrev main_while0b_v554 : Ref sig .tc := ⟨.hbm, 109, rfl⟩
abbrev main_while0b_v555 : Ref sig .tc := ⟨.hbm, 110, rfl⟩
abbrev main_while0b_cst_38 : Ref sig .tc := ⟨.hbm, 111, rfl⟩
abbrev main_while0b_v556 : Ref sig .tc := ⟨.hbm, 112, rfl⟩
abbrev main_while0b_v557 : Ref sig .tc := ⟨.hbm, 113, rfl⟩
abbrev main_while0b_cst_39 : Ref sig .tc := ⟨.hbm, 114, rfl⟩
abbrev main_while0b_v558 : Ref sig .tc := ⟨.hbm, 115, rfl⟩
abbrev main_while0b_v559 : Ref sig .tc := ⟨.hbm, 116, rfl⟩
abbrev main_while0b_v560 : Ref sig .tc := ⟨.hbm, 117, rfl⟩
abbrev main_while0b_v561 : Ref sig .tc := ⟨.hbm, 118, rfl⟩
abbrev main_while0b_v562 : Ref sig .tc := ⟨.hbm, 119, rfl⟩
abbrev main_while0b_cst_40 : Ref sig .tc := ⟨.hbm, 120, rfl⟩
abbrev main_while0b_v563 : Ref sig .tc := ⟨.hbm, 121, rfl⟩
abbrev main_while0b_v564 : Ref sig .tc := ⟨.hbm, 122, rfl⟩
abbrev main_while0b_cst_41 : Ref sig .tc := ⟨.hbm, 123, rfl⟩
abbrev main_while0b_v565 : Ref sig .tc := ⟨.hbm, 124, rfl⟩
abbrev main_while0b_v566 : Ref sig .tc := ⟨.hbm, 125, rfl⟩
abbrev main_while0b_cst_42 : Ref sig .tc := ⟨.hbm, 126, rfl⟩
abbrev main_while0b_v567 : Ref sig .tc := ⟨.hbm, 127, rfl⟩
abbrev main_while0b_v568 : Ref sig .tc := ⟨.hbm, 128, rfl⟩
abbrev main_while0b_v569 : Ref sig .tc := ⟨.hbm, 129, rfl⟩
abbrev main_while0b_v570 : Ref sig .tc := ⟨.hbm, 130, rfl⟩
abbrev main_while0b_v571 : Ref sig .tc := ⟨.hbm, 131, rfl⟩
abbrev main_while0b_v572 : Ref sig .tc := ⟨.hbm, 132, rfl⟩
abbrev main_while0b_v573 : Ref sig .tc := ⟨.hbm, 133, rfl⟩
abbrev main_while0b_v574 : Ref sig .tc := ⟨.hbm, 134, rfl⟩
abbrev main_while0b_v575 : Ref sig .tc := ⟨.hbm, 135, rfl⟩
abbrev main_while0b_v576 : Ref sig .tc := ⟨.hbm, 136, rfl⟩
abbrev main_while0b_v577 : Ref sig .tc := ⟨.hbm, 137, rfl⟩
abbrev main_while0b_v578 : Ref sig .tc := ⟨.hbm, 138, rfl⟩
abbrev main_while0b_cst_43 : Ref sig .tc := ⟨.hbm, 139, rfl⟩
abbrev main_while0b_v579 : Ref sig .tc := ⟨.hbm, 140, rfl⟩
abbrev main_while0b_v580 : Ref sig .tc := ⟨.hbm, 141, rfl⟩
abbrev main_while0b_c_44 : Ref sig .tc := ⟨.hbm, 142, rfl⟩
abbrev main_while0b_call9_v0 : Ref sig .tc := ⟨.hbm, 143, rfl⟩
abbrev main_while0b_v581 : Ref sig .tc := ⟨.hbm, 144, rfl⟩
abbrev main_while0b_v582 : Ref sig .tc := ⟨.hbm, 145, rfl⟩
abbrev main_while0b_v583 : Ref sig .tc := ⟨.hbm, 146, rfl⟩
abbrev main_while0b_v584 : Ref sig .tc := ⟨.hbm, 147, rfl⟩
abbrev main_while0b_v585 : Ref sig .tc := ⟨.hbm, 148, rfl⟩
abbrev main_while0b_v586 : Ref sig .tc := ⟨.hbm, 149, rfl⟩
abbrev main_while0b_v587 : Ref sig .tc := ⟨.hbm, 150, rfl⟩
abbrev main_while0b_v588 : Ref sig .tc := ⟨.hbm, 151, rfl⟩
abbrev main_while0b_v589 : Ref sig .tc := ⟨.hbm, 152, rfl⟩
abbrev main_while0b_v590 : Ref sig .tc := ⟨.hbm, 153, rfl⟩
abbrev main_while0b_v591 : Ref sig .tc := ⟨.hbm, 154, rfl⟩
abbrev main_while0b_v592 : Ref sig .tc := ⟨.hbm, 155, rfl⟩
abbrev main_while0b_v593 : Ref sig .tc := ⟨.hbm, 156, rfl⟩
abbrev main_while0b_v594 : Ref sig .tc := ⟨.hbm, 157, rfl⟩
abbrev main_while0b_v595 : Ref sig .tc := ⟨.hbm, 158, rfl⟩
abbrev main_while0b_v596 : Ref sig .tc := ⟨.hbm, 159, rfl⟩
abbrev main_while0b_v597 : Ref sig .tc := ⟨.hbm, 160, rfl⟩
abbrev main_while0b_v598 : Ref sig .tc := ⟨.hbm, 161, rfl⟩
abbrev main_while0b_v599 : Ref sig .tc := ⟨.hbm, 162, rfl⟩
abbrev main_while0b_v600 : Ref sig .tc := ⟨.hbm, 163, rfl⟩
abbrev main_while0b_v601 : Ref sig .tc := ⟨.hbm, 164, rfl⟩
abbrev main_while0b_v602 : Ref sig .tc := ⟨.hbm, 165, rfl⟩
abbrev main_while0b_v603 : Ref sig .tc := ⟨.hbm, 166, rfl⟩
abbrev main_while0b_v604 : Ref sig .tc := ⟨.hbm, 167, rfl⟩
abbrev main_while0b_v605 : Ref sig .tc := ⟨.hbm, 168, rfl⟩
abbrev main_while0b_v606 : Ref sig .tc := ⟨.hbm, 169, rfl⟩
abbrev main_while0b_v607 : Ref sig .tc := ⟨.hbm, 170, rfl⟩
abbrev main_while0b_v608 : Ref sig .tc := ⟨.hbm, 171, rfl⟩
abbrev main_while0b_v609 : Ref sig .tc := ⟨.hbm, 172, rfl⟩
abbrev main_while0b_v610 : Ref sig .tc := ⟨.hbm, 173, rfl⟩
abbrev main_while0b_v611 : Ref sig .tc := ⟨.hbm, 174, rfl⟩
abbrev main_while0b_v612 : Ref sig .tc := ⟨.hbm, 175, rfl⟩
abbrev main_while0b_cst_45 : Ref sig .tc := ⟨.hbm, 176, rfl⟩
abbrev main_while0b_v613 : Ref sig .tc := ⟨.hbm, 177, rfl⟩
abbrev main_while0b_v614 : Ref sig .tc := ⟨.hbm, 178, rfl⟩
abbrev main_while0b_cst_46 : Ref sig .tc := ⟨.hbm, 179, rfl⟩
abbrev main_while0b_v615 : Ref sig .tc := ⟨.hbm, 180, rfl⟩
abbrev main_while0b_v616 : Ref sig .tc := ⟨.hbm, 181, rfl⟩
abbrev main_while0b_v617 : Ref sig .tc := ⟨.hbm, 182, rfl⟩
abbrev main_while0b_v618 : Ref sig .tc := ⟨.hbm, 183, rfl⟩
abbrev main_while0b_v619 : Ref sig .tc := ⟨.hbm, 184, rfl⟩
abbrev main_while0b_cst_47 : Ref sig .tc := ⟨.hbm, 185, rfl⟩
abbrev main_while0b_v620 : Ref sig .tc := ⟨.hbm, 186, rfl⟩
abbrev main_while0b_v621 : Ref sig .tc := ⟨.hbm, 187, rfl⟩
abbrev main_while0b_cst_48 : Ref sig .tc := ⟨.hbm, 188, rfl⟩
abbrev main_while0b_v622 : Ref sig .tc := ⟨.hbm, 189, rfl⟩
abbrev main_while0b_v623 : Ref sig .tc := ⟨.hbm, 190, rfl⟩
abbrev main_while0b_cst_49 : Ref sig .tc := ⟨.hbm, 191, rfl⟩
abbrev main_while0b_v624 : Ref sig .tc := ⟨.hbm, 192, rfl⟩
abbrev main_while0b_v625 : Ref sig .tc := ⟨.hbm, 193, rfl⟩
abbrev main_while0b_v626 : Ref sig .tc := ⟨.hbm, 194, rfl⟩
abbrev main_while0b_v627 : Ref sig .tc := ⟨.hbm, 195, rfl⟩
abbrev main_while0b_v628 : Ref sig .tc := ⟨.hbm, 196, rfl⟩
abbrev main_while0b_v629 : Ref sig .tc := ⟨.hbm, 197, rfl⟩
abbrev main_while0b_v630 : Ref sig .tc := ⟨.hbm, 198, rfl⟩
abbrev main_while0b_v631 : Ref sig .tc := ⟨.hbm, 199, rfl⟩
abbrev main_while0b_v632 : Ref sig .tc := ⟨.hbm, 200, rfl⟩
abbrev main_while0b_v633 : Ref sig .tc := ⟨.hbm, 201, rfl⟩
abbrev main_while0b_v634 : Ref sig .tc := ⟨.hbm, 202, rfl⟩
abbrev main_while0b_v635 : Ref sig .tc := ⟨.hbm, 203, rfl⟩
abbrev main_while0b_cst_50 : Ref sig .tc := ⟨.hbm, 204, rfl⟩
abbrev main_while0b_v636 : Ref sig .tc := ⟨.hbm, 205, rfl⟩
abbrev main_while0b_v637 : Ref sig .tc := ⟨.hbm, 206, rfl⟩
abbrev main_while0b_c_51 : Ref sig .tc := ⟨.hbm, 207, rfl⟩
abbrev main_while0b_call10_v0 : Ref sig .tc := ⟨.hbm, 208, rfl⟩
abbrev main_while0b_v638 : Ref sig .tc := ⟨.hbm, 209, rfl⟩
abbrev main_while0b_v639 : Ref sig .tc := ⟨.hbm, 210, rfl⟩
abbrev main_while0b_v640 : Ref sig .tc := ⟨.hbm, 211, rfl⟩
abbrev main_while0b_v641 : Ref sig .tc := ⟨.hbm, 212, rfl⟩
abbrev main_while0b_v642 : Ref sig .tc := ⟨.hbm, 213, rfl⟩
abbrev main_while0b_v643 : Ref sig .tc := ⟨.hbm, 214, rfl⟩
abbrev main_while0b_v644 : Ref sig .tc := ⟨.hbm, 215, rfl⟩
abbrev main_while0b_v645 : Ref sig .tc := ⟨.hbm, 216, rfl⟩
abbrev main_while0b_v646 : Ref sig .tc := ⟨.hbm, 217, rfl⟩
abbrev main_while0b_v647 : Ref sig .tc := ⟨.hbm, 218, rfl⟩
abbrev main_while0b_v648 : Ref sig .tc := ⟨.hbm, 219, rfl⟩
abbrev main_while0b_v649 : Ref sig .tc := ⟨.hbm, 220, rfl⟩
abbrev main_while0b_v650 : Ref sig .tc := ⟨.hbm, 221, rfl⟩
abbrev main_while0b_v651 : Ref sig .tc := ⟨.hbm, 222, rfl⟩
abbrev main_while0b_v652 : Ref sig .tc := ⟨.hbm, 223, rfl⟩
abbrev main_while0b_v653 : Ref sig .tc := ⟨.hbm, 224, rfl⟩
abbrev main_while0b_v654 : Ref sig .tc := ⟨.hbm, 225, rfl⟩
abbrev main_while0b_v655 : Ref sig .tc := ⟨.hbm, 226, rfl⟩
abbrev main_while0b_v656 : Ref sig .tc := ⟨.hbm, 227, rfl⟩
abbrev main_while0b_v657 : Ref sig .tc := ⟨.hbm, 228, rfl⟩
abbrev main_while0b_v658 : Ref sig .tc := ⟨.hbm, 229, rfl⟩
abbrev main_while0b_v659 : Ref sig .tc := ⟨.hbm, 230, rfl⟩
abbrev main_while0b_v660 : Ref sig .tc := ⟨.hbm, 231, rfl⟩
abbrev main_while0b_v661 : Ref sig .tc := ⟨.hbm, 232, rfl⟩
abbrev main_while0b_v662 : Ref sig .tc := ⟨.hbm, 233, rfl⟩
abbrev main_while0b_v663 : Ref sig .tc := ⟨.hbm, 234, rfl⟩
abbrev main_while0b_v664 : Ref sig .tc := ⟨.hbm, 235, rfl⟩
abbrev main_while0b_v665 : Ref sig .tc := ⟨.hbm, 236, rfl⟩
abbrev main_while0b_v666 : Ref sig .tc := ⟨.hbm, 237, rfl⟩
abbrev main_while0b_v667 : Ref sig .tc := ⟨.hbm, 238, rfl⟩
abbrev main_while0b_v668 : Ref sig .tc := ⟨.hbm, 239, rfl⟩
abbrev main_while0b_v669 : Ref sig .tc := ⟨.hbm, 240, rfl⟩
abbrev main_while0b_cst_52 : Ref sig .tc := ⟨.hbm, 241, rfl⟩
abbrev main_while0b_v670 : Ref sig .tc := ⟨.hbm, 242, rfl⟩
abbrev main_while0b_v671 : Ref sig .tc := ⟨.hbm, 243, rfl⟩
abbrev main_while0b_cst_53 : Ref sig .tc := ⟨.hbm, 244, rfl⟩
abbrev main_while0b_v672 : Ref sig .tc := ⟨.hbm, 245, rfl⟩
abbrev main_while0b_v673 : Ref sig .tc := ⟨.hbm, 246, rfl⟩
abbrev main_while0b_v674 : Ref sig .tc := ⟨.hbm, 247, rfl⟩
abbrev main_while0b_v675 : Ref sig .tc := ⟨.hbm, 248, rfl⟩
abbrev main_while0b_v676 : Ref sig .tc := ⟨.hbm, 249, rfl⟩
abbrev main_while0b_cst_54 : Ref sig .tc := ⟨.hbm, 250, rfl⟩
abbrev main_while0b_v677 : Ref sig .tc := ⟨.hbm, 251, rfl⟩
abbrev main_while0b_v678 : Ref sig .tc := ⟨.hbm, 252, rfl⟩
abbrev main_while0b_cst_55 : Ref sig .tc := ⟨.hbm, 253, rfl⟩
abbrev main_while0b_v679 : Ref sig .tc := ⟨.hbm, 254, rfl⟩
abbrev main_while0b_v680 : Ref sig .tc := ⟨.hbm, 255, rfl⟩
abbrev main_while0b_cst_56 : Ref sig .tc := ⟨.hbm, 256, rfl⟩
abbrev main_while0b_v681 : Ref sig .tc := ⟨.hbm, 257, rfl⟩
abbrev main_while0b_v682 : Ref sig .tc := ⟨.hbm, 258, rfl⟩
abbrev main_while0b_v683 : Ref sig .tc := ⟨.hbm, 259, rfl⟩
abbrev main_while0b_v684 : Ref sig .tc := ⟨.hbm, 260, rfl⟩
abbrev main_while0b_v685 : Ref sig .tc := ⟨.hbm, 261, rfl⟩
abbrev main_while0b_v686 : Ref sig .tc := ⟨.hbm, 262, rfl⟩
abbrev main_while0b_v687 : Ref sig .tc := ⟨.hbm, 263, rfl⟩
abbrev main_while0b_v688 : Ref sig .tc := ⟨.hbm, 264, rfl⟩
abbrev main_while0b_v689 : Ref sig .tc := ⟨.hbm, 265, rfl⟩
abbrev main_while0b_v690 : Ref sig .tc := ⟨.hbm, 266, rfl⟩
abbrev main_while0b_v691 : Ref sig .tc := ⟨.hbm, 267, rfl⟩
abbrev main_while0b_v692 : Ref sig .tc := ⟨.hbm, 268, rfl⟩
abbrev main_while0b_cst_57 : Ref sig .tc := ⟨.hbm, 269, rfl⟩
abbrev main_while0b_v693 : Ref sig .tc := ⟨.hbm, 270, rfl⟩
abbrev main_while0b_v694 : Ref sig .tc := ⟨.hbm, 271, rfl⟩
abbrev main_while0b_c_58 : Ref sig .tc := ⟨.hbm, 272, rfl⟩
abbrev main_while0b_call11_v0 : Ref sig .tc := ⟨.hbm, 273, rfl⟩
abbrev main_while0b_v695 : Ref sig .tc := ⟨.hbm, 274, rfl⟩
abbrev main_while0b_v696 : Ref sig .tc := ⟨.hbm, 275, rfl⟩
abbrev main_while0b_v697 : Ref sig .tc := ⟨.hbm, 276, rfl⟩
abbrev main_while0b_v698 : Ref sig .tc := ⟨.hbm, 277, rfl⟩
abbrev main_while0b_v699 : Ref sig .tc := ⟨.hbm, 278, rfl⟩
abbrev main_while0b_v700 : Ref sig .tc := ⟨.hbm, 279, rfl⟩
abbrev main_while0b_v701 : Ref sig .tc := ⟨.hbm, 280, rfl⟩
abbrev main_while0b_v702 : Ref sig .tc := ⟨.hbm, 281, rfl⟩
abbrev main_while0b_v703 : Ref sig .tc := ⟨.hbm, 282, rfl⟩
abbrev main_while0b_v704 : Ref sig .tc := ⟨.hbm, 283, rfl⟩
abbrev main_while0b_v705 : Ref sig .tc := ⟨.hbm, 284, rfl⟩
abbrev main_while0b_v706 : Ref sig .tc := ⟨.hbm, 285, rfl⟩
abbrev main_while0b_v707 : Ref sig .tc := ⟨.hbm, 286, rfl⟩
abbrev main_while0b_v708 : Ref sig .tc := ⟨.hbm, 287, rfl⟩
abbrev main_while0b_v709 : Ref sig .tc := ⟨.hbm, 288, rfl⟩
abbrev main_while0b_v710 : Ref sig .tc := ⟨.hbm, 289, rfl⟩
abbrev main_while0b_v711 : Ref sig .tc := ⟨.hbm, 290, rfl⟩
abbrev main_while0b_v712 : Ref sig .tc := ⟨.hbm, 291, rfl⟩
abbrev main_while0b_v713 : Ref sig .tc := ⟨.hbm, 292, rfl⟩
abbrev main_while0b_v714 : Ref sig .tc := ⟨.hbm, 293, rfl⟩
abbrev main_while0b_v715 : Ref sig .tc := ⟨.hbm, 294, rfl⟩
abbrev main_while0b_v716 : Ref sig .tc := ⟨.hbm, 295, rfl⟩
abbrev main_while0b_v717 : Ref sig .tc := ⟨.hbm, 296, rfl⟩
abbrev main_while0b_v718 : Ref sig .tc := ⟨.hbm, 297, rfl⟩
abbrev main_while0b_v719 : Ref sig .tc := ⟨.hbm, 298, rfl⟩
abbrev main_while0b_v720 : Ref sig .tc := ⟨.hbm, 299, rfl⟩
abbrev main_while0b_v721 : Ref sig .tc := ⟨.hbm, 300, rfl⟩
abbrev main_while0b_v722 : Ref sig .tc := ⟨.hbm, 301, rfl⟩
abbrev main_while0b_v723 : Ref sig .tc := ⟨.hbm, 302, rfl⟩
abbrev main_while0b_v724 : Ref sig .tc := ⟨.hbm, 303, rfl⟩
abbrev main_while0b_v725 : Ref sig .tc := ⟨.hbm, 304, rfl⟩
abbrev main_while0b_v726 : Ref sig .tc := ⟨.hbm, 305, rfl⟩
abbrev main_while0b_cst_59 : Ref sig .tc := ⟨.hbm, 306, rfl⟩
abbrev main_while0b_v727 : Ref sig .tc := ⟨.hbm, 307, rfl⟩
abbrev main_while0b_v728 : Ref sig .tc := ⟨.hbm, 308, rfl⟩
abbrev main_while0b_cst_60 : Ref sig .tc := ⟨.hbm, 309, rfl⟩
abbrev main_while0b_v729 : Ref sig .tc := ⟨.hbm, 310, rfl⟩
abbrev main_while0b_v730 : Ref sig .tc := ⟨.hbm, 311, rfl⟩
abbrev main_while0b_v731 : Ref sig .tc := ⟨.hbm, 312, rfl⟩
abbrev main_while0b_v732 : Ref sig .tc := ⟨.hbm, 313, rfl⟩
abbrev main_while0b_v733 : Ref sig .tc := ⟨.hbm, 314, rfl⟩
abbrev main_while0b_cst_61 : Ref sig .tc := ⟨.hbm, 315, rfl⟩
abbrev main_while0b_v734 : Ref sig .tc := ⟨.hbm, 316, rfl⟩
abbrev main_while0b_v735 : Ref sig .tc := ⟨.hbm, 317, rfl⟩
abbrev main_while0b_cst_62 : Ref sig .tc := ⟨.hbm, 318, rfl⟩
abbrev main_while0b_v736 : Ref sig .tc := ⟨.hbm, 319, rfl⟩
abbrev main_while0b_v737 : Ref sig .tc := ⟨.hbm, 320, rfl⟩
abbrev main_while0b_cst_63 : Ref sig .tc := ⟨.hbm, 321, rfl⟩
abbrev main_while0b_v738 : Ref sig .tc := ⟨.hbm, 322, rfl⟩
abbrev main_while0b_v739 : Ref sig .tc := ⟨.hbm, 323, rfl⟩
abbrev main_while0b_v740 : Ref sig .tc := ⟨.hbm, 324, rfl⟩
abbrev main_while0b_v741 : Ref sig .tc := ⟨.hbm, 325, rfl⟩
abbrev main_while0b_v742 : Ref sig .tc := ⟨.hbm, 326, rfl⟩
abbrev main_while0b_v743 : Ref sig .tc := ⟨.hbm, 327, rfl⟩
abbrev main_while0b_v744 : Ref sig .tc := ⟨.hbm, 328, rfl⟩
abbrev main_while0b_v745 : Ref sig .tc := ⟨.hbm, 329, rfl⟩
abbrev main_while0b_v746 : Ref sig .tc := ⟨.hbm, 330, rfl⟩
abbrev main_while0b_v747 : Ref sig .tc := ⟨.hbm, 331, rfl⟩
abbrev main_while0b_v748 : Ref sig .tc := ⟨.hbm, 332, rfl⟩
abbrev main_while0b_v749 : Ref sig .tc := ⟨.hbm, 333, rfl⟩
abbrev main_while0b_cst_64 : Ref sig .tc := ⟨.hbm, 334, rfl⟩
abbrev main_while0b_v750 : Ref sig .tc := ⟨.hbm, 335, rfl⟩
abbrev main_while0b_v751 : Ref sig .tc := ⟨.hbm, 336, rfl⟩
abbrev main_while0b_c_65 : Ref sig .tc := ⟨.hbm, 337, rfl⟩
abbrev main_while0b_call12_v0 : Ref sig .tc := ⟨.hbm, 338, rfl⟩
abbrev main_while0b_v752 : Ref sig .tc := ⟨.hbm, 339, rfl⟩
abbrev main_while0b_v753 : Ref sig .tc := ⟨.hbm, 340, rfl⟩
abbrev main_while0b_v754 : Ref sig .tc := ⟨.hbm, 341, rfl⟩
abbrev main_while0b_v755 : Ref sig .tc := ⟨.hbm, 342, rfl⟩
abbrev main_while0b_v756 : Ref sig .tc := ⟨.hbm, 343, rfl⟩
abbrev main_while0b_v757 : Ref sig .tc := ⟨.hbm, 344, rfl⟩
abbrev main_while0b_v758 : Ref sig .tc := ⟨.hbm, 345, rfl⟩
abbrev main_while0b_v759 : Ref sig .tc := ⟨.hbm, 346, rfl⟩
abbrev main_while0b_v760 : Ref sig .tc := ⟨.hbm, 347, rfl⟩
abbrev main_while0b_v761 : Ref sig .tc := ⟨.hbm, 348, rfl⟩
abbrev main_while0b_v762 : Ref sig .tc := ⟨.hbm, 349, rfl⟩
abbrev main_while0b_v763 : Ref sig .tc := ⟨.hbm, 350, rfl⟩
abbrev main_while0b_v764 : Ref sig .tc := ⟨.hbm, 351, rfl⟩
abbrev main_while0b_v765 : Ref sig .tc := ⟨.hbm, 352, rfl⟩
abbrev main_while0b_v766 : Ref sig .tc := ⟨.hbm, 353, rfl⟩
abbrev main_while0b_v767 : Ref sig .tc := ⟨.hbm, 354, rfl⟩
abbrev main_while0b_v768 : Ref sig .tc := ⟨.hbm, 355, rfl⟩
abbrev main_while0b_v769 : Ref sig .tc := ⟨.hbm, 356, rfl⟩
abbrev main_while0b_v770 : Ref sig .tc := ⟨.hbm, 357, rfl⟩
abbrev main_while0b_v771 : Ref sig .tc := ⟨.hbm, 358, rfl⟩
abbrev main_while0b_v772 : Ref sig .tc := ⟨.hbm, 359, rfl⟩
abbrev main_while0b_v773 : Ref sig .tc := ⟨.hbm, 360, rfl⟩
abbrev main_while0b_v774 : Ref sig .tc := ⟨.hbm, 361, rfl⟩
abbrev main_while0b_v775 : Ref sig .tc := ⟨.hbm, 362, rfl⟩
abbrev main_while0b_v776 : Ref sig .tc := ⟨.hbm, 363, rfl⟩
abbrev main_while0b_v777 : Ref sig .tc := ⟨.hbm, 364, rfl⟩
abbrev main_while0b_v778 : Ref sig .tc := ⟨.hbm, 365, rfl⟩
abbrev main_while0b_v779 : Ref sig .tc := ⟨.hbm, 366, rfl⟩
abbrev main_while0b_v780 : Ref sig .tc := ⟨.hbm, 367, rfl⟩
abbrev main_while0b_v781 : Ref sig .tc := ⟨.hbm, 368, rfl⟩
abbrev main_while0b_v782 : Ref sig .tc := ⟨.hbm, 369, rfl⟩
abbrev main_while0b_v783 : Ref sig .tc := ⟨.hbm, 370, rfl⟩
abbrev main_while0b_cst_66 : Ref sig .tc := ⟨.hbm, 371, rfl⟩
abbrev main_while0b_v784 : Ref sig .tc := ⟨.hbm, 372, rfl⟩
abbrev main_while0b_v785 : Ref sig .tc := ⟨.hbm, 373, rfl⟩
abbrev main_while0b_cst_67 : Ref sig .tc := ⟨.hbm, 374, rfl⟩
abbrev main_while0b_v786 : Ref sig .tc := ⟨.hbm, 375, rfl⟩
abbrev main_while0b_v787 : Ref sig .tc := ⟨.hbm, 376, rfl⟩
abbrev main_while0b_v788 : Ref sig .tc := ⟨.hbm, 377, rfl⟩
abbrev main_while0b_v789 : Ref sig .tc := ⟨.hbm, 378, rfl⟩
abbrev main_while0b_v790 : Ref sig .tc := ⟨.hbm, 379, rfl⟩
abbrev main_while0b_cst_68 : Ref sig .tc := ⟨.hbm, 380, rfl⟩
abbrev main_while0b_v791 : Ref sig .tc := ⟨.hbm, 381, rfl⟩
abbrev main_while0b_v792 : Ref sig .tc := ⟨.hbm, 382, rfl⟩
abbrev main_while0b_cst_69 : Ref sig .tc := ⟨.hbm, 383, rfl⟩
abbrev main_while0b_v793 : Ref sig .tc := ⟨.hbm, 384, rfl⟩
abbrev main_while0b_v794 : Ref sig .tc := ⟨.hbm, 385, rfl⟩
abbrev main_while0b_cst_70 : Ref sig .tc := ⟨.hbm, 386, rfl⟩
abbrev main_while0b_v795 : Ref sig .tc := ⟨.hbm, 387, rfl⟩
abbrev main_while0b_v796 : Ref sig .tc := ⟨.hbm, 388, rfl⟩
abbrev main_while0b_v797 : Ref sig .tc := ⟨.hbm, 389, rfl⟩
abbrev main_while0b_v798 : Ref sig .tc := ⟨.hbm, 390, rfl⟩
abbrev main_while0b_v799 : Ref sig .tc := ⟨.hbm, 391, rfl⟩
abbrev main_while0b_v800 : Ref sig .tc := ⟨.hbm, 392, rfl⟩
abbrev main_while0b_v801 : Ref sig .tc := ⟨.hbm, 393, rfl⟩
abbrev main_while0b_v802 : Ref sig .tc := ⟨.hbm, 394, rfl⟩
abbrev main_while0b_v803 : Ref sig .tc := ⟨.hbm, 395, rfl⟩
abbrev main_while0b_v804 : Ref sig .tc := ⟨.hbm, 396, rfl⟩
abbrev main_while0b_v805 : Ref sig .tc := ⟨.hbm, 397, rfl⟩
abbrev main_while0b_v806 : Ref sig .tc := ⟨.hbm, 398, rfl⟩
abbrev main_while0b_cst_71 : Ref sig .tc := ⟨.hbm, 399, rfl⟩
abbrev main_while0b_v807 : Ref sig .tc := ⟨.hbm, 400, rfl⟩
abbrev main_while0b_v808 : Ref sig .tc := ⟨.hbm, 401, rfl⟩
abbrev main_while0b_c_72 : Ref sig .tc := ⟨.hbm, 402, rfl⟩
abbrev main_while0b_call13_v0 : Ref sig .tc := ⟨.hbm, 403, rfl⟩
abbrev main_while0b_v809 : Ref sig .tc := ⟨.hbm, 404, rfl⟩
abbrev main_while0b_v810 : Ref sig .tc := ⟨.hbm, 405, rfl⟩
abbrev main_while0b_v811 : Ref sig .tc := ⟨.hbm, 406, rfl⟩
abbrev main_while0b_v812 : Ref sig .tc := ⟨.hbm, 407, rfl⟩
abbrev main_while0b_v813 : Ref sig .tc := ⟨.hbm, 408, rfl⟩
abbrev main_while0b_v814 : Ref sig .tc := ⟨.hbm, 409, rfl⟩
abbrev main_while0b_v815 : Ref sig .tc := ⟨.hbm, 410, rfl⟩
abbrev main_while0b_v816 : Ref sig .tc := ⟨.hbm, 411, rfl⟩
abbrev main_while0b_v817 : Ref sig .tc := ⟨.hbm, 412, rfl⟩
abbrev main_while0b_v818 : Ref sig .tc := ⟨.hbm, 413, rfl⟩
abbrev main_while0b_v819 : Ref sig .tc := ⟨.hbm, 414, rfl⟩
abbrev main_while0b_v820 : Ref sig .tc := ⟨.hbm, 415, rfl⟩
abbrev main_while0b_v821 : Ref sig .tc := ⟨.hbm, 416, rfl⟩
abbrev main_while0b_v822 : Ref sig .tc := ⟨.hbm, 417, rfl⟩
abbrev main_while0b_v823 : Ref sig .tc := ⟨.hbm, 418, rfl⟩
abbrev main_while0b_v824 : Ref sig .tc := ⟨.hbm, 419, rfl⟩
abbrev main_while0b_v825 : Ref sig .tc := ⟨.hbm, 420, rfl⟩
abbrev main_while0b_v826 : Ref sig .tc := ⟨.hbm, 421, rfl⟩
abbrev main_while0b_v827 : Ref sig .tc := ⟨.hbm, 422, rfl⟩
abbrev main_while0b_v828 : Ref sig .tc := ⟨.hbm, 423, rfl⟩
abbrev main_while0b_v829 : Ref sig .tc := ⟨.hbm, 424, rfl⟩
abbrev main_while0b_v830 : Ref sig .tc := ⟨.hbm, 425, rfl⟩
abbrev main_while0b_v831 : Ref sig .tc := ⟨.hbm, 426, rfl⟩
abbrev main_while0b_v832 : Ref sig .tc := ⟨.hbm, 427, rfl⟩
abbrev main_while0b_v833 : Ref sig .tc := ⟨.hbm, 428, rfl⟩
abbrev main_while0b_v834 : Ref sig .tc := ⟨.hbm, 429, rfl⟩
abbrev main_while0b_v835 : Ref sig .tc := ⟨.hbm, 430, rfl⟩
abbrev main_while0b_v836 : Ref sig .tc := ⟨.hbm, 431, rfl⟩
abbrev main_while0b_v837 : Ref sig .tc := ⟨.hbm, 432, rfl⟩
abbrev main_while0b_v838 : Ref sig .tc := ⟨.hbm, 433, rfl⟩
abbrev main_while0b_v839 : Ref sig .tc := ⟨.hbm, 434, rfl⟩
abbrev main_while0b_v840 : Ref sig .tc := ⟨.hbm, 435, rfl⟩
abbrev main_while0b_cst_73 : Ref sig .tc := ⟨.hbm, 436, rfl⟩
abbrev main_while0b_v841 : Ref sig .tc := ⟨.hbm, 437, rfl⟩
abbrev main_while0b_v842 : Ref sig .tc := ⟨.hbm, 438, rfl⟩
abbrev main_while0b_cst_74 : Ref sig .tc := ⟨.hbm, 439, rfl⟩
abbrev main_while0b_v843 : Ref sig .tc := ⟨.hbm, 440, rfl⟩
abbrev main_while0b_v844 : Ref sig .tc := ⟨.hbm, 441, rfl⟩
abbrev main_while0b_v845 : Ref sig .tc := ⟨.hbm, 442, rfl⟩
abbrev main_while0b_v846 : Ref sig .tc := ⟨.hbm, 443, rfl⟩
abbrev main_while0b_v847 : Ref sig .tc := ⟨.hbm, 444, rfl⟩
abbrev main_while0b_cst_75 : Ref sig .tc := ⟨.hbm, 445, rfl⟩
abbrev main_while0b_v848 : Ref sig .tc := ⟨.hbm, 446, rfl⟩
abbrev main_while0b_v849 : Ref sig .tc := ⟨.hbm, 447, rfl⟩
abbrev main_while0b_cst_76 : Ref sig .tc := ⟨.hbm, 448, rfl⟩
abbrev main_while0b_v850 : Ref sig .tc := ⟨.hbm, 449, rfl⟩
abbrev main_while0b_v851 : Ref sig .tc := ⟨.hbm, 450, rfl⟩
abbrev main_while0b_cst_77 : Ref sig .tc := ⟨.hbm, 451, rfl⟩
abbrev main_while0b_v852 : Ref sig .tc := ⟨.hbm, 452, rfl⟩
abbrev main_while0b_v853 : Ref sig .tc := ⟨.hbm, 453, rfl⟩
abbrev main_while0b_v854 : Ref sig .tc := ⟨.hbm, 454, rfl⟩
abbrev main_while0b_v855 : Ref sig .tc := ⟨.hbm, 455, rfl⟩
abbrev main_while0b_v856 : Ref sig .tc := ⟨.hbm, 456, rfl⟩
abbrev main_while0b_v857 : Ref sig .tc := ⟨.hbm, 457, rfl⟩
abbrev main_while0b_v858 : Ref sig .tc := ⟨.hbm, 458, rfl⟩
abbrev main_while0b_v859 : Ref sig .tc := ⟨.hbm, 459, rfl⟩
abbrev main_while0b_v860 : Ref sig .tc := ⟨.hbm, 460, rfl⟩
abbrev main_while0b_v861 : Ref sig .tc := ⟨.hbm, 461, rfl⟩
abbrev main_while0b_v862 : Ref sig .tc := ⟨.hbm, 462, rfl⟩
abbrev main_while0b_v863 : Ref sig .tc := ⟨.hbm, 463, rfl⟩
abbrev main_while0b_cst_78 : Ref sig .tc := ⟨.hbm, 464, rfl⟩
abbrev main_while0b_v864 : Ref sig .tc := ⟨.hbm, 465, rfl⟩
abbrev main_while0b_v865 : Ref sig .tc := ⟨.hbm, 466, rfl⟩
abbrev main_while0b_c_79 : Ref sig .tc := ⟨.hbm, 467, rfl⟩
abbrev main_while0b_call14_v0 : Ref sig .tc := ⟨.hbm, 468, rfl⟩
abbrev main_while0b_v866 : Ref sig .tc := ⟨.hbm, 469, rfl⟩
abbrev main_while0b_v867 : Ref sig .tc := ⟨.hbm, 470, rfl⟩
abbrev main_while0b_v868 : Ref sig .tc := ⟨.hbm, 471, rfl⟩
abbrev main_while0b_v869 : Ref sig .tc := ⟨.hbm, 472, rfl⟩
abbrev main_while0b_v870 : Ref sig .tc := ⟨.hbm, 473, rfl⟩
abbrev main_while0b_v871 : Ref sig .tc := ⟨.hbm, 474, rfl⟩
abbrev main_while0b_v872 : Ref sig .tc := ⟨.hbm, 475, rfl⟩
abbrev main_while0b_v873 : Ref sig .tc := ⟨.hbm, 476, rfl⟩
abbrev main_while0b_v874 : Ref sig .tc := ⟨.hbm, 477, rfl⟩
abbrev main_while0b_v875 : Ref sig .tc := ⟨.hbm, 478, rfl⟩
abbrev main_while0b_v876 : Ref sig .tc := ⟨.hbm, 479, rfl⟩
abbrev main_while0b_v877 : Ref sig .tc := ⟨.hbm, 480, rfl⟩
abbrev main_while0b_v878 : Ref sig .tc := ⟨.hbm, 481, rfl⟩
abbrev main_while0b_v879 : Ref sig .tc := ⟨.hbm, 482, rfl⟩
abbrev main_while0b_v880 : Ref sig .tc := ⟨.hbm, 483, rfl⟩
abbrev main_while0b_v881 : Ref sig .tc := ⟨.hbm, 484, rfl⟩
abbrev main_while0b_v882 : Ref sig .tc := ⟨.hbm, 485, rfl⟩
abbrev main_while0b_v883 : Ref sig .tc := ⟨.hbm, 486, rfl⟩
abbrev main_while0b_v884 : Ref sig .tc := ⟨.hbm, 487, rfl⟩
abbrev main_while0b_v885 : Ref sig .tc := ⟨.hbm, 488, rfl⟩
abbrev main_while0b_v886 : Ref sig .tc := ⟨.hbm, 489, rfl⟩
abbrev main_while0b_v887 : Ref sig .tc := ⟨.hbm, 490, rfl⟩
abbrev main_while0b_v888 : Ref sig .tc := ⟨.hbm, 491, rfl⟩
abbrev main_while0b_v889 : Ref sig .tc := ⟨.hbm, 492, rfl⟩
abbrev main_while0b_v890 : Ref sig .tc := ⟨.hbm, 493, rfl⟩
abbrev main_while0b_v891 : Ref sig .tc := ⟨.hbm, 494, rfl⟩
abbrev main_while0b_v892 : Ref sig .tc := ⟨.hbm, 495, rfl⟩
abbrev main_while0b_v893 : Ref sig .tc := ⟨.hbm, 496, rfl⟩
abbrev main_while0b_v894 : Ref sig .tc := ⟨.hbm, 497, rfl⟩
abbrev main_while0b_v895 : Ref sig .tc := ⟨.hbm, 498, rfl⟩
abbrev main_while0b_v896 : Ref sig .tc := ⟨.hbm, 499, rfl⟩
abbrev main_while0b_v897 : Ref sig .tc := ⟨.hbm, 500, rfl⟩
abbrev main_while0b_cst_80 : Ref sig .tc := ⟨.hbm, 501, rfl⟩
abbrev main_while0b_v898 : Ref sig .tc := ⟨.hbm, 502, rfl⟩
abbrev main_while0b_v899 : Ref sig .tc := ⟨.hbm, 503, rfl⟩
abbrev main_while0b_cst_81 : Ref sig .tc := ⟨.hbm, 504, rfl⟩
abbrev main_while0b_v900 : Ref sig .tc := ⟨.hbm, 505, rfl⟩
abbrev main_while0b_v901 : Ref sig .tc := ⟨.hbm, 506, rfl⟩
abbrev main_while0b_v902 : Ref sig .tc := ⟨.hbm, 507, rfl⟩
abbrev main_while0b_v903 : Ref sig .tc := ⟨.hbm, 508, rfl⟩
abbrev main_while0b_v904 : Ref sig .tc := ⟨.hbm, 509, rfl⟩
abbrev main_while0b_cst_82 : Ref sig .tc := ⟨.hbm, 510, rfl⟩
abbrev main_while0b_v905 : Ref sig .tc := ⟨.hbm, 511, rfl⟩
abbrev main_while0b_v906 : Ref sig .tc := ⟨.hbm, 512, rfl⟩
abbrev main_while0b_cst_83 : Ref sig .tc := ⟨.hbm, 513, rfl⟩
abbrev main_while0b_v907 : Ref sig .tc := ⟨.hbm, 514, rfl⟩
abbrev main_while0b_v908 : Ref sig .tc := ⟨.hbm, 515, rfl⟩
abbrev main_while0b_cst_84 : Ref sig .tc := ⟨.hbm, 516, rfl⟩
abbrev main_while0b_v909 : Ref sig .tc := ⟨.hbm, 517, rfl⟩
abbrev main_while0b_v910 : Ref sig .tc := ⟨.hbm, 518, rfl⟩
abbrev main_while0b_v911 : Ref sig .tc := ⟨.hbm, 519, rfl⟩
abbrev main_while0b_v912 : Ref sig .tc := ⟨.hbm, 520, rfl⟩
abbrev main_while0b_v913 : Ref sig .tc := ⟨.hbm, 521, rfl⟩
abbrev main_while0b_v914 : Ref sig .tc := ⟨.hbm, 522, rfl⟩
abbrev main_while0b_v915 : Ref sig .tc := ⟨.hbm, 523, rfl⟩
abbrev main_while0b_v916 : Ref sig .tc := ⟨.hbm, 524, rfl⟩
abbrev main_while0b_v917 : Ref sig .tc := ⟨.hbm, 525, rfl⟩
abbrev main_while0b_v918 : Ref sig .tc := ⟨.hbm, 526, rfl⟩
abbrev main_while0b_v919 : Ref sig .tc := ⟨.hbm, 527, rfl⟩
abbrev main_while0b_v920 : Ref sig .tc := ⟨.hbm, 528, rfl⟩
abbrev main_while0b_cst_85 : Ref sig .tc := ⟨.hbm, 529, rfl⟩
abbrev main_while0b_v921 : Ref sig .tc := ⟨.hbm, 530, rfl⟩
abbrev main_while0b_v922 : Ref sig .tc := ⟨.hbm, 531, rfl⟩
abbrev main_while0b_c_86 : Ref sig .tc := ⟨.hbm, 532, rfl⟩
abbrev main_while0b_call15_v0 : Ref sig .tc := ⟨.hbm, 533, rfl⟩
abbrev main_while0b_v923 : Ref sig .tc := ⟨.hbm, 534, rfl⟩
abbrev main_while0b_v924 : Ref sig .tc := ⟨.hbm, 535, rfl⟩
abbrev main_while0b_v925 : Ref sig .tc := ⟨.hbm, 536, rfl⟩
abbrev main_while0b_v926 : Ref sig .tc := ⟨.hbm, 537, rfl⟩
abbrev main_while0b_v927 : Ref sig .tc := ⟨.hbm, 538, rfl⟩
abbrev main_while0b_v928 : Ref sig .tc := ⟨.hbm, 539, rfl⟩
abbrev main_while0b_v929 : Ref sig .tc := ⟨.hbm, 540, rfl⟩
abbrev main_while0b_v930 : Ref sig .tc := ⟨.hbm, 541, rfl⟩
abbrev main_while0b_v931 : Ref sig .tc := ⟨.hbm, 542, rfl⟩
abbrev main_while0b_v932 : Ref sig .tc := ⟨.hbm, 543, rfl⟩
abbrev main_while0b_v933 : Ref sig .tc := ⟨.hbm, 544, rfl⟩
abbrev main_while0b_v934 : Ref sig .tc := ⟨.hbm, 545, rfl⟩
abbrev main_while0b_v935 : Ref sig .tc := ⟨.hbm, 546, rfl⟩
abbrev main_while0b_v936 : Ref sig .tc := ⟨.hbm, 547, rfl⟩
abbrev main_while0b_v937 : Ref sig .tc := ⟨.hbm, 548, rfl⟩
abbrev main_while0b_v938 : Ref sig .tc := ⟨.hbm, 549, rfl⟩
abbrev main_while0b_v939 : Ref sig .tc := ⟨.hbm, 550, rfl⟩
abbrev main_while0b_v940 : Ref sig .tc := ⟨.hbm, 551, rfl⟩
abbrev main_while0b_v941 : Ref sig .tc := ⟨.hbm, 552, rfl⟩
abbrev main_while0b_v942 : Ref sig .tc := ⟨.hbm, 553, rfl⟩
abbrev main_while0b_v943 : Ref sig .tc := ⟨.hbm, 554, rfl⟩
abbrev main_while0b_v944 : Ref sig .tc := ⟨.hbm, 555, rfl⟩
abbrev main_while0b_v945 : Ref sig .tc := ⟨.hbm, 556, rfl⟩
abbrev main_while0b_v946 : Ref sig .tc := ⟨.hbm, 557, rfl⟩
abbrev main_while0b_v947 : Ref sig .tc := ⟨.hbm, 558, rfl⟩
abbrev main_while0b_v948 : Ref sig .tc := ⟨.hbm, 559, rfl⟩
abbrev main_while0b_v949 : Ref sig .tc := ⟨.hbm, 560, rfl⟩
abbrev main_while0b_v950 : Ref sig .tc := ⟨.hbm, 561, rfl⟩
abbrev main_while0b_v951 : Ref sig .tc := ⟨.hbm, 562, rfl⟩
abbrev main_while0b_v952 : Ref sig .tc := ⟨.hbm, 563, rfl⟩
abbrev main_while0b_v953 : Ref sig .tc := ⟨.hbm, 564, rfl⟩
abbrev main_while0b_v954 : Ref sig .tc := ⟨.hbm, 565, rfl⟩
abbrev main_while0b_cst_87 : Ref sig .tc := ⟨.hbm, 566, rfl⟩
abbrev main_while0b_v955 : Ref sig .tc := ⟨.hbm, 567, rfl⟩
abbrev main_while0b_v956 : Ref sig .tc := ⟨.hbm, 568, rfl⟩
abbrev main_while0b_cst_88 : Ref sig .tc := ⟨.hbm, 569, rfl⟩
abbrev main_while0b_v957 : Ref sig .tc := ⟨.hbm, 570, rfl⟩
abbrev main_while0b_v958 : Ref sig .tc := ⟨.hbm, 571, rfl⟩
abbrev main_while0b_v959 : Ref sig .tc := ⟨.hbm, 572, rfl⟩
abbrev main_while0b_v960 : Ref sig .tc := ⟨.hbm, 573, rfl⟩
abbrev main_while0b_v961 : Ref sig .tc := ⟨.hbm, 574, rfl⟩
abbrev main_while0b_cst_89 : Ref sig .tc := ⟨.hbm, 575, rfl⟩
abbrev main_while0b_v962 : Ref sig .tc := ⟨.hbm, 576, rfl⟩
abbrev main_while0b_v963 : Ref sig .tc := ⟨.hbm, 577, rfl⟩
abbrev main_while0b_cst_90 : Ref sig .tc := ⟨.hbm, 578, rfl⟩
abbrev main_while0b_v964 : Ref sig .tc := ⟨.hbm, 579, rfl⟩
abbrev main_while0b_v965 : Ref sig .tc := ⟨.hbm, 580, rfl⟩
abbrev main_while0b_cst_91 : Ref sig .tc := ⟨.hbm, 581, rfl⟩
abbrev main_while0b_v966 : Ref sig .tc := ⟨.hbm, 582, rfl⟩
abbrev main_while0b_v967 : Ref sig .tc := ⟨.hbm, 583, rfl⟩
abbrev main_while0b_v968 : Ref sig .tc := ⟨.hbm, 584, rfl⟩
abbrev main_while0b_v969 : Ref sig .tc := ⟨.hbm, 585, rfl⟩
abbrev main_while0b_v970 : Ref sig .tc := ⟨.hbm, 586, rfl⟩
abbrev main_while0b_v971 : Ref sig .tc := ⟨.hbm, 587, rfl⟩
abbrev main_while0b_v972 : Ref sig .tc := ⟨.hbm, 588, rfl⟩
abbrev main_while0b_v973 : Ref sig .tc := ⟨.hbm, 589, rfl⟩
abbrev main_while0b_v974 : Ref sig .tc := ⟨.hbm, 590, rfl⟩
abbrev main_while0b_v975 : Ref sig .tc := ⟨.hbm, 591, rfl⟩
abbrev main_while0b_v976 : Ref sig .tc := ⟨.hbm, 592, rfl⟩
abbrev main_while0b_v977 : Ref sig .tc := ⟨.hbm, 593, rfl⟩
abbrev main_while0b_cst_92 : Ref sig .tc := ⟨.hbm, 594, rfl⟩
abbrev main_while0b_v978 : Ref sig .tc := ⟨.hbm, 595, rfl⟩
abbrev main_while0b_v979 : Ref sig .tc := ⟨.hbm, 596, rfl⟩
abbrev main_while0b_c_93 : Ref sig .tc := ⟨.hbm, 597, rfl⟩
abbrev main_while0b_call16_v0 : Ref sig .tc := ⟨.hbm, 598, rfl⟩
abbrev main_while0b_v980 : Ref sig .tc := ⟨.hbm, 599, rfl⟩
abbrev main_while0b_v981 : Ref sig .tc := ⟨.hbm, 600, rfl⟩
abbrev main_while0b_v982 : Ref sig .tc := ⟨.hbm, 601, rfl⟩
abbrev main_while0b_v983 : Ref sig .tc := ⟨.hbm, 602, rfl⟩
abbrev main_while0b_v984 : Ref sig .tc := ⟨.hbm, 603, rfl⟩
abbrev main_while0b_v985 : Ref sig .tc := ⟨.hbm, 604, rfl⟩
abbrev main_while0b_v986 : Ref sig .tc := ⟨.hbm, 605, rfl⟩
abbrev main_while0b_v987 : Ref sig .tc := ⟨.hbm, 606, rfl⟩
abbrev main_while0b_v988 : Ref sig .tc := ⟨.hbm, 607, rfl⟩
abbrev main_while0b_v989 : Ref sig .tc := ⟨.hbm, 608, rfl⟩
abbrev main_while0b_v990 : Ref sig .tc := ⟨.hbm, 609, rfl⟩
abbrev main_while0b_v991 : Ref sig .tc := ⟨.hbm, 610, rfl⟩
abbrev main_while0b_v992 : Ref sig .tc := ⟨.hbm, 611, rfl⟩
abbrev main_while0b_v993 : Ref sig .tc := ⟨.hbm, 612, rfl⟩
abbrev main_while0b_v994 : Ref sig .tc := ⟨.hbm, 613, rfl⟩
abbrev main_while0b_v995 : Ref sig .tc := ⟨.hbm, 614, rfl⟩
abbrev main_while0b_v996 : Ref sig .tc := ⟨.hbm, 615, rfl⟩
abbrev main_while0b_v997 : Ref sig .tc := ⟨.hbm, 616, rfl⟩
abbrev main_while0b_v998 : Ref sig .tc := ⟨.hbm, 617, rfl⟩
abbrev main_while0b_v999 : Ref sig .tc := ⟨.hbm, 618, rfl⟩
abbrev main_while0b_v1000 : Ref sig .tc := ⟨.hbm, 619, rfl⟩
abbrev main_while0b_v1001 : Ref sig .tc := ⟨.hbm, 620, rfl⟩
abbrev main_while0b_v1002 : Ref sig .tc := ⟨.hbm, 621, rfl⟩
abbrev main_while0b_v1003 : Ref sig .tc := ⟨.hbm, 622, rfl⟩
abbrev main_while0b_v1004 : Ref sig .tc := ⟨.hbm, 623, rfl⟩
abbrev main_while0b_v1005 : Ref sig .tc := ⟨.hbm, 624, rfl⟩
abbrev main_while0b_v1006 : Ref sig .tc := ⟨.hbm, 625, rfl⟩
abbrev main_while0b_v1007 : Ref sig .tc := ⟨.hbm, 626, rfl⟩
abbrev main_while0b_v1008 : Ref sig .tc := ⟨.hbm, 627, rfl⟩
abbrev main_while0b_v1009 : Ref sig .tc := ⟨.hbm, 628, rfl⟩
abbrev main_while0b_v1010 : Ref sig .tc := ⟨.hbm, 629, rfl⟩
abbrev main_while0b_v1011 : Ref sig .tc := ⟨.hbm, 630, rfl⟩
abbrev main_while0b_cst_94 : Ref sig .tc := ⟨.hbm, 631, rfl⟩
abbrev main_while0b_v1012 : Ref sig .tc := ⟨.hbm, 632, rfl⟩
abbrev main_while0b_v1013 : Ref sig .tc := ⟨.hbm, 633, rfl⟩
abbrev main_while0b_cst_95 : Ref sig .tc := ⟨.hbm, 634, rfl⟩
abbrev main_while0b_v1014 : Ref sig .tc := ⟨.hbm, 635, rfl⟩
abbrev main_while0b_v1015 : Ref sig .tc := ⟨.hbm, 636, rfl⟩
abbrev main_while0b_v1016 : Ref sig .tc := ⟨.hbm, 637, rfl⟩
abbrev main_while0b_v1017 : Ref sig .tc := ⟨.hbm, 638, rfl⟩
abbrev main_while0b_v1018 : Ref sig .tc := ⟨.hbm, 639, rfl⟩
abbrev main_while0b_cst_96 : Ref sig .tc := ⟨.hbm, 640, rfl⟩
abbrev main_while0b_v1019 : Ref sig .tc := ⟨.hbm, 641, rfl⟩
abbrev main_while0b_v1020 : Ref sig .tc := ⟨.hbm, 642, rfl⟩
abbrev main_while0b_cst_97 : Ref sig .tc := ⟨.hbm, 643, rfl⟩
abbrev main_while0b_v1021 : Ref sig .tc := ⟨.hbm, 644, rfl⟩
abbrev main_while0b_v1022 : Ref sig .tc := ⟨.hbm, 645, rfl⟩
abbrev main_while0b_cst_98 : Ref sig .tc := ⟨.hbm, 646, rfl⟩
abbrev main_while0b_v1023 : Ref sig .tc := ⟨.hbm, 647, rfl⟩
abbrev main_while0b_v1024 : Ref sig .tc := ⟨.hbm, 648, rfl⟩
abbrev main_while0b_v1025 : Ref sig .tc := ⟨.hbm, 649, rfl⟩
abbrev main_while0b_v1026 : Ref sig .tc := ⟨.hbm, 650, rfl⟩
abbrev main_while0b_v1027 : Ref sig .tc := ⟨.hbm, 651, rfl⟩
abbrev main_while0b_v1028 : Ref sig .tc := ⟨.hbm, 652, rfl⟩
abbrev main_while0b_v1029 : Ref sig .tc := ⟨.hbm, 653, rfl⟩
abbrev main_while0b_v1030 : Ref sig .tc := ⟨.hbm, 654, rfl⟩
abbrev main_while0b_v1031 : Ref sig .tc := ⟨.hbm, 655, rfl⟩
abbrev main_while0b_v1032 : Ref sig .tc := ⟨.hbm, 656, rfl⟩
abbrev main_while0b_v1033 : Ref sig .tc := ⟨.hbm, 657, rfl⟩
abbrev main_while0b_v1034 : Ref sig .tc := ⟨.hbm, 658, rfl⟩
abbrev main_while0b_cst_99 : Ref sig .tc := ⟨.hbm, 659, rfl⟩
abbrev main_while0b_v1035 : Ref sig .tc := ⟨.hbm, 660, rfl⟩
abbrev main_while0b_v1036 : Ref sig .tc := ⟨.hbm, 661, rfl⟩
abbrev main_while0b_c_100 : Ref sig .tc := ⟨.hbm, 662, rfl⟩
abbrev main_while0b_call17_v0 : Ref sig .tc := ⟨.hbm, 663, rfl⟩
abbrev main_while0b_v1037 : Ref sig .tc := ⟨.hbm, 664, rfl⟩
abbrev main_while0b_v1038 : Ref sig .tc := ⟨.hbm, 665, rfl⟩
abbrev main_while0b_v1039 : Ref sig .tc := ⟨.hbm, 666, rfl⟩
abbrev main_while0b_v1040 : Ref sig .tc := ⟨.hbm, 667, rfl⟩
abbrev main_while0b_v1041 : Ref sig .tc := ⟨.hbm, 668, rfl⟩
abbrev main_while0b_v1042 : Ref sig .tc := ⟨.hbm, 669, rfl⟩
abbrev main_while0b_v1043 : Ref sig .tc := ⟨.hbm, 670, rfl⟩
abbrev main_while0b_v1044 : Ref sig .tc := ⟨.hbm, 671, rfl⟩
abbrev main_while0b_v1045 : Ref sig .tc := ⟨.hbm, 672, rfl⟩
abbrev main_while0b_v1046 : Ref sig .tc := ⟨.hbm, 673, rfl⟩
abbrev main_while0b_v1047 : Ref sig .tc := ⟨.hbm, 674, rfl⟩
abbrev main_while0b_v1048 : Ref sig .tc := ⟨.hbm, 675, rfl⟩
abbrev main_while0b_v1049 : Ref sig .tc := ⟨.hbm, 676, rfl⟩
abbrev main_while0b_v1050 : Ref sig .tc := ⟨.hbm, 677, rfl⟩
abbrev main_while0b_v1051 : Ref sig .tc := ⟨.hbm, 678, rfl⟩
abbrev main_while0b_v1052 : Ref sig .tc := ⟨.hbm, 679, rfl⟩
abbrev main_while0b_v1053 : Ref sig .tc := ⟨.hbm, 680, rfl⟩
abbrev main_while0b_v1054 : Ref sig .tc := ⟨.hbm, 681, rfl⟩
abbrev main_while0b_v1055 : Ref sig .tc := ⟨.hbm, 682, rfl⟩
abbrev main_while0b_v1056 : Ref sig .tc := ⟨.hbm, 683, rfl⟩
abbrev main_while0b_v1057 : Ref sig .tc := ⟨.hbm, 684, rfl⟩
abbrev main_while0b_v1058 : Ref sig .tc := ⟨.hbm, 685, rfl⟩
abbrev main_while0b_v1059 : Ref sig .tc := ⟨.hbm, 686, rfl⟩
abbrev main_while0b_v1060 : Ref sig .tc := ⟨.hbm, 687, rfl⟩
abbrev main_while0b_v1061 : Ref sig .tc := ⟨.hbm, 688, rfl⟩
abbrev main_while0b_v1062 : Ref sig .tc := ⟨.hbm, 689, rfl⟩
abbrev main_while0b_v1063 : Ref sig .tc := ⟨.hbm, 690, rfl⟩
abbrev main_while0b_v1064 : Ref sig .tc := ⟨.hbm, 691, rfl⟩
abbrev main_while0b_v1065 : Ref sig .tc := ⟨.hbm, 692, rfl⟩
abbrev main_while0b_v1066 : Ref sig .tc := ⟨.hbm, 693, rfl⟩
abbrev main_while0b_v1067 : Ref sig .tc := ⟨.hbm, 694, rfl⟩
abbrev main_while0b_v1068 : Ref sig .tc := ⟨.hbm, 695, rfl⟩
abbrev main_while0b_cst_101 : Ref sig .tc := ⟨.hbm, 696, rfl⟩
abbrev main_while0b_v1069 : Ref sig .tc := ⟨.hbm, 697, rfl⟩
abbrev main_while0b_v1070 : Ref sig .tc := ⟨.hbm, 698, rfl⟩
abbrev main_while0b_cst_102 : Ref sig .tc := ⟨.hbm, 699, rfl⟩
abbrev main_while0b_v1071 : Ref sig .tc := ⟨.hbm, 700, rfl⟩
abbrev main_while0b_v1072 : Ref sig .tc := ⟨.hbm, 701, rfl⟩
abbrev main_while0b_v1073 : Ref sig .tc := ⟨.hbm, 702, rfl⟩
abbrev main_while0b_v1074 : Ref sig .tc := ⟨.hbm, 703, rfl⟩
abbrev main_while0b_v1075 : Ref sig .tc := ⟨.hbm, 704, rfl⟩
abbrev main_while0b_cst_103 : Ref sig .tc := ⟨.hbm, 705, rfl⟩
abbrev main_while0b_v1076 : Ref sig .tc := ⟨.hbm, 706, rfl⟩
abbrev main_while0b_v1077 : Ref sig .tc := ⟨.hbm, 707, rfl⟩
abbrev main_while0b_cst_104 : Ref sig .tc := ⟨.hbm, 708, rfl⟩
abbrev main_while0b_v1078 : Ref sig .tc := ⟨.hbm, 709, rfl⟩
abbrev main_while0b_v1079 : Ref sig .tc := ⟨.hbm, 710, rfl⟩
abbrev main_while0b_cst_105 : Ref sig .tc := ⟨.hbm, 711, rfl⟩
abbrev main_while0b_v1080 : Ref sig .tc := ⟨.hbm, 712, rfl⟩
abbrev main_while0b_v1081 : Ref sig .tc := ⟨.hbm, 713, rfl⟩
abbrev main_while0b_v1082 : Ref sig .tc := ⟨.hbm, 714, rfl⟩
abbrev main_while0b_v1083 : Ref sig .tc := ⟨.hbm, 715, rfl⟩
abbrev main_while0b_v1084 : Ref sig .tc := ⟨.hbm, 716, rfl⟩
abbrev main_while0b_v1085 : Ref sig .tc := ⟨.hbm, 717, rfl⟩
abbrev main_while0b_v1086 : Ref sig .tc := ⟨.hbm, 718, rfl⟩
abbrev main_while0b_v1087 : Ref sig .tc := ⟨.hbm, 719, rfl⟩
abbrev main_while0b_v1088 : Ref sig .tc := ⟨.hbm, 720, rfl⟩
abbrev main_while0b_v1089 : Ref sig .tc := ⟨.hbm, 721, rfl⟩
abbrev main_while0b_v1090 : Ref sig .tc := ⟨.hbm, 722, rfl⟩
abbrev main_while0b_v1091 : Ref sig .tc := ⟨.hbm, 723, rfl⟩
abbrev main_while0b_cst_106 : Ref sig .tc := ⟨.hbm, 724, rfl⟩
abbrev main_while0b_v1092 : Ref sig .tc := ⟨.hbm, 725, rfl⟩
abbrev main_while0b_v1093 : Ref sig .tc := ⟨.hbm, 726, rfl⟩
abbrev main_while0b_c_107 : Ref sig .tc := ⟨.hbm, 727, rfl⟩
abbrev main_while0b_v1094 : Ref sig .tc := ⟨.hbm, 728, rfl⟩
abbrev main_c_0 : Ref sig .tc := ⟨.hbm, 729, rfl⟩
abbrev main_call18_v0 : Ref sig .tc := ⟨.hbm, 730, rfl⟩
abbrev main_v6 : Ref sig .tc := ⟨.hbm, 731, rfl⟩
abbrev main_v7 : Ref sig .tc := ⟨.hbm, 732, rfl⟩
abbrev main_v8 : Ref sig .tc := ⟨.hbm, 733, rfl⟩
abbrev main_v9 : Ref sig .tc := ⟨.hbm, 734, rfl⟩
abbrev main_v10 : Ref sig .tc := ⟨.hbm, 735, rfl⟩
abbrev main_v11 : Ref sig .tc := ⟨.hbm, 736, rfl⟩
abbrev main_v12 : Ref sig .tc := ⟨.hbm, 737, rfl⟩
abbrev main_v13 : Ref sig .tc := ⟨.hbm, 738, rfl⟩
abbrev main_v14 : Ref sig .tc := ⟨.hbm, 739, rfl⟩
abbrev main_v15 : Ref sig .tc := ⟨.hbm, 740, rfl⟩
abbrev main_v16 : Ref sig .tc := ⟨.hbm, 741, rfl⟩
abbrev main_v17 : Ref sig .tc := ⟨.hbm, 742, rfl⟩
abbrev main_v18 : Ref sig .tc := ⟨.hbm, 743, rfl⟩
abbrev main_v19 : Ref sig .tc := ⟨.hbm, 744, rfl⟩
abbrev main_v20 : Ref sig .tc := ⟨.hbm, 745, rfl⟩
abbrev main_v21 : Ref sig .tc := ⟨.hbm, 746, rfl⟩
abbrev main_v22 : Ref sig .tc := ⟨.hbm, 747, rfl⟩
abbrev main_v23 : Ref sig .tc := ⟨.hbm, 748, rfl⟩
abbrev main_v24 : Ref sig .tc := ⟨.hbm, 749, rfl⟩
abbrev main_v25 : Ref sig .tc := ⟨.hbm, 750, rfl⟩
abbrev main_v26 : Ref sig .tc := ⟨.hbm, 751, rfl⟩
abbrev main_v27 : Ref sig .tc := ⟨.hbm, 752, rfl⟩
abbrev main_v28 : Ref sig .tc := ⟨.hbm, 753, rfl⟩
abbrev main_v29 : Ref sig .tc := ⟨.hbm, 754, rfl⟩
abbrev main_v30 : Ref sig .tc := ⟨.hbm, 755, rfl⟩
abbrev main_v31 : Ref sig .tc := ⟨.hbm, 756, rfl⟩
abbrev main_v32 : Ref sig .tc := ⟨.hbm, 757, rfl⟩
abbrev main_v33 : Ref sig .tc := ⟨.hbm, 758, rfl⟩
abbrev main_v34 : Ref sig .tc := ⟨.hbm, 759, rfl⟩
abbrev main_v35 : Ref sig .tc := ⟨.hbm, 760, rfl⟩
abbrev main_v36 : Ref sig .tc := ⟨.hbm, 761, rfl⟩
abbrev main_v37 : Ref sig .tc := ⟨.hbm, 762, rfl⟩
abbrev main_c_1 : Ref sig .tc := ⟨.hbm, 763, rfl⟩
abbrev main_call19_v0 : Ref sig .tc := ⟨.hbm, 764, rfl⟩
abbrev main_v38 : Ref sig .tc := ⟨.hbm, 765, rfl⟩
abbrev main_v39 : Ref sig .tc := ⟨.hbm, 766, rfl⟩
abbrev main_v40 : Ref sig .tc := ⟨.hbm, 767, rfl⟩
abbrev main_v41 : Ref sig .tc := ⟨.hbm, 768, rfl⟩
abbrev main_v42 : Ref sig .tc := ⟨.hbm, 769, rfl⟩
abbrev main_v43 : Ref sig .tc := ⟨.hbm, 770, rfl⟩
abbrev main_v44 : Ref sig .tc := ⟨.hbm, 771, rfl⟩
abbrev main_v45 : Ref sig .tc := ⟨.hbm, 772, rfl⟩
abbrev main_v46 : Ref sig .tc := ⟨.hbm, 773, rfl⟩
abbrev main_v47 : Ref sig .tc := ⟨.hbm, 774, rfl⟩
abbrev main_v48 : Ref sig .tc := ⟨.hbm, 775, rfl⟩
abbrev main_v49 : Ref sig .tc := ⟨.hbm, 776, rfl⟩
abbrev main_v50 : Ref sig .tc := ⟨.hbm, 777, rfl⟩
abbrev main_v51 : Ref sig .tc := ⟨.hbm, 778, rfl⟩
abbrev main_v52 : Ref sig .tc := ⟨.hbm, 779, rfl⟩
abbrev main_v53 : Ref sig .tc := ⟨.hbm, 780, rfl⟩
abbrev main_v54 : Ref sig .tc := ⟨.hbm, 781, rfl⟩
abbrev main_v55 : Ref sig .tc := ⟨.hbm, 782, rfl⟩
abbrev main_v56 : Ref sig .tc := ⟨.hbm, 783, rfl⟩
abbrev main_v57 : Ref sig .tc := ⟨.hbm, 784, rfl⟩
abbrev main_v58 : Ref sig .tc := ⟨.hbm, 785, rfl⟩
abbrev main_v59 : Ref sig .tc := ⟨.hbm, 786, rfl⟩
abbrev main_v60 : Ref sig .tc := ⟨.hbm, 787, rfl⟩
abbrev main_v61 : Ref sig .tc := ⟨.hbm, 788, rfl⟩
abbrev main_v62 : Ref sig .tc := ⟨.hbm, 789, rfl⟩
abbrev main_v63 : Ref sig .tc := ⟨.hbm, 790, rfl⟩
abbrev main_v64 : Ref sig .tc := ⟨.hbm, 791, rfl⟩
abbrev main_v65 : Ref sig .tc := ⟨.hbm, 792, rfl⟩
abbrev main_v66 : Ref sig .tc := ⟨.hbm, 793, rfl⟩
abbrev main_v67 : Ref sig .tc := ⟨.hbm, 794, rfl⟩
abbrev main_v68 : Ref sig .tc := ⟨.hbm, 795, rfl⟩
abbrev main_v69 : Ref sig .tc := ⟨.hbm, 796, rfl⟩
abbrev main_c_2 : Ref sig .tc := ⟨.hbm, 797, rfl⟩
abbrev main_call20_v0 : Ref sig .tc := ⟨.hbm, 798, rfl⟩
abbrev main_v70 : Ref sig .tc := ⟨.hbm, 799, rfl⟩
abbrev main_v71 : Ref sig .tc := ⟨.hbm, 800, rfl⟩
abbrev main_v72 : Ref sig .tc := ⟨.hbm, 801, rfl⟩
abbrev main_v73 : Ref sig .tc := ⟨.hbm, 802, rfl⟩
abbrev main_v74 : Ref sig .tc := ⟨.hbm, 803, rfl⟩
abbrev main_v75 : Ref sig .tc := ⟨.hbm, 804, rfl⟩
abbrev main_v76 : Ref sig .tc := ⟨.hbm, 805, rfl⟩
abbrev main_v77 : Ref sig .tc := ⟨.hbm, 806, rfl⟩
abbrev main_v78 : Ref sig .tc := ⟨.hbm, 807, rfl⟩
abbrev main_v79 : Ref sig .tc := ⟨.hbm, 808, rfl⟩
abbrev main_v80 : Ref sig .tc := ⟨.hbm, 809, rfl⟩
abbrev main_v81 : Ref sig .tc := ⟨.hbm, 810, rfl⟩
abbrev main_v82 : Ref sig .tc := ⟨.hbm, 811, rfl⟩
abbrev main_v83 : Ref sig .tc := ⟨.hbm, 812, rfl⟩
abbrev main_v84 : Ref sig .tc := ⟨.hbm, 813, rfl⟩
abbrev main_v85 : Ref sig .tc := ⟨.hbm, 814, rfl⟩
abbrev main_v86 : Ref sig .tc := ⟨.hbm, 815, rfl⟩
abbrev main_v87 : Ref sig .tc := ⟨.hbm, 816, rfl⟩
abbrev main_v88 : Ref sig .tc := ⟨.hbm, 817, rfl⟩
abbrev main_v89 : Ref sig .tc := ⟨.hbm, 818, rfl⟩
abbrev main_v90 : Ref sig .tc := ⟨.hbm, 819, rfl⟩
abbrev main_v91 : Ref sig .tc := ⟨.hbm, 820, rfl⟩
abbrev main_v92 : Ref sig .tc := ⟨.hbm, 821, rfl⟩
abbrev main_v93 : Ref sig .tc := ⟨.hbm, 822, rfl⟩
abbrev main_v94 : Ref sig .tc := ⟨.hbm, 823, rfl⟩
abbrev main_v95 : Ref sig .tc := ⟨.hbm, 824, rfl⟩
abbrev main_v96 : Ref sig .tc := ⟨.hbm, 825, rfl⟩
abbrev main_v97 : Ref sig .tc := ⟨.hbm, 826, rfl⟩
abbrev main_v98 : Ref sig .tc := ⟨.hbm, 827, rfl⟩
abbrev main_v99 : Ref sig .tc := ⟨.hbm, 828, rfl⟩
abbrev main_v100 : Ref sig .tc := ⟨.hbm, 829, rfl⟩
abbrev main_v101 : Ref sig .tc := ⟨.hbm, 830, rfl⟩
abbrev main_c_3 : Ref sig .tc := ⟨.hbm, 831, rfl⟩
abbrev main_call21_v0 : Ref sig .tc := ⟨.hbm, 832, rfl⟩
abbrev main_v102 : Ref sig .tc := ⟨.hbm, 833, rfl⟩
abbrev main_v103 : Ref sig .tc := ⟨.hbm, 834, rfl⟩
abbrev main_v104 : Ref sig .tc := ⟨.hbm, 835, rfl⟩
abbrev main_v105 : Ref sig .tc := ⟨.hbm, 836, rfl⟩
abbrev main_v106 : Ref sig .tc := ⟨.hbm, 837, rfl⟩
abbrev main_v107 : Ref sig .tc := ⟨.hbm, 838, rfl⟩
abbrev main_v108 : Ref sig .tc := ⟨.hbm, 839, rfl⟩
abbrev main_v109 : Ref sig .tc := ⟨.hbm, 840, rfl⟩
abbrev main_v110 : Ref sig .tc := ⟨.hbm, 841, rfl⟩
abbrev main_v111 : Ref sig .tc := ⟨.hbm, 842, rfl⟩
abbrev main_v112 : Ref sig .tc := ⟨.hbm, 843, rfl⟩
abbrev main_v113 : Ref sig .tc := ⟨.hbm, 844, rfl⟩
abbrev main_v114 : Ref sig .tc := ⟨.hbm, 845, rfl⟩
abbrev main_v115 : Ref sig .tc := ⟨.hbm, 846, rfl⟩
abbrev main_v116 : Ref sig .tc := ⟨.hbm, 847, rfl⟩
abbrev main_v117 : Ref sig .tc := ⟨.hbm, 848, rfl⟩
abbrev main_v118 : Ref sig .tc := ⟨.hbm, 849, rfl⟩
abbrev main_v119 : Ref sig .tc := ⟨.hbm, 850, rfl⟩
abbrev main_v120 : Ref sig .tc := ⟨.hbm, 851, rfl⟩
abbrev main_v121 : Ref sig .tc := ⟨.hbm, 852, rfl⟩
abbrev main_v122 : Ref sig .tc := ⟨.hbm, 853, rfl⟩
abbrev main_v123 : Ref sig .tc := ⟨.hbm, 854, rfl⟩
abbrev main_v124 : Ref sig .tc := ⟨.hbm, 855, rfl⟩
abbrev main_v125 : Ref sig .tc := ⟨.hbm, 856, rfl⟩
abbrev main_v126 : Ref sig .tc := ⟨.hbm, 857, rfl⟩
abbrev main_v127 : Ref sig .tc := ⟨.hbm, 858, rfl⟩
abbrev main_v128 : Ref sig .tc := ⟨.hbm, 859, rfl⟩
abbrev main_v129 : Ref sig .tc := ⟨.hbm, 860, rfl⟩
abbrev main_v130 : Ref sig .tc := ⟨.hbm, 861, rfl⟩
abbrev main_v131 : Ref sig .tc := ⟨.hbm, 862, rfl⟩
abbrev main_v132 : Ref sig .tc := ⟨.hbm, 863, rfl⟩
abbrev main_v133 : Ref sig .tc := ⟨.hbm, 864, rfl⟩
abbrev main_c_4 : Ref sig .tc := ⟨.hbm, 865, rfl⟩
abbrev main_call22_v0 : Ref sig .tc := ⟨.hbm, 866, rfl⟩
abbrev main_v134 : Ref sig .tc := ⟨.hbm, 867, rfl⟩
abbrev main_v135 : Ref sig .tc := ⟨.hbm, 868, rfl⟩
abbrev main_v136 : Ref sig .tc := ⟨.hbm, 869, rfl⟩
abbrev main_v137 : Ref sig .tc := ⟨.hbm, 870, rfl⟩
abbrev main_v138 : Ref sig .tc := ⟨.hbm, 871, rfl⟩
abbrev main_v139 : Ref sig .tc := ⟨.hbm, 872, rfl⟩
abbrev main_v140 : Ref sig .tc := ⟨.hbm, 873, rfl⟩
abbrev main_v141 : Ref sig .tc := ⟨.hbm, 874, rfl⟩
abbrev main_v142 : Ref sig .tc := ⟨.hbm, 875, rfl⟩
abbrev main_v143 : Ref sig .tc := ⟨.hbm, 876, rfl⟩
abbrev main_v144 : Ref sig .tc := ⟨.hbm, 877, rfl⟩
abbrev main_v145 : Ref sig .tc := ⟨.hbm, 878, rfl⟩
abbrev main_v146 : Ref sig .tc := ⟨.hbm, 879, rfl⟩
abbrev main_v147 : Ref sig .tc := ⟨.hbm, 880, rfl⟩
abbrev main_v148 : Ref sig .tc := ⟨.hbm, 881, rfl⟩
abbrev main_v149 : Ref sig .tc := ⟨.hbm, 882, rfl⟩
abbrev main_v150 : Ref sig .tc := ⟨.hbm, 883, rfl⟩
abbrev main_v151 : Ref sig .tc := ⟨.hbm, 884, rfl⟩
abbrev main_v152 : Ref sig .tc := ⟨.hbm, 885, rfl⟩
abbrev main_v153 : Ref sig .tc := ⟨.hbm, 886, rfl⟩
abbrev main_v154 : Ref sig .tc := ⟨.hbm, 887, rfl⟩
abbrev main_v155 : Ref sig .tc := ⟨.hbm, 888, rfl⟩
abbrev main_v156 : Ref sig .tc := ⟨.hbm, 889, rfl⟩
abbrev main_v157 : Ref sig .tc := ⟨.hbm, 890, rfl⟩
abbrev main_v158 : Ref sig .tc := ⟨.hbm, 891, rfl⟩
abbrev main_v159 : Ref sig .tc := ⟨.hbm, 892, rfl⟩
abbrev main_v160 : Ref sig .tc := ⟨.hbm, 893, rfl⟩
abbrev main_v161 : Ref sig .tc := ⟨.hbm, 894, rfl⟩
abbrev main_v162 : Ref sig .tc := ⟨.hbm, 895, rfl⟩
abbrev main_v163 : Ref sig .tc := ⟨.hbm, 896, rfl⟩
abbrev main_v164 : Ref sig .tc := ⟨.hbm, 897, rfl⟩
abbrev main_v165 : Ref sig .tc := ⟨.hbm, 898, rfl⟩
abbrev main_c_5 : Ref sig .tc := ⟨.hbm, 899, rfl⟩
abbrev main_call23_v0 : Ref sig .tc := ⟨.hbm, 900, rfl⟩
abbrev main_v166 : Ref sig .tc := ⟨.hbm, 901, rfl⟩
abbrev main_v167 : Ref sig .tc := ⟨.hbm, 902, rfl⟩
abbrev main_v168 : Ref sig .tc := ⟨.hbm, 903, rfl⟩
abbrev main_v169 : Ref sig .tc := ⟨.hbm, 904, rfl⟩
abbrev main_v170 : Ref sig .tc := ⟨.hbm, 905, rfl⟩
abbrev main_v171 : Ref sig .tc := ⟨.hbm, 906, rfl⟩
abbrev main_v172 : Ref sig .tc := ⟨.hbm, 907, rfl⟩
abbrev main_v173 : Ref sig .tc := ⟨.hbm, 908, rfl⟩
abbrev main_v174 : Ref sig .tc := ⟨.hbm, 909, rfl⟩
abbrev main_v175 : Ref sig .tc := ⟨.hbm, 910, rfl⟩
abbrev main_v176 : Ref sig .tc := ⟨.hbm, 911, rfl⟩
abbrev main_v177 : Ref sig .tc := ⟨.hbm, 912, rfl⟩
abbrev main_v178 : Ref sig .tc := ⟨.hbm, 913, rfl⟩
abbrev main_v179 : Ref sig .tc := ⟨.hbm, 914, rfl⟩
abbrev main_v180 : Ref sig .tc := ⟨.hbm, 915, rfl⟩
abbrev main_v181 : Ref sig .tc := ⟨.hbm, 916, rfl⟩
abbrev main_v182 : Ref sig .tc := ⟨.hbm, 917, rfl⟩
abbrev main_v183 : Ref sig .tc := ⟨.hbm, 918, rfl⟩
abbrev main_v184 : Ref sig .tc := ⟨.hbm, 919, rfl⟩
abbrev main_v185 : Ref sig .tc := ⟨.hbm, 920, rfl⟩
abbrev main_v186 : Ref sig .tc := ⟨.hbm, 921, rfl⟩
abbrev main_v187 : Ref sig .tc := ⟨.hbm, 922, rfl⟩
abbrev main_v188 : Ref sig .tc := ⟨.hbm, 923, rfl⟩
abbrev main_v189 : Ref sig .tc := ⟨.hbm, 924, rfl⟩
abbrev main_v190 : Ref sig .tc := ⟨.hbm, 925, rfl⟩
abbrev main_v191 : Ref sig .tc := ⟨.hbm, 926, rfl⟩
abbrev main_v192 : Ref sig .tc := ⟨.hbm, 927, rfl⟩
abbrev main_v193 : Ref sig .tc := ⟨.hbm, 928, rfl⟩
abbrev main_v194 : Ref sig .tc := ⟨.hbm, 929, rfl⟩
abbrev main_v195 : Ref sig .tc := ⟨.hbm, 930, rfl⟩
abbrev main_v196 : Ref sig .tc := ⟨.hbm, 931, rfl⟩
abbrev main_v197 : Ref sig .tc := ⟨.hbm, 932, rfl⟩
abbrev main_v198 : Ref sig .tc := ⟨.hbm, 933, rfl⟩
abbrev main_v199 : Ref sig .tc := ⟨.hbm, 934, rfl⟩
abbrev main_v200 : Ref sig .tc := ⟨.hbm, 935, rfl⟩
abbrev main_cst : Ref sig .tc := ⟨.hbm, 936, rfl⟩
abbrev main_v201 : Ref sig .tc := ⟨.hbm, 937, rfl⟩
abbrev main_v202 : Ref sig .tc := ⟨.hbm, 938, rfl⟩
abbrev main_v203 : Ref sig .tc := ⟨.hbm, 939, rfl⟩
abbrev main_c_6 : Ref sig .tc := ⟨.hbm, 940, rfl⟩
abbrev main_call24_v0 : Ref sig .tc := ⟨.hbm, 941, rfl⟩
abbrev main_v204 : Ref sig .tc := ⟨.hbm, 942, rfl⟩
abbrev main_v205 : Ref sig .tc := ⟨.hbm, 943, rfl⟩
abbrev main_v206 : Ref sig .tc := ⟨.hbm, 944, rfl⟩
abbrev main_v207 : Ref sig .tc := ⟨.hbm, 945, rfl⟩
abbrev main_v208 : Ref sig .tc := ⟨.hbm, 946, rfl⟩
abbrev main_v209 : Ref sig .tc := ⟨.hbm, 947, rfl⟩
abbrev main_v210 : Ref sig .tc := ⟨.hbm, 948, rfl⟩
abbrev main_v211 : Ref sig .tc := ⟨.hbm, 949, rfl⟩
abbrev main_v212 : Ref sig .tc := ⟨.hbm, 950, rfl⟩
abbrev main_v213 : Ref sig .tc := ⟨.hbm, 951, rfl⟩
abbrev main_v214 : Ref sig .tc := ⟨.hbm, 952, rfl⟩
abbrev main_v215 : Ref sig .tc := ⟨.hbm, 953, rfl⟩
abbrev main_v216 : Ref sig .tc := ⟨.hbm, 954, rfl⟩
abbrev main_v217 : Ref sig .tc := ⟨.hbm, 955, rfl⟩
abbrev main_v218 : Ref sig .tc := ⟨.hbm, 956, rfl⟩
abbrev main_v219 : Ref sig .tc := ⟨.hbm, 957, rfl⟩
abbrev main_v220 : Ref sig .tc := ⟨.hbm, 958, rfl⟩
abbrev main_v221 : Ref sig .tc := ⟨.hbm, 959, rfl⟩
abbrev main_v222 : Ref sig .tc := ⟨.hbm, 960, rfl⟩
abbrev main_v223 : Ref sig .tc := ⟨.hbm, 961, rfl⟩
abbrev main_v224 : Ref sig .tc := ⟨.hbm, 962, rfl⟩
abbrev main_v225 : Ref sig .tc := ⟨.hbm, 963, rfl⟩
abbrev main_v226 : Ref sig .tc := ⟨.hbm, 964, rfl⟩
abbrev main_v227 : Ref sig .tc := ⟨.hbm, 965, rfl⟩
abbrev main_v228 : Ref sig .tc := ⟨.hbm, 966, rfl⟩
abbrev main_v229 : Ref sig .tc := ⟨.hbm, 967, rfl⟩
abbrev main_v230 : Ref sig .tc := ⟨.hbm, 968, rfl⟩
abbrev main_v231 : Ref sig .tc := ⟨.hbm, 969, rfl⟩
abbrev main_v232 : Ref sig .tc := ⟨.hbm, 970, rfl⟩
abbrev main_v233 : Ref sig .tc := ⟨.hbm, 971, rfl⟩
abbrev main_v234 : Ref sig .tc := ⟨.hbm, 972, rfl⟩
abbrev main_v235 : Ref sig .tc := ⟨.hbm, 973, rfl⟩
abbrev main_v236 : Ref sig .tc := ⟨.hbm, 974, rfl⟩
abbrev main_v237 : Ref sig .tc := ⟨.hbm, 975, rfl⟩
abbrev main_v238 : Ref sig .tc := ⟨.hbm, 976, rfl⟩
abbrev main_cst_7 : Ref sig .tc := ⟨.hbm, 977, rfl⟩
abbrev main_v239 : Ref sig .tc := ⟨.hbm, 978, rfl⟩
abbrev main_v240 : Ref sig .tc := ⟨.hbm, 979, rfl⟩
abbrev main_v241 : Ref sig .tc := ⟨.hbm, 980, rfl⟩
abbrev main_c_8 : Ref sig .tc := ⟨.hbm, 981, rfl⟩
abbrev main_call25_v0 : Ref sig .tc := ⟨.hbm, 982, rfl⟩
abbrev main_v242 : Ref sig .tc := ⟨.hbm, 983, rfl⟩
abbrev main_v243 : Ref sig .tc := ⟨.hbm, 984, rfl⟩
abbrev main_v244 : Ref sig .tc := ⟨.hbm, 985, rfl⟩
abbrev main_v245 : Ref sig .tc := ⟨.hbm, 986, rfl⟩
abbrev main_v246 : Ref sig .tc := ⟨.hbm, 987, rfl⟩
abbrev main_v247 : Ref sig .tc := ⟨.hbm, 988, rfl⟩
abbrev main_v248 : Ref sig .tc := ⟨.hbm, 989, rfl⟩
abbrev main_v249 : Ref sig .tc := ⟨.hbm, 990, rfl⟩
abbrev main_v250 : Ref sig .tc := ⟨.hbm, 991, rfl⟩
abbrev main_v251 : Ref sig .tc := ⟨.hbm, 992, rfl⟩
abbrev main_v252 : Ref sig .tc := ⟨.hbm, 993, rfl⟩
abbrev main_v253 : Ref sig .tc := ⟨.hbm, 994, rfl⟩
abbrev main_v254 : Ref sig .tc := ⟨.hbm, 995, rfl⟩
abbrev main_v255 : Ref sig .tc := ⟨.hbm, 996, rfl⟩
abbrev main_v256 : Ref sig .tc := ⟨.hbm, 997, rfl⟩
abbrev main_v257 : Ref sig .tc := ⟨.hbm, 998, rfl⟩
abbrev main_v258 : Ref sig .tc := ⟨.hbm, 999, rfl⟩
abbrev main_v259 : Ref sig .tc := ⟨.hbm, 1000, rfl⟩
abbrev main_v260 : Ref sig .tc := ⟨.hbm, 1001, rfl⟩
abbrev main_v261 : Ref sig .tc := ⟨.hbm, 1002, rfl⟩
abbrev main_v262 : Ref sig .tc := ⟨.hbm, 1003, rfl⟩
abbrev main_v263 : Ref sig .tc := ⟨.hbm, 1004, rfl⟩
abbrev main_v264 : Ref sig .tc := ⟨.hbm, 1005, rfl⟩
abbrev main_v265 : Ref sig .tc := ⟨.hbm, 1006, rfl⟩
abbrev main_v266 : Ref sig .tc := ⟨.hbm, 1007, rfl⟩
abbrev main_v267 : Ref sig .tc := ⟨.hbm, 1008, rfl⟩
abbrev main_v268 : Ref sig .tc := ⟨.hbm, 1009, rfl⟩
abbrev main_v269 : Ref sig .tc := ⟨.hbm, 1010, rfl⟩
abbrev main_v270 : Ref sig .tc := ⟨.hbm, 1011, rfl⟩
abbrev main_v271 : Ref sig .tc := ⟨.hbm, 1012, rfl⟩
abbrev main_v272 : Ref sig .tc := ⟨.hbm, 1013, rfl⟩
abbrev main_v273 : Ref sig .tc := ⟨.hbm, 1014, rfl⟩
abbrev main_v274 : Ref sig .tc := ⟨.hbm, 1015, rfl⟩
abbrev main_v275 : Ref sig .tc := ⟨.hbm, 1016, rfl⟩
abbrev main_v276 : Ref sig .tc := ⟨.hbm, 1017, rfl⟩
abbrev main_cst_9 : Ref sig .tc := ⟨.hbm, 1018, rfl⟩
abbrev main_v277 : Ref sig .tc := ⟨.hbm, 1019, rfl⟩
abbrev main_v278 : Ref sig .tc := ⟨.hbm, 1020, rfl⟩
abbrev main_v279 : Ref sig .tc := ⟨.hbm, 1021, rfl⟩
abbrev main_c_10 : Ref sig .tc := ⟨.hbm, 1022, rfl⟩
abbrev main_call26_v0 : Ref sig .tc := ⟨.hbm, 1023, rfl⟩
abbrev main_v280 : Ref sig .tc := ⟨.hbm, 1024, rfl⟩
abbrev main_v281 : Ref sig .tc := ⟨.hbm, 1025, rfl⟩
abbrev main_v282 : Ref sig .tc := ⟨.hbm, 1026, rfl⟩
abbrev main_v283 : Ref sig .tc := ⟨.hbm, 1027, rfl⟩
abbrev main_v284 : Ref sig .tc := ⟨.hbm, 1028, rfl⟩
abbrev main_v285 : Ref sig .tc := ⟨.hbm, 1029, rfl⟩
abbrev main_v286 : Ref sig .tc := ⟨.hbm, 1030, rfl⟩
abbrev main_v287 : Ref sig .tc := ⟨.hbm, 1031, rfl⟩
abbrev main_v288 : Ref sig .tc := ⟨.hbm, 1032, rfl⟩
abbrev main_v289 : Ref sig .tc := ⟨.hbm, 1033, rfl⟩
abbrev main_v290 : Ref sig .tc := ⟨.hbm, 1034, rfl⟩
abbrev main_v291 : Ref sig .tc := ⟨.hbm, 1035, rfl⟩
abbrev main_v292 : Ref sig .tc := ⟨.hbm, 1036, rfl⟩
abbrev main_v293 : Ref sig .tc := ⟨.hbm, 1037, rfl⟩
abbrev main_v294 : Ref sig .tc := ⟨.hbm, 1038, rfl⟩
abbrev main_v295 : Ref sig .tc := ⟨.hbm, 1039, rfl⟩
abbrev main_v296 : Ref sig .tc := ⟨.hbm, 1040, rfl⟩
abbrev main_v297 : Ref sig .tc := ⟨.hbm, 1041, rfl⟩
abbrev main_v298 : Ref sig .tc := ⟨.hbm, 1042, rfl⟩
abbrev main_v299 : Ref sig .tc := ⟨.hbm, 1043, rfl⟩
abbrev main_v300 : Ref sig .tc := ⟨.hbm, 1044, rfl⟩
abbrev main_v301 : Ref sig .tc := ⟨.hbm, 1045, rfl⟩
abbrev main_v302 : Ref sig .tc := ⟨.hbm, 1046, rfl⟩
abbrev main_v303 : Ref sig .tc := ⟨.hbm, 1047, rfl⟩
abbrev main_v304 : Ref sig .tc := ⟨.hbm, 1048, rfl⟩
abbrev main_v305 : Ref sig .tc := ⟨.hbm, 1049, rfl⟩
abbrev main_v306 : Ref sig .tc := ⟨.hbm, 1050, rfl⟩
abbrev main_v307 : Ref sig .tc := ⟨.hbm, 1051, rfl⟩
abbrev main_v308 : Ref sig .tc := ⟨.hbm, 1052, rfl⟩
abbrev main_v309 : Ref sig .tc := ⟨.hbm, 1053, rfl⟩
abbrev main_v310 : Ref sig .tc := ⟨.hbm, 1054, rfl⟩
abbrev main_v311 : Ref sig .tc := ⟨.hbm, 1055, rfl⟩
abbrev main_v312 : Ref sig .tc := ⟨.hbm, 1056, rfl⟩
abbrev main_v313 : Ref sig .tc := ⟨.hbm, 1057, rfl⟩
abbrev main_v314 : Ref sig .tc := ⟨.hbm, 1058, rfl⟩
abbrev main_cst_11 : Ref sig .tc := ⟨.hbm, 1059, rfl⟩
abbrev main_v315 : Ref sig .tc := ⟨.hbm, 1060, rfl⟩
abbrev main_v316 : Ref sig .tc := ⟨.hbm, 1061, rfl⟩
abbrev main_v317 : Ref sig .tc := ⟨.hbm, 1062, rfl⟩
abbrev main_c_12 : Ref sig .tc := ⟨.hbm, 1063, rfl⟩
abbrev main_call27_v0 : Ref sig .tc := ⟨.hbm, 1064, rfl⟩
abbrev main_v318 : Ref sig .tc := ⟨.hbm, 1065, rfl⟩
abbrev main_v319 : Ref sig .tc := ⟨.hbm, 1066, rfl⟩
abbrev main_v320 : Ref sig .tc := ⟨.hbm, 1067, rfl⟩
abbrev main_v321 : Ref sig .tc := ⟨.hbm, 1068, rfl⟩
abbrev main_v322 : Ref sig .tc := ⟨.hbm, 1069, rfl⟩
abbrev main_v323 : Ref sig .tc := ⟨.hbm, 1070, rfl⟩
abbrev main_v324 : Ref sig .tc := ⟨.hbm, 1071, rfl⟩
abbrev main_v325 : Ref sig .tc := ⟨.hbm, 1072, rfl⟩
abbrev main_v326 : Ref sig .tc := ⟨.hbm, 1073, rfl⟩
abbrev main_v327 : Ref sig .tc := ⟨.hbm, 1074, rfl⟩
abbrev main_v328 : Ref sig .tc := ⟨.hbm, 1075, rfl⟩
abbrev main_v329 : Ref sig .tc := ⟨.hbm, 1076, rfl⟩
abbrev main_v330 : Ref sig .tc := ⟨.hbm, 1077, rfl⟩
abbrev main_v331 : Ref sig .tc := ⟨.hbm, 1078, rfl⟩
abbrev main_v332 : Ref sig .tc := ⟨.hbm, 1079, rfl⟩
abbrev main_v333 : Ref sig .tc := ⟨.hbm, 1080, rfl⟩
abbrev main_v334 : Ref sig .tc := ⟨.hbm, 1081, rfl⟩
abbrev main_v335 : Ref sig .tc := ⟨.hbm, 1082, rfl⟩
abbrev main_v336 : Ref sig .tc := ⟨.hbm, 1083, rfl⟩
abbrev main_v337 : Ref sig .tc := ⟨.hbm, 1084, rfl⟩
abbrev main_v338 : Ref sig .tc := ⟨.hbm, 1085, rfl⟩
abbrev main_v339 : Ref sig .tc := ⟨.hbm, 1086, rfl⟩
abbrev main_v340 : Ref sig .tc := ⟨.hbm, 1087, rfl⟩
abbrev main_v341 : Ref sig .tc := ⟨.hbm, 1088, rfl⟩
abbrev main_v342 : Ref sig .tc := ⟨.hbm, 1089, rfl⟩
abbrev main_v343 : Ref sig .tc := ⟨.hbm, 1090, rfl⟩
abbrev main_v344 : Ref sig .tc := ⟨.hbm, 1091, rfl⟩
abbrev main_v345 : Ref sig .tc := ⟨.hbm, 1092, rfl⟩
abbrev main_v346 : Ref sig .tc := ⟨.hbm, 1093, rfl⟩
abbrev main_v347 : Ref sig .tc := ⟨.hbm, 1094, rfl⟩
abbrev main_v348 : Ref sig .tc := ⟨.hbm, 1095, rfl⟩
abbrev main_v349 : Ref sig .tc := ⟨.hbm, 1096, rfl⟩
abbrev main_v350 : Ref sig .tc := ⟨.hbm, 1097, rfl⟩
abbrev main_v351 : Ref sig .tc := ⟨.hbm, 1098, rfl⟩
abbrev main_v352 : Ref sig .tc := ⟨.hbm, 1099, rfl⟩
abbrev main_cst_13 : Ref sig .tc := ⟨.hbm, 1100, rfl⟩
abbrev main_v353 : Ref sig .tc := ⟨.hbm, 1101, rfl⟩
abbrev main_v354 : Ref sig .tc := ⟨.hbm, 1102, rfl⟩
abbrev main_v355 : Ref sig .tc := ⟨.hbm, 1103, rfl⟩
abbrev main_c_14 : Ref sig .tc := ⟨.hbm, 1104, rfl⟩
abbrev main_call28_v0 : Ref sig .tc := ⟨.hbm, 1105, rfl⟩
abbrev main_v356 : Ref sig .tc := ⟨.hbm, 1106, rfl⟩
abbrev main_v357 : Ref sig .tc := ⟨.hbm, 1107, rfl⟩
abbrev main_v358 : Ref sig .tc := ⟨.hbm, 1108, rfl⟩
abbrev main_v359 : Ref sig .tc := ⟨.hbm, 1109, rfl⟩
abbrev main_v360 : Ref sig .tc := ⟨.hbm, 1110, rfl⟩
abbrev main_v361 : Ref sig .tc := ⟨.hbm, 1111, rfl⟩
abbrev main_v362 : Ref sig .tc := ⟨.hbm, 1112, rfl⟩
abbrev main_v363 : Ref sig .tc := ⟨.hbm, 1113, rfl⟩
abbrev main_v364 : Ref sig .tc := ⟨.hbm, 1114, rfl⟩
abbrev main_v365 : Ref sig .tc := ⟨.hbm, 1115, rfl⟩
abbrev main_v366 : Ref sig .tc := ⟨.hbm, 1116, rfl⟩
abbrev main_v367 : Ref sig .tc := ⟨.hbm, 1117, rfl⟩
abbrev main_v368 : Ref sig .tc := ⟨.hbm, 1118, rfl⟩
abbrev main_v369 : Ref sig .tc := ⟨.hbm, 1119, rfl⟩
abbrev main_v370 : Ref sig .tc := ⟨.hbm, 1120, rfl⟩
abbrev main_v371 : Ref sig .tc := ⟨.hbm, 1121, rfl⟩
abbrev main_v372 : Ref sig .tc := ⟨.hbm, 1122, rfl⟩
abbrev main_v373 : Ref sig .tc := ⟨.hbm, 1123, rfl⟩
abbrev main_v374 : Ref sig .tc := ⟨.hbm, 1124, rfl⟩
abbrev main_v375 : Ref sig .tc := ⟨.hbm, 1125, rfl⟩
abbrev main_v376 : Ref sig .tc := ⟨.hbm, 1126, rfl⟩
abbrev main_v377 : Ref sig .tc := ⟨.hbm, 1127, rfl⟩
abbrev main_v378 : Ref sig .tc := ⟨.hbm, 1128, rfl⟩
abbrev main_v379 : Ref sig .tc := ⟨.hbm, 1129, rfl⟩
abbrev main_v380 : Ref sig .tc := ⟨.hbm, 1130, rfl⟩
abbrev main_v381 : Ref sig .tc := ⟨.hbm, 1131, rfl⟩
abbrev main_v382 : Ref sig .tc := ⟨.hbm, 1132, rfl⟩
abbrev main_v383 : Ref sig .tc := ⟨.hbm, 1133, rfl⟩
abbrev main_v384 : Ref sig .tc := ⟨.hbm, 1134, rfl⟩
abbrev main_v385 : Ref sig .tc := ⟨.hbm, 1135, rfl⟩
abbrev main_v386 : Ref sig .tc := ⟨.hbm, 1136, rfl⟩
abbrev main_v387 : Ref sig .tc := ⟨.hbm, 1137, rfl⟩
abbrev main_c_15 : Ref sig .tc := ⟨.hbm, 1138, rfl⟩
abbrev main_call29_v0 : Ref sig .tc := ⟨.hbm, 1139, rfl⟩
abbrev main_v388 : Ref sig .tc := ⟨.hbm, 1140, rfl⟩
abbrev main_v389 : Ref sig .tc := ⟨.hbm, 1141, rfl⟩
abbrev main_v390 : Ref sig .tc := ⟨.hbm, 1142, rfl⟩
abbrev main_v391 : Ref sig .tc := ⟨.hbm, 1143, rfl⟩
abbrev main_v392 : Ref sig .tc := ⟨.hbm, 1144, rfl⟩
abbrev main_v393 : Ref sig .tc := ⟨.hbm, 1145, rfl⟩
abbrev main_v394 : Ref sig .tc := ⟨.hbm, 1146, rfl⟩
abbrev main_v395 : Ref sig .tc := ⟨.hbm, 1147, rfl⟩
abbrev main_v396 : Ref sig .tc := ⟨.hbm, 1148, rfl⟩
abbrev main_v397 : Ref sig .tc := ⟨.hbm, 1149, rfl⟩
abbrev main_v398 : Ref sig .tc := ⟨.hbm, 1150, rfl⟩
abbrev main_v399 : Ref sig .tc := ⟨.hbm, 1151, rfl⟩
abbrev main_v400 : Ref sig .tc := ⟨.hbm, 1152, rfl⟩
abbrev main_v401 : Ref sig .tc := ⟨.hbm, 1153, rfl⟩
abbrev main_v402 : Ref sig .tc := ⟨.hbm, 1154, rfl⟩
abbrev main_v403 : Ref sig .tc := ⟨.hbm, 1155, rfl⟩
abbrev main_v404 : Ref sig .tc := ⟨.hbm, 1156, rfl⟩
abbrev main_v405 : Ref sig .tc := ⟨.hbm, 1157, rfl⟩
abbrev main_v406 : Ref sig .tc := ⟨.hbm, 1158, rfl⟩
abbrev main_v407 : Ref sig .tc := ⟨.hbm, 1159, rfl⟩
abbrev main_v408 : Ref sig .tc := ⟨.hbm, 1160, rfl⟩
abbrev main_v409 : Ref sig .tc := ⟨.hbm, 1161, rfl⟩
abbrev main_v410 : Ref sig .tc := ⟨.hbm, 1162, rfl⟩
abbrev main_v411 : Ref sig .tc := ⟨.hbm, 1163, rfl⟩
abbrev main_v412 : Ref sig .tc := ⟨.hbm, 1164, rfl⟩
abbrev main_v413 : Ref sig .tc := ⟨.hbm, 1165, rfl⟩
abbrev main_v414 : Ref sig .tc := ⟨.hbm, 1166, rfl⟩
abbrev main_v415 : Ref sig .tc := ⟨.hbm, 1167, rfl⟩
abbrev main_v416 : Ref sig .tc := ⟨.hbm, 1168, rfl⟩
abbrev main_v417 : Ref sig .tc := ⟨.hbm, 1169, rfl⟩
abbrev main_v418 : Ref sig .tc := ⟨.hbm, 1170, rfl⟩
abbrev main_v419 : Ref sig .tc := ⟨.hbm, 1171, rfl⟩
abbrev main_c_16 : Ref sig .tc := ⟨.hbm, 1172, rfl⟩
abbrev main_call30_v0 : Ref sig .tc := ⟨.hbm, 1173, rfl⟩
abbrev main_v420 : Ref sig .tc := ⟨.hbm, 1174, rfl⟩
abbrev main_v421 : Ref sig .tc := ⟨.hbm, 1175, rfl⟩
abbrev main_v422 : Ref sig .tc := ⟨.hbm, 1176, rfl⟩
abbrev main_v423 : Ref sig .tc := ⟨.hbm, 1177, rfl⟩
abbrev main_v424 : Ref sig .tc := ⟨.hbm, 1178, rfl⟩
abbrev main_v425 : Ref sig .tc := ⟨.hbm, 1179, rfl⟩
abbrev main_v426 : Ref sig .tc := ⟨.hbm, 1180, rfl⟩
abbrev main_v427 : Ref sig .tc := ⟨.hbm, 1181, rfl⟩
abbrev main_v428 : Ref sig .tc := ⟨.hbm, 1182, rfl⟩
abbrev main_v429 : Ref sig .tc := ⟨.hbm, 1183, rfl⟩
abbrev main_v430 : Ref sig .tc := ⟨.hbm, 1184, rfl⟩
abbrev main_v431 : Ref sig .tc := ⟨.hbm, 1185, rfl⟩
abbrev main_v432 : Ref sig .tc := ⟨.hbm, 1186, rfl⟩
abbrev main_v433 : Ref sig .tc := ⟨.hbm, 1187, rfl⟩
abbrev main_v434 : Ref sig .tc := ⟨.hbm, 1188, rfl⟩
abbrev main_v435 : Ref sig .tc := ⟨.hbm, 1189, rfl⟩
abbrev main_v436 : Ref sig .tc := ⟨.hbm, 1190, rfl⟩
abbrev main_v437 : Ref sig .tc := ⟨.hbm, 1191, rfl⟩
abbrev main_v438 : Ref sig .tc := ⟨.hbm, 1192, rfl⟩
abbrev main_v439 : Ref sig .tc := ⟨.hbm, 1193, rfl⟩
abbrev main_v440 : Ref sig .tc := ⟨.hbm, 1194, rfl⟩
abbrev main_v441 : Ref sig .tc := ⟨.hbm, 1195, rfl⟩
abbrev main_v442 : Ref sig .tc := ⟨.hbm, 1196, rfl⟩
abbrev main_v443 : Ref sig .tc := ⟨.hbm, 1197, rfl⟩
abbrev main_v444 : Ref sig .tc := ⟨.hbm, 1198, rfl⟩
abbrev main_v445 : Ref sig .tc := ⟨.hbm, 1199, rfl⟩
abbrev main_v446 : Ref sig .tc := ⟨.hbm, 1200, rfl⟩
abbrev main_v447 : Ref sig .tc := ⟨.hbm, 1201, rfl⟩
abbrev main_v448 : Ref sig .tc := ⟨.hbm, 1202, rfl⟩
abbrev main_v449 : Ref sig .tc := ⟨.hbm, 1203, rfl⟩
abbrev main_v450 : Ref sig .tc := ⟨.hbm, 1204, rfl⟩
abbrev main_v451 : Ref sig .tc := ⟨.hbm, 1205, rfl⟩
abbrev main_c_17 : Ref sig .tc := ⟨.hbm, 1206, rfl⟩
abbrev main_call31_v0 : Ref sig .tc := ⟨.hbm, 1207, rfl⟩
abbrev main_v452 : Ref sig .tc := ⟨.hbm, 1208, rfl⟩
abbrev main_v453 : Ref sig .tc := ⟨.hbm, 1209, rfl⟩
abbrev main_v454 : Ref sig .tc := ⟨.hbm, 1210, rfl⟩
abbrev main_v455 : Ref sig .tc := ⟨.hbm, 1211, rfl⟩
abbrev main_v456 : Ref sig .tc := ⟨.hbm, 1212, rfl⟩
abbrev main_v457 : Ref sig .tc := ⟨.hbm, 1213, rfl⟩
abbrev main_v458 : Ref sig .tc := ⟨.hbm, 1214, rfl⟩
abbrev main_v459 : Ref sig .tc := ⟨.hbm, 1215, rfl⟩
abbrev main_v460 : Ref sig .tc := ⟨.hbm, 1216, rfl⟩
abbrev main_v461 : Ref sig .tc := ⟨.hbm, 1217, rfl⟩
abbrev main_v462 : Ref sig .tc := ⟨.hbm, 1218, rfl⟩
abbrev main_v463 : Ref sig .tc := ⟨.hbm, 1219, rfl⟩
abbrev main_v464 : Ref sig .tc := ⟨.hbm, 1220, rfl⟩
abbrev main_v465 : Ref sig .tc := ⟨.hbm, 1221, rfl⟩
abbrev main_v466 : Ref sig .tc := ⟨.hbm, 1222, rfl⟩
abbrev main_v467 : Ref sig .tc := ⟨.hbm, 1223, rfl⟩
abbrev main_v468 : Ref sig .tc := ⟨.hbm, 1224, rfl⟩
abbrev main_v469 : Ref sig .tc := ⟨.hbm, 1225, rfl⟩
abbrev main_v470 : Ref sig .tc := ⟨.hbm, 1226, rfl⟩
abbrev main_v471 : Ref sig .tc := ⟨.hbm, 1227, rfl⟩
abbrev main_v472 : Ref sig .tc := ⟨.hbm, 1228, rfl⟩
abbrev main_v473 : Ref sig .tc := ⟨.hbm, 1229, rfl⟩
abbrev main_v474 : Ref sig .tc := ⟨.hbm, 1230, rfl⟩
abbrev main_v475 : Ref sig .tc := ⟨.hbm, 1231, rfl⟩
abbrev main_v476 : Ref sig .tc := ⟨.hbm, 1232, rfl⟩
abbrev main_v477 : Ref sig .tc := ⟨.hbm, 1233, rfl⟩
abbrev main_v478 : Ref sig .tc := ⟨.hbm, 1234, rfl⟩
abbrev main_v479 : Ref sig .tc := ⟨.hbm, 1235, rfl⟩
abbrev main_v480 : Ref sig .tc := ⟨.hbm, 1236, rfl⟩
abbrev main_v481 : Ref sig .tc := ⟨.hbm, 1237, rfl⟩
abbrev main_v482 : Ref sig .tc := ⟨.hbm, 1238, rfl⟩
abbrev main_v483 : Ref sig .tc := ⟨.hbm, 1239, rfl⟩
abbrev main_c_18 : Ref sig .tc := ⟨.hbm, 1240, rfl⟩
abbrev main_call32_v0 : Ref sig .tc := ⟨.hbm, 1241, rfl⟩
abbrev main_v484 : Ref sig .tc := ⟨.hbm, 1242, rfl⟩
abbrev main_v485 : Ref sig .tc := ⟨.hbm, 1243, rfl⟩
abbrev main_v486 : Ref sig .tc := ⟨.hbm, 1244, rfl⟩
abbrev main_v487 : Ref sig .tc := ⟨.hbm, 1245, rfl⟩
abbrev main_v488 : Ref sig .tc := ⟨.hbm, 1246, rfl⟩
abbrev main_v489 : Ref sig .tc := ⟨.hbm, 1247, rfl⟩
abbrev main_v490 : Ref sig .tc := ⟨.hbm, 1248, rfl⟩
abbrev main_v491 : Ref sig .tc := ⟨.hbm, 1249, rfl⟩
abbrev main_v492 : Ref sig .tc := ⟨.hbm, 1250, rfl⟩
abbrev main_v493 : Ref sig .tc := ⟨.hbm, 1251, rfl⟩
abbrev main_v494 : Ref sig .tc := ⟨.hbm, 1252, rfl⟩
abbrev main_v495 : Ref sig .tc := ⟨.hbm, 1253, rfl⟩
abbrev main_v496 : Ref sig .tc := ⟨.hbm, 1254, rfl⟩
abbrev main_v497 : Ref sig .tc := ⟨.hbm, 1255, rfl⟩
abbrev main_v498 : Ref sig .tc := ⟨.hbm, 1256, rfl⟩
abbrev main_v499 : Ref sig .tc := ⟨.hbm, 1257, rfl⟩
abbrev main_v500 : Ref sig .tc := ⟨.hbm, 1258, rfl⟩
abbrev main_v501 : Ref sig .tc := ⟨.hbm, 1259, rfl⟩
abbrev main_v502 : Ref sig .tc := ⟨.hbm, 1260, rfl⟩
abbrev main_v503 : Ref sig .tc := ⟨.hbm, 1261, rfl⟩
abbrev main_v504 : Ref sig .tc := ⟨.hbm, 1262, rfl⟩
abbrev main_v505 : Ref sig .tc := ⟨.hbm, 1263, rfl⟩
abbrev main_v506 : Ref sig .tc := ⟨.hbm, 1264, rfl⟩
abbrev main_v507 : Ref sig .tc := ⟨.hbm, 1265, rfl⟩
abbrev main_v508 : Ref sig .tc := ⟨.hbm, 1266, rfl⟩
abbrev main_v509 : Ref sig .tc := ⟨.hbm, 1267, rfl⟩
abbrev main_v510 : Ref sig .tc := ⟨.hbm, 1268, rfl⟩
abbrev main_v511 : Ref sig .tc := ⟨.hbm, 1269, rfl⟩
abbrev main_v512 : Ref sig .tc := ⟨.hbm, 1270, rfl⟩
abbrev main_v513 : Ref sig .tc := ⟨.hbm, 1271, rfl⟩
abbrev main_v514 : Ref sig .tc := ⟨.hbm, 1272, rfl⟩
abbrev main_v515 : Ref sig .tc := ⟨.hbm, 1273, rfl⟩

abbrev nD : Nat := 1
abbrev τ : Topo := Topo.v7x

variable {F : FTy → Type} [FloatOps F]

abbrev main_while0_count : Scf.Loop 32 := ⟨0#32, 4#32, 1#32⟩
-- ==== Proof.Blocks.lean ====
/-
  The kernel body as a composition of four blocks: filling a unit's buffer, one 3×3 convolution as nine products, one
  group normalisation, and the head.  A unit is one pyramid level in one tower; every block is stated once for every
  unit, in any float model and over any buffer signature.
-/
module

public import Idealize.ShloMosaic.Lib.Exec
public import Idealize.ShloMosaic.Lib.Pipeline.Kit

@[expose] public section

noncomputable section

namespace Cert.Proof.Blocks

open Idealize.ShloMosaic Idealize.SL.Sem

/-- A matrix shape. -/
abbrev S2 (a b : ℕ) : Shape := ⟨2, ![a, b]⟩
/-- A shape of three axes. -/
abbrev S3 (a b c : ℕ) : Shape := ⟨3, ![a, b, c]⟩
/-- A shape of four axes. -/
abbrev S4 (a b c d : ℕ) : Shape := ⟨4, ![a, b, c, d]⟩

/-! ## Side conditions of the accesses -/

/-- A window of rows lies in a matrix. -/
theorem inb2 {r n t m : ℕ} (h : r + n ≤ t) : ∀ a, (![r, 0] : Fin 2 → ℕ) a + (S2 n m).size a ≤ (S2 t m).size a := by
  intro a; fin_cases a
  · exact h
  · exact (Nat.zero_add m).le

/-- One matrix of a stack lies in the stack. -/
theorem inb3 {i n a b : ℕ} (h : i < n) : ∀ x, (![i, 0, 0] : Fin 3 → ℕ) x + (S3 1 a b).size x ≤ (S3 n a b).size x := by
  intro x; fin_cases x
  · exact h
  · exact (Nat.zero_add a).le
  · exact (Nat.zero_add b).le

/-- One matrix of a table of matrices lies in the table. -/
theorem inb4 {i j n m a b : ℕ} (h : i < n) (h' : j < m) :
    ∀ x, (![i, j, 0, 0] : Fin 4 → ℕ) x + (S4 1 1 a b).size x ≤ (S4 n m a b).size x := by
  intro x; fin_cases x
  · exact h
  · exact h'
  · exact (Nat.zero_add a).le
  · exact (Nat.zero_add b).le

theorem pos2 {a b : ℕ} (ha : 0 < a) (hb : 0 < b) : 0 < (S2 a b).numel := by
  simp only [Shape.numel, Fin.prod_univ_two]; exact Nat.mul_pos ha hb

theorem pos3 {a b c : ℕ} (ha : 0 < a) (hb : 0 < b) (hc : 0 < c) : 0 < (S3 a b c).numel := by
  simp only [Shape.numel, Fin.prod_univ_three]; exact Nat.mul_pos (Nat.mul_pos ha hb) hc

theorem pos4 {a b c d : ℕ} (ha : 0 < a) (hb : 0 < b) (hc : 0 < c) (hd : 0 < d) : 0 < (S4 a b c d).numel := by
  simp only [Shape.numel, Fin.prod_univ_four]; exact Nat.mul_pos (Nat.mul_pos (Nat.mul_pos ha hb) hc) hd

theorem casts_self (s : Shape) : s.ShapeCasts s := rfl

theorem casts43 {a b : ℕ} : (S4 1 1 a b).ShapeCasts (S2 a b) := by
  simp [Shape.ShapeCasts, Shape.numel, Fin.prod_univ_succ]

theorem casts32 {a b : ℕ} : (S3 1 a b).ShapeCasts (S2 a b) := by
  simp [Shape.ShapeCasts, Shape.numel, Fin.prod_univ_succ]

theorem casts23 {a b : ℕ} : (S2 a b).ShapeCasts (S3 1 a b) := by
  simp [Shape.ShapeCasts, Shape.numel, Fin.prod_univ_succ]

theorem casts12 {a : ℕ} : (⟨1, ![a]⟩ : Shape).ShapeCasts (S2 1 a) := by
  simp [Shape.ShapeCasts, Shape.numel, Fin.prod_univ_succ]

theorem slices_row {n a : ℕ} : (S2 (n + 2) a).Slices ![1, 0] (S2 n a) :=
  ⟨rfl, fun x => by fin_cases x <;> simp <;> omega⟩

theorem bcast_row {n a : ℕ} : (S2 1 a).Broadcasts (S2 n a) :=
  ⟨le_rfl, fun x => by fin_cases x <;> simp⟩

theorem bcast_col {n a : ℕ} : (S2 n 1).Broadcasts (S2 n a) :=
  ⟨le_rfl, fun x => by fin_cases x <;> simp⟩

theorem reduces_rows {n a : ℕ} : (S2 n a).Reduces [0] (⟨1, ![a]⟩ : Shape) :=
  ⟨rfl, Nat.one_pos, fun b => by fin_cases b; rfl⟩

/-- The whole of a matrix is packed. -/
theorem packed_all {n a p : ℕ} : (Rect.unit (s := S2 n a) ![0, 0] (S2 n a).size (inb2 (Nat.zero_add n).le)).PackedRows p :=
  .inl fun x => by fin_cases x <;> exact ⟨rfl, rfl, rfl⟩

/-- Rows from an even one, an even number of them, are packed by pairs. -/
theorem packed_rows {r n t a p : ℕ} (h : r + n ≤ t) (hr : p ∣ r) (hn : p ∣ n) :
    (Rect.unit (s := S2 t a) ![r, 0] (S2 n a).size (inb2 h)).PackedRows p :=
  .inr ⟨le_rfl, rfl, .inl ⟨hr, hn⟩⟩

/-- One matrix of a stack is packed. -/
theorem packed_one {i n a b p : ℕ} (h : i < n) :
    (Rect.unit (s := S3 n a b) ![i, 0, 0] (S3 1 a b).size (inb3 h)).PackedRows p :=
  .inr ⟨Nat.le_succ 2, rfl, .inr ⟨rfl, rfl, rfl, rfl, rfl⟩⟩

/-! ## The units -/

variable {nD : ℕ} {τ : Topo} {sig : RefSig} {Λ : Labels} {F : FTy → Type} [FloatOps F]

/-- The towers' and the heads' parameters, and the matrix that sums the channels of a group. -/
structure Par (sig : RefSig) where
  tw : Memref sig .tc .vmem (S4 2 36 256 256) .bf16
  bb : Memref sig .tc .vmem (S4 2 4 1 256) .f32
  gg : Memref sig .tc .vmem (S4 2 4 1 256) .f32
  be : Memref sig .tc .vmem (S4 2 4 1 256) .f32
  hw : Memref sig .tc .vmem (S4 2 9 256 128) .bf16
  hb : Memref sig .tc .vmem (S3 2 1 128) .f32
  sv : Memref sig .tc .vmem (S4 2 5 1 128) .f32
  rs : Memref sig .tc .vmem (S3 2 1 128) .f32
  gm : Memref sig .tc .vmem (S2 256 256) .f32

/-- One level in one tower: the padded image has `Np` pixels in rows of `Wp`; the buffer `X` holds it between two margins
    of `Wp + 1` rows; `cnt` is the word of one over the number of entries of a group. -/
structure Unt (sig : RefSig) where
  (Np T Wp : ℕ)
  cnt : BitVec 32
  (ti l : ℕ)
  x : Memref sig .tc .vmem (S2 Np 256) .bf16
  mask : Memref sig .tc .vmem (S2 Np 1) .f32
  out : Memref sig .tc .vmem (S3 2 Np 128) .bf16
  X : Memref sig .tc .vmem (S2 T 256) .bf16
  hout : out.IsWhole
  hX : X.IsWhole
  hT : 2 * Wp + 2 + Np = T
  hNp : 0 < Np
  hWp2 : 2 ∣ Wp
  hNp2 : 2 ∣ Np + 2
  hti : ti < 2
  hl : l < 5

/-- One level of the pyramid: what its two units share, and a buffer for each tower. -/
structure Lev (sig : RefSig) where
  (Np T Wp : ℕ)
  cnt : BitVec 32
  l : ℕ
  x : Memref sig .tc .vmem (S2 Np 256) .bf16
  mask : Memref sig .tc .vmem (S2 Np 1) .f32
  out : Memref sig .tc .vmem (S3 2 Np 128) .bf16
  X : Fin 2 → Memref sig .tc .vmem (S2 T 256) .bf16
  hout : out.IsWhole
  hX : ∀ t, (X t).IsWhole
  hT : 2 * Wp + 2 + Np = T
  hNp : 0 < Np
  hWp2 : 2 ∣ Wp
  hNp2 : 2 ∣ Np + 2
  hl : l < 5

/-- The level's unit in tower `t`. -/
def Lev.unit (L : Lev sig) (t : Fin 2) : Unt sig :=
  ⟨L.Np, L.T, L.Wp, L.cnt, t.1, L.l, L.x, L.mask, L.out, L.X t, L.hout, L.hX t, L.hT, L.hNp, L.hWp2, L.hNp2, t.2, L.hl⟩

namespace Unt

variable (u : Unt sig) (P : Par sig)

theorem row_le {r : ℕ} (h : r ≤ 2 * u.Wp + 2) : r + u.Np ≤ u.T := by have := u.hT; omega

theorem row_le' : u.Wp + (u.Np + 2) ≤ u.T := by have := u.hT; omega

/-- Read the unit's image, shifted so that it starts at row `r` of the buffer. -/
def ldX (r : ℕ) (h : r ≤ 2 * u.Wp + 2) : Prog (TpuEff nD τ sig (Elt F) Λ .tc) (Vec F (S2 u.Np 256) .bf16) :=
  Prog.lift (.load u.X (Rect.unit (s := S2 u.T 256) ![r, 0] (S2 u.Np 256).size (inb2 (u.row_le h))).toLoadRect
    (View.loadsAt_vmem (pos2 u.hNp (by decide))))

/-- Replace the image in the buffer by `v`. -/
def put (v : FVec F (S2 u.Np 256) .bf16) : Prog (TpuEff nD τ sig (Elt F) Λ .tc) PUnit := do
  let _ ← u.ldX (u.Wp + 1) (by omega)
  storeSubelements u.X (Rect.unit (s := S2 u.T 256) ![u.Wp, 0] (S2 (u.Np + 2) 256).size (inb2 u.row_le'))
    (fun old => updateSlice old (shapeCast (S2 u.Np 256) v (casts_self _)) ![1, 0] slices_row)
    (View.loadsAt_vmem (pos2 (Nat.succ_pos _) (by decide)))
    (View.stores_vmem (pos2 (Nat.succ_pos _) (by decide)) (u.hX.storeExact_slice rfl _ (packed_rows u.row_le' u.hWp2 u.hNp2))
      (fun _ => rfl))

/-- Clear the buffer and put the level's image there. -/
def fill : Prog (TpuEff nD τ sig (Elt F) Λ .tc) PUnit := do
  let r : Rect (S2 u.T 256) := Rect.unit (s := S2 u.T 256) ![0, 0] (S2 u.T 256).size (inb2 (Nat.zero_add _).le)
  have hT : 0 < u.T := by have := u.hT; omega
  let _ ← Prog.lift (.load u.X r.toLoadRect (View.loadsAt_vmem (pos2 hT (by decide))))
  Prog.lift (.store u.X r (shapeCast (S2 u.T 256) (broadcast (S2 u.T 256) (Scalar.ofBits .bf16 0x0000#16)) (casts_self _))
    Finset.univ (View.stores_vmem (pos2 hT (by decide)) (u.hX.storeExact_slice rfl _ packed_all) (fun _ => rfl)) (.inl rfl))
  let x ← Prog.lift (.load u.x (Rect.unit (s := S2 u.Np 256) ![0, 0] (S2 u.Np 256).size (inb2 (Nat.zero_add _).le)).toLoadRect
    (View.loadsAt_vmem (pos2 u.hNp (by decide))))
  u.put (shapeCast (S2 u.Np 256) x (casts_self _))

/-- The `j`-th tap's matrix of a table of matrices, at the unit's tower. -/
def ldW {m n : ℕ} (w : Memref sig .tc .vmem (S4 2 m 256 n) .bf16) (hn : 0 < n) (j : ℕ) (h : j < m) :
    Prog (TpuEff nD τ sig (Elt F) Λ .tc) (Vec F (S4 1 1 256 n) .bf16) :=
  Prog.lift (.load w (Rect.unit (s := S4 2 m 256 n) ![u.ti, j, 0, 0] (S4 1 1 256 n).size (inb4 u.hti h)).toLoadRect
    (View.loadsAt_vmem (pos4 Nat.one_pos Nat.one_pos (by decide) hn)))

/-- One tap: the shifted image times the tap's matrix. -/
def tapV {n : ℕ} (x : Vec F (S2 u.Np 256) .bf16) (w : Vec F (S4 1 1 256 n) .bf16) : FVec F (S2 u.Np n) .f32 :=
  matmul (DotDims.plain u.Np 256 n) none x (shapeCast (S2 256 n) w casts43 : FVec F (S2 256 n) .bf16)
    (constant (S2 u.Np n) .f32 0x00000000#32)

/-- One tap read from the buffers. -/
def tap {m n : ℕ} (w : Memref sig .tc .vmem (S4 2 m 256 n) .bf16) (hn : 0 < n) (r : ℕ) (hr : r ≤ 2 * u.Wp + 2)
    (j : ℕ) (h : j < m) : Prog (TpuEff nD τ sig (Elt F) Λ .tc) (FVec F (S2 u.Np n) .f32) := do
  let x ← u.ldX r hr
  let w ← u.ldW w hn j h
  pure (u.tapV x w)

/-- The 3×3 convolution: nine taps, summed from left to right. -/
def conv {m n : ℕ} (w : Memref sig .tc .vmem (S4 2 m 256 n) .bf16) (hn : 0 < n) (base : ℕ) (h : base + 9 ≤ m) :
    Prog (TpuEff nD τ sig (Elt F) Λ .tc) (FVec F (S2 u.Np n) .f32) := do
  let a ← u.tap w hn 0 (by omega) base (by omega)
  let p ← u.tap w hn 1 (by omega) (base + 1) (by omega)
  have a := addf a p
  let p ← u.tap w hn 2 (by omega) (base + 2) (by omega)
  have a := addf a p
  let p ← u.tap w hn u.Wp (by omega) (base + 3) (by omega)
  have a := addf a p
  let p ← u.tap w hn (u.Wp + 1) (by omega) (base + 4) (by omega)
  have a := addf a p
  let p ← u.tap w hn (u.Wp + 2) (by omega) (base + 5) (by omega)
  have a := addf a p
  let p ← u.tap w hn (2 * u.Wp) (by omega) (base + 6) (by omega)
  have a := addf a p
  let p ← u.tap w hn (2 * u.Wp + 1) (by omega) (base + 7) (by omega)
  have a := addf a p
  let p ← u.tap w hn (2 * u.Wp + 2) (by omega) (base + 8) (by omega)
  pure (addf a p)

/-- The row of a table of per-layer vectors at the unit's tower and layer `i`. -/
def ldB (b : Memref sig .tc .vmem (S4 2 4 1 256) .f32) (i : ℕ) (h : i < 4) : Prog (TpuEff nD τ sig (Elt F) Λ .tc) (Vec F (S4 1 1 1 256) .f32) :=
  Prog.lift (.load b (Rect.unit (s := S4 2 4 1 256) ![u.ti, i, 0, 0] (S4 1 1 1 256).size (inb4 u.hti h)).toLoadRect
    (View.loadsAt_vmem (pos4 Nat.one_pos Nat.one_pos Nat.one_pos (by decide))))

/-- The masked sum of a convolution and its bias. -/
def gnY (acc : FVec F (S2 u.Np 256) .f32) (mask : Vec F (S2 u.Np 1) .f32) (b : Vec F (S4 1 1 1 256) .f32) :
    FVec F (S2 u.Np 256) .f32 :=
  mulf (addf acc (broadcastTo (S2 u.Np 256) (shapeCast (S2 1 256) b casts43 : FVec F (S2 1 256) .f32) bcast_row))
    (broadcastTo (S2 u.Np 256) mask bcast_col)

/-- The sum of every column, then of every group of columns. -/
def gnSum (gm : Vec F (S2 256 256) .f32) (y : FVec F (S2 u.Np 256) .f32) : FVec F (S2 1 256) .f32 :=
  matmul (DotDims.plain 1 256 256) none
    (shapeCast (S2 1 256) (multiReduction .add [0] ⟨1, ![256]⟩ y 0x00000000#32 reduces_rows (.inl rfl) rfl) casts12 : FVec F (S2 1 256) .f32)
    gm (constant (S2 1 256) .f32 0x00000000#32)

/-- The mean of every group. -/
def gnMean (gm : Vec F (S2 256 256) .f32) (y : FVec F (S2 u.Np 256) .f32) : FVec F (S2 1 256) .f32 :=
  mulf (u.gnSum gm y) (broadcast (S2 1 256) (Scalar.ofBits .f32 u.cnt))

/-- The scale: one over the deviation, times the gain. -/
def gnA (gm : Vec F (S2 256 256) .f32) (y : FVec F (S2 u.Np 256) .f32) (g : Vec F (S4 1 1 1 256) .f32) : FVec F (S2 1 256) .f32 :=
  mulf (rsqrt (addf (subf (u.gnMean gm (mulf y y)) (mulf (u.gnMean gm y) (u.gnMean gm y)))
      (broadcast (S2 1 256) (Scalar.ofBits .f32 0x3727C5AC#32))))
    (shapeCast (S2 1 256) g casts43)

/-- The normalised, rectified, masked image, rounded. -/
def gnV (gm : Vec F (S2 256 256) .f32) (acc : FVec F (S2 u.Np 256) .f32) (mask : Vec F (S2 u.Np 1) .f32)
    (b g e : Vec F (S4 1 1 1 256) .f32) : FVec F (S2 u.Np 256) .bf16 :=
  truncf .bf16 (mulf (maximumf
      (addf (mulf (u.gnY acc mask b) (broadcastTo (S2 u.Np 256) (u.gnA gm (u.gnY acc mask b) g) bcast_row))
        (broadcastTo (S2 u.Np 256) (subf (shapeCast (S2 1 256) e casts43 : FVec F (S2 1 256) .f32)
          (mulf (u.gnMean gm (u.gnY acc mask b)) (u.gnA gm (u.gnY acc mask b) g))) bcast_row))
      (broadcast (S2 u.Np 256) (Scalar.ofBits .f32 0x00000000#32)))
    (broadcastTo (S2 u.Np 256) mask bcast_col)) (by decide)

/-- Group normalisation and rectification of a convolution, put back into the unit's buffer. -/
def gn (gm : Vec F (S2 256 256) .f32) (acc : FVec F (S2 u.Np 256) .f32) (i : ℕ) (h : i < 4) : Prog (TpuEff nD τ sig (Elt F) Λ .tc) PUnit := do
  let mask ← Prog.lift (.load u.mask (Rect.unit (s := S2 u.Np 1) ![0, 0] (S2 u.Np 1).size (inb2 (Nat.zero_add _).le)).toLoadRect
    (View.loadsAt_vmem (pos2 u.hNp Nat.one_pos)))
  let b ← u.ldB P.bb i h
  let g ← u.ldB P.gg i h
  let e ← u.ldB P.be i h
  u.put (u.gnV gm acc mask b g e)

/-- What the head stores, from the last convolution and the head's bias, scale and rectified lanes. -/
def headV (acc : FVec F (S2 u.Np 128) .f32) (hb : Vec F (S3 1 1 128) .f32) (sv : Vec F (S4 1 1 1 128) .f32)
    (rs : Vec F (S3 1 1 128) .f32) : FVec F (S2 u.Np 128) .bf16 :=
  have v : FVec F (S2 u.Np 128) .f32 :=
    mulf (addf acc (broadcastTo (S2 u.Np 128) (shapeCast (S2 1 128) hb casts32 : FVec F (S2 1 128) .f32) bcast_row))
      (broadcastTo (S2 u.Np 128) (shapeCast (S2 1 128) sv casts43 : FVec F (S2 1 128) .f32) bcast_row)
  have r : FVec F (S2 1 128) .f32 := shapeCast (S2 1 128) rs casts32
  truncf .bf16 (addf
    (mulf (broadcastTo (S2 u.Np 128) r bcast_row) (maximumf v (broadcast (S2 u.Np 128) (Scalar.ofBits .f32 0x00000000#32))))
    (mulf (broadcastTo (S2 u.Np 128) (subf (broadcast (S2 1 128) (Scalar.ofBits .f32 0x3F800000#32)) r) bcast_row) v)) (by decide)

/-- The tower's row of a table with one row per tower. -/
def ldH (b : Memref sig .tc .vmem (S3 2 1 128) .f32) : Prog (TpuEff nD τ sig (Elt F) Λ .tc) (Vec F (S3 1 1 128) .f32) :=
  Prog.lift (.load b (Rect.unit (s := S3 2 1 128) ![u.ti, 0, 0] (S3 1 1 128).size (inb3 u.hti)).toLoadRect
    (View.loadsAt_vmem (pos3 Nat.one_pos Nat.one_pos (by decide))))

/-- The head: one more convolution, bias, scale, rectification of the lanes marked, stored in the result. -/
def head : Prog (TpuEff nD τ sig (Elt F) Λ .tc) PUnit := do
  let acc ← u.conv P.hw (by decide) 0 (by decide)
  let hb ← u.ldH P.hb
  let sv ← Prog.lift (.load P.sv (Rect.unit (s := S4 2 5 1 128) ![u.ti, u.l, 0, 0] (S4 1 1 1 128).size (inb4 u.hti u.hl)).toLoadRect
    (View.loadsAt_vmem (pos4 Nat.one_pos Nat.one_pos Nat.one_pos (by decide))))
  let rs ← u.ldH P.rs
  let r : Rect (S3 2 u.Np 128) := Rect.unit (s := S3 2 u.Np 128) ![u.ti, 0, 0] (S3 1 u.Np 128).size (inb3 u.hti)
  let _ ← Prog.lift (.load u.out r.toLoadRect (View.loadsAt_vmem (pos3 Nat.one_pos u.hNp (by decide))))
  Prog.lift (.store u.out r (shapeCast (S3 1 u.Np 128) (u.headV acc hb sv rs) casts23)
    Finset.univ (View.stores_vmem (pos3 Nat.one_pos u.hNp (by decide)) (u.hout.storeExact_slice rfl _ (packed_one u.hti)) (fun _ => rfl))
    (.inl rfl))

end Unt

/-! ## The whole body -/

/-- The unit of a level and a tower. -/
abbrev unt (Ls : Fin 5 → Lev sig) (j : Fin 2 × Fin 5) : Unt sig := (Ls j.2).unit j.1

/-- All units, tower by tower. -/
def order : List (Fin 2 × Fin 5) :=
  [(0, 0), (0, 1), (0, 2), (0, 3), (0, 4), (1, 0), (1, 1), (1, 2), (1, 3), (1, 4)]

/-- The steps after the first one: layer by layer, every unit. -/
def later : List ((Fin 2 × Fin 5) × Fin 4) :=
  [((0, 1), 0), ((0, 2), 0), ((0, 3), 0), ((0, 4), 0), ((1, 0), 0), ((1, 1), 0), ((1, 2), 0), ((1, 3), 0), ((1, 4), 0),
   ((0, 0), 1), ((0, 1), 1), ((0, 2), 1), ((0, 3), 1), ((0, 4), 1), ((1, 0), 1), ((1, 1), 1), ((1, 2), 1), ((1, 3), 1), ((1, 4), 1),
   ((0, 0), 2), ((0, 1), 2), ((0, 2), 2), ((0, 3), 2), ((0, 4), 2), ((1, 0), 2), ((1, 1), 2), ((1, 2), 2), ((1, 3), 2), ((1, 4), 2),
   ((0, 0), 3), ((0, 1), 3), ((0, 2), 3), ((0, 3), 3), ((0, 4), 3), ((1, 0), 3), ((1, 1), 3), ((1, 2), 3), ((1, 3), 3), ((1, 4), 3)]

/-- Run `f` on every unit in turn. -/
def each (f : Fin 2 × Fin 5 → Prog (TpuEff nD τ sig (Elt F) Λ .tc) PUnit) :
    List (Fin 2 × Fin 5) → Prog (TpuEff nD τ sig (Elt F) Λ .tc) PUnit
  | [] => pure ⟨⟩
  | j :: js => do f j; each f js

/-- The layers of all units, each convolution started before the previous unit's normalisation. -/
def pipe (P : Par sig) (gm : Vec F (S2 256 256) .f32) (Ls : Fin 5 → Lev sig) : List ((Fin 2 × Fin 5) × Fin 4) →
    (j : Fin 2 × Fin 5) → Fin 4 → FVec F (S2 (unt Ls j).Np 256) .f32 → Prog (TpuEff nD τ sig (Elt F) Λ .tc) PUnit
  | [], j, i, acc => (unt Ls j).gn P gm acc i.1 i.2
  | (j', i') :: rest, j, i, acc => do
    let acc' ← (unt Ls j').conv P.tw (by decide) (9 * i'.1) (by omega)
    (unt Ls j).gn P gm acc i.1 i.2
    pipe P gm Ls rest j' i' acc'

/-- The body: fill every buffer, run the layers of every unit, then the heads. -/
def body (P : Par sig) (Ls : Fin 5 → Lev sig) : Prog (TpuEff nD τ sig (Elt F) Λ .tc) PUnit := do
  let gm ← Prog.lift (.load P.gm (Rect.unit (s := S2 256 256) ![0, 0] (S2 256 256).size (inb2 (Nat.zero_add _).le)).toLoadRect
    (View.loadsAt_vmem (pos2 (by decide) (by decide))))
  each (fun j => (unt Ls j).fill) order
  let acc ← (unt Ls (0, 0)).conv P.tw (by decide) (9 * (0 : Fin 4).1) (by decide)
  pipe P gm Ls later (0, 0) 0 acc
  each (fun j => (unt Ls j).head P) order

end Cert.Proof.Blocks

end
-- ==== Proof.Triples.lean ====
/-
  What each block of the body does to the buffers: a rule per block, for any effect table and any contents.
-/
module

public import proofs.«01_k».proof.Proof.Blocks
public import Idealize.ShloMosaic.Lib.Claim
public import Idealize.ShloMosaic.Lib.Pipeline.FrameBody

@[expose] public section

noncomputable section

namespace Cert.Proof.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Contents after a store -/

/-- `X` with the rectangle `r` replaced by `w`. -/
def over {s : Shape} {α : Type} (X : s.Idx → α) (r : Rect s) (w : r.shape.Idx → α) : s.Idx → α :=
  open Classical in fun y => if h : ∃ j, r.emb j = y then w h.choose else X y

theorem over_emb {s : Shape} {α : Type} (X : s.Idx → α) (r : Rect s) (w : r.shape.Idx → α) (j : r.shape.Idx) :
    over X r w (r.emb j) = w j := by
  have h : ∃ i, r.emb i = r.emb j := ⟨j, rfl⟩
  unfold over
  rw [dif_pos h]
  exact congrArg w (r.emb.injective h.choose_spec)

theorem over_of_not {s : Shape} {α : Type} (X : s.Idx → α) (r : Rect s) (w : r.shape.Idx → α) {y : s.Idx} (h : ∀ j, r.emb j ≠ y) :
    over X r w y = X y :=
  dif_neg fun ⟨j, hj⟩ => h j hj

variable {nD : ℕ} {τ : Topo} {sig : RefSig} {Λ : Labels} {F : FTy → Type} [FloatOps F]

local notation "𝕄" => MT nD τ sig Unit (Elt F) ℕ (UR sig nD τ) ℕ

variable (D : Defs nD τ sig (Elt F) Λ) (c : Dev nD)

/-- What `p` needs to end in `Q`. -/
abbrev wps {α : Type} (p : Prog (TpuEff nD τ sig (Elt F) Λ .tc) α) (Q : α → sProp 𝕄) : sProp 𝕄 :=
  wp frame (wpE D Variants.none (c : Thread nD τ) none) Set.univ p Q

/-- Core `c` holds the buffer `m` at contents `X`. -/
abbrev own {s : Shape} {e : EltTy} (m : Memref sig .tc .vmem s e) (X : s.Idx → Elt F e) : sProp 𝕄 :=
  owns (c : Thread nD τ) m fullShare X

theorem wps_bind {α β : Type} (p : Prog (TpuEff nD τ sig (Elt F) Λ .tc) α) (k : α → Prog (TpuEff nD τ sig (Elt F) Λ .tc) β)
    (Q : β → sProp 𝕄) : wps D c (p >>= k) Q = wps D c p fun a => wps D c (k a) Q := wp_bind ..

theorem wps_pure {α : Type} (a : α) (Q : α → sProp 𝕄) : Q a ⊢ wps D c (pure a) Q := le_wp_ret _ _ _ _ _

/-- A load reads the contents. -/
theorem wps_load {s : Shape} {e : EltTy} {m : Memref sig .tc .vmem s e} {r : Rect s} {hl : m.view.LoadsAt r.toLoadRect}
    (X : s.Idx → Elt F e) (Q : (r.shape.Idx → Elt F e) → sProp 𝕄) :
    iprop(own c m X ∗ (own c m X -∗ Q (View.ld X r))) ⊢ wps D c (Prog.lift (.load m r.toLoadRect hl)) Q := by
  unfold own owns
  iintro ⟨⟨%f, %hf, H⟩, Hk⟩
  subst hf
  rw [← View.readAt_eq_ld]
  iapply (wp_load (defs := D) Variants.none (c : Thread nD τ) none Set.univ (m := m) (r := r.toLoadRect) (hl := hl)
    (S := m.view.set) (f := f) (Finset.map_subset_map.mpr (Finset.subset_univ _))) $$ H
  iintro H
  iapply (le_wp_ret _ _ _ _ _)
  iapply Hk
  iexists f
  isplitr
  · ipureintro; rfl
  · iexact H

/-- A store replaces the rectangle. -/
theorem wps_store {s : Shape} {e : EltTy} {m : Memref sig .tc .vmem s e} {r : Rect s} {w : r.shape.Idx → Elt F e}
    {hs : (m.access r).Stores Finset.univ} {hm : Finset.univ = Finset.univ ∨ ∀ a, r.stride a = 1}
    (X : s.Idx → Elt F e) (Q : PUnit → sProp 𝕄) :
    iprop(own c m X ∗ (own c m (over X r w) -∗ Q ⟨⟩)) ⊢ wps D c (Prog.lift (.store m r w Finset.univ hs hm)) Q := by
  unfold own owns
  iintro ⟨⟨%f, %hf, H⟩, Hk⟩
  subst hf
  iapply (wp_store (defs := D) Variants.none (c : Thread nD τ) none Set.univ (m := m) (r := r) (w := w) (hx := hs) (hm := hm)
    (S := m.view.set) (f := f) (View.set_slice_subset ..)) $$ H
  iintro H
  iapply (le_wp_ret _ _ _ _ _)
  iapply Hk
  iexists (m.access r).write (Elt F) f w Finset.univ
  isplitr
  · ipureintro
    funext y
    by_cases hy : ∃ j, r.emb j = y
    · obtain ⟨j, rfl⟩ := hy
      rw [over_emb]
      exact View.read_slice_write_emb r f w (Finset.mem_univ j)
    · rw [over_of_not _ _ _ fun j hj => hy ⟨j, hj⟩]
      exact View.read_slice_write_of_not_mem r f w _ fun h => hy (by
        obtain ⟨j, -, hj⟩ := Finset.mem_map.mp h; exact ⟨j, hj⟩)
  · iexact H

/-- A load of a rectangle followed by a store of it. -/
theorem wps_sub {s : Shape} {e : EltTy} {m : Memref sig .tc .vmem s e} {r : Rect s} {w : (r.shape.Idx → Elt F e) → (r.shape.Idx → Elt F e)}
    {hl : m.view.LoadsAt r.toLoadRect} {hs : (m.access r).Stores Finset.univ}
    (X : s.Idx → Elt F e) (Q : PUnit → sProp 𝕄) :
    iprop(own c m X ∗ (own c m (over X r (w (View.ld X r))) -∗ Q ⟨⟩)) ⊢ wps D c (storeSubelements m r w hl hs) Q := by
  have h : storeSubelements m r w hl hs = (Prog.lift (.load m r.toLoadRect hl) >>= fun old =>
    Prog.lift (.store m r (w old) Finset.univ hs (.inl rfl)) : Prog (TpuEff nD τ sig (Elt F) Λ .tc) PUnit) := rfl
  rw [h, wps_bind]
  iintro ⟨H, Hk⟩
  iapply (wps_load D c X _)
  isplitl [H]; · iexact H
  iintro H
  iapply (wps_store D c X _)
  isplitl [H]; · iexact H
  iexact Hk

/-! ## The blocks -/

namespace Unt

variable (u : Unt sig) (P : Par sig)

/-- The image in the buffer, shifted to start at row `r`. -/
abbrev at_ (X : (S2 u.T 256).Idx → Elt F .bf16) (r : ℕ) (h : r ≤ 2 * u.Wp + 2) : Vec F (S2 u.Np 256) .bf16 :=
  View.ld X (Rect.unit (s := S2 u.T 256) ![r, 0] (S2 u.Np 256).size (inb2 (u.row_le h)))

theorem wps_ldX (r : ℕ) (h : r ≤ 2 * u.Wp + 2) (X : (S2 u.T 256).Idx → Elt F .bf16) (Q : Vec F (S2 u.Np 256) .bf16 → sProp 𝕄) :
    iprop(own c u.X X ∗ (own c u.X X -∗ Q (u.at_ X r h))) ⊢ wps D c (u.ldX r h) Q := by
  unfold ldX
  exact wps_load D c (r := Rect.unit (s := S2 u.T 256) ![r, 0] (S2 u.Np 256).size (inb2 (u.row_le h))) X Q

/-- The buffer after its image is replaced by `v`. -/
def putOf (X : (S2 u.T 256).Idx → Elt F .bf16) (v : FVec F (S2 u.Np 256) .bf16) : (S2 u.T 256).Idx → Elt F .bf16 :=
  over X (Rect.unit (s := S2 u.T 256) ![u.Wp, 0] (S2 (u.Np + 2) 256).size (inb2 u.row_le'))
    (updateSlice (View.ld X (Rect.unit (s := S2 u.T 256) ![u.Wp, 0] (S2 (u.Np + 2) 256).size (inb2 u.row_le')) : Vec F (S2 (u.Np + 2) 256) .bf16)
      (shapeCast (S2 u.Np 256) v (casts_self _)) ![1, 0] slices_row)

theorem wps_put (v : FVec F (S2 u.Np 256) .bf16) (X : (S2 u.T 256).Idx → Elt F .bf16) (Q : PUnit → sProp 𝕄) :
    iprop(own c u.X X ∗ (own c u.X (u.putOf X v) -∗ Q ⟨⟩)) ⊢ wps D c (u.put v) Q := by
  unfold put putOf
  rw [wps_bind]
  iintro ⟨H, Hk⟩
  iapply (u.wps_ldX D c _ _ X _)
  isplitl [H]; · iexact H
  iintro H
  iapply (wps_sub D c X _)
  isplitl [H]; · iexact H
  iexact Hk

/-- The buffer cleared. -/
def zeroed : (S2 u.T 256).Idx → Elt F .bf16 :=
  (shapeCast (S2 u.T 256) (broadcast (S2 u.T 256) (Scalar.ofBits (F := F) .bf16 0x0000#16)) (casts_self _))

/-- The buffer after the level's image is put in it. -/
def fillOf (x : (S2 u.Np 256).Idx → Elt F .bf16) : (S2 u.T 256).Idx → Elt F .bf16 :=
  u.putOf u.zeroed (shapeCast (S2 u.Np 256)
    (View.ld x (Rect.unit (s := S2 u.Np 256) ![0, 0] (S2 u.Np 256).size (inb2 (Nat.zero_add _).le)) : Vec F (S2 u.Np 256) .bf16) (casts_self _))

theorem over_all {n a : ℕ} {α : Type} (X w : (S2 n a).Idx → α) :
    over X (Rect.unit (s := S2 n a) ![0, 0] (S2 n a).size (inb2 (Nat.zero_add n).le)) w = w := by
  funext y
  have h : (Rect.unit (s := S2 n a) ![0, 0] (S2 n a).size (inb2 (Nat.zero_add n).le)).emb y = y := by
    funext b; apply Fin.ext; fin_cases b <;> simp [Rect.emb_apply]
  exact (congrArg _ h.symm).trans (over_emb X (Rect.unit (s := S2 n a) ![0, 0] (S2 n a).size (inb2 (Nat.zero_add n).le)) w y)

theorem wps_fill (x : (S2 u.Np 256).Idx → Elt F .bf16) (X : (S2 u.T 256).Idx → Elt F .bf16) (Q : PUnit → sProp 𝕄) :
    iprop(own c u.x x ∗ own c u.X X ∗ (own c u.x x -∗ own c u.X (u.fillOf x) -∗ Q ⟨⟩)) ⊢ wps D c u.fill Q := by
  unfold fill fillOf
  iintro ⟨Hx, H, Hk⟩
  rw [wps_bind]
  iapply (wps_load D c X _)
  isplitl [H]; · iexact H
  iintro H
  rw [wps_bind]
  iapply (wps_store D c X _)
  isplitl [H]; · iexact H
  rw [over_all]
  iintro H
  rw [wps_bind]
  iapply (wps_load D c x _)
  isplitl [Hx]; · iexact Hx
  iintro Hx
  iapply (u.wps_put D c)
  isplitl [H]; · iexact H
  iapply Hk
  iexact Hx

/-- A tap's matrix of a table. -/
abbrev wt {m n : ℕ} (w : (S4 2 m 256 n).Idx → Elt F .bf16) (j : ℕ) (h : j < m) : Vec F (S4 1 1 256 n) .bf16 :=
  View.ld w (Rect.unit (s := S4 2 m 256 n) ![u.ti, j, 0, 0] (S4 1 1 256 n).size (inb4 u.hti h))

theorem wps_tap {m n : ℕ} (w : Memref sig .tc .vmem (S4 2 m 256 n) .bf16) (hn : 0 < n) (r : ℕ) (hr : r ≤ 2 * u.Wp + 2)
    (j : ℕ) (h : j < m) (X : (S2 u.T 256).Idx → Elt F .bf16) (W : (S4 2 m 256 n).Idx → Elt F .bf16)
    (Q : FVec F (S2 u.Np n) .f32 → sProp 𝕄) :
    iprop((own c u.X X ∗ own c w W) ∗ ((own c u.X X ∗ own c w W) -∗ Q (u.tapV (u.at_ X r hr) (u.wt W j h)))) ⊢ wps D c (u.tap w hn r hr j h) Q := by
  unfold tap
  iintro ⟨⟨HX, HW⟩, Hk⟩
  rw [wps_bind]
  iapply (u.wps_ldX D c _ _ X _)
  isplitl [HX]; · iexact HX
  iintro HX
  rw [wps_bind]
  unfold ldW
  iapply (wps_load D c W _)
  isplitl [HW]; · iexact HW
  iintro HW
  iapply (wps_pure D c)
  iapply Hk
  isplitl [HX]; · iexact HX
  iexact HW

/-- One tap of a convolution, from the buffers' contents. -/
abbrev tapOf {m n : ℕ} (X : (S2 u.T 256).Idx → Elt F .bf16) (W : (S4 2 m 256 n).Idx → Elt F .bf16) (r : ℕ) (hr : r ≤ 2 * u.Wp + 2)
    (j : ℕ) (h : j < m) : FVec F (S2 u.Np n) .f32 := u.tapV (u.at_ X r hr) (u.wt W j h)

/-- The convolution, from the buffers' contents. -/
def convOf {m n : ℕ} (X : (S2 u.T 256).Idx → Elt F .bf16) (W : (S4 2 m 256 n).Idx → Elt F .bf16) (base : ℕ) (h : base + 9 ≤ m) :
    FVec F (S2 u.Np n) .f32 :=
  addf (addf (addf (addf (addf (addf (addf (addf
    (u.tapOf X W 0 (by omega) base (by omega))
    (u.tapOf X W 1 (by omega) (base + 1) (by omega)))
    (u.tapOf X W 2 (by omega) (base + 2) (by omega)))
    (u.tapOf X W u.Wp (by omega) (base + 3) (by omega)))
    (u.tapOf X W (u.Wp + 1) (by omega) (base + 4) (by omega)))
    (u.tapOf X W (u.Wp + 2) (by omega) (base + 5) (by omega)))
    (u.tapOf X W (2 * u.Wp) (by omega) (base + 6) (by omega)))
    (u.tapOf X W (2 * u.Wp + 1) (by omega) (base + 7) (by omega)))
    (u.tapOf X W (2 * u.Wp + 2) (by omega) (base + 8) (by omega))

theorem wps_conv {m n : ℕ} (w : Memref sig .tc .vmem (S4 2 m 256 n) .bf16) (hn : 0 < n) (base : ℕ) (h : base + 9 ≤ m)
    (X : (S2 u.T 256).Idx → Elt F .bf16) (W : (S4 2 m 256 n).Idx → Elt F .bf16)
    (Q : FVec F (S2 u.Np n) .f32 → sProp 𝕄) :
    iprop((own c u.X X ∗ own c w W) ∗ ((own c u.X X ∗ own c w W) -∗ Q (u.convOf X W base h))) ⊢ wps D c (u.conv w hn base h) Q := by
  unfold conv convOf
  iintro ⟨H, Hk⟩
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  rw [wps_bind]
  iapply (u.wps_tap D c w hn _ _ _ _ X W _)
  isplitl [H]; · iexact H
  iintro H
  iapply (wps_pure D c)
  iapply Hk
  iexact H

end Unt

/-- The contents of the parameters. -/
structure ParV (F : FTy → Type) where
  tw : (S4 2 36 256 256).Idx → Elt F .bf16
  bb : (S4 2 4 1 256).Idx → Elt F .f32
  gg : (S4 2 4 1 256).Idx → Elt F .f32
  be : (S4 2 4 1 256).Idx → Elt F .f32
  hw : (S4 2 9 256 128).Idx → Elt F .bf16
  hb : (S3 2 1 128).Idx → Elt F .f32
  sv : (S4 2 5 1 128).Idx → Elt F .f32
  rs : (S3 2 1 128).Idx → Elt F .f32
  gm : (S2 256 256).Idx → Elt F .f32

/-- Core `c` holds every parameter at its contents. -/
def ownPar (P : Par sig) (V : ParV F) : sProp 𝕄 :=
  iprop(own c P.tw V.tw ∗ own c P.bb V.bb ∗ own c P.gg V.gg ∗ own c P.be V.be ∗ own c P.hw V.hw ∗ own c P.hb V.hb
    ∗ own c P.sv V.sv ∗ own c P.rs V.rs ∗ own c P.gm V.gm)

namespace Unt

variable (u : Unt sig) (P : Par sig) (V : ParV F)

/-- A row of a table of per-layer vectors. -/
abbrev bt (b : (S4 2 4 1 256).Idx → Elt F .f32) (i : ℕ) (h : i < 4) : Vec F (S4 1 1 1 256) .f32 :=
  View.ld b (Rect.unit (s := S4 2 4 1 256) ![u.ti, i, 0, 0] (S4 1 1 1 256).size (inb4 u.hti h))

/-- A row of a table with one row per tower. -/
abbrev ht (b : (S3 2 1 128).Idx → Elt F .f32) : Vec F (S3 1 1 128) .f32 :=
  View.ld b (Rect.unit (s := S3 2 1 128) ![u.ti, 0, 0] (S3 1 1 128).size (inb3 u.hti))

/-- A level's row of the table of scales. -/
abbrev st (b : (S4 2 5 1 128).Idx → Elt F .f32) : Vec F (S4 1 1 1 128) .f32 :=
  View.ld b (Rect.unit (s := S4 2 5 1 128) ![u.ti, u.l, 0, 0] (S4 1 1 1 128).size (inb4 u.hti u.hl))

/-- The normalised image, from the buffers' contents. -/
def gnOf (gm : Vec F (S2 256 256) .f32) (acc : FVec F (S2 u.Np 256) .f32) (mask : (S2 u.Np 1).Idx → Elt F .f32) (i : ℕ) (h : i < 4) :
    FVec F (S2 u.Np 256) .bf16 :=
  u.gnV gm acc (View.ld mask (Rect.unit (s := S2 u.Np 1) ![0, 0] (S2 u.Np 1).size (inb2 (Nat.zero_add _).le)))
    (u.bt V.bb i h) (u.bt V.gg i h) (u.bt V.be i h)

theorem wps_gn (gm : Vec F (S2 256 256) .f32) (acc : FVec F (S2 u.Np 256) .f32) (i : ℕ) (h : i < 4)
    (mask : (S2 u.Np 1).Idx → Elt F .f32) (X : (S2 u.T 256).Idx → Elt F .bf16) (Q : PUnit → sProp 𝕄) :
    iprop(ownPar c P V ∗ own c u.mask mask ∗ own c u.X X
      ∗ (ownPar c P V -∗ own c u.mask mask -∗ own c u.X (u.putOf X (u.gnOf V gm acc mask i h)) -∗ Q ⟨⟩)) ⊢ wps D c (u.gn P gm acc i h) Q := by
  unfold gn gnOf ldB ownPar
  iintro ⟨⟨H1, H2, H3, H4, H5⟩, Hm, HX, Hk⟩
  rw [wps_bind]
  iapply (wps_load D c mask _)
  isplitl [Hm]; · iexact Hm
  iintro Hm
  rw [wps_bind]
  iapply (wps_load D c V.bb _)
  isplitl [H2]; · iexact H2
  iintro H2
  rw [wps_bind]
  iapply (wps_load D c V.gg _)
  isplitl [H3]; · iexact H3
  iintro H3
  rw [wps_bind]
  iapply (wps_load D c V.be _)
  isplitl [H4]; · iexact H4
  iintro H4
  iapply (u.wps_put D c)
  isplitl [HX]; · iexact HX
  iapply Hk $$ [H1 H2 H3 H4 H5]
  · isplitl [H1]; · iexact H1
    isplitl [H2]; · iexact H2
    isplitl [H3]; · iexact H3
    isplitl [H4]; · iexact H4
    iexact H5
  · iexact Hm

/-- What the head stores, from the buffers' contents. -/
def headOf (X : (S2 u.T 256).Idx → Elt F .bf16) : FVec F (S3 1 u.Np 128) .bf16 :=
  shapeCast (S3 1 u.Np 128) (u.headV (u.convOf X V.hw 0 (by decide)) (u.ht V.hb) (u.st V.sv) (u.ht V.rs)) casts23

/-- The result after the head's store. -/
def stored (X : (S2 u.T 256).Idx → Elt F .bf16) (O : (S3 2 u.Np 128).Idx → Elt F .bf16) : (S3 2 u.Np 128).Idx → Elt F .bf16 :=
  over O (Rect.unit (s := S3 2 u.Np 128) ![u.ti, 0, 0] (S3 1 u.Np 128).size (inb3 u.hti)) (u.headOf V X)

theorem wps_head (X : (S2 u.T 256).Idx → Elt F .bf16) (O : (S3 2 u.Np 128).Idx → Elt F .bf16) (Q : PUnit → sProp 𝕄) :
    iprop(ownPar c P V ∗ own c u.X X ∗ own c u.out O
      ∗ (ownPar c P V -∗ own c u.X X -∗ own c u.out (u.stored V X O) -∗ Q ⟨⟩)) ⊢ wps D c (u.head P) Q := by
  unfold head stored headOf ldH ownPar
  iintro ⟨⟨H1, H2, H3, H4, H5, H6, H7, H8, H9⟩, HX, HO, Hk⟩
  rw [wps_bind]
  iapply (u.wps_conv D c P.hw _ _ _ X V.hw _)
  isplitl [HX H5]; · isplitl [HX]; · iexact HX
                     iexact H5
  iintro ⟨HX, H5⟩
  rw [wps_bind]
  iapply (wps_load D c V.hb _)
  isplitl [H6]; · iexact H6
  iintro H6
  rw [wps_bind]
  iapply (wps_load D c V.sv _)
  isplitl [H7]; · iexact H7
  iintro H7
  rw [wps_bind]
  iapply (wps_load D c V.rs _)
  isplitl [H8]; · iexact H8
  iintro H8
  rw [wps_bind]
  iapply (wps_load D c O _)
  isplitl [HO]; · iexact HO
  iintro HO
  iapply (wps_store D c O _)
  isplitl [HO]; · iexact HO
  iapply Hk $$ [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact HX

end Unt

end Cert.Proof.Blocks

end
-- ==== Proof.Body.lean ====
/-
  What the body does to the buffers: every unit's buffer and every level's result, from the contents at entry.
-/
module

public import proofs.«01_k».proof.Proof.Triples

@[expose] public section

noncomputable section

namespace Cert.Proof.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (UR sig nD τ) ℕ

/-- One member of a family of assertions is taken out and may be put back changed. -/
theorem bigSep_acc {I : Type} [Fintype I] [DecidableEq I] (Φ Ψ : I → sProp 𝕄) (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr fun j hj => h j (Finset.ne_of_mem_erase hj)]
  iintro ⟨H, Hr⟩
  isplitl [H]; · iexact H
  iintro H
  isplitl [H]; · iexact H
  iexact Hr

variable (D : Defs nD τ sig (Elt F) Λ) (c : Dev nD)

/-- Running `f` on every unit changes a resource step by step. -/
theorem wps_each {σ : Type} (R : σ → sProp 𝕄) (step : σ → Fin 2 × Fin 5 → σ) (f : Fin 2 × Fin 5 → Prog (TpuEff nD τ sig (Elt F) Λ .tc) PUnit)
    (h : ∀ s j (Q : PUnit → sProp 𝕄), iprop(R s ∗ (R (step s j) -∗ Q ⟨⟩)) ⊢ wps D c (f j) Q) :
    ∀ (js : List (Fin 2 × Fin 5)) (s : σ) (Q : PUnit → sProp 𝕄), iprop(R s ∗ (R (js.foldl step s) -∗ Q ⟨⟩)) ⊢ wps D c (each f js) Q
  | [], s, Q => by
    unfold each
    iintro ⟨H, Hk⟩
    rw [List.foldl_nil]
    iapply (wps_pure D c)
    iapply Hk
    iexact H
  | j :: js, s, Q => by
    unfold each
    rw [wps_bind]
    iintro ⟨H, Hk⟩
    iapply (h s j)
    isplitl [H]; · iexact H
    iintro H
    iapply (wps_each R step f h js (step s j) Q)
    isplitl [H]; · iexact H
    iexact Hk

variable (P : Par sig) (V : ParV F) (Ls : Fin 5 → Lev sig)

/-- The contents of the levels' images. -/
abbrev Imgs (F : FTy → Type) (Ls : Fin 5 → Lev sig) : Type := (l : Fin 5) → (S2 (Ls l).Np 256).Idx → Elt F .bf16
/-- The contents of the levels' masks. -/
abbrev Masks (F : FTy → Type) (Ls : Fin 5 → Lev sig) : Type := (l : Fin 5) → (S2 (Ls l).Np 1).Idx → Elt F .f32
/-- The contents of the levels' results. -/
abbrev Outs (F : FTy → Type) (Ls : Fin 5 → Lev sig) : Type := (l : Fin 5) → (S3 2 (Ls l).Np 128).Idx → Elt F .bf16
/-- The contents of the units' buffers. -/
abbrev Bufs (F : FTy → Type) (Ls : Fin 5 → Lev sig) : Type := (j : Fin 2 × Fin 5) → (S2 (unt Ls j).T 256).Idx → Elt F .bf16

def ownImgs (x : Imgs F Ls) : sProp 𝕄 := bigSep Finset.univ fun l => own c (Ls l).x (x l)
def ownMasks (x : Masks F Ls) : sProp 𝕄 := bigSep Finset.univ fun l => own c (Ls l).mask (x l)
def ownOuts (x : Outs F Ls) : sProp 𝕄 := bigSep Finset.univ fun l => own c (Ls l).out (x l)
def ownBufs (x : Bufs F Ls) : sProp 𝕄 := bigSep Finset.univ fun j => own c (unt Ls j).X (x j)

theorem ownImgs_at (x : Imgs F Ls) (l : Fin 5) :
    (ownImgs c Ls x : sProp 𝕄) ⊢ iprop(own c (Ls l).x (x l) ∗ (own c (Ls l).x (x l) -∗ ownImgs c Ls x)) :=
  bigSep_acc _ _ l fun _ _ => rfl

theorem ownMasks_at (x : Masks F Ls) (l : Fin 5) :
    (ownMasks c Ls x : sProp 𝕄) ⊢ iprop(own c (Ls l).mask (x l) ∗ (own c (Ls l).mask (x l) -∗ ownMasks c Ls x)) :=
  bigSep_acc _ _ l fun _ _ => rfl

theorem ownOuts_at (x : Outs F Ls) (l : Fin 5) (y : (S3 2 (Ls l).Np 128).Idx → Elt F .bf16) :
    (ownOuts c Ls x : sProp 𝕄) ⊢ iprop(own c (Ls l).out (x l) ∗ (own c (Ls l).out y -∗ ownOuts c Ls (Function.update x l y))) := by
  have h := bigSep_acc (F := F) (nD := nD) (τ := τ) (sig := sig) (fun l => own c (Ls l).out (x l))
    (fun l' => own c (Ls l').out (Function.update x l y l')) l
    (fun l' h => by rw [Function.update_of_ne h])
  rwa [Function.update_self] at h

theorem ownBufs_at (x : Bufs F Ls) (j : Fin 2 × Fin 5) (y : (S2 (unt Ls j).T 256).Idx → Elt F .bf16) :
    (ownBufs c Ls x : sProp 𝕄) ⊢ iprop(own c (unt Ls j).X (x j) ∗ (own c (unt Ls j).X y -∗ ownBufs c Ls (Function.update x j y))) := by
  have h := bigSep_acc (F := F) (nD := nD) (τ := τ) (sig := sig) (fun j => own c (unt Ls j).X (x j))
    (fun j' => own c (unt Ls j').X (Function.update x j y j')) j
    (fun j' h => by rw [Function.update_of_ne h])
  rwa [Function.update_self] at h

theorem ownBufs_same (x : Bufs F Ls) (j : Fin 2 × Fin 5) :
    (ownBufs c Ls x : sProp 𝕄) ⊢ iprop(own c (unt Ls j).X (x j) ∗ (own c (unt Ls j).X (x j) -∗ ownBufs c Ls x)) :=
  bigSep_acc _ _ j fun _ _ => rfl

/-- The buffers after the unit's image is put in. -/
def fillStep (x : Imgs F Ls) (X : Bufs F Ls) (j : Fin 2 × Fin 5) : Bufs F Ls :=
  Function.update X j ((unt Ls j).fillOf (x j.2))

theorem wps_fills (x : Imgs F Ls) (X : Bufs F Ls) (Q : PUnit → sProp 𝕄) :
    iprop((ownImgs c Ls x ∗ ownBufs c Ls X) ∗ ((ownImgs c Ls x ∗ ownBufs c Ls (order.foldl (fillStep Ls x) X)) -∗ Q ⟨⟩))
      ⊢ wps D c (each (fun j => (unt Ls j).fill) order) Q :=
  wps_each D c (fun X => iprop(ownImgs c Ls x ∗ ownBufs c Ls X)) (fillStep Ls x) _ (fun X j Q => by
    iintro ⟨⟨Hx, HX⟩, Hk⟩
    icases (ownImgs_at c Ls x j.2) $$ Hx with ⟨Hx, Hx'⟩
    icases (ownBufs_at c Ls X j ((unt Ls j).fillOf (x j.2))) $$ HX with ⟨HX, HX'⟩
    iapply ((unt Ls j).wps_fill D c (x j.2) (X j) Q)
    isplitl [Hx]; · iexact Hx
    isplitl [HX]; · iexact HX
    iintro Hx HX
    iapply Hk
    isplitl [Hx Hx']
    · iapply Hx'; iexact Hx
    · unfold fillStep; iapply HX'; iexact HX) order X Q

/-- The results after the unit's head. -/
def headStep (X : Bufs F Ls) (O : Outs F Ls) (j : Fin 2 × Fin 5) : Outs F Ls :=
  Function.update O j.2 ((unt Ls j).stored V (X j) (O j.2))

theorem wps_heads (X : Bufs F Ls) (O : Outs F Ls) (Q : PUnit → sProp 𝕄) :
    iprop((ownPar c P V ∗ ownBufs c Ls X ∗ ownOuts c Ls O)
        ∗ ((ownPar c P V ∗ ownBufs c Ls X ∗ ownOuts c Ls (order.foldl (headStep V Ls X) O)) -∗ Q ⟨⟩))
      ⊢ wps D c (each (fun j => (unt Ls j).head P) order) Q :=
  wps_each D c (fun O => iprop(ownPar c P V ∗ ownBufs c Ls X ∗ ownOuts c Ls O)) (headStep V Ls X) _ (fun O j Q => by
    iintro ⟨⟨HP, HX, HO⟩, Hk⟩
    icases (ownBufs_same c Ls X j) $$ HX with ⟨HX, HX'⟩
    icases (ownOuts_at c Ls O j.2 ((unt Ls j).stored V (X j) (O j.2))) $$ HO with ⟨HO, HO'⟩
    iapply ((unt Ls j).wps_head D c P V (X j) (O j.2) Q)
    isplitl [HP]; · iexact HP
    isplitl [HX]; · iexact HX
    isplitl [HO]; · iexact HO
    iintro HP HX HO
    iapply Hk
    isplitl [HP]; · iexact HP
    isplitl [HX HX']
    · iapply HX'; iexact HX
    · unfold headStep; iapply HO'; iexact HO) order O Q

/-- The convolution of a unit's layer. -/
def convAt (X : Bufs F Ls) (j : Fin 2 × Fin 5) (i : Fin 4) : FVec F (S2 (unt Ls j).Np 256) .f32 :=
  (unt Ls j).convOf (X j) V.tw (9 * i.1) (by omega)

/-- The buffers after a unit's normalisation of `acc`. -/
def gnStep (M : Masks F Ls) (X : Bufs F Ls) (j : Fin 2 × Fin 5) (i : Fin 4) (acc : FVec F (S2 (unt Ls j).Np 256) .f32) : Bufs F Ls :=
  Function.update X j ((unt Ls j).putOf (X j) ((unt Ls j).gnOf V
    (View.ld V.gm (Rect.unit (s := S2 256 256) ![0, 0] (S2 256 256).size (inb2 (Nat.zero_add _).le))) acc (M j.2) i.1 i.2))

/-- The buffers after the steps, in the body's order. -/
def runPipe (M : Masks F Ls) : List ((Fin 2 × Fin 5) × Fin 4) → (j : Fin 2 × Fin 5) → Fin 4 →
    FVec F (S2 (unt Ls j).Np 256) .f32 → Bufs F Ls → Bufs F Ls
  | [], j, i, acc, X => gnStep V Ls M X j i acc
  | (j', i') :: rest, j, i, acc, X => runPipe M rest j' i' (convAt V Ls X j' i') (gnStep V Ls M X j i acc)

theorem ownPar_tw : (ownPar c P V : sProp 𝕄) ⊢ iprop(own c P.tw V.tw ∗ (own c P.tw V.tw -∗ ownPar c P V)) := by
  unfold ownPar
  iintro ⟨H, Hr⟩
  isplitl [H]; · iexact H
  iintro H
  isplitl [H]; · iexact H
  iexact Hr

theorem ownPar_gm : (ownPar c P V : sProp 𝕄) ⊢ iprop(own c P.gm V.gm ∗ (own c P.gm V.gm -∗ ownPar c P V)) := by
  unfold ownPar
  iintro ⟨H1, H2, H3, H4, H5, H6, H7, H8, H9⟩
  isplitl [H9]; · iexact H9
  iintro H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem wps_convAt (X : Bufs F Ls) (j : Fin 2 × Fin 5) (i : Fin 4) (Q : FVec F (S2 (unt Ls j).Np 256) .f32 → sProp 𝕄) :
    iprop((ownPar c P V ∗ ownBufs c Ls X) ∗ ((ownPar c P V ∗ ownBufs c Ls X) -∗ Q (convAt V Ls X j i)))
      ⊢ wps D c ((unt Ls j).conv P.tw (by decide) (9 * i.1) (by omega)) Q := by
  iintro ⟨⟨HP, HX⟩, Hk⟩
  icases (ownBufs_same c Ls X j) $$ HX with ⟨HX, HX'⟩
  icases (ownPar_tw c P V) $$ HP with ⟨HP, HP'⟩
  iapply ((unt Ls j).wps_conv D c P.tw _ _ _ (X j) V.tw Q)
  isplitl [HX HP]
  · isplitl [HX]; · iexact HX
    iexact HP
  iintro ⟨HX, HP⟩
  unfold convAt
  iapply Hk
  isplitl [HP HP']
  · iapply HP'; iexact HP
  · iapply HX'; iexact HX

theorem wps_gnStep (M : Masks F Ls) (X : Bufs F Ls) (j : Fin 2 × Fin 5) (i : Fin 4) (acc : FVec F (S2 (unt Ls j).Np 256) .f32) (Q : PUnit → sProp 𝕄) :
    iprop((ownPar c P V ∗ ownMasks c Ls M ∗ ownBufs c Ls X)
        ∗ ((ownPar c P V ∗ ownMasks c Ls M ∗ ownBufs c Ls (gnStep V Ls M X j i acc)) -∗ Q ⟨⟩))
      ⊢ wps D c ((unt Ls j).gn P (View.ld V.gm (Rect.unit (s := S2 256 256) ![0, 0] (S2 256 256).size (inb2 (Nat.zero_add _).le))) acc i.1 i.2) Q := by
  iintro ⟨⟨HP, HM, HX⟩, Hk⟩
  icases (ownBufs_at c Ls X j ((unt Ls j).putOf (X j) ((unt Ls j).gnOf V
    (View.ld V.gm (Rect.unit (s := S2 256 256) ![0, 0] (S2 256 256).size (inb2 (Nat.zero_add _).le))) acc (M j.2) i.1 i.2))) $$ HX with ⟨HX, HX'⟩
  icases (ownMasks_at c Ls M j.2) $$ HM with ⟨HM, HM'⟩
  iapply ((unt Ls j).wps_gn D c P V _ acc i.1 i.2 (M j.2) (X j) Q)
  isplitl [HP]; · iexact HP
  isplitl [HM]; · iexact HM
  isplitl [HX]; · iexact HX
  iintro HP HM HX
  iapply Hk
  isplitl [HP]; · iexact HP
  isplitl [HM HM']
  · iapply HM'; iexact HM
  · unfold gnStep; iapply HX'; iexact HX

theorem wps_pipe (M : Masks F Ls) : ∀ (js : List ((Fin 2 × Fin 5) × Fin 4)) (j : Fin 2 × Fin 5) (i : Fin 4)
    (acc : FVec F (S2 (unt Ls j).Np 256) .f32) (X : Bufs F Ls) (Q : PUnit → sProp 𝕄),
    iprop((ownPar c P V ∗ ownMasks c Ls M ∗ ownBufs c Ls X)
        ∗ ((ownPar c P V ∗ ownMasks c Ls M ∗ ownBufs c Ls (runPipe V Ls M js j i acc X)) -∗ Q ⟨⟩))
      ⊢ wps D c (pipe P (View.ld V.gm (Rect.unit (s := S2 256 256) ![0, 0] (S2 256 256).size (inb2 (Nat.zero_add _).le))) Ls js j i acc) Q
  | [], j, i, acc, X, Q => by
    unfold pipe runPipe
    exact wps_gnStep D c P V Ls M X j i acc Q
  | (j', i') :: js, j, i, acc, X, Q => by
    unfold pipe runPipe
    rw [wps_bind]
    iintro ⟨⟨HP, HM, HX⟩, Hk⟩
    iapply (wps_convAt D c P V Ls X j' i' _)
    isplitl [HP HX]
    · isplitl [HP]; · iexact HP
      iexact HX
    iintro ⟨HP, HX⟩
    rw [wps_bind]
    iapply (wps_gnStep D c P V Ls M X j i acc _)
    isplitl [HP HM HX]
    · isplitl [HP]; · iexact HP
      isplitl [HM]; · iexact HM
      iexact HX
    iintro H
    iapply (wps_pipe M js j' i' _ _ Q)
    isplitl [H]; · iexact H
    iexact Hk

/-- The buffers after every layer, from the images. -/
def finalBufs (x : Imgs F Ls) (M : Masks F Ls) (X : Bufs F Ls) : Bufs F Ls :=
  runPipe V Ls M later (0, 0) 0 (convAt V Ls (order.foldl (fillStep Ls x) X) (0, 0) 0) (order.foldl (fillStep Ls x) X)

/-- The body's rule. -/
theorem wps_body (x : Imgs F Ls) (M : Masks F Ls) (X : Bufs F Ls) (O : Outs F Ls) (Q : PUnit → sProp 𝕄) :
    iprop((ownPar c P V ∗ ownImgs c Ls x ∗ ownMasks c Ls M ∗ ownBufs c Ls X ∗ ownOuts c Ls O)
        ∗ ((ownPar c P V ∗ ownImgs c Ls x ∗ ownMasks c Ls M ∗ ownBufs c Ls (finalBufs V Ls x M X)
          ∗ ownOuts c Ls (order.foldl (headStep V Ls (finalBufs V Ls x M X)) O)) -∗ Q ⟨⟩))
      ⊢ wps D c (body P Ls) Q := by
  unfold body
  rw [wps_bind]
  iintro ⟨⟨HP, Hx, HM, HX, HO⟩, Hk⟩
  icases (ownPar_gm c P V) $$ HP with ⟨HP, HP'⟩
  iapply (wps_load D c V.gm _)
  isplitl [HP]; · iexact HP
  iintro HP
  ihave HP := HP' $$ HP
  rw [wps_bind]
  iapply (wps_fills D c Ls x X _)
  isplitl [Hx HX]
  · isplitl [Hx]; · iexact Hx
    iexact HX
  iintro ⟨Hx, HX⟩
  rw [wps_bind]
  iapply (wps_convAt D c P V Ls _ (0, 0) 0 _)
  isplitl [HP HX]
  · isplitl [HP]; · iexact HP
    iexact HX
  iintro ⟨HP, HX⟩
  rw [wps_bind]
  iapply (wps_pipe D c P V Ls M later (0, 0) 0 _ _ _)
  isplitl [HP HM HX]
  · isplitl [HP]; · iexact HP
    isplitl [HM]; · iexact HM
    iexact HX
  iintro ⟨HP, HM, HX⟩
  iapply (wps_heads D c P V Ls _ O Q)
  isplitl [HP HX HO]
  · isplitl [HP]; · iexact HP
    isplitl [HX]; · iexact HX
    iexact HO
  iintro ⟨HP, HX, HO⟩
  iapply Hk
  isplitl [HP]; · iexact HP
  isplitl [Hx]; · iexact Hx
  isplitl [HM]; · iexact HM
  isplitl [HX]; · iexact HX
  iexact HO

end Cert.Proof.Blocks

end
-- ==== Proof.Final.lean ====
/-
  The contents the body leaves, unit by unit: the steps' order plays no part, since a unit's step changes that unit's
  buffer alone.
-/
module

public import proofs.«01_k».proof.Proof.Body

@[expose] public section

noncomputable section

namespace Cert.Proof.Blocks

open Idealize.ShloMosaic

/-! ## Updates of families in turn -/

/-- Setting members of a family one after another. -/
theorem foldl_set {I : Type} [DecidableEq I] {β : I → Type} (g : (i : I) → β i) :
    ∀ (js : List I) (X : (i : I) → β i) (i : I), js.foldl (fun X j => Function.update X j (g j)) X i = if i ∈ js then g i else X i
  | [], X, i => by simp
  | j :: js, X, i => by
    rw [List.foldl_cons, foldl_set g js]
    by_cases h : i ∈ js
    · simp [h]
    · by_cases e : i = j
      · subst e; simp [h]
      · simp [h, e]

/-- Changing members of a family one after another, as a step says: each member goes through its own steps. -/
theorem foldl_steps {I K : Type} [DecidableEq I] {β : I → Type} (g : (i : I) → K → β i → β i) :
    ∀ (js : List (I × K)) (X : (i : I) → β i) (i : I),
      js.foldl (fun X j => Function.update X j.1 (g j.1 j.2 (X j.1))) X i
        = ((js.filter fun j => j.1 = i).map (·.2)).foldl (fun y k => g i k y) (X i)
  | [], X, i => by simp
  | j :: js, X, i => by
    rw [List.foldl_cons, foldl_steps g js]
    by_cases e : j.1 = i
    · subst e; simp
    · have e' : ¬ i = j.1 := fun h => e h.symm
      simp [e, e', Function.update_of_ne e']

variable {sig : RefSig} {F : FTy → Type} [FloatOps F]
variable (V : ParV F) (Ls : Fin 5 → Lev sig)

theorem mem_order : ∀ j, j ∈ order := by decide

theorem fills_eq (x : Imgs F Ls) (X : Bufs F Ls) (j : Fin 2 × Fin 5) :
    order.foldl (fillStep Ls x) X j = (unt Ls j).fillOf (x j.2) := by
  have h := foldl_set (β := fun j => (S2 (unt Ls j).T 256).Idx → Elt F .bf16) (fun j => (unt Ls j).fillOf (x j.2)) order X j
  rw [if_pos (mem_order j)] at h
  exact h

/-- The matrix that sums groups, as the body reads it. -/
abbrev gmV : Vec F (S2 256 256) .f32 := View.ld V.gm (Rect.unit (s := S2 256 256) ![0, 0] (S2 256 256).size (inb2 (Nat.zero_add _).le))

/-- One layer of a unit: convolution, normalisation and rectification, back into the buffer. -/
def layerOf (u : Unt sig) (mask : (S2 u.Np 1).Idx → Elt F .f32) (i : Fin 4) (X : (S2 u.T 256).Idx → Elt F .bf16) :
    (S2 u.T 256).Idx → Elt F .bf16 :=
  u.putOf X (u.gnOf V (gmV V) (u.convOf X V.tw (9 * i.1) (by omega)) mask i.1 i.2)

/-- The same, of the unit at an index. -/
def layerAt (M : Masks F Ls) (j : Fin 2 × Fin 5) (i : Fin 4) (X : (S2 (unt Ls j).T 256).Idx → Elt F .bf16) :
    (S2 (unt Ls j).T 256).Idx → Elt F .bf16 := layerOf V (unt Ls j) (M j.2) i X

/-- Consecutive steps belong to different units. -/
def Apart : Fin 2 × Fin 5 → List ((Fin 2 × Fin 5) × Fin 4) → Prop
  | _, [] => True
  | j, (j', _) :: rest => j' ≠ j ∧ Apart j' rest

instance : ∀ (j : Fin 2 × Fin 5) (js : List ((Fin 2 × Fin 5) × Fin 4)), Decidable (Apart j js)
  | _, [] => .isTrue trivial
  | j, (j', _) :: rest => by
    have := instDecidableApart j' rest
    unfold Apart; infer_instance

/-- Starting a convolution early makes no difference between different units. -/
theorem runPipe_eq (M : Masks F Ls) : ∀ (js : List ((Fin 2 × Fin 5) × Fin 4)) (j : Fin 2 × Fin 5) (i : Fin 4) (X : Bufs F Ls),
    Apart j js → runPipe V Ls M js j i (convAt V Ls X j i) X
      = ((j, i) :: js).foldl (fun X s => Function.update X s.1 (layerAt V Ls M s.1 s.2 (X s.1))) X
  | [], j, i, X, _ => rfl
  | (j', i') :: js, j, i, X, h => by
    unfold runPipe
    have e : convAt V Ls X j' i' = convAt V Ls (gnStep V Ls M X j i (convAt V Ls X j i)) j' i' := by
      unfold convAt gnStep
      rw [Function.update_of_ne h.1]
    rw [e, runPipe_eq M js j' i' _ h.2, List.foldl_cons (l := (j', i') :: js)]
    exact congrArg (List.foldl _ · _) rfl

/-- A unit's buffer after its four layers. -/
def towerOf (u : Unt sig) (x : (S2 u.Np 256).Idx → Elt F .bf16) (mask : (S2 u.Np 1).Idx → Elt F .f32) : (S2 u.T 256).Idx → Elt F .bf16 :=
  [0, 1, 2, 3].foldl (fun y i => layerOf V u mask i y) (u.fillOf x)

theorem steps_of : ∀ j : Fin 2 × Fin 5,
    ((((0, 0), (0 : Fin 4)) :: later).filter fun s => s.1 = j).map (·.2) = [0, 1, 2, 3] := by decide

theorem finalBufs_eq (x : Imgs F Ls) (M : Masks F Ls) (X : Bufs F Ls) (j : Fin 2 × Fin 5) :
    finalBufs V Ls x M X j = towerOf V (unt Ls j) (x j.2) (M j.2) := by
  unfold finalBufs
  rw [runPipe_eq V Ls M later (0, 0) 0 _ (by decide)]
  rw [foldl_steps (β := fun j => (S2 (unt Ls j).T 256).Idx → Elt F .bf16) (layerAt V Ls M), steps_of, fills_eq]
  rfl

/-! ## The results -/

/-- An index of a stack of one matrix. -/
def i3 {n a b : ℕ} (i : Fin n) (j : Fin a) (k : Fin b) : (S3 n a b).Idx
  | ⟨0, _⟩ => i
  | ⟨1, _⟩ => j
  | ⟨2, _⟩ => k

/-- Two matrices stacked. -/
def stack {a b : ℕ} {α : Type} (f g : (S3 1 a b).Idx → α) : (S3 2 a b).Idx → α := fun y =>
  if (y 0).1 = 0 then f (i3 (0 : Fin 1) (y 1) (y 2)) else g (i3 (0 : Fin 1) (y 1) (y 2))

theorem over_over {a b : ℕ} {α : Type} (d : (S3 2 a b).Idx → α) (f g : (S3 1 a b).Idx → α)
    (h0 : ∀ k, (![0, 0, 0] : Fin 3 → ℕ) k + (S3 1 a b).size k ≤ (S3 2 a b).size k)
    (h1 : ∀ k, (![1, 0, 0] : Fin 3 → ℕ) k + (S3 1 a b).size k ≤ (S3 2 a b).size k) :
    over (over d (Rect.unit (s := S3 2 a b) ![0, 0, 0] (S3 1 a b).size h0) f)
      (Rect.unit (s := S3 2 a b) ![1, 0, 0] (S3 1 a b).size h1) g = stack f g := by
  funext y
  have hy : (y 0).1 < 2 := (y 0).2
  unfold stack
  by_cases e : (y 0).1 = 0
  · rw [if_pos e]
    have e0 : (y 0).1 = 0 := e
    rw [over_of_not]
    · have hy : (Rect.unit (s := S3 2 a b) ![0, 0, 0] (S3 1 a b).size h0).emb (i3 (0 : Fin 1) (y 1) (y 2)) = y := by
        funext k; apply Fin.ext; fin_cases k
        · simp [Rect.emb_apply, i3]; exact e0.symm
        · simp [Rect.emb_apply, i3]
        · simp [Rect.emb_apply, i3]
      exact (congrArg _ hy.symm).trans (over_emb d (Rect.unit (s := S3 2 a b) ![0, 0, 0] (S3 1 a b).size h0) f _)
    · intro j hj
      have := congrArg Fin.val (congrFun hj 0)
      simp [Rect.emb_apply] at this
      omega
  · rw [if_neg e]
    have e0 : (y 0).1 = 1 := by
      have : (y 0).1 ≠ 0 := e
      omega
    have hy : (Rect.unit (s := S3 2 a b) ![1, 0, 0] (S3 1 a b).size h1).emb (i3 (0 : Fin 1) (y 1) (y 2)) = y := by
      funext k; apply Fin.ext; fin_cases k
      · simp [Rect.emb_apply, i3]; exact e0.symm
      · simp [Rect.emb_apply, i3]
      · simp [Rect.emb_apply, i3]
    exact (congrArg _ hy.symm).trans (over_emb _ (Rect.unit (s := S3 2 a b) ![1, 0, 0] (S3 1 a b).size h1) g _)

/-- A level's result: the heads of its two units, stacked. -/
def outOf (L : Lev sig) (x : (S2 L.Np 256).Idx → Elt F .bf16) (mask : (S2 L.Np 1).Idx → Elt F .f32) :
    (S3 2 L.Np 128).Idx → Elt F .bf16 :=
  stack ((L.unit 0).headOf V (towerOf V (L.unit 0) x mask)) ((L.unit 1).headOf V (towerOf V (L.unit 1) x mask))

theorem heads_eq (X : Bufs F Ls) (O : Outs F Ls) (l : Fin 5) :
    order.foldl (headStep V Ls X) O l
      = stack (((Ls l).unit 0).headOf V (X (0, l))) (((Ls l).unit 1).headOf V (X (1, l))) := by
  have e : order = (List.finRange 5).map (fun l => ((0 : Fin 2), l)) ++ (List.finRange 5).map (fun l => ((1 : Fin 2), l)) := by decide
  have g (t : Fin 2) (O : Outs F Ls) (l : Fin 5) :
      ((List.finRange 5).map (fun l => (t, l))).foldl (headStep V Ls X) O l = ((Ls l).unit t).stored V (X (t, l)) (O l) := by
    have h := foldl_steps (K := Unit) (β := fun l => (S3 2 (Ls l).Np 128).Idx → Elt F .bf16)
      (fun l _ y => ((Ls l).unit t).stored V (X (t, l)) y) ((List.finRange 5).map fun l => (l, ())) O l
    have e : ∀ l : Fin 5, (((List.finRange 5).map fun l => (l, ())).filter fun s => s.1 = l).map (·.2) = [()] := by decide
    rw [e l, List.foldl_map] at h
    rw [List.foldl_map]
    exact h
  rw [e, List.foldl_append, g, g]
  exact over_over (O l) _ _ (inb3 (by decide)) (inb3 (by decide))

theorem outs_eq (x : Imgs F Ls) (M : Masks F Ls) (X : Bufs F Ls) (O : Outs F Ls) (l : Fin 5) :
    order.foldl (headStep V Ls (finalBufs V Ls x M X)) O l = outOf V (Ls l) (x l) (M l) := by
  rw [heads_eq, finalBufs_eq, finalBufs_eq]
  rfl

end Cert.Proof.Blocks

end
-- ==== Proof.MatchKernelIdeal.lean ====
/-
  The printed body of the kernel is the composition of blocks of `Blocks.lean`.
-/
module

public import proofs.«01_k».proof.KernelIdeal
public import proofs.«01_k».proof.Proof.Blocks
public import Idealize.ShloMosaic.Lib.Pipeline.Regions

@[expose] public section

noncomputable section

namespace Cert.Proof.MatchKernelIdeal

open Cert.KernelIdeal Idealize.ShloMosaic Idealize.SL.Sem Cert.Proof.Blocks

variable {F : FTy → Type} [FloatOps F] [Facts]

/-- The arguments of the body. -/
structure Args where
  (a0 : Memref sig .tc .vmem (S2 4356 256) .bf16) (h0 : a0.IsWhole)
  (a1 : Memref sig .tc .vmem (S2 1156 256) .bf16) (h1 : a1.IsWhole)
  (a2 : Memref sig .tc .vmem (S2 324 256) .bf16) (h2 : a2.IsWhole)
  (a3 : Memref sig .tc .vmem (S2 100 256) .bf16) (h3 : a3.IsWhole)
  (a4 : Memref sig .tc .vmem (S2 36 256) .bf16) (h4 : a4.IsWhole)
  (a5 : Memref sig .tc .vmem (S4 2 36 256 256) .bf16) (h5 : a5.IsWhole)
  (a6 : Memref sig .tc .vmem (S4 2 4 1 256) .f32) (h6 : a6.IsWhole)
  (a7 : Memref sig .tc .vmem (S4 2 4 1 256) .f32) (h7 : a7.IsWhole)
  (a8 : Memref sig .tc .vmem (S4 2 4 1 256) .f32) (h8 : a8.IsWhole)
  (a9 : Memref sig .tc .vmem (S4 2 9 256 128) .bf16) (h9 : a9.IsWhole)
  (a10 : Memref sig .tc .vmem (S3 2 1 128) .f32) (h10 : a10.IsWhole)
  (a11 : Memref sig .tc .vmem (S4 2 5 1 128) .f32) (h11 : a11.IsWhole)
  (a12 : Memref sig .tc .vmem (S3 2 1 128) .f32) (h12 : a12.IsWhole)
  (a13 : Memref sig .tc .vmem (S2 256 256) .f32) (h13 : a13.IsWhole)
  (a14 : Memref sig .tc .vmem (S2 4356 1) .f32) (h14 : a14.IsWhole)
  (a15 : Memref sig .tc .vmem (S2 1156 1) .f32) (h15 : a15.IsWhole)
  (a16 : Memref sig .tc .vmem (S2 324 1) .f32) (h16 : a16.IsWhole)
  (a17 : Memref sig .tc .vmem (S2 100 1) .f32) (h17 : a17.IsWhole)
  (a18 : Memref sig .tc .vmem (S2 36 1) .f32) (h18 : a18.IsWhole)
  (a19 : Memref sig .tc .vmem (S3 2 4356 128) .bf16) (h19 : a19.IsWhole)
  (a20 : Memref sig .tc .vmem (S3 2 1156 128) .bf16) (h20 : a20.IsWhole)
  (a21 : Memref sig .tc .vmem (S3 2 324 128) .bf16) (h21 : a21.IsWhole)
  (a22 : Memref sig .tc .vmem (S3 2 100 128) .bf16) (h22 : a22.IsWhole)
  (a23 : Memref sig .tc .vmem (S3 2 36 128) .bf16) (h23 : a23.IsWhole)
  (a24 : Memref sig .tc .vmem (S2 4490 256) .bf16) (h24 : a24.IsWhole)
  (a25 : Memref sig .tc .vmem (S2 1226 256) .bf16) (h25 : a25.IsWhole)
  (a26 : Memref sig .tc .vmem (S2 362 256) .bf16) (h26 : a26.IsWhole)
  (a27 : Memref sig .tc .vmem (S2 122 256) .bf16) (h27 : a27.IsWhole)
  (a28 : Memref sig .tc .vmem (S2 50 256) .bf16) (h28 : a28.IsWhole)
  (a29 : Memref sig .tc .vmem (S2 4490 256) .bf16) (h29 : a29.IsWhole)
  (a30 : Memref sig .tc .vmem (S2 1226 256) .bf16) (h30 : a30.IsWhole)
  (a31 : Memref sig .tc .vmem (S2 362 256) .bf16) (h31 : a31.IsWhole)
  (a32 : Memref sig .tc .vmem (S2 122 256) .bf16) (h32 : a32.IsWhole)
  (a33 : Memref sig .tc .vmem (S2 50 256) .bf16) (h33 : a33.IsWhole)

namespace Args

variable (A : Args)

/-- The parameters among the arguments. -/
def par : Par sig := ⟨A.a5, A.a6, A.a7, A.a8, A.a9, A.a10, A.a11, A.a12, A.a13⟩

/-- Level 0. -/
def l0 : Lev sig :=
  ⟨4356, 4490, 66, 0x38000000#32, 0, A.a0, A.a14, A.a19, ![A.a24, A.a29], A.h19,
    fun t => by fin_cases t; exacts [A.h24, A.h29], by decide, by decide, by decide, by decide, by decide⟩

/-- Level 1. -/
def l1 : Lev sig :=
  ⟨1156, 1226, 34, 0x39000000#32, 1, A.a1, A.a15, A.a20, ![A.a25, A.a30], A.h20,
    fun t => by fin_cases t; exacts [A.h25, A.h30], by decide, by decide, by decide, by decide, by decide⟩

/-- Level 2. -/
def l2 : Lev sig :=
  ⟨324, 362, 18, 0x3A000000#32, 2, A.a2, A.a16, A.a21, ![A.a26, A.a31], A.h21,
    fun t => by fin_cases t; exacts [A.h26, A.h31], by decide, by decide, by decide, by decide, by decide⟩

/-- Level 3. -/
def l3 : Lev sig :=
  ⟨100, 122, 10, 0x3B000000#32, 3, A.a3, A.a17, A.a22, ![A.a27, A.a32], A.h22,
    fun t => by fin_cases t; exacts [A.h27, A.h32], by decide, by decide, by decide, by decide, by decide⟩

/-- Level 4. -/
def l4 : Lev sig :=
  ⟨36, 50, 6, 0x3C000000#32, 4, A.a4, A.a18, A.a23, ![A.a28, A.a33], A.h23,
    fun t => by fin_cases t; exacts [A.h28, A.h33], by decide, by decide, by decide, by decide, by decide⟩

/-- The levels. -/
def levs : Fin 5 → Lev sig := ![A.l0, A.l1, A.l2, A.l3, A.l4]

/-- The printed body at these arguments. -/
def printed : Prog (TpuEff nD τ sig (Elt F) Λ₀ .tc) PUnit :=
  cc0__fcos_kernel A.a0 A.h0 A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33

theorem printed_eq : A.printed (F := F) = body A.par A.levs := by chain_rfl

end Args

end Cert.Proof.MatchKernelIdeal

end
-- ==== Proof.LaunchKernelIdeal.lean ====
/-
  The run of the program: the region's data, the body's obligation, the run of @main and the frame.
-/
module

public import proofs.«01_k».proof.Proof.Gen.KernelIdeal.Frame
public import proofs.«01_k».proof.Proof.MatchKernelIdeal
public import proofs.«01_k».proof.Proof.Final
public import Idealize.ShloMosaic.Lib.Claim

@[expose] public section

noncomputable section

namespace Cert.Proof.LaunchKernelIdeal

open Cert.KernelIdeal Cert.KernelIdeal.Gen Cert.Proof.Blocks Cert.Proof.MatchKernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's arguments at a point. -/
def args (t : Fin cfg0.N) : Args :=
  ⟨st0_0 t, hstage0_0 0, st0_1 t, hstage0_1 0, st0_2 t, hstage0_2 0, st0_3 t, hstage0_3 0, st0_4 t, hstage0_4 0, st0_5 t, hstage0_5 0, st0_6 t, hstage0_6 0, st0_7 t, hstage0_7 0, st0_8 t, hstage0_8 0, st0_9 t, hstage0_9 0, st0_10 t, hstage0_10 0, st0_11 t, hstage0_11 0, st0_12 t, hstage0_12 0, st0_13 t, hstage0_13 0, st0_14 t, hstage0_14 0, st0_15 t, hstage0_15 0, st0_16 t, hstage0_16 0, st0_17 t, hstage0_17 0, st0_18 t, hstage0_18 0, st0_19 t, hstage0_19 0, st0_20 t, hstage0_20 0, st0_21 t, hstage0_21 0, st0_22 t, hstage0_22 0, st0_23 t, hstage0_23 0,
    Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _⟩

/-- The parameters' contents. -/
def parV (c : Dev nD) (t : Fin cfg0.N) : ParV F :=
  ⟨iblk m c 5 t, iblk m c 6 t, iblk m c 7 t, iblk m c 8 t, iblk m c 9 t, iblk m c 10 t, iblk m c 11 t, iblk m c 12 t, iblk m c 13 t⟩

/-- The levels' images. -/
def img (c : Dev nD) (t : Fin cfg0.N) : Imgs F (args t).levs
  | 0 => iblk m c 0 t
  | 1 => iblk m c 1 t
  | 2 => iblk m c 2 t
  | 3 => iblk m c 3 t
  | 4 => iblk m c 4 t

/-- The levels' masks. -/
def msk (c : Dev nD) (t : Fin cfg0.N) : Masks F (args t).levs
  | 0 => iblk m c 14 t
  | 1 => iblk m c 15 t
  | 2 => iblk m c 16 t
  | 3 => iblk m c 17 t
  | 4 => iblk m c 18 t

/-- The levels' results. -/
def res (c : Dev nD) (t : Fin cfg0.N) (l : Fin 5) : (S3 2 ((args t).levs l).Np 128).Idx → Elt F .bf16 :=
  outOf (parV m c t) ((args t).levs l) (img m c t l) (msk m c t l)

/-- The region's data: the inputs stay, each result ends at `res`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => res m c t 0
    | ⟨20, _⟩ => res m c t 1
    | ⟨21, _⟩ => res m c t 2
    | ⟨22, _⟩ => res m c t 3
    | ⟨23, _⟩ => res m c t 4
    | ⟨_ + 24, h⟩ => absurd h (Nat.not_lt.mpr (Nat.le_add_left 24 _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = res m c t 0 := by dsimp only [dats]
theorem after0_20 (c : Dev nD) (t : Fin cfg0.N) : (dats m 0 c).after 20 t = res m c t 1 := by dsimp only [dats]
theorem after0_21 (c : Dev nD) (t : Fin cfg0.N) : (dats m 0 c).after 21 t = res m c t 2 := by dsimp only [dats]
theorem after0_22 (c : Dev nD) (t : Fin cfg0.N) : (dats m 0 c).after 22 t = res m c t 3 := by dsimp only [dats]
theorem after0_23 (c : Dev nD) (t : Fin cfg0.N) : (dats m 0 c).after 23 t = res m c t 4 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body's obligation -/

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_ten (Φ : Fin 2 × Fin 5 → sProp 𝕄) : bigSep Finset.univ Φ
    = iprop(Φ (0, 0) ∗ Φ (0, 1) ∗ Φ (0, 2) ∗ Φ (0, 3) ∗ Φ (0, 4) ∗ Φ (1, 0) ∗ Φ (1, 1) ∗ Φ (1, 2) ∗ Φ (1, 3) ∗ Φ (1, 4)) :=
  bigSep_univ_eq_bigSepL order (by decide) (by decide) Φ

theorem imgs_flat (c : Dev nD) (t : Fin cfg0.N) : (ownImgs c (args t).levs (img m c t) : sProp 𝕄)
    = iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t)) := by
  unfold ownImgs
  rw [bigSep_five]
  rfl

theorem masks_flat (c : Dev nD) (t : Fin cfg0.N) : (ownMasks c (args t).levs (msk m c t) : sProp 𝕄)
    = iprop(owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t)) := by
  unfold ownMasks
  rw [bigSep_five]
  rfl

theorem par_flat (c : Dev nD) (t : Fin cfg0.N) : (ownPar c (args t).par (parV m c t) : sProp 𝕄)
    = iprop(owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t)) := by
  chain_rfl

theorem res_flat (c : Dev nD) (t : Fin cfg0.N) : (ownOuts c (args t).levs (res m c t) : sProp 𝕄)
    = iprop(owns (c : Thread nD τ) (st0_19 t) fullShare (res m c t 0) ∗ owns (c : Thread nD τ) (st0_20 t) fullShare (res m c t 1) ∗ owns (c : Thread nD τ) (st0_21 t) fullShare (res m c t 2) ∗ owns (c : Thread nD τ) (st0_22 t) fullShare (res m c t 3) ∗ owns (c : Thread nD τ) (st0_23 t) fullShare (res m c t 4)) := by
  unfold ownOuts
  rw [bigSep_five]
  rfl

/-- The units' buffers at any contents. -/
theorem bufs_any (c : Dev nD) (t : Fin cfg0.N) : (bigSep Finset.univ (fun j => iprop(∃ X, own c (unt (args t).levs j).X X)) : sProp 𝕄)
    = Pipeline.scopedRest spec0 c := by
  rw [bigSep_ten, scopedRest0_eq]
  have e (b : Ref sig .tc) : (fun f : b.ty.Contents (Elt F) => (owns (c : Thread nD τ) (Memref.whole b) fullShare f : sProp 𝕄))
      = fun f => ((c : Thread nD τ).loc b) ↦{fullShare} f := funext fun f => owns_whole _ _ _ _
  have ex (b : Ref sig .tc) : (iprop(∃ f : b.ty.Contents (Elt F), owns (c : Thread nD τ) (Memref.whole b) fullShare f) : sProp 𝕄)
      = iprop(∃ f : Buf (Elt F) ((c : Thread nD τ).loc b), ((c : Thread nD τ).loc b) ↦{fullShare} f) := congrArg _ (e b)
  rw [← ex cc0_scratch0, ← ex cc0_scratch1, ← ex cc0_scratch2, ← ex cc0_scratch3, ← ex cc0_scratch4, ← ex cc0_scratch5, ← ex cc0_scratch6, ← ex cc0_scratch7, ← ex cc0_scratch8, ← ex cc0_scratch9]
  rfl

/-- The results at any contents. -/
theorem outs_any (c : Dev nD) (t : Fin cfg0.N) : (bigSep Finset.univ (fun l => iprop(∃ X, own c ((args t).levs l).out X)) : sProp 𝕄)
    = iprop((∃ d, owns (c : Thread nD τ) (st0_19 t) fullShare d) ∗ (∃ d, owns (c : Thread nD τ) (st0_20 t) fullShare d) ∗ (∃ d, owns (c : Thread nD τ) (st0_21 t) fullShare d) ∗ (∃ d, owns (c : Thread nD τ) (st0_22 t) fullShare d) ∗ (∃ d, owns (c : Thread nD τ) (st0_23 t) fullShare d)) := by
  rw [bigSep_five]
  rfl

instance (t : Fin cfg0.N) (l : Fin 5) : Nonempty ((S3 2 ((args t).levs l).Np 128).Idx → Elt F .bf16) :=
  ⟨fun _ => Scalar.ofBits (F := F) .bf16 0#16⟩

instance (t : Fin cfg0.N) (j : Fin 2 × Fin 5) : Nonempty ((S2 (unt (args t).levs j).T 256).Idx → Elt F .bf16) :=
  ⟨fun _ => Scalar.ofBits (F := F) .bf16 0#16⟩

theorem bufs_of (c : Dev nD) (t : Fin cfg0.N) (X : Bufs F (args t).levs) :
    (ownBufs c (args t).levs X : sProp 𝕄) ⊢ bigSep Finset.univ (fun j => iprop(∃ X, own c (unt (args t).levs j).X X)) := by
  unfold ownBufs
  exact bigSep_mono fun j _ => show (own c (unt (args t).levs j).X (X j) : sProp 𝕄)
    ⊢ iprop(∃ X, own c (unt (args t).levs j).X X) from by iintro H; iexists _; iexact H

/-- The body's rule, its buffers grouped. -/
theorem sound_grouped (c : Dev nD) (t : Fin cfg0.N) (Q : PUnit → sProp 𝕄) :
    iprop((ownPar c (args t).par (parV m c t) ∗ ownImgs c (args t).levs (img m c t) ∗ ownMasks c (args t).levs (msk m c t)
        ∗ Pipeline.scopedRest spec0 c ∗ bigSep Finset.univ (fun l => iprop(∃ X, own c ((args t).levs l).out X)))
        ∗ ((ownPar c (args t).par (parV m c t) ∗ ownImgs c (args t).levs (img m c t) ∗ ownMasks c (args t).levs (msk m c t)
          ∗ Pipeline.scopedRest spec0 c ∗ ownOuts c (args t).levs (res m c t)) -∗ Q ⟨⟩))
      ⊢ wps defs₀ c (bodyAt0 t) Q := by
  have e : (bodyAt0 (F := F) t) = body (args t).par (args t).levs := (args t).printed_eq
  rw [e, ← bufs_any c t]
  iintro ⟨⟨HP, HI, HM, HX, HO⟩, Hk⟩
  icases (bigSep_exists_pi Finset.univ (fun j X => own c (unt (args t).levs j).X X)) $$ HX with ⟨%X, HX⟩
  icases (bigSep_exists_pi Finset.univ (fun l X => own c ((args t).levs l).out X)) $$ HO with ⟨%O, HO⟩
  iapply (wps_body defs₀ c (args t).par (parV m c t) (args t).levs (img m c t) (msk m c t) X O Q)
  isplitl [HP HI HM HX HO]
  · isplitl [HP]; · iexact HP
    isplitl [HI]; · iexact HI
    isplitl [HM]; · iexact HM
    unfold ownBufs ownOuts
    isplitl [HX]; · iexact HX
    iexact HO
  iintro ⟨HP, HI, HM, HX, HO⟩
  iapply Hk
  isplitl [HP]; · iexact HP
  isplitl [HI]; · iexact HI
  isplitl [HM]; · iexact HM
  isplitl [HX]
  · iapply (bufs_of c t _)
    iexact HX
  · rw [show order.foldl (headStep (parV m c t) (args t).levs (finalBufs (parV m c t) (args t).levs (img m c t) (msk m c t) X)) O = res m c t from
      funext fun l => outs_eq (parV m c t) (args t).levs (img m c t) (msk m c t) X O l]
    iexact HO

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl]
  unfold Pipeline.ΦA
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_grouped m c t _)
  rw [par_flat, imgs_flat, masks_flat, res_flat, outs_any]
  isplitr [HR Ho]
  · isplitl [H5 H6 H7 H8 H9 H10 H11 H12 H13]
    · isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H0 H1 H2 H3 H4]
    · isplitl [H0]; · iexact H0
      isplitl [H1]; · iexact H1
      isplitl [H2]; · iexact H2
      isplitl [H3]; · iexact H3
      iexact H4
    isplitl [H14 H15 H16 H17 H18]
    · isplitl [H14]; · iexact H14
      isplitl [H15]; · iexact H15
      isplitl [H16]; · iexact H16
      isplitl [H17]; · iexact H17
      iexact H18
    isplitl [HS]; · iexact HS
    isplitl [H19]; · iexists _; iexact H19
    isplitl [H20]; · iexists _; iexact H20
    isplitl [H21]; · iexists _; iexact H21
    isplitl [H22]; · iexists _; iexact H22
    iexists _; iexact H23
  iintro ⟨⟨H5, H6, H7, H8, H9, H10, H11, H12, H13⟩, ⟨H0, H1, H2, H3, H4⟩, ⟨H14, H15, H16, H17, H18⟩, HS, H19, H20, H21, H22, H23⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of @main: what every array and buffer ends at, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.LaunchKernelIdeal

end
-- ==== Proof.Spec.lean ====
/-
  The mathematics both programs compute, over the extended reals: a 3×3 convolution of an image with a border of
  zeros, a group normalisation in its two usual forms (variance as the mean of squared deviations, or as the mean of
  squares less the square of the mean), rectification, and the towers of four such layers.  On finite data the two
  forms of a layer are equal.
-/
module

public import Idealize.ShloMosaic.PureOps.Ideal
public import Mathlib.Tactic.Ring
public import Mathlib.Tactic.FieldSimp
public import Mathlib.Tactic.Positivity
public import Mathlib.Tactic.Linarith

@[expose] public section

noncomputable section

namespace Cert.Proof.Spec

open Idealize.ShloMosaic
open scoped BigOperators

/-- An image of 256 channels and `H` rows and columns. -/
abbrev Img (H : ℕ) := Fin 256 → Fin H → Fin H → EReal

/-- One channel with a border of zeros, at row `a` and column `b` counted from the border's corner. -/
def padP {H : ℕ} (f : Fin H → Fin H → EReal) (a b : ℕ) : EReal :=
  if h : (1 ≤ a ∧ a ≤ H) ∧ (1 ≤ b ∧ b ≤ H) then f ⟨a - 1, by omega⟩ ⟨b - 1, by omega⟩ else 0

/-- One tap of a convolution: all channels at one place, each times its weight. -/
def tapE {H : ℕ} (x : Img H) (w : Fin 256 → EReal) (a b : ℕ) : EReal := ∑ c, padP (x c) a b * w c

/-- A 3×3 convolution's value at row `h`, column `v`, its nine taps summed from left to right. -/
def convE {H : ℕ} (x : Img H) (w : Fin 3 → Fin 3 → Fin 256 → EReal) (h v : ℕ) : EReal :=
  tapE x (w 0 0) h v + tapE x (w 0 1) h (v + 1) + tapE x (w 0 2) h (v + 2)
    + tapE x (w 1 0) (h + 1) v + tapE x (w 1 1) (h + 1) (v + 1) + tapE x (w 1 2) (h + 1) (v + 2)
    + tapE x (w 2 0) (h + 2) v + tapE x (w 2 1) (h + 2) (v + 1) + tapE x (w 2 2) (h + 2) (v + 2)

/-- The sum of an image over the group of eight channels that `c` lies in. -/
def gsum {H : ℕ} (y : Img H) (c : Fin 256) : EReal :=
  ∑ k : Fin 256, if k.1 / 8 = c.1 / 8 then ∑ h, ∑ v, y k h v else 0

/-- The parameters of a layer: weights by output channel, row, column and input channel; bias; gain; offset. -/
structure Lay where
  w : Fin 256 → Fin 3 → Fin 3 → Fin 256 → EReal
  b : Fin 256 → EReal
  g : Fin 256 → EReal
  e : Fin 256 → EReal

/-- Convolution and bias. -/
def convB (L : Lay) {H : ℕ} (x : Img H) : Img H := fun o h v => convE x (L.w o) h.1 v.1 + L.b o

/-- Normalisation with the mean of squared deviations, gain, offset, rectification. -/
def normR {H : ℕ} (N eps : EReal) (g e : Fin 256 → EReal) (y : Img H) : Img H := fun o h v =>
  max (Ideal.div (y o h v - Ideal.div (gsum y o) N)
      (Ideal.sqrt (Ideal.div (gsum (fun k a b => (y k a b - Ideal.div (gsum y k) N) * (y k a b - Ideal.div (gsum y k) N)) o) N + eps))
    * g o + e o) 0

/-- The factor of the other form: one over the deviation, times the gain. -/
def facK {H : ℕ} (cnt eps : EReal) (g : Fin 256 → EReal) (y : Img H) (o : Fin 256) : EReal :=
  Ideal.rsqrt (gsum (fun k a b => y k a b * y k a b) o * cnt - gsum y o * cnt * (gsum y o * cnt) + eps) * g o

/-- Normalisation with the mean of squares less the square of the mean. -/
def normK {H : ℕ} (cnt eps : EReal) (g e : Fin 256 → EReal) (y : Img H) : Img H := fun o h v =>
  max (y o h v * facK cnt eps g y o + (e o - gsum y o * cnt * facK cnt eps g y o)) 0

/-- The reference's layer. -/
def layR {H : ℕ} (N eps : EReal) (L : Lay) (x : Img H) : Img H := normR N eps L.g L.e (convB L x)

/-- The kernel's layer. -/
def layK {H : ℕ} (cnt eps : EReal) (L : Lay) (x : Img H) : Img H := normK cnt eps L.g L.e (convB L x)

/-! ## Finite values -/

/-- An extended real that is a real number. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩

theorem IsR.mul {x y : EReal} : IsR x → IsR y → IsR (x * y) := by
  rintro ⟨a, rfl⟩ ⟨b, rfl⟩; exact ⟨a * b, (EReal.coe_mul a b).symm⟩

theorem IsR.zero : IsR 0 := ⟨0, rfl⟩

theorem IsR.sum {ι : Type} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (r : ℝ) : ((if p then r else 0 : ℝ) : EReal) = if p then (r : EReal) else 0 := by
  split_ifs <;> simp

/-- An image of real numbers. -/
def FinI {H : ℕ} (x : Img H) : Prop := ∀ c h v, IsR (x c h v)

/-- Parameters that are real numbers. -/
structure FinL (L : Lay) : Prop where
  w : ∀ o a b c, IsR (L.w o a b c)
  b : ∀ o, IsR (L.b o)
  g : ∀ o, IsR (L.g o)
  e : ∀ o, IsR (L.e o)

theorem padP_fin {H : ℕ} {f : Fin H → Fin H → EReal} (hf : ∀ h v, IsR (f h v)) (a b : ℕ) : IsR (padP f a b) := by
  unfold padP; split_ifs
  · exact hf _ _
  · exact IsR.zero

theorem convB_fin {L : Lay} (hL : FinL L) {H : ℕ} {x : Img H} (hx : FinI x) : FinI (convB L x) := by
  intro o h v
  have t : ∀ i j a b, IsR (tapE x (L.w o i j) a b) := fun i j a b =>
    IsR.sum _ _ fun c => (padP_fin (hx c) a b).mul (hL.w o i j c)
  exact (((((((((t _ _ _ _).add (t _ _ _ _)).add (t _ _ _ _)).add (t _ _ _ _)).add (t _ _ _ _)).add (t _ _ _ _)).add
    (t _ _ _ _)).add (t _ _ _ _)).add (t _ _ _ _)).add (hL.b o)

/-! ## The two forms agree -/

/-- The sum over a group, of real numbers. -/
def gs {H : ℕ} (y : Fin 256 → Fin H → Fin H → ℝ) (c : Fin 256) : ℝ :=
  ∑ k : Fin 256, if k.1 / 8 = c.1 / 8 then ∑ h, ∑ v, y k h v else 0

theorem gsum_coe {H : ℕ} (y : Fin 256 → Fin H → Fin H → ℝ) (c : Fin 256) :
    gsum (fun k h v => (y k h v : EReal)) c = (gs y c : EReal) := by
  unfold gsum gs
  rw [coe_sum]
  refine Finset.sum_congr rfl fun k _ => ?_
  rw [coe_ite]
  refine if_congr Iff.rfl ?_ rfl
  rw [coe_sum]
  exact Finset.sum_congr rfl fun h _ => (coe_sum _ _).symm

theorem card8 : ∀ o : Fin 256, (∑ k : Fin 256, if k.1 / 8 = o.1 / 8 then (1 : ℕ) else 0) = 8 := by decide +kernel

theorem gs_lin {H : ℕ} (f g : Fin 256 → Fin H → Fin H → ℝ) (c d : ℝ) (o : Fin 256) :
    gs (fun k h v => f k h v - c * g k h v + d) o = gs f o - c * gs g o + d * (8 * H * H) := by
  have h8 : (∑ k : Fin 256, if k.1 / 8 = o.1 / 8 then (1 : ℝ) else 0) = 8 := by
    have h := card8 o
    have : ((∑ k : Fin 256, if k.1 / 8 = o.1 / 8 then (1 : ℕ) else 0 : ℕ) : ℝ) = (8 : ℕ) := by rw [h]
    rw [Nat.cast_sum] at this
    simpa using this
  have e : ∀ k : Fin 256, (if k.1 / 8 = o.1 / 8 then ∑ h : Fin H, ∑ v : Fin H, (f k h v - c * g k h v + d) else 0)
      = (if k.1 / 8 = o.1 / 8 then ∑ h, ∑ v, f k h v else 0) - c * (if k.1 / 8 = o.1 / 8 then ∑ h, ∑ v, g k h v else 0)
        + d * (H * H) * (if k.1 / 8 = o.1 / 8 then 1 else 0) := by
    intro k
    split_ifs
    · simp only [Finset.sum_add_distrib, Finset.sum_sub_distrib, Finset.mul_sum, Finset.sum_const, Finset.card_univ,
        Fintype.card_fin, nsmul_eq_mul]
      ring
    · simp
  unfold gs
  rw [Finset.sum_congr rfl fun k _ => e k, Finset.sum_add_distrib, Finset.sum_sub_distrib, ← Finset.mul_sum, ← Finset.mul_sum, h8]
  ring

theorem gs_group {H : ℕ} (y : Fin 256 → Fin H → Fin H → ℝ) {k o : Fin 256} (h : k.1 / 8 = o.1 / 8) : gs y k = gs y o := by
  unfold gs; rw [h]

theorem gs_congr {H : ℕ} {f g : Fin 256 → Fin H → Fin H → ℝ} (o : Fin 256)
    (h : ∀ k : Fin 256, k.1 / 8 = o.1 / 8 → ∀ a b, f k a b = g k a b) : gs f o = gs g o := by
  unfold gs
  refine Finset.sum_congr rfl fun k _ => ?_
  split_ifs with hk
  · exact Finset.sum_congr rfl fun a _ => Finset.sum_congr rfl fun b _ => h k hk a b
  · rfl

/-- The mean of squared deviations is the mean of squares less the square of the mean. -/
theorem var_eq {H : ℕ} (hH : 0 < H) (y : Fin 256 → Fin H → Fin H → ℝ) (o : Fin 256) :
    gs (fun k h v => (y k h v - gs y k / (8 * H * H)) * (y k h v - gs y k / (8 * H * H))) o / (8 * H * H)
      = gs (fun k h v => y k h v * y k h v) o * (1 / (8 * H * H))
        - gs y o * (1 / (8 * H * H)) * (gs y o * (1 / (8 * H * H))) := by
  have hn : (8 * H * H : ℝ) ≠ 0 := by positivity
  have e : gs (fun k h v => (y k h v - gs y k / (8 * H * H)) * (y k h v - gs y k / (8 * H * H))) o
      = gs (fun k h v => y k h v * y k h v - (2 * (gs y o / (8 * H * H))) * y k h v
          + gs y o / (8 * H * H) * (gs y o / (8 * H * H))) o := by
    refine gs_congr o fun k hk h v => ?_
    rw [gs_group y hk]; ring
  rw [e, gs_lin (fun k h v => y k h v * y k h v) y]
  field_simp
  ring

theorem var_nonneg {H : ℕ} (y : Fin 256 → Fin H → Fin H → ℝ) (o : Fin 256) :
    0 ≤ gs (fun k h v => (y k h v - gs y k / (8 * H * H)) * (y k h v - gs y k / (8 * H * H))) o / (8 * H * H) := by
  refine div_nonneg (Finset.sum_nonneg fun k _ => ?_) (by positivity)
  split_ifs
  · exact Finset.sum_nonneg fun h _ => Finset.sum_nonneg fun v _ => mul_self_nonneg _
  · exact le_rfl

/-- On real data the two forms of the normalisation are equal, and their values real. -/
theorem norm_eq {H : ℕ} (hH : 0 < H) {N cnt eps : EReal} (hN : N = ((8 * H * H : ℝ) : EReal))
    (hc : cnt = ((1 / (8 * H * H) : ℝ) : EReal)) (he : ∃ r : ℝ, 0 < r ∧ eps = r) {g e : Fin 256 → EReal}
    (hg : ∀ o, IsR (g o)) (hb : ∀ o, IsR (e o)) {y : Img H} (hy : FinI y) :
    normK cnt eps g e y = normR N eps g e y ∧ FinI (normR N eps g e y) := by
  obtain ⟨ε, hε, rfl⟩ := he
  subst hN hc
  have hn : (8 * H * H : ℝ) ≠ 0 := by positivity
  choose yr hyr using hy
  obtain rfl : y = fun k h v => (yr k h v : EReal) := by funext k h v; exact hyr k h v
  have key : ∀ o h v, ∃ r : ℝ, normK ((1 / (8 * H * H) : ℝ) : EReal) (ε : EReal) g e (fun k h v => (yr k h v : EReal)) o h v = r
      ∧ normR ((8 * H * H : ℝ) : EReal) (ε : EReal) g e (fun k h v => (yr k h v : EReal)) o h v = r := by
    intro o h v
    obtain ⟨gr, hg⟩ := hg o
    obtain ⟨er, hb⟩ := hb o
    have hv := var_nonneg yr o
    have hve := var_eq hH yr o
    have hm : ∀ k, Ideal.div (gsum (fun k h v => (yr k h v : EReal)) k) ((8 * H * H : ℝ) : EReal) = ((gs yr k / (8 * H * H) : ℝ) : EReal) := by
      intro k
      rw [Ideal.div_coe hn, gsum_coe, ← EReal.coe_mul, mul_one_div]
    have hsq : ∀ z : ℝ, 0 < z → Ideal.sqrt (z : EReal) = ((Real.sqrt z : ℝ) : EReal) := fun z hz => by
      rw [Ideal.sqrt_coe, if_neg (not_lt.2 hz.le)]
    have hrq : ∀ z : ℝ, 0 < z → Ideal.rsqrt (z : EReal) = (((Real.sqrt z)⁻¹ : ℝ) : EReal) := fun z hz => by
      rw [Ideal.rsqrt_coe, if_neg (not_lt.2 hz.le), if_neg hz.ne']
    set va : ℝ := gs (fun k h v => (yr k h v - gs yr k / (8 * H * H)) * (yr k h v - gs yr k / (8 * H * H))) o / (8 * H * H) with hva
    have hpos : 0 < va + ε := by linarith
    have hs : Real.sqrt (va + ε) ≠ 0 := (Real.sqrt_pos.2 hpos).ne'
    refine ⟨max ((yr o h v - gs yr o / (8 * H * H)) / Real.sqrt (va + ε) * gr + er) 0, ?_, ?_⟩
    · have hfac : facK ((1 / (8 * H * H) : ℝ) : EReal) (ε : EReal) g (fun k h v => (yr k h v : EReal)) o
          = (((Real.sqrt (va + ε))⁻¹ * gr : ℝ) : EReal) := by
        unfold facK
        have e2 : gsum (fun k a b => (yr k a b : EReal) * (yr k a b : EReal)) o = (gs (fun k a b => yr k a b * yr k a b) o : EReal) := by
          rw [← gsum_coe]; simp only [EReal.coe_mul]
        rw [e2, gsum_coe, ← EReal.coe_mul, ← EReal.coe_mul, ← EReal.coe_mul, ← EReal.coe_sub, ← hve, ← EReal.coe_add, hrq _ hpos, hg,
          ← EReal.coe_mul]
      unfold normK
      rw [hfac, gsum_coe, hb, ← EReal.coe_mul, ← EReal.coe_mul, ← EReal.coe_mul, ← EReal.coe_sub, ← EReal.coe_add, ← EReal.coe_zero]
      rw [← EReal.coe_strictMono.monotone.map_max]
      congr 2
      field_simp
      ring
    · unfold normR
      have e2 : gsum (fun k a b => ((yr k a b : EReal) - Ideal.div (gsum (fun k h v => (yr k h v : EReal)) k) ((8 * H * H : ℝ) : EReal))
            * ((yr k a b : EReal) - Ideal.div (gsum (fun k h v => (yr k h v : EReal)) k) ((8 * H * H : ℝ) : EReal))) o
          = (gs (fun k h v => (yr k h v - gs yr k / (8 * H * H)) * (yr k h v - gs yr k / (8 * H * H))) o : EReal) := by
        rw [← gsum_coe]
        simp only [hm]
        simp only [EReal.coe_mul, EReal.coe_sub]
      rw [e2, hm, Ideal.div_coe hn, ← EReal.coe_mul, mul_one_div, ← hva, ← EReal.coe_add, hsq _ hpos, ← EReal.coe_sub, Ideal.div_coe hs, hg, hb,
        ← EReal.coe_mul, ← EReal.coe_mul, ← EReal.coe_add, ← EReal.coe_zero, ← EReal.coe_strictMono.monotone.map_max, mul_one_div]
  constructor
  · funext o h v
    obtain ⟨r, h1, h2⟩ := key o h v
    rw [h1, h2]
  · intro o h v
    obtain ⟨r, -, h2⟩ := key o h v
    exact ⟨r, h2⟩

/-- A layer of the kernel is the reference's layer on finite data, and finite. -/
theorem lay_eq {H : ℕ} (hH : 0 < H) {N cnt eps : EReal} (hN : N = ((8 * H * H : ℝ) : EReal))
    (hc : cnt = ((1 / (8 * H * H) : ℝ) : EReal)) (he : ∃ r : ℝ, 0 < r ∧ eps = r) {L : Lay} (hL : FinL L) {x : Img H} (hx : FinI x) :
    layK cnt eps L x = layR N eps L x ∧ FinI (layR N eps L x) :=
  norm_eq hH hN hc he hL.g hL.e (convB_fin hL hx)

end Cert.Proof.Spec

end
-- ==== Proof.RefOps.lean ====
/-
  The reference's operations on arrays, for any number of output channels and any size of image, and what each
  element of their results is: the 3×3 convolution made of one product and nine shifted slices, the group
  normalisation over a reshaped array, and the reading of one layer's parameters.
-/
module

public import proofs.«01_k».proof.Proof.Spec
public import Idealize.ShloMosaic.Lib.Pipeline.Value
public import Idealize.ShloMosaic.Lib.KernelVsHost
public import Idealize.ShloMosaic.Lib.IdealHost
public import Idealize.ShloMosaic.Lib.ValueLayout
public import Idealize.ShloMosaic.Lib.DynamicIndex
public import Idealize.ShloMosaic.Lib.Pointwise.Index
public import Idealize.ShloMosaic.Lib.Pointwise.Reduce

@[expose] public section

noncomputable section

namespace Cert.Proof.RefOps

open Idealize.ShloMosaic hiding ix0 ix1 ix2 ix3 ix4 ix5
open Idealize.ShloMosaic.ValueIdx
open Cert.Proof.Spec
open scoped BigOperators

theorem hS0 : 0 < (⟨0, ![]⟩ : Shape).numel := by decide

/-- The float zero the reference pads with. -/
abbrev zeroS : FVec Ideal ⟨0, ![]⟩ .f32 := sitofp .f32 (constantI (⟨0, ![]⟩ : Shape) 32 0#32)

theorem zeroS_apply (i) : zeroS i = 0 := by
  show ((((0#32 : BitVec 32).toInt : ℤ) : ℝ) : EReal) = 0
  simp

/-- The shapes of a convolution of an image of `H` rows and columns, with `W` of them once padded, to `O` channels. -/
structure CF (O H W : ℕ) : Prop where
  W2 : W = H + 2
  pads : (⟨3, ![256, H, H]⟩ : Shape).Pads (![0, 1, 1] : Fin 3 → Nat) ![0, 1, 1] ![0, 0, 0] ⟨3, ![256, W, W]⟩
  wf : DotDims.WF ⟨4, ![O, 256, 3, 3]⟩ ⟨3, ![256, W, W]⟩ ⟨5, ![O, 3, 3, W, W]⟩ [1] [0] [0, 2, 3] [1, 2] [] []
  sl : ∀ i j : Fin 3, (⟨5, ![O, 3, 3, W, W]⟩ : Shape).Slices ![0, i.1, j.1, i.1, j.1] ⟨5, ![O, 1, 1, H, H]⟩
  sc : (⟨5, ![O, 1, 1, H, H]⟩ : Shape).ShapeCasts ⟨3, ![O, H, H]⟩
  b1 : (⟨1, ![O]⟩ : Shape).BroadcastsInDim ⟨3, ![O, 1, 1]⟩ (![0] : Fin 1 → Fin 3)
  b2 : (⟨3, ![O, 1, 1]⟩ : Shape).BroadcastsInDim ⟨3, ![O, H, H]⟩ (![0, 1, 2] : Fin 3 → Fin 3)

section Conv
variable {O H W : ℕ} (f : CF O H W)

/-- The product over input channels. -/
def cdot : DotDims ⟨4, ![O, 256, 3, 3]⟩ ⟨3, ![256, W, W]⟩ ⟨5, ![O, 3, 3, W, W]⟩ where
  lhsContracting := [1]
  rhsContracting := [0]
  lhsNonContracting := [0, 2, 3]
  rhsNonContracting := [1, 2]
  lhsBatch := []
  rhsBatch := []
  wf := f.wf

/-- The image with its border of zeros. -/
def rpad (x : FVec Ideal ⟨3, ![256, H, H]⟩ .f32) : FVec Ideal ⟨3, ![256, W, W]⟩ .f32 :=
  pad ⟨3, ![256, W, W]⟩ ![0, 1, 1] ![0, 1, 1] ![0, 0, 0] x zeroS f.pads hS0

/-- All nine products at once. -/
def rdot (x : FVec Ideal ⟨3, ![256, H, H]⟩ .f32) (w : FVec Ideal ⟨4, ![O, 256, 3, 3]⟩ .f32) :
    FVec Ideal ⟨5, ![O, 3, 3, W, W]⟩ .f32 :=
  Host.dotGeneral (cdot f) none w (rpad f x)

/-- One of the nine, shifted into place. -/
def rtap (z : FVec Ideal ⟨5, ![O, 3, 3, W, W]⟩ .f32) (i j : Fin 3) : FVec Ideal ⟨3, ![O, H, H]⟩ .f32 :=
  shapeCast ⟨3, ![O, H, H]⟩ (extractStridedSlice ⟨5, ![O, 1, 1, H, H]⟩ ![0, i.1, j.1, i.1, j.1] z (f.sl i j)) f.sc

/-- A value per channel, repeated over the image. -/
def rrow (b : FVec Ideal ⟨1, ![O]⟩ .f32) : FVec Ideal ⟨3, ![O, H, H]⟩ .f32 :=
  broadcastInDim ⟨3, ![O, H, H]⟩ ![0, 1, 2] f.b2 (broadcastInDim ⟨3, ![O, 1, 1]⟩ ![0] f.b1 b)

/-- The convolution with its bias. -/
def rconv (x : FVec Ideal ⟨3, ![256, H, H]⟩ .f32) (w : FVec Ideal ⟨4, ![O, 256, 3, 3]⟩ .f32) (b : FVec Ideal ⟨1, ![O]⟩ .f32) :
    FVec Ideal ⟨3, ![O, H, H]⟩ .f32 :=
  addf (addf (addf (addf (addf (addf (addf (addf (addf (rtap f (rdot f x w) 0 0) (rtap f (rdot f x w) 0 1))
    (rtap f (rdot f x w) 0 2)) (rtap f (rdot f x w) 1 0)) (rtap f (rdot f x w) 1 1)) (rtap f (rdot f x w) 1 2))
    (rtap f (rdot f x w) 2 0)) (rtap f (rdot f x w) 2 1)) (rtap f (rdot f x w) 2 2)) (rrow f b)

/-- The image's channels as functions of row and column. -/
def img (x : FVec Ideal ⟨3, ![256, H, H]⟩ .f32) : Img H := fun c h v => x (ix3 c h v)

theorem rpad_apply (x : FVec Ideal ⟨3, ![256, H, H]⟩ .f32) (c : Fin 256) (a b : Fin W) :
    rpad f x (ix3 c a b) = padP (img x c) a.1 b.1 := by
  have hW := f.W2
  unfold padP rpad
  split_ifs with h
  · refine pad_apply_of_inside _ _ _ x zeroS f.pads hS0 (ix3 c a b)
      (ix3 c (⟨a.1 - 1, by omega⟩ : Fin H) (⟨b.1 - 1, by omega⟩ : Fin H)) fun d => ?_
    match d with
    | ⟨0, _⟩ => show c.1 = 0 + c.1 * (0 + 1); omega
    | ⟨1, _⟩ => show a.1 = 1 + (a.1 - 1) * (0 + 1); omega
    | ⟨2, _⟩ => show b.1 = 1 + (b.1 - 1) * (0 + 1); omega
  · by_cases h1 : 1 ≤ a.1 ∧ a.1 ≤ H
    · refine (pad_apply_of_not_inside _ _ _ x zeroS f.pads hS0 (ix3 c a b) (2 : Fin 3) ?_).trans (zeroS_apply _)
      rintro ⟨p, q, r⟩
      have p' : 1 ≤ b.1 := p
      have r' : (b.1 - 1) / (0 + 1) < H := r
      rw [Nat.div_one] at r'
      exact h ⟨h1, p', by omega⟩
    · refine (pad_apply_of_not_inside _ _ _ x zeroS f.pads hS0 (ix3 c a b) (1 : Fin 3) ?_).trans (zeroS_apply _)
      rintro ⟨p, q, r⟩
      have p' : 1 ≤ a.1 := p
      have r' : (a.1 - 1) / (0 + 1) < H := r
      rw [Nat.div_one] at r'
      exact h1 ⟨p', by omega⟩

theorem rdot_apply (x : FVec Ideal ⟨3, ![256, H, H]⟩ .f32) (w : FVec Ideal ⟨4, ![O, 256, 3, 3]⟩ .f32)
    (o : Fin O) (i j : Fin 3) (a b : Fin W) :
    rdot f x w (ix5 o i j a b) = tapE (img x) (fun c => w (ix4 o c i j)) a.1 b.1 := by
  unfold rdot tapE
  simp only [Host.dotGeneral]
  rw [Ideal.dotGeneral_apply, ← Equiv.sum_comp (contrEquiv1 (cdot f) 256 rfl rfl).symm]
  refine Finset.sum_congr rfl fun c _ => ?_
  have hk := contrEquiv1_symm_val (cdot f) 256 rfl rfl c
  have el : (cdot f).lhsIdx (ix5 o i j a b) ((contrEquiv1 (cdot f) 256 rfl rfl).symm c) = ix4 o c i j := by
    funext d; apply Fin.ext
    match d with
    | ⟨0, _⟩ => rfl
    | ⟨1, _⟩ => exact hk
    | ⟨2, _⟩ => rfl
    | ⟨3, _⟩ => rfl
  have er : (cdot f).rhsIdx (ix5 o i j a b) ((contrEquiv1 (cdot f) 256 rfl rfl).symm c) = ix3 c a b := by
    funext d; apply Fin.ext
    match d with
    | ⟨0, _⟩ => exact hk
    | ⟨1, _⟩ => rfl
    | ⟨2, _⟩ => rfl
  rw [el, er, rpad_apply, mul_comm]

theorem rtap_apply (z : FVec Ideal ⟨5, ![O, 3, 3, W, W]⟩ .f32) (i j : Fin 3) (o : Fin O) (h v : Fin H) :
    rtap f z i j (ix3 o h v)
      = z (ix5 o i j (⟨h.1 + i.1, by have := f.W2; omega⟩ : Fin W) (⟨v.1 + j.1, by have := f.W2; omega⟩ : Fin W)) := by
  unfold rtap
  refine (shapeCast_apply _ f.sc (ix3 o h v) (ix5 o (0 : Fin 1) (0 : Fin 1) h v) ?_).trans ?_
  · rw [Shape.rowMajor_val_five, Shape.rowMajor_val_three]
    show (((o.1 * 1 + 0) * 1 + 0) * H + h.1) * H + v.1 = (o.1 * H + h.1) * H + v.1
    simp
  · refine extractStridedSlice_apply _ z (f.sl i j) _ _ fun d => ?_
    match d with
    | ⟨0, _⟩ => show o.1 = 0 + o.1; omega
    | ⟨1, _⟩ => show i.1 = i.1 + 0; omega
    | ⟨2, _⟩ => show j.1 = j.1 + 0; omega
    | ⟨3, _⟩ => show h.1 + i.1 = i.1 + h.1; omega
    | ⟨4, _⟩ => show v.1 + j.1 = j.1 + v.1; omega

theorem rrow_apply (b : FVec Ideal ⟨1, ![O]⟩ .f32) (o : Fin O) (h v : Fin H) : rrow f b (ix3 o h v) = b (ix1 o) := by
  unfold rrow
  refine (broadcastInDim_apply _ f.b2 _ (ix3 o h v) (ix3 o (0 : Fin 1) (0 : Fin 1)) fun d => ?_).trans ?_
  · match d with
    | ⟨0, _⟩ => show o.1 = if O = 1 then 0 else o.1; split_ifs <;> omega
    | ⟨1, _⟩ => rfl
    | ⟨2, _⟩ => rfl
  · refine broadcastInDim_apply _ f.b1 _ _ (ix1 o) fun d => ?_
    match d with
    | ⟨0, _⟩ => show o.1 = if O = 1 then 0 else o.1; split_ifs <;> omega

/-- **The convolution at an element.** -/
theorem rconv_apply (x : FVec Ideal ⟨3, ![256, H, H]⟩ .f32) (w : FVec Ideal ⟨4, ![O, 256, 3, 3]⟩ .f32)
    (b : FVec Ideal ⟨1, ![O]⟩ .f32) (o : Fin O) (h v : Fin H) :
    rconv f x w b (ix3 o h v) = convE (img x) (fun i j c => w (ix4 o c i j)) h.1 v.1 + b (ix1 o) := by
  have t : ∀ i j : Fin 3, rtap f (rdot f x w) i j (ix3 o h v) = tapE (img x) (fun c => w (ix4 o c i j)) (h.1 + i.1) (v.1 + j.1) :=
    fun i j => (rtap_apply f _ i j o h v).trans (rdot_apply f x w o i j _ _)
  show rtap f (rdot f x w) 0 0 (ix3 o h v) + rtap f (rdot f x w) 0 1 (ix3 o h v) + rtap f (rdot f x w) 0 2 (ix3 o h v)
    + rtap f (rdot f x w) 1 0 (ix3 o h v) + rtap f (rdot f x w) 1 1 (ix3 o h v) + rtap f (rdot f x w) 1 2 (ix3 o h v)
    + rtap f (rdot f x w) 2 0 (ix3 o h v) + rtap f (rdot f x w) 2 1 (ix3 o h v) + rtap f (rdot f x w) 2 2 (ix3 o h v)
    + rrow f b (ix3 o h v) = _
  rw [t, t, t, t, t, t, t, t, t, rrow_apply]
  rfl

end Conv

/-! ## Group normalisation -/

/-- The shapes of a group normalisation of an image of `H` rows and columns. -/
structure NF (H : ℕ) : Prop where
  s1 : (⟨3, ![256, H, H]⟩ : Shape).ShapeCasts ⟨4, ![32, 8, H, H]⟩
  s2 : (⟨4, ![32, 8, H, H]⟩ : Shape).ShapeCasts ⟨3, ![256, H, H]⟩
  rd : (⟨4, ![32, 8, H, H]⟩ : Shape).ReducesTo [1, 2, 3] ⟨1, ![32]⟩
  b1 : (⟨1, ![32]⟩ : Shape).BroadcastsInDim ⟨4, ![32, 1, 1, 1]⟩ (![0] : Fin 1 → Fin 4)
  b0 : (⟨0, ![]⟩ : Shape).BroadcastsInDim ⟨4, ![32, 1, 1, 1]⟩ (![] : Fin 0 → Fin 4)
  b4 : (⟨4, ![32, 1, 1, 1]⟩ : Shape).BroadcastsInDim ⟨4, ![32, 8, H, H]⟩ (![0, 1, 2, 3] : Fin 4 → Fin 4)
  bz : (⟨0, ![]⟩ : Shape).BroadcastsInDim ⟨3, ![256, H, H]⟩ (![] : Fin 0 → Fin 3)

section Norm
variable {H W : ℕ} (f : CF 256 H W) (n : NF H) (N : BitVec 32)

/-- The mean over each group. -/
def rmean (y : FVec Ideal ⟨4, ![32, 8, H, H]⟩ .f32) : FVec Ideal ⟨4, ![32, 1, 1, 1]⟩ .f32 :=
  Host.divf (broadcastInDim ⟨4, ![32, 1, 1, 1]⟩ ![0] n.b1
      (Host.reduceAdd y (constant (F := Ideal) ⟨0, ![]⟩ .f32 0x00000000#32) n.rd hS0))
    (broadcastInDim ⟨4, ![32, 1, 1, 1]⟩ ![] n.b0 (constant (F := Ideal) ⟨0, ![]⟩ .f32 N))

/-- The deviations from the mean. -/
def rdev (y : FVec Ideal ⟨3, ![256, H, H]⟩ .f32) : FVec Ideal ⟨4, ![32, 8, H, H]⟩ .f32 :=
  subf (shapeCast ⟨4, ![32, 8, H, H]⟩ y n.s1)
    (broadcastInDim ⟨4, ![32, 8, H, H]⟩ ![0, 1, 2, 3] n.b4 (rmean n N (shapeCast ⟨4, ![32, 8, H, H]⟩ y n.s1)))

/-- The small number added under the root, in each group. -/
def reps : FVec Ideal ⟨4, ![32, 1, 1, 1]⟩ .f32 :=
  broadcastInDim ⟨4, ![32, 1, 1, 1]⟩ ![] n.b0 (constant (F := Ideal) ⟨0, ![]⟩ .f32 0x3727C5AC#32)

/-- Zero at every pixel. -/
def rzero : FVec Ideal ⟨3, ![256, H, H]⟩ .f32 :=
  broadcastInDim ⟨3, ![256, H, H]⟩ ![] n.bz (constant (F := Ideal) ⟨0, ![]⟩ .f32 0x00000000#32)

/-- Normalisation, gain, offset and rectification. -/
def rnorm (y : FVec Ideal ⟨3, ![256, H, H]⟩ .f32) (g e : FVec Ideal ⟨1, ![256]⟩ .f32) : FVec Ideal ⟨3, ![256, H, H]⟩ .f32 :=
  maximumf (addf (mulf (shapeCast ⟨3, ![256, H, H]⟩
      (Host.divf (rdev n N y) (broadcastInDim ⟨4, ![32, 8, H, H]⟩ ![0, 1, 2, 3] n.b4
        (Host.sqrt (addf (rmean n N (mulf (rdev n N y) (rdev n N y))) (reps n))))) n.s2)
      (rrow f g)) (rrow f e)) (rzero n)

/-- The source indices that a reduction over the last three of four axes sends to one place. -/
theorem fiber3 {n0 n1 n2 n3 : ℕ} (h : (⟨4, ![n0, n1, n2, n3]⟩ : Shape).ReducesTo [1, 2, 3] ⟨1, ![n0]⟩) (g : Fin n0)
    (i : (⟨4, ![n0, n1, n2, n3]⟩ : Shape).Idx) :
    h.drop i = ix1 g ↔ ∃ k : Fin n1 × Fin n2 × Fin n3, ix4 g k.1 k.2.1 k.2.2 = i := by
  constructor
  · intro e
    refine ⟨(i 1, i 2, i 3), ?_⟩
    funext d; apply Fin.ext
    match d with
    | ⟨0, _⟩ => exact (congrArg Fin.val (congrFun e (0 : Fin 1))).symm
    | ⟨1, _⟩ => rfl
    | ⟨2, _⟩ => rfl
    | ⟨3, _⟩ => rfl
  · rintro ⟨k, rfl⟩
    funext d; apply Fin.ext
    match d with
    | ⟨0, _⟩ => rfl

/-- The sum of a group, over its eight channels and all pixels. -/
def G8 (y : Fin 256 → Fin H → Fin H → EReal) (g : Fin 32) : EReal :=
  ∑ k : Fin 8, ∑ a, ∑ b, y ⟨8 * g.1 + k.1, by omega⟩ a b

theorem gsum_eq (y : Img H) (c : Fin 256) : gsum y c = G8 y ⟨c.1 / 8, by omega⟩ := by
  unfold gsum G8
  rw [← Equiv.sum_comp (finProdFinEquiv : Fin 32 × Fin 8 ≃ Fin 256), Fintype.sum_prod_type]
  rw [Finset.sum_eq_single (⟨c.1 / 8, by omega⟩ : Fin 32)]
  · refine Finset.sum_congr rfl fun k _ => ?_
    have hv : (finProdFinEquiv ((⟨c.1 / 8, by omega⟩ : Fin 32), k) : Fin 256) = ⟨8 * (c.1 / 8) + k.1, by omega⟩ := by
      apply Fin.ext
      show k.1 + 8 * (c.1 / 8) = _
      exact Nat.add_comm _ _
    rw [hv, if_pos (by show (8 * (c.1 / 8) + k.1) / 8 = c.1 / 8; omega)]
  · intro g _ hg
    refine Finset.sum_eq_zero fun k _ => if_neg ?_
    show ¬ (k.1 + 8 * g.1) / 8 = c.1 / 8
    intro e
    exact hg (Fin.ext (by show g.1 = c.1 / 8; omega))
  · intro h; exact absurd (Finset.mem_univ _) h

theorem rmean_apply (y : FVec Ideal ⟨4, ![32, 8, H, H]⟩ .f32) (g : Fin 32) (i j k : Fin 1) :
    rmean n N y (ix4 g i j k) = Ideal.div (∑ k : Fin 8, ∑ a, ∑ b, y (ix4 g k a b)) (Ideal.ofBits .f32 N) := by
  unfold rmean
  rw [hostDivf_apply, broadcastInDim_scalar_apply]
  congr 1
  refine (broadcastInDim_apply _ n.b1 _ (ix4 g i j k) (ix1 g) fun d => ?_).trans ?_
  · match d with
    | ⟨0, _⟩ => rfl
  · rw [hostReduceAdd_apply]
    show Ideal.ofBits .f32 0x00000000#32 + _ = _
    rw [Ideal.ofBits_zero_f32, zero_add]
    refine (Finset.sum_filter_eq_sum_of_fiber _ (fun k : Fin 8 × Fin H × Fin H => ix4 g k.1 k.2.1 k.2.2)
      (fun _ _ e => Prod.ext (congrFun e 1) (Prod.ext (congrFun e 2) (congrFun e 3))) (fiber3 n.rd g) y).trans ?_
    simp only [Fintype.sum_prod_type]

theorem regroup_apply (y : FVec Ideal ⟨3, ![256, H, H]⟩ .f32) (g : Fin 32) (k : Fin 8) (a b : Fin H) :
    shapeCast ⟨4, ![32, 8, H, H]⟩ y n.s1 (ix4 g k a b) = img y ⟨8 * g.1 + k.1, by omega⟩ a b := by
  refine shapeCast_apply y n.s1 (ix4 g k a b) (ix3 (⟨8 * g.1 + k.1, by omega⟩ : Fin 256) a b) ?_
  rw [Shape.rowMajor_val_four, Shape.rowMajor_val_three]
  show ((8 * g.1 + k.1) * H + a.1) * H + b.1 = ((g.1 * 8 + k.1) * H + a.1) * H + b.1
  rw [Nat.mul_comm 8 g.1]

theorem bcast4_apply (m : FVec Ideal ⟨4, ![32, 1, 1, 1]⟩ .f32) (g : Fin 32) (k : Fin 8) (a b : Fin H) :
    broadcastInDim ⟨4, ![32, 8, H, H]⟩ ![0, 1, 2, 3] n.b4 m (ix4 g k a b) = m (ix4 g (0 : Fin 1) (0 : Fin 1) (0 : Fin 1)) := by
  refine broadcastInDim_apply _ n.b4 m (ix4 g k a b) _ fun d => ?_
  match d with
  | ⟨0, _⟩ => rfl
  | ⟨1, _⟩ => rfl
  | ⟨2, _⟩ => rfl
  | ⟨3, _⟩ => rfl

theorem rdev_apply (y : FVec Ideal ⟨3, ![256, H, H]⟩ .f32) (g : Fin 32) (k : Fin 8) (a b : Fin H) :
    rdev n N y (ix4 g k a b)
      = img y ⟨8 * g.1 + k.1, by omega⟩ a b - Ideal.div (G8 (img y) g) (Ideal.ofBits .f32 N) := by
  show shapeCast ⟨4, ![32, 8, H, H]⟩ y n.s1 (ix4 g k a b) - _ = _
  rw [regroup_apply n, bcast4_apply n, rmean_apply n]
  unfold G8
  refine congrArg (fun t => _ - Ideal.div t _) ?_
  exact Finset.sum_congr rfl fun k _ => Finset.sum_congr rfl fun a _ => Finset.sum_congr rfl fun b _ => regroup_apply n y g k a b

/-- **The normalisation at an element.** -/
theorem rnorm_apply (y : FVec Ideal ⟨3, ![256, H, H]⟩ .f32) (g e : FVec Ideal ⟨1, ![256]⟩ .f32) (c : Fin 256) (h v : Fin H) :
    rnorm f n N y g e (ix3 c h v)
      = normR (Ideal.ofBits .f32 N) (Ideal.ofBits .f32 0x3727C5AC#32) (fun c => g (ix1 c)) (fun c => e (ix1 c)) (img y) c h v := by
  have hc : (⟨8 * (c.1 / 8) + c.1 % 8, by omega⟩ : Fin 256) = c := Fin.ext (by show 8 * (c.1 / 8) + c.1 % 8 = c.1; omega)
  have hs : ∀ z : FVec Ideal ⟨4, ![32, 8, H, H]⟩ .f32, shapeCast ⟨3, ![256, H, H]⟩ z n.s2 (ix3 c h v)
      = z (ix4 (⟨c.1 / 8, by omega⟩ : Fin 32) (⟨c.1 % 8, by omega⟩ : Fin 8) h v) := fun z => by
    refine shapeCast_apply z n.s2 (ix3 c h v) _ ?_
    rw [Shape.rowMajor_val_four, Shape.rowMajor_val_three]
    show ((c.1 / 8 * 8 + c.1 % 8) * H + h.1) * H + v.1 = (c.1 * H + h.1) * H + v.1
    rw [show c.1 / 8 * 8 + c.1 % 8 = c.1 by omega]
  show max (shapeCast ⟨3, ![256, H, H]⟩ _ n.s2 (ix3 c h v) * rrow f g (ix3 c h v) + rrow f e (ix3 c h v))
    (rzero n (ix3 c h v)) = _
  have hz : rzero n (ix3 c h v) = 0 := (broadcastInDim_scalar_apply n.bz _ _).trans Ideal.ofBits_zero_f32
  have he : ∀ i, reps n i = Ideal.ofBits .f32 0x3727C5AC#32 := fun i => broadcastInDim_scalar_apply n.b0 _ _
  rw [hs, rrow_apply, rrow_apply, hz, hostDivf_apply, rdev_apply n, bcast4_apply n, hc]
  show max (Ideal.div _ (Ideal.sqrt (rmean n N (mulf (rdev n N y) (rdev n N y)) _ + reps n _)) * _ + _) 0 = _
  rw [rmean_apply n, he]
  unfold normR
  rw [gsum_eq, gsum_eq]
  have hsq : (∑ k : Fin 8, ∑ a, ∑ b, mulf (rdev n N y) (rdev n N y) (ix4 (⟨c.1 / 8, by omega⟩ : Fin 32) k a b))
      = G8 (fun k a b => (img y k a b - Ideal.div (gsum (img y) k) (Ideal.ofBits .f32 N))
          * (img y k a b - Ideal.div (gsum (img y) k) (Ideal.ofBits .f32 N))) ⟨c.1 / 8, by omega⟩ := by
    unfold G8
    refine Finset.sum_congr rfl fun k _ => Finset.sum_congr rfl fun a _ => Finset.sum_congr rfl fun b _ => ?_
    show rdev n N y _ * rdev n N y _ = (img y _ a b - Ideal.div (gsum (img y) _) (Ideal.ofBits .f32 N))
          * (img y _ a b - Ideal.div (gsum (img y) _) (Ideal.ofBits .f32 N))
    rw [rdev_apply n, gsum_eq]
    have : (⟨(8 * (c.1 / 8) + k.1) / 8, by omega⟩ : Fin 32) = ⟨c.1 / 8, by omega⟩ := Fin.ext (by
      show (8 * (c.1 / 8) + k.1) / 8 = c.1 / 8; omega)
    rw [this]
  rw [hsq]

/-- A layer's parameters. -/
def layW (w : FVec Ideal ⟨4, ![256, 256, 3, 3]⟩ .f32) (b g e : FVec Ideal ⟨1, ![256]⟩ .f32) : Lay where
  w o i j c := w (ix4 o c i j)
  b o := b (ix1 o)
  g o := g (ix1 o)
  e o := e (ix1 o)

/-- A layer. -/
def rlay (x : FVec Ideal ⟨3, ![256, H, H]⟩ .f32) (w : FVec Ideal ⟨4, ![256, 256, 3, 3]⟩ .f32) (b g e : FVec Ideal ⟨1, ![256]⟩ .f32) :
    FVec Ideal ⟨3, ![256, H, H]⟩ .f32 :=
  rnorm f n N (rconv f x w b) g e

/-- **The layer is the mathematics' layer.** -/
theorem rlay_img (x : FVec Ideal ⟨3, ![256, H, H]⟩ .f32) (w : FVec Ideal ⟨4, ![256, 256, 3, 3]⟩ .f32) (b g e : FVec Ideal ⟨1, ![256]⟩ .f32) :
    img (rlay f n N x w b g e)
      = layR (Ideal.ofBits .f32 N) (Ideal.ofBits .f32 0x3727C5AC#32) (layW w b g e) (img x) := by
  funext c h v
  refine (rnorm_apply f n N _ g e c h v).trans ?_
  have : img (rconv f x w b) = convB (layW w b g e) (img x) := by
    funext c h v; exact rconv_apply f x w b c h v
  rw [this]
  rfl

end Norm

/-! ## The parameters of one layer -/

/-- One layer's weights, read from those of all four. -/
theorem row5_apply (x : (⟨5, ![4, 256, 256, 3, 3]⟩ : Shape).Idx → EReal) (st : Fin 5 → Int)
    (hs : (⟨5, ![4, 256, 256, 3, 3]⟩ : Shape).Slices (fun _ => 0) ⟨5, ![1, 256, 256, 3, 3]⟩)
    (hc : (⟨5, ![1, 256, 256, 3, 3]⟩ : Shape).ShapeCasts ⟨4, ![256, 256, 3, 3]⟩) (j : Fin 4)
    (h0 : st 0 = (j.1 : Int)) (h1 : st 1 = 0) (h2 : st 2 = 0) (h3 : st 3 = 0) (h4 : st 4 = 0)
    (o c : Fin 256) (a b : Fin 3) :
    shapeCast ⟨4, ![256, 256, 3, 3]⟩ (Host.dynamicSlice ⟨5, ![1, 256, 256, 3, 3]⟩ x st hs) hc (ix4 o c a b) = x (ix5 j o c a b) := by
  have hoff : (⟨5, ![4, 256, 256, 3, 3]⟩ : Shape).Slices ![j.1, 0, 0, 0, 0] ⟨5, ![1, 256, 256, 3, 3]⟩ :=
    (by decide : ∀ j : Fin 4, (⟨5, ![4, 256, 256, 3, 3]⟩ : Shape).Slices ![j.1, 0, 0, 0, 0] ⟨5, ![1, 256, 256, 3, 3]⟩) j
  rw [Host.dynamicSlice_eq_extractStridedSlice _ x st ![j.1, 0, 0, 0, 0] hs hoff (fun d => by
    match d with
    | ⟨0, _⟩ => exact h0
    | ⟨1, _⟩ => exact h1
    | ⟨2, _⟩ => exact h2
    | ⟨3, _⟩ => exact h3
    | ⟨4, _⟩ => exact h4)]
  refine (shapeCast_apply _ hc (ix4 o c a b) (ix5 (0 : Fin 1) o c a b) ?_).trans ?_
  · rw [Shape.rowMajor_val_five, Shape.rowMajor_val_four]
    show (((0 * 256 + o.1) * 256 + c.1) * 3 + a.1) * 3 + b.1 = ((o.1 * 256 + c.1) * 3 + a.1) * 3 + b.1
    rw [Nat.zero_mul, Nat.zero_add]
  · refine extractStridedSlice_apply _ x hoff _ _ fun d => ?_
    match d with
    | ⟨0, _⟩ => show j.1 = j.1 + 0; omega
    | ⟨1, _⟩ => show o.1 = 0 + o.1; omega
    | ⟨2, _⟩ => show c.1 = 0 + c.1; omega
    | ⟨3, _⟩ => show a.1 = 0 + a.1; omega
    | ⟨4, _⟩ => show b.1 = 0 + b.1; omega

/-- One layer's row of values, read from those of all four. -/
theorem row2_apply (x : (⟨2, ![4, 256]⟩ : Shape).Idx → EReal) (st : Fin 2 → Int)
    (hs : (⟨2, ![4, 256]⟩ : Shape).Slices (fun _ => 0) ⟨2, ![1, 256]⟩)
    (hc : (⟨2, ![1, 256]⟩ : Shape).ShapeCasts ⟨1, ![256]⟩) (j : Fin 4)
    (h0 : st 0 = (j.1 : Int)) (h1 : st 1 = 0) (o : Fin 256) :
    shapeCast ⟨1, ![256]⟩ (Host.dynamicSlice ⟨2, ![1, 256]⟩ x st hs) hc (ix1 o) = x (ix2 j o) := by
  have hoff : (⟨2, ![4, 256]⟩ : Shape).Slices ![j.1, 0] ⟨2, ![1, 256]⟩ :=
    (by decide : ∀ j : Fin 4, (⟨2, ![4, 256]⟩ : Shape).Slices ![j.1, 0] ⟨2, ![1, 256]⟩) j
  rw [Host.dynamicSlice_eq_extractStridedSlice _ x st ![j.1, 0] hs hoff (fun d => by
    match d with
    | ⟨0, _⟩ => exact h0
    | ⟨1, _⟩ => exact h1)]
  refine (shapeCast_apply _ hc (ix1 o) (ix2 (0 : Fin 1) o) ?_).trans ?_
  · rw [Shape.rowMajor_val_two, Shape.rowMajor_val_one]
    show 0 * 256 + o.1 = o.1
    omega
  · refine extractStridedSlice_apply _ x hoff _ _ fun d => ?_
    match d with
    | ⟨0, _⟩ => show j.1 = j.1 + 0; omega
    | ⟨1, _⟩ => show o.1 = 0 + o.1; omega

/-- One of the five scales, as the reference reads it. -/
theorem scale_apply (s : (⟨1, ![5]⟩ : Shape).Idx → EReal) (l : Fin 5) (hs : (⟨1, ![5]⟩ : Shape).Slices ![l.1] ⟨1, ![1]⟩)
    (hc : (⟨1, ![1]⟩ : Shape).ShapeCasts ⟨0, ![]⟩) :
    shapeCast ⟨0, ![]⟩ (extractStridedSlice ⟨1, ![1]⟩ ![l.1] s hs) hc ix0 = s (ix1 l) := by
  refine (shapeCast_apply _ hc ix0 (ix1 (0 : Fin 1)) ?_).trans ?_
  · rw [Shape.rowMajor_val_one]
    have := ((⟨0, ![]⟩ : Shape).rowMajor ix0).isLt
    have e : (⟨0, ![]⟩ : Shape).numel = 1 := by decide
    show 0 = _
    omega
  · refine extractStridedSlice_apply _ s hs _ _ fun d => ?_
    match d with
    | ⟨0, _⟩ => show l.1 = l.1 + 0; omega

/-- A leading axis of one, put in front. -/
theorem lead_apply {O H : ℕ} (hb : (⟨3, ![O, H, H]⟩ : Shape).BroadcastsInDim ⟨4, ![1, O, H, H]⟩ (![1, 2, 3] : Fin 3 → Fin 4))
    (y : (⟨3, ![O, H, H]⟩ : Shape).Idx → EReal) (i : Fin 1) (o : Fin O) (h v : Fin H) :
    broadcastInDim ⟨4, ![1, O, H, H]⟩ ![1, 2, 3] hb y (ix4 i o h v) = y (ix3 o h v) := by
  refine broadcastInDim_apply _ hb y _ _ fun d => ?_
  match d with
  | ⟨0, _⟩ => show o.1 = if O = 1 then 0 else o.1; split_ifs <;> omega
  | ⟨1, _⟩ => show h.1 = if H = 1 then 0 else h.1; split_ifs <;> omega
  | ⟨2, _⟩ => show v.1 = if H = 1 then 0 else v.1; split_ifs <;> omega

/-- A leading axis of one, taken away. -/
theorem unlead_apply {H : ℕ} (hc : (⟨4, ![1, 256, H, H]⟩ : Shape).ShapeCasts ⟨3, ![256, H, H]⟩)
    (y : (⟨4, ![1, 256, H, H]⟩ : Shape).Idx → EReal) (c : Fin 256) (h v : Fin H) :
    shapeCast ⟨3, ![256, H, H]⟩ y hc (ix3 c h v) = y (ix4 (0 : Fin 1) c h v) := by
  refine shapeCast_apply y hc _ _ ?_
  rw [Shape.rowMajor_val_four, Shape.rowMajor_val_three]
  show ((0 * 256 + c.1) * H + h.1) * H + v.1 = (c.1 * H + h.1) * H + v.1
  rw [Nat.zero_mul, Nat.zero_add]

end Cert.Proof.RefOps
-- ==== Proof.RefValue.lean ====
/-
  What the reference computes: the state of its loop after four trips holds the two towers' images of every level,
  and each result is a convolution of one of them.
-/
module

public import proofs.«01_k».proof.Proof.RefOps
public import proofs.«01_k».proof.Proof.Gen.ReferenceIdeal.Step

@[expose] public section

noncomputable section

namespace Cert.Proof.RefValue

open Idealize.ShloMosaic hiding ix0 ix1 ix2 ix3 ix4 ix5
open Idealize.ShloMosaic.ValueIdx
open Cert.Proof.Spec Cert.Proof.RefOps
open Cert.ReferenceIdeal Cert.ReferenceIdeal.Gen Cert.ReferenceIdeal.Step

/-! ## The shapes -/

/-- The shapes of a normalisation at 64 rows and columns fit. -/
theorem nf64 : NF 64 := ⟨by decide, by decide, by decide, by decide, by decide, by decide, by decide⟩
/-- The shapes of a normalisation at 32 rows and columns fit. -/
theorem nf32 : NF 32 := ⟨by decide, by decide, by decide, by decide, by decide, by decide, by decide⟩
/-- The shapes of a normalisation at 16 rows and columns fit. -/
theorem nf16 : NF 16 := ⟨by decide, by decide, by decide, by decide, by decide, by decide, by decide⟩
/-- The shapes of a normalisation at 8 rows and columns fit. -/
theorem nf8 : NF 8 := ⟨by decide, by decide, by decide, by decide, by decide, by decide, by decide⟩
/-- The shapes of a normalisation at 4 rows and columns fit. -/
theorem nf4 : NF 4 := ⟨by decide, by decide, by decide, by decide, by decide, by decide, by decide⟩
/-- The shapes of a convolution to 256 channels at 64 rows and columns fit. -/
theorem cf256_64 : CF 256 64 66 := ⟨rfl, by decide, by decide, by decide, by decide, by decide, by decide⟩
/-- The shapes of a convolution to 256 channels at 32 rows and columns fit. -/
theorem cf256_32 : CF 256 32 34 := ⟨rfl, by decide, by decide, by decide, by decide, by decide, by decide⟩
/-- The shapes of a convolution to 256 channels at 16 rows and columns fit. -/
theorem cf256_16 : CF 256 16 18 := ⟨rfl, by decide, by decide, by decide, by decide, by decide, by decide⟩
/-- The shapes of a convolution to 256 channels at 8 rows and columns fit. -/
theorem cf256_8 : CF 256 8 10 := ⟨rfl, by decide, by decide, by decide, by decide, by decide, by decide⟩
/-- The shapes of a convolution to 256 channels at 4 rows and columns fit. -/
theorem cf256_4 : CF 256 4 6 := ⟨rfl, by decide, by decide, by decide, by decide, by decide, by decide⟩
/-- The shapes of a convolution to 80 channels at 64 rows and columns fit. -/
theorem cf80_64 : CF 80 64 66 := ⟨rfl, by decide, by decide, by decide, by decide, by decide, by decide⟩
/-- The shapes of a convolution to 80 channels at 32 rows and columns fit. -/
theorem cf80_32 : CF 80 32 34 := ⟨rfl, by decide, by decide, by decide, by decide, by decide, by decide⟩
/-- The shapes of a convolution to 80 channels at 16 rows and columns fit. -/
theorem cf80_16 : CF 80 16 18 := ⟨rfl, by decide, by decide, by decide, by decide, by decide, by decide⟩
/-- The shapes of a convolution to 80 channels at 8 rows and columns fit. -/
theorem cf80_8 : CF 80 8 10 := ⟨rfl, by decide, by decide, by decide, by decide, by decide, by decide⟩
/-- The shapes of a convolution to 80 channels at 4 rows and columns fit. -/
theorem cf80_4 : CF 80 4 6 := ⟨rfl, by decide, by decide, by decide, by decide, by decide, by decide⟩
/-- The shapes of a convolution to 4 channels at 64 rows and columns fit. -/
theorem cf4_64 : CF 4 64 66 := ⟨rfl, by decide, by decide, by decide, by decide, by decide, by decide⟩
/-- The shapes of a convolution to 4 channels at 32 rows and columns fit. -/
theorem cf4_32 : CF 4 32 34 := ⟨rfl, by decide, by decide, by decide, by decide, by decide, by decide⟩
/-- The shapes of a convolution to 4 channels at 16 rows and columns fit. -/
theorem cf4_16 : CF 4 16 18 := ⟨rfl, by decide, by decide, by decide, by decide, by decide, by decide⟩
/-- The shapes of a convolution to 4 channels at 8 rows and columns fit. -/
theorem cf4_8 : CF 4 8 10 := ⟨rfl, by decide, by decide, by decide, by decide, by decide, by decide⟩
/-- The shapes of a convolution to 4 channels at 4 rows and columns fit. -/
theorem cf4_4 : CF 4 4 6 := ⟨rfl, by decide, by decide, by decide, by decide, by decide, by decide⟩
/-- The shapes of a convolution to 1 channels at 64 rows and columns fit. -/
theorem cf1_64 : CF 1 64 66 := ⟨rfl, by decide, by decide, by decide, by decide, by decide, by decide⟩
/-- The shapes of a convolution to 1 channels at 32 rows and columns fit. -/
theorem cf1_32 : CF 1 32 34 := ⟨rfl, by decide, by decide, by decide, by decide, by decide, by decide⟩
/-- The shapes of a convolution to 1 channels at 16 rows and columns fit. -/
theorem cf1_16 : CF 1 16 18 := ⟨rfl, by decide, by decide, by decide, by decide, by decide, by decide⟩
/-- The shapes of a convolution to 1 channels at 8 rows and columns fit. -/
theorem cf1_8 : CF 1 8 10 := ⟨rfl, by decide, by decide, by decide, by decide, by decide, by decide⟩
/-- The shapes of a convolution to 1 channels at 4 rows and columns fit. -/
theorem cf1_4 : CF 1 4 6 := ⟨rfl, by decide, by decide, by decide, by decide, by decide, by decide⟩

/-! ## One trip of the loop -/

variable (j : ℕ) (s : State Ideal)

/-- The classification layer of a trip. -/
abbrev wC : Lay := layW (b5 j s) (b8 j s) (b11 j s) (b14 j s)
/-- The box layer of a trip. -/
abbrev wB : Lay := layW (b20 j s) (b23 j s) (b26 j s) (b29 j s)

/-- A trip takes a classification feature map to its layer. -/
theorem b94_eq : b94 j s = rlay cf256_64 nf64 0x47000000#32 s.main_v5_9 (b5 j s) (b8 j s) (b11 j s) (b14 j s) := rfl
/-- A trip takes a box feature map to its layer. -/
theorem b419_eq : b419 j s = rlay cf256_64 nf64 0x47000000#32 s.main_v5_14 (b20 j s) (b23 j s) (b26 j s) (b29 j s) := rfl
/-- A trip takes a classification feature map to its layer. -/
theorem b159_eq : b159 j s = rlay cf256_32 nf32 0x46000000#32 s.main_v5_10 (b5 j s) (b8 j s) (b11 j s) (b14 j s) := rfl
/-- A trip takes a box feature map to its layer. -/
theorem b484_eq : b484 j s = rlay cf256_32 nf32 0x46000000#32 s.main_v5_15 (b20 j s) (b23 j s) (b26 j s) (b29 j s) := rfl
/-- A trip takes a classification feature map to its layer. -/
theorem b224_eq : b224 j s = rlay cf256_16 nf16 0x45000000#32 s.main_v5_11 (b5 j s) (b8 j s) (b11 j s) (b14 j s) := rfl
/-- A trip takes a box feature map to its layer. -/
theorem b549_eq : b549 j s = rlay cf256_16 nf16 0x45000000#32 s.main_v5_16 (b20 j s) (b23 j s) (b26 j s) (b29 j s) := rfl
/-- A trip takes a classification feature map to its layer. -/
theorem b289_eq : b289 j s = rlay cf256_8 nf8 0x44000000#32 s.main_v5_12 (b5 j s) (b8 j s) (b11 j s) (b14 j s) := rfl
/-- A trip takes a box feature map to its layer. -/
theorem b614_eq : b614 j s = rlay cf256_8 nf8 0x44000000#32 s.main_v5_17 (b20 j s) (b23 j s) (b26 j s) (b29 j s) := rfl
/-- A trip takes a classification feature map to its layer. -/
theorem b354_eq : b354 j s = rlay cf256_4 nf4 0x43000000#32 s.main_v5_13 (b5 j s) (b8 j s) (b11 j s) (b14 j s) := rfl
/-- A trip takes a box feature map to its layer. -/
theorem b679_eq : b679 j s = rlay cf256_4 nf4 0x43000000#32 s.main_v5_18 (b20 j s) (b23 j s) (b26 j s) (b29 j s) := rfl

/-- The parameters of layer `j`, from the arrays of all four. -/
def lay4 (w : (⟨5, ![4, 256, 256, 3, 3]⟩ : Shape).Idx → EReal) (b g e : (⟨2, ![4, 256]⟩ : Shape).Idx → EReal) (j : Fin 4) : Lay where
  w o i k c := w (ix5 j o c i k)
  b o := b (ix2 j o)
  g o := g (ix2 j o)
  e o := e (ix2 j o)

/-- Layers with equal parameters are equal. -/
theorem lay_ext {L M : Lay} (hw : ∀ o i k c, L.w o i k c = M.w o i k c) (hb : ∀ o, L.b o = M.b o) (hg : ∀ o, L.g o = M.g o)
    (he : ∀ o, L.e o = M.e o) : L = M := by
  cases L; cases M
  obtain rfl := funext hb
  obtain rfl := funext hg
  obtain rfl := funext he
  obtain rfl := funext fun o => funext fun i => funext fun k => funext fun c => hw o i k c
  rfl

/-- A trip's number read as a signed word. -/
theorem toInt4 (j : Fin 4) : (BitVec.ofNat 32 j.1).toInt = (j.1 : Int) := toInt_ofNat_of_lt (by omega)

/-- The classification layer of a trip is the row of the parameters that it counts. -/
theorem wC_eq (j : Fin 4) : wC j.1 s = lay4 s.main_v5_0 s.main_v5_1 s.main_v5_2 s.main_v5_3 j :=
  lay_ext (fun o i k c => row5_apply s.main_v5_0 _ (by decide) _ j (toInt4 j) rfl rfl rfl rfl o c i k)
    (fun o => row2_apply s.main_v5_1 _ (by decide) _ j (toInt4 j) rfl o) (fun o => row2_apply s.main_v5_2 _ (by decide) _ j (toInt4 j) rfl o)
    (fun o => row2_apply s.main_v5_3 _ (by decide) _ j (toInt4 j) rfl o)

/-- The box layer of a trip is the row of the parameters that it counts. -/
theorem wB_eq (j : Fin 4) : wB j.1 s = lay4 s.main_v5_4 s.main_v5_5 s.main_v5_6 s.main_v5_7 j :=
  lay_ext (fun o i k c => row5_apply s.main_v5_4 _ (by decide) _ j (toInt4 j) rfl rfl rfl rfl o c i k)
    (fun o => row2_apply s.main_v5_5 _ (by decide) _ j (toInt4 j) rfl o) (fun o => row2_apply s.main_v5_6 _ (by decide) _ j (toInt4 j) rfl o)
    (fun o => row2_apply s.main_v5_7 _ (by decide) _ j (toInt4 j) rfl o)

/-! ## Four trips -/

/-- The states, trip by trip. -/
def it (s : State Ideal) : ℕ → State Ideal
  | 0 => s
  | n + 1 => step n (it s n)

/-- What no trip changes. -/
structure Same (s t : State Ideal) : Prop where
  c0 : t.main_v5_0 = s.main_v5_0
  c1 : t.main_v5_1 = s.main_v5_1
  c2 : t.main_v5_2 = s.main_v5_2
  c3 : t.main_v5_3 = s.main_v5_3
  c4 : t.main_v5_4 = s.main_v5_4
  c5 : t.main_v5_5 = s.main_v5_5
  c6 : t.main_v5_6 = s.main_v5_6
  c7 : t.main_v5_7 = s.main_v5_7

/-- The trips leave the parameters as they were. -/
theorem it_same (n : ℕ) : Same s (it s n) := by
  induction n with
  | zero => exact ⟨rfl, rfl, rfl, rfl, rfl, rfl, rfl, rfl⟩
  | succ n ih => exact ⟨ih.c0, ih.c1, ih.c2, ih.c3, ih.c4, ih.c5, ih.c6, ih.c7⟩

/-- The reference's tower: the four layers in turn. -/
def towR {H : ℕ} (N : EReal) (L : Fin 4 → Lay) (x : Img H) : Img H :=
  layR N (Ideal.ofBits .f32 0x3727C5AC#32) (L 3) (layR N (Ideal.ofBits .f32 0x3727C5AC#32) (L 2)
    (layR N (Ideal.ofBits .f32 0x3727C5AC#32) (L 1) (layR N (Ideal.ofBits .f32 0x3727C5AC#32) (L 0) x)))

/-- The classification tower's parameters. -/
abbrev LC (s : State Ideal) : Fin 4 → Lay := lay4 s.main_v5_0 s.main_v5_1 s.main_v5_2 s.main_v5_3
/-- The box tower's parameters. -/
abbrev LB (s : State Ideal) : Fin 4 → Lay := lay4 s.main_v5_4 s.main_v5_5 s.main_v5_6 s.main_v5_7

/-- The classification layer of a trip, from the first state. -/
theorem wC_it (j : Fin 4) : wC j.1 (it s j.1) = LC s j := by
  have h := it_same s j.1
  rw [wC_eq, h.c0, h.c1, h.c2, h.c3]

/-- The box layer of a trip, from the first state. -/
theorem wB_it (j : Fin 4) : wB j.1 (it s j.1) = LB s j := by
  have h := it_same s j.1
  rw [wB_eq, h.c4, h.c5, h.c6, h.c7]

/-- A feature map that every trip takes to a layer of itself ends as the tower's image. -/
theorem tower_of {H W : ℕ} (f : CF 256 H W) (n : NF H) (N : BitVec 32) (φ : State Ideal → FVec Ideal ⟨3, ![256, H, H]⟩ .f32)
    (Lt : ℕ → State Ideal → Lay) (L : Fin 4 → Lay) (hL : ∀ j : Fin 4, Lt j.1 (it s j.1) = L j)
    (hφ : ∀ (j : ℕ) (t : State Ideal), img (φ (step j t)) = layR (Ideal.ofBits .f32 N) (Ideal.ofBits .f32 0x3727C5AC#32) (Lt j t) (img (φ t))) :
    img (φ (it s 4)) = towR (Ideal.ofBits .f32 N) L (img (φ s)) := by
  have h0 := hL 0; have h1 := hL 1; have h2 := hL 2; have h3 := hL 3
  show img (φ (step 3 (it s 3))) = _
  rw [hφ, show Lt 3 (it s 3) = L 3 from h3]
  rw [show it s 3 = step 2 (it s 2) from rfl, hφ, show Lt 2 (it s 2) = L 2 from h2]
  rw [show it s 2 = step 1 (it s 1) from rfl, hφ, show Lt 1 (it s 1) = L 1 from h1]
  rw [show it s 1 = step 0 (it s 0) from rfl, hφ, show Lt 0 (it s 0) = L 0 from h0]
  rfl

/-- After four trips: the classification tower's image at 64 rows and columns. -/
theorem cls64 : img (it s 4).main_v5_9 = towR (Ideal.ofBits .f32 0x47000000#32) (LC s) (img s.main_v5_9) :=
  tower_of s cf256_64 nf64 0x47000000#32 (fun t => t.main_v5_9) wC _ (wC_it s) fun j t => (congrArg img (b94_eq j t)).trans (rlay_img ..)
/-- After four trips: the box tower's image at 64 rows and columns. -/
theorem box64 : img (it s 4).main_v5_14 = towR (Ideal.ofBits .f32 0x47000000#32) (LB s) (img s.main_v5_14) :=
  tower_of s cf256_64 nf64 0x47000000#32 (fun t => t.main_v5_14) wB _ (wB_it s) fun j t => (congrArg img (b419_eq j t)).trans (rlay_img ..)
/-- After four trips: the classification tower's image at 32 rows and columns. -/
theorem cls32 : img (it s 4).main_v5_10 = towR (Ideal.ofBits .f32 0x46000000#32) (LC s) (img s.main_v5_10) :=
  tower_of s cf256_32 nf32 0x46000000#32 (fun t => t.main_v5_10) wC _ (wC_it s) fun j t => (congrArg img (b159_eq j t)).trans (rlay_img ..)
/-- After four trips: the box tower's image at 32 rows and columns. -/
theorem box32 : img (it s 4).main_v5_15 = towR (Ideal.ofBits .f32 0x46000000#32) (LB s) (img s.main_v5_15) :=
  tower_of s cf256_32 nf32 0x46000000#32 (fun t => t.main_v5_15) wB _ (wB_it s) fun j t => (congrArg img (b484_eq j t)).trans (rlay_img ..)
/-- After four trips: the classification tower's image at 16 rows and columns. -/
theorem cls16 : img (it s 4).main_v5_11 = towR (Ideal.ofBits .f32 0x45000000#32) (LC s) (img s.main_v5_11) :=
  tower_of s cf256_16 nf16 0x45000000#32 (fun t => t.main_v5_11) wC _ (wC_it s) fun j t => (congrArg img (b224_eq j t)).trans (rlay_img ..)
/-- After four trips: the box tower's image at 16 rows and columns. -/
theorem box16 : img (it s 4).main_v5_16 = towR (Ideal.ofBits .f32 0x45000000#32) (LB s) (img s.main_v5_16) :=
  tower_of s cf256_16 nf16 0x45000000#32 (fun t => t.main_v5_16) wB _ (wB_it s) fun j t => (congrArg img (b549_eq j t)).trans (rlay_img ..)
/-- After four trips: the classification tower's image at 8 rows and columns. -/
theorem cls8 : img (it s 4).main_v5_12 = towR (Ideal.ofBits .f32 0x44000000#32) (LC s) (img s.main_v5_12) :=
  tower_of s cf256_8 nf8 0x44000000#32 (fun t => t.main_v5_12) wC _ (wC_it s) fun j t => (congrArg img (b289_eq j t)).trans (rlay_img ..)
/-- After four trips: the box tower's image at 8 rows and columns. -/
theorem box8 : img (it s 4).main_v5_17 = towR (Ideal.ofBits .f32 0x44000000#32) (LB s) (img s.main_v5_17) :=
  tower_of s cf256_8 nf8 0x44000000#32 (fun t => t.main_v5_17) wB _ (wB_it s) fun j t => (congrArg img (b614_eq j t)).trans (rlay_img ..)
/-- After four trips: the classification tower's image at 4 rows and columns. -/
theorem cls4 : img (it s 4).main_v5_13 = towR (Ideal.ofBits .f32 0x43000000#32) (LC s) (img s.main_v5_13) :=
  tower_of s cf256_4 nf4 0x43000000#32 (fun t => t.main_v5_13) wC _ (wC_it s) fun j t => (congrArg img (b354_eq j t)).trans (rlay_img ..)
/-- After four trips: the box tower's image at 4 rows and columns. -/
theorem box4 : img (it s 4).main_v5_18 = towR (Ideal.ofBits .f32 0x43000000#32) (LB s) (img s.main_v5_18) :=
  tower_of s cf256_4 nf4 0x43000000#32 (fun t => t.main_v5_18) wB _ (wB_it s) fun j t => (congrArg img (b679_eq j t)).trans (rlay_img ..)

/-! ## The results -/

/-- A head without rectification, at an element. -/
theorem head_apply {O H W : ℕ} (f : CF O H W) (hb : (⟨3, ![O, H, H]⟩ : Shape).BroadcastsInDim ⟨4, ![1, O, H, H]⟩ (![1, 2, 3] : Fin 3 → Fin 4))
    (x : FVec Ideal ⟨3, ![256, H, H]⟩ .f32) (w : FVec Ideal ⟨4, ![O, 256, 3, 3]⟩ .f32) (b : FVec Ideal ⟨1, ![O]⟩ .f32)
    (i : Fin 1) (o : Fin O) (h v : Fin H) :
    broadcastInDim ⟨4, ![1, O, H, H]⟩ ![1, 2, 3] hb (rconv f x w b) (ix4 i o h v)
      = convE (img x) (fun i j c => w (ix4 o c i j)) h.1 v.1 + b (ix1 o) :=
  (lead_apply hb _ i o h v).trans (rconv_apply f x w b o h v)

/-- The box head: scaled and rectified. -/
def rbox {H W : ℕ} (f : CF 4 H W) (hz : (⟨0, ![]⟩ : Shape).BroadcastsInDim ⟨3, ![4, H, H]⟩ (![] : Fin 0 → Fin 3))
    (x : FVec Ideal ⟨3, ![256, H, H]⟩ .f32) (w : FVec Ideal ⟨4, ![4, 256, 3, 3]⟩ .f32) (b : FVec Ideal ⟨1, ![4]⟩ .f32)
    (sc : FVec Ideal ⟨0, ![]⟩ .f32) : FVec Ideal ⟨3, ![4, H, H]⟩ .f32 :=
  maximumf (mulf (rconv f x w b) (broadcastInDim ⟨3, ![4, H, H]⟩ ![] hz sc))
    (broadcastInDim ⟨3, ![4, H, H]⟩ ![] hz (constant (F := Ideal) ⟨0, ![]⟩ .f32 0x00000000#32))

/-- The box head at an element. -/
theorem rbox_apply {H W : ℕ} (f : CF 4 H W) (hz : (⟨0, ![]⟩ : Shape).BroadcastsInDim ⟨3, ![4, H, H]⟩ (![] : Fin 0 → Fin 3))
    (hb : (⟨3, ![4, H, H]⟩ : Shape).BroadcastsInDim ⟨4, ![1, 4, H, H]⟩ (![1, 2, 3] : Fin 3 → Fin 4))
    (x : FVec Ideal ⟨3, ![256, H, H]⟩ .f32) (w : FVec Ideal ⟨4, ![4, 256, 3, 3]⟩ .f32) (b : FVec Ideal ⟨1, ![4]⟩ .f32)
    (s : FVec Ideal ⟨1, ![5]⟩ .f32) (l : Fin 5) (hs : (⟨1, ![5]⟩ : Shape).Slices ![l.1] ⟨1, ![1]⟩)
    (hc : (⟨1, ![1]⟩ : Shape).ShapeCasts ⟨0, ![]⟩) (i : Fin 1) (o : Fin 4) (h v : Fin H) :
    broadcastInDim ⟨4, ![1, 4, H, H]⟩ ![1, 2, 3] hb
        (rbox f hz x w b (shapeCast ⟨0, ![]⟩ (extractStridedSlice ⟨1, ![1]⟩ ![l.1] s hs) hc)) (ix4 i o h v)
      = max ((convE (img x) (fun i j c => w (ix4 o c i j)) h.1 v.1 + b (ix1 o)) * s (ix1 l)) 0 := by
  refine (lead_apply hb _ i o h v).trans ?_
  exact congrArg₂ max (congrArg₂ (· * ·) (rconv_apply f x w b o h v) ((broadcastInDim_scalar_apply hz _ _).trans (scale_apply s l hs hc)))
    ((broadcastInDim_scalar_apply hz _ _).trans Ideal.ofBits_zero_f32)

/-- The class scores at 64 rows and columns. -/
theorem logits64 (w : FVec Ideal ⟨4, ![80, 256, 3, 3]⟩ .f32) (b : FVec Ideal ⟨1, ![80]⟩ .f32) (i : Fin 1) (o : Fin 80) (h v : Fin 64) :
    R_main_v37 s w b (ix4 i o h v) = convE (img s.main_v5_9) (fun i j c => w (ix4 o c i j)) h.1 v.1 + b (ix1 o) :=
  head_apply cf80_64 bcast_S80x64x64_S1x80x64x64_1_2_3 s.main_v5_9 w b i o h v
/-- The centre scores at 64 rows and columns. -/
theorem ctr64 (w : FVec Ideal ⟨4, ![1, 256, 3, 3]⟩ .f32) (b : FVec Ideal ⟨1, ![1]⟩ .f32) (i : Fin 1) (o : Fin 1) (h v : Fin 64) :
    R_main_v387 s w b (ix4 i o h v) = convE (img s.main_v5_14) (fun i j c => w (ix4 o c i j)) h.1 v.1 + b (ix1 o) :=
  head_apply cf1_64 bcast_S1x64x64_S1x1x64x64_1_2_3 s.main_v5_14 w b i o h v
/-- The boxes at 64 rows and columns. -/
theorem bbox64 (w : FVec Ideal ⟨4, ![4, 256, 3, 3]⟩ .f32) (b : FVec Ideal ⟨1, ![4]⟩ .f32) (c : FVec Ideal ⟨1, ![5]⟩ .f32)
    (i : Fin 1) (o : Fin 4) (h v : Fin 64) :
    R_main_v203 s w b c (ix4 i o h v)
      = max ((convE (img s.main_v5_14) (fun i j c => w (ix4 o c i j)) h.1 v.1 + b (ix1 o)) * c (ix1 0)) 0 :=
  rbox_apply cf4_64 bcast_S_S4x64x64 bcast_S4x64x64_S1x4x64x64_1_2_3 s.main_v5_14 w b c 0 slices_S5_S1_0 shapeCasts_S1_S_ i o h v
/-- The class scores at 32 rows and columns. -/
theorem logits32 (w : FVec Ideal ⟨4, ![80, 256, 3, 3]⟩ .f32) (b : FVec Ideal ⟨1, ![80]⟩ .f32) (i : Fin 1) (o : Fin 80) (h v : Fin 32) :
    R_main_v69 s w b (ix4 i o h v) = convE (img s.main_v5_10) (fun i j c => w (ix4 o c i j)) h.1 v.1 + b (ix1 o) :=
  head_apply cf80_32 bcast_S80x32x32_S1x80x32x32_1_2_3 s.main_v5_10 w b i o h v
/-- The centre scores at 32 rows and columns. -/
theorem ctr32 (w : FVec Ideal ⟨4, ![1, 256, 3, 3]⟩ .f32) (b : FVec Ideal ⟨1, ![1]⟩ .f32) (i : Fin 1) (o : Fin 1) (h v : Fin 32) :
    R_main_v419 s w b (ix4 i o h v) = convE (img s.main_v5_15) (fun i j c => w (ix4 o c i j)) h.1 v.1 + b (ix1 o) :=
  head_apply cf1_32 bcast_S1x32x32_S1x1x32x32_1_2_3 s.main_v5_15 w b i o h v
/-- The boxes at 32 rows and columns. -/
theorem bbox32 (w : FVec Ideal ⟨4, ![4, 256, 3, 3]⟩ .f32) (b : FVec Ideal ⟨1, ![4]⟩ .f32) (c : FVec Ideal ⟨1, ![5]⟩ .f32)
    (i : Fin 1) (o : Fin 4) (h v : Fin 32) :
    R_main_v241 s w b c (ix4 i o h v)
      = max ((convE (img s.main_v5_15) (fun i j c => w (ix4 o c i j)) h.1 v.1 + b (ix1 o)) * c (ix1 1)) 0 :=
  rbox_apply cf4_32 bcast_S_S4x32x32 bcast_S4x32x32_S1x4x32x32_1_2_3 s.main_v5_15 w b c 1 slices_S5_S1_1 shapeCasts_S1_S_ i o h v
/-- The class scores at 16 rows and columns. -/
theorem logits16 (w : FVec Ideal ⟨4, ![80, 256, 3, 3]⟩ .f32) (b : FVec Ideal ⟨1, ![80]⟩ .f32) (i : Fin 1) (o : Fin 80) (h v : Fin 16) :
    R_main_v101 s w b (ix4 i o h v) = convE (img s.main_v5_11) (fun i j c => w (ix4 o c i j)) h.1 v.1 + b (ix1 o) :=
  head_apply cf80_16 bcast_S80x16x16_S1x80x16x16_1_2_3 s.main_v5_11 w b i o h v
/-- The centre scores at 16 rows and columns. -/
theorem ctr16 (w : FVec Ideal ⟨4, ![1, 256, 3, 3]⟩ .f32) (b : FVec Ideal ⟨1, ![1]⟩ .f32) (i : Fin 1) (o : Fin 1) (h v : Fin 16) :
    R_main_v451 s w b (ix4 i o h v) = convE (img s.main_v5_16) (fun i j c => w (ix4 o c i j)) h.1 v.1 + b (ix1 o) :=
  head_apply cf1_16 bcast_S1x16x16_S1x1x16x16_1_2_3 s.main_v5_16 w b i o h v
/-- The boxes at 16 rows and columns. -/
theorem bbox16 (w : FVec Ideal ⟨4, ![4, 256, 3, 3]⟩ .f32) (b : FVec Ideal ⟨1, ![4]⟩ .f32) (c : FVec Ideal ⟨1, ![5]⟩ .f32)
    (i : Fin 1) (o : Fin 4) (h v : Fin 16) :
    R_main_v279 s w b c (ix4 i o h v)
      = max ((convE (img s.main_v5_16) (fun i j c => w (ix4 o c i j)) h.1 v.1 + b (ix1 o)) * c (ix1 2)) 0 :=
  rbox_apply cf4_16 bcast_S_S4x16x16 bcast_S4x16x16_S1x4x16x16_1_2_3 s.main_v5_16 w b c 2 slices_S5_S1_2 shapeCasts_S1_S_ i o h v
/-- The class scores at 8 rows and columns. -/
theorem logits8 (w : FVec Ideal ⟨4, ![80, 256, 3, 3]⟩ .f32) (b : FVec Ideal ⟨1, ![80]⟩ .f32) (i : Fin 1) (o : Fin 80) (h v : Fin 8) :
    R_main_v133 s w b (ix4 i o h v) = convE (img s.main_v5_12) (fun i j c => w (ix4 o c i j)) h.1 v.1 + b (ix1 o) :=
  head_apply cf80_8 bcast_S80x8x8_S1x80x8x8_1_2_3 s.main_v5_12 w b i o h v
/-- The centre scores at 8 rows and columns. -/
theorem ctr8 (w : FVec Ideal ⟨4, ![1, 256, 3, 3]⟩ .f32) (b : FVec Ideal ⟨1, ![1]⟩ .f32) (i : Fin 1) (o : Fin 1) (h v : Fin 8) :
    R_main_v483 s w b (ix4 i o h v) = convE (img s.main_v5_17) (fun i j c => w (ix4 o c i j)) h.1 v.1 + b (ix1 o) :=
  head_apply cf1_8 bcast_S1x8x8_S1x1x8x8_1_2_3 s.main_v5_17 w b i o h v
/-- The boxes at 8 rows and columns. -/
theorem bbox8 (w : FVec Ideal ⟨4, ![4, 256, 3, 3]⟩ .f32) (b : FVec Ideal ⟨1, ![4]⟩ .f32) (c : FVec Ideal ⟨1, ![5]⟩ .f32)
    (i : Fin 1) (o : Fin 4) (h v : Fin 8) :
    R_main_v317 s w b c (ix4 i o h v)
      = max ((convE (img s.main_v5_17) (fun i j c => w (ix4 o c i j)) h.1 v.1 + b (ix1 o)) * c (ix1 3)) 0 :=
  rbox_apply cf4_8 bcast_S_S4x8x8 bcast_S4x8x8_S1x4x8x8_1_2_3 s.main_v5_17 w b c 3 slices_S5_S1_3 shapeCasts_S1_S_ i o h v
/-- The class scores at 4 rows and columns. -/
theorem logits4 (w : FVec Ideal ⟨4, ![80, 256, 3, 3]⟩ .f32) (b : FVec Ideal ⟨1, ![80]⟩ .f32) (i : Fin 1) (o : Fin 80) (h v : Fin 4) :
    R_main_v165 s w b (ix4 i o h v) = convE (img s.main_v5_13) (fun i j c => w (ix4 o c i j)) h.1 v.1 + b (ix1 o) :=
  head_apply cf80_4 bcast_S80x4x4_S1x80x4x4_1_2_3 s.main_v5_13 w b i o h v
/-- The centre scores at 4 rows and columns. -/
theorem ctr4 (w : FVec Ideal ⟨4, ![1, 256, 3, 3]⟩ .f32) (b : FVec Ideal ⟨1, ![1]⟩ .f32) (i : Fin 1) (o : Fin 1) (h v : Fin 4) :
    R_main_v515 s w b (ix4 i o h v) = convE (img s.main_v5_18) (fun i j c => w (ix4 o c i j)) h.1 v.1 + b (ix1 o) :=
  head_apply cf1_4 bcast_S1x4x4_S1x1x4x4_1_2_3 s.main_v5_18 w b i o h v
/-- The boxes at 4 rows and columns. -/
theorem bbox4 (w : FVec Ideal ⟨4, ![4, 256, 3, 3]⟩ .f32) (b : FVec Ideal ⟨1, ![4]⟩ .f32) (c : FVec Ideal ⟨1, ![5]⟩ .f32)
    (i : Fin 1) (o : Fin 4) (h v : Fin 4) :
    R_main_v355 s w b c (ix4 i o h v)
      = max ((convE (img s.main_v5_18) (fun i j c => w (ix4 o c i j)) h.1 v.1 + b (ix1 o)) * c (ix1 4)) 0 :=
  rbox_apply cf4_4 bcast_S_S4x4x4 bcast_S4x4x4_S1x4x4x4_1_2_3 s.main_v5_18 w b c 4 slices_S5_S1_4 shapeCasts_S1_S_ i o h v

end Cert.Proof.RefValue
-- ==== Proof.RefRun.lean ====
/-
  The reference's run read as its loop's step: the contents its buffers hold before each trip give a state, a trip takes the
  state to the next, and each result is a function of the state after four trips.
-/
module

public import proofs.«01_k».proof.Proof.RefValue
public import proofs.«01_k».proof.Proof.Gen.ReferenceIdeal.Run

@[expose] public section

noncomputable section

namespace Cert.Proof.RefRun

open Idealize.ShloMosaic hiding ix0 ix1 ix2 ix3 ix4 ix5
open Idealize.ShloMosaic.TcCoe Idealize.SL.Sem Idealize.ShloMosaic.StableHlo
open Cert.Proof.RefOps Cert.Proof.RefValue
open Cert.ReferenceIdeal Cert.ReferenceIdeal.Gen Cert.ReferenceIdeal.Value
open Cert.ReferenceIdeal.Step (State step init)

/-- The loop's state, read off the buffers. -/
def stOf (V : Valuation τ sig (Elt Ideal)) : State Ideal where
  main_v5_9 := V (Proc.devRef .tc main_v5_9)
  main_v5_10 := V (Proc.devRef .tc main_v5_10)
  main_v5_11 := V (Proc.devRef .tc main_v5_11)
  main_v5_12 := V (Proc.devRef .tc main_v5_12)
  main_v5_13 := V (Proc.devRef .tc main_v5_13)
  main_v5_14 := V (Proc.devRef .tc main_v5_14)
  main_v5_15 := V (Proc.devRef .tc main_v5_15)
  main_v5_16 := V (Proc.devRef .tc main_v5_16)
  main_v5_17 := V (Proc.devRef .tc main_v5_17)
  main_v5_18 := V (Proc.devRef .tc main_v5_18)
  main_v5_0 := V (Proc.devRef .tc main_v5_0)
  main_v5_1 := V (Proc.devRef .tc main_v5_1)
  main_v5_2 := V (Proc.devRef .tc main_v5_2)
  main_v5_3 := V (Proc.devRef .tc main_v5_3)
  main_v5_4 := V (Proc.devRef .tc main_v5_4)
  main_v5_5 := V (Proc.devRef .tc main_v5_5)
  main_v5_6 := V (Proc.devRef .tc main_v5_6)
  main_v5_7 := V (Proc.devRef .tc main_v5_7)

variable (V : Valuation τ sig (Elt Ideal)) (j : ℕ)

/-! ## The parameters a trip slices out -/

variable {V j}

/-- The weights that a trip slices out for the classification layer. -/
theorem w516 (h : V (Proc.devRef .tc main_v5_8) = constantI S_ 32 (BitVec.ofNat 32 j)) :
    res_main_while0b_v516 V = Step.b5 j (stOf V) := by
  unfold res_main_while0b_v516
  rw [h]
  rfl
/-- The biases that a trip slices out for the classification layer. -/
theorem w517 (h : V (Proc.devRef .tc main_v5_8) = constantI S_ 32 (BitVec.ofNat 32 j)) :
    res_main_while0b_v517 V = Step.b8 j (stOf V) := by
  unfold res_main_while0b_v517
  rw [h]
  rfl
/-- The gains that a trip slices out for the classification layer. -/
theorem w518 (h : V (Proc.devRef .tc main_v5_8) = constantI S_ 32 (BitVec.ofNat 32 j)) :
    res_main_while0b_v518 V = Step.b11 j (stOf V) := by
  unfold res_main_while0b_v518
  rw [h]
  rfl
/-- The offsets that a trip slices out for the classification layer. -/
theorem w519 (h : V (Proc.devRef .tc main_v5_8) = constantI S_ 32 (BitVec.ofNat 32 j)) :
    res_main_while0b_v519 V = Step.b14 j (stOf V) := by
  unfold res_main_while0b_v519
  rw [h]
  rfl
/-- The weights that a trip slices out for the box layer. -/
theorem w520 (h : V (Proc.devRef .tc main_v5_8) = constantI S_ 32 (BitVec.ofNat 32 j)) :
    res_main_while0b_v520 V = Step.b20 j (stOf V) := by
  unfold res_main_while0b_v520
  rw [h]
  rfl
/-- The biases that a trip slices out for the box layer. -/
theorem w521 (h : V (Proc.devRef .tc main_v5_8) = constantI S_ 32 (BitVec.ofNat 32 j)) :
    res_main_while0b_v521 V = Step.b23 j (stOf V) := by
  unfold res_main_while0b_v521
  rw [h]
  rfl
/-- The gains that a trip slices out for the box layer. -/
theorem w522 (h : V (Proc.devRef .tc main_v5_8) = constantI S_ 32 (BitVec.ofNat 32 j)) :
    res_main_while0b_v522 V = Step.b26 j (stOf V) := by
  unfold res_main_while0b_v522
  rw [h]
  rfl
/-- The offsets that a trip slices out for the box layer. -/
theorem w523 (h : V (Proc.devRef .tc main_v5_8) = constantI S_ 32 (BitVec.ofNat 32 j)) :
    res_main_while0b_v523 V = Step.b29 j (stOf V) := by
  unfold res_main_while0b_v523
  rw [h]
  rfl

/-! ## A trip, level by level -/

/-- A trip's classification layer at 64 rows and columns. -/
theorem trip9 (h : V (Proc.devRef .tc main_v5_8) = constantI S_ 32 (BitVec.ofNat 32 j)) :
    Value.step_main_v5_9 V = Step.b94 j (stOf V) := by
  have e : Value.step_main_v5_9 V = rlay cf256_64 nf64 0x47000000#32 (V (Proc.devRef .tc main_v5_9)) (res_main_while0b_v516 V) (res_main_while0b_v517 V) (res_main_while0b_v518 V) (res_main_while0b_v519 V) := rfl
  rw [e, w516 h, w517 h, w518 h, w519 h]
  exact (b94_eq j (stOf V)).symm
/-- A trip's classification layer at 32 rows and columns. -/
theorem trip10 (h : V (Proc.devRef .tc main_v5_8) = constantI S_ 32 (BitVec.ofNat 32 j)) :
    Value.step_main_v5_10 V = Step.b159 j (stOf V) := by
  have e : Value.step_main_v5_10 V = rlay cf256_32 nf32 0x46000000#32 (V (Proc.devRef .tc main_v5_10)) (res_main_while0b_v516 V) (res_main_while0b_v517 V) (res_main_while0b_v518 V) (res_main_while0b_v519 V) := rfl
  rw [e, w516 h, w517 h, w518 h, w519 h]
  exact (b159_eq j (stOf V)).symm
/-- A trip's classification layer at 16 rows and columns. -/
theorem trip11 (h : V (Proc.devRef .tc main_v5_8) = constantI S_ 32 (BitVec.ofNat 32 j)) :
    Value.step_main_v5_11 V = Step.b224 j (stOf V) := by
  have e : Value.step_main_v5_11 V = rlay cf256_16 nf16 0x45000000#32 (V (Proc.devRef .tc main_v5_11)) (res_main_while0b_v516 V) (res_main_while0b_v517 V) (res_main_while0b_v518 V) (res_main_while0b_v519 V) := rfl
  rw [e, w516 h, w517 h, w518 h, w519 h]
  exact (b224_eq j (stOf V)).symm
/-- A trip's classification layer at 8 rows and columns. -/
theorem trip12 (h : V (Proc.devRef .tc main_v5_8) = constantI S_ 32 (BitVec.ofNat 32 j)) :
    Value.step_main_v5_12 V = Step.b289 j (stOf V) := by
  have e : Value.step_main_v5_12 V = rlay cf256_8 nf8 0x44000000#32 (V (Proc.devRef .tc main_v5_12)) (res_main_while0b_v516 V) (res_main_while0b_v517 V) (res_main_while0b_v518 V) (res_main_while0b_v519 V) := rfl
  rw [e, w516 h, w517 h, w518 h, w519 h]
  exact (b289_eq j (stOf V)).symm
/-- A trip's classification layer at 4 rows and columns. -/
theorem trip13 (h : V (Proc.devRef .tc main_v5_8) = constantI S_ 32 (BitVec.ofNat 32 j)) :
    Value.step_main_v5_13 V = Step.b354 j (stOf V) := by
  have e : Value.step_main_v5_13 V = rlay cf256_4 nf4 0x43000000#32 (V (Proc.devRef .tc main_v5_13)) (res_main_while0b_v516 V) (res_main_while0b_v517 V) (res_main_while0b_v518 V) (res_main_while0b_v519 V) := rfl
  rw [e, w516 h, w517 h, w518 h, w519 h]
  exact (b354_eq j (stOf V)).symm
/-- A trip's box layer at 64 rows and columns. -/
theorem trip14 (h : V (Proc.devRef .tc main_v5_8) = constantI S_ 32 (BitVec.ofNat 32 j)) :
    Value.step_main_v5_14 V = Step.b419 j (stOf V) := by
  have e : Value.step_main_v5_14 V = rlay cf256_64 nf64 0x47000000#32 (V (Proc.devRef .tc main_v5_14)) (res_main_while0b_v520 V) (res_main_while0b_v521 V) (res_main_while0b_v522 V) (res_main_while0b_v523 V) := rfl
  rw [e, w520 h, w521 h, w522 h, w523 h]
  exact (b419_eq j (stOf V)).symm
/-- A trip's box layer at 32 rows and columns. -/
theorem trip15 (h : V (Proc.devRef .tc main_v5_8) = constantI S_ 32 (BitVec.ofNat 32 j)) :
    Value.step_main_v5_15 V = Step.b484 j (stOf V) := by
  have e : Value.step_main_v5_15 V = rlay cf256_32 nf32 0x46000000#32 (V (Proc.devRef .tc main_v5_15)) (res_main_while0b_v520 V) (res_main_while0b_v521 V) (res_main_while0b_v522 V) (res_main_while0b_v523 V) := rfl
  rw [e, w520 h, w521 h, w522 h, w523 h]
  exact (b484_eq j (stOf V)).symm
/-- A trip's box layer at 16 rows and columns. -/
theorem trip16 (h : V (Proc.devRef .tc main_v5_8) = constantI S_ 32 (BitVec.ofNat 32 j)) :
    Value.step_main_v5_16 V = Step.b549 j (stOf V) := by
  have e : Value.step_main_v5_16 V = rlay cf256_16 nf16 0x45000000#32 (V (Proc.devRef .tc main_v5_16)) (res_main_while0b_v520 V) (res_main_while0b_v521 V) (res_main_while0b_v522 V) (res_main_while0b_v523 V) := rfl
  rw [e, w520 h, w521 h, w522 h, w523 h]
  exact (b549_eq j (stOf V)).symm
/-- A trip's box layer at 8 rows and columns. -/
theorem trip17 (h : V (Proc.devRef .tc main_v5_8) = constantI S_ 32 (BitVec.ofNat 32 j)) :
    Value.step_main_v5_17 V = Step.b614 j (stOf V) := by
  have e : Value.step_main_v5_17 V = rlay cf256_8 nf8 0x44000000#32 (V (Proc.devRef .tc main_v5_17)) (res_main_while0b_v520 V) (res_main_while0b_v521 V) (res_main_while0b_v522 V) (res_main_while0b_v523 V) := rfl
  rw [e, w520 h, w521 h, w522 h, w523 h]
  exact (b614_eq j (stOf V)).symm
/-- A trip's box layer at 4 rows and columns. -/
theorem trip18 (h : V (Proc.devRef .tc main_v5_8) = constantI S_ 32 (BitVec.ofNat 32 j)) :
    Value.step_main_v5_18 V = Step.b679 j (stOf V) := by
  have e : Value.step_main_v5_18 V = rlay cf256_4 nf4 0x43000000#32 (V (Proc.devRef .tc main_v5_18)) (res_main_while0b_v520 V) (res_main_while0b_v521 V) (res_main_while0b_v522 V) (res_main_while0b_v523 V) := rfl
  rw [e, w520 h, w521 h, w522 h, w523 h]
  exact (b679_eq j (stOf V)).symm

/-- A trip takes the state to the next one. -/
theorem stOf_step (h : V (Proc.devRef .tc main_v5_8) = constantI S_ 32 (BitVec.ofNat 32 j)) : stOf (STEP V) = step j (stOf V) := by
  unfold stOf step
  rw [STEP_main_v5_9, STEP_main_v5_10, STEP_main_v5_11, STEP_main_v5_12, STEP_main_v5_13, STEP_main_v5_14, STEP_main_v5_15, STEP_main_v5_16, STEP_main_v5_17, STEP_main_v5_18, STEP_main_v5_0, STEP_main_v5_1, STEP_main_v5_2, STEP_main_v5_3, STEP_main_v5_4, STEP_main_v5_5, STEP_main_v5_6, STEP_main_v5_7]
  rw [trip9 h, trip10 h, trip11 h, trip12 h, trip13 h, trip14 h, trip15 h, trip16 h, trip17 h, trip18 h]
  rfl

/-- And adds one to the counter. -/
theorem ctr_step (h : V (Proc.devRef .tc main_v5_8) = constantI S_ 32 (BitVec.ofNat 32 j)) :
    STEP V (Proc.devRef .tc main_v5_8) = constantI S_ 32 (BitVec.ofNat 32 (j + 1)) := by
  rw [STEP_main_v5_8]
  unfold Value.step_main_v5_8
  rw [h]
  funext i
  show BitVec.ofNat 32 j + 1#32 = BitVec.ofNat 32 (j + 1)
  rw [BitVec.ofNat_add]

variable (m : (ℓ : Loc nD τ sig) → Buf (Elt Ideal) ℓ) (c : Dev nD)

/-- The state before the first trip, of the arguments. -/
def start : State Ideal :=
  init (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The operations before the loop leave that state. -/
theorem entry_state : stOf (entryContents preI m c) = start m c := by
  unfold stOf start
  simp only [entryContents, afterL_cons, afterL_nil]
  after_reads_simp
  rfl

/-- And the counter at zero. -/
theorem entry_ctr : entryContents preI m c (Proc.devRef .tc main_v5_8) = constantI S_ 32 (BitVec.ofNat 32 0) :=
  (ctr_entry m c).trans rfl

/-- After `k` trips the buffers hold the `k`-th state. -/
theorem iter_state : ∀ k : ℕ, stOf (STEP^[k] (entryContents preI m c)) = it (start m c) k
    ∧ (STEP^[k] (entryContents preI m c)) (Proc.devRef .tc main_v5_8) = constantI S_ 32 (BitVec.ofNat 32 k)
  | 0 => ⟨entry_state m c, entry_ctr m c⟩
  | k + 1 => by
    obtain ⟨h, n⟩ := iter_state k
    rw [Function.iterate_succ_apply']
    exact ⟨(stOf_step n).trans (by rw [h]; rfl), ctr_step n⟩

/-- The results, of the state after four trips and the heads' parameters. -/
theorem run_spec (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = Step.R_main_v37 (it (start m c) 4) (m ((c.tc : Thread nD τ).loc main_arg13)) (m ((c.tc : Thread nD τ).loc main_arg14))
      ∧ r.2.mem ((c.tc : Thread nD τ).loc main_v69) = Step.R_main_v69 (it (start m c) 4) (m ((c.tc : Thread nD τ).loc main_arg13)) (m ((c.tc : Thread nD τ).loc main_arg14))
      ∧ r.2.mem ((c.tc : Thread nD τ).loc main_v101) = Step.R_main_v101 (it (start m c) 4) (m ((c.tc : Thread nD τ).loc main_arg13)) (m ((c.tc : Thread nD τ).loc main_arg14))
      ∧ r.2.mem ((c.tc : Thread nD τ).loc main_v133) = Step.R_main_v133 (it (start m c) 4) (m ((c.tc : Thread nD τ).loc main_arg13)) (m ((c.tc : Thread nD τ).loc main_arg14))
      ∧ r.2.mem ((c.tc : Thread nD τ).loc main_v165) = Step.R_main_v165 (it (start m c) 4) (m ((c.tc : Thread nD τ).loc main_arg13)) (m ((c.tc : Thread nD τ).loc main_arg14))
      ∧ r.2.mem ((c.tc : Thread nD τ).loc main_v203) = Step.R_main_v203 (it (start m c) 4) (m ((c.tc : Thread nD τ).loc main_arg15)) (m ((c.tc : Thread nD τ).loc main_arg16)) (m ((c.tc : Thread nD τ).loc main_arg19))
      ∧ r.2.mem ((c.tc : Thread nD τ).loc main_v241) = Step.R_main_v241 (it (start m c) 4) (m ((c.tc : Thread nD τ).loc main_arg15)) (m ((c.tc : Thread nD τ).loc main_arg16)) (m ((c.tc : Thread nD τ).loc main_arg19))
      ∧ r.2.mem ((c.tc : Thread nD τ).loc main_v279) = Step.R_main_v279 (it (start m c) 4) (m ((c.tc : Thread nD τ).loc main_arg15)) (m ((c.tc : Thread nD τ).loc main_arg16)) (m ((c.tc : Thread nD τ).loc main_arg19))
      ∧ r.2.mem ((c.tc : Thread nD τ).loc main_v317) = Step.R_main_v317 (it (start m c) 4) (m ((c.tc : Thread nD τ).loc main_arg15)) (m ((c.tc : Thread nD τ).loc main_arg16)) (m ((c.tc : Thread nD τ).loc main_arg19))
      ∧ r.2.mem ((c.tc : Thread nD τ).loc main_v355) = Step.R_main_v355 (it (start m c) 4) (m ((c.tc : Thread nD τ).loc main_arg15)) (m ((c.tc : Thread nD τ).loc main_arg16)) (m ((c.tc : Thread nD τ).loc main_arg19))
      ∧ r.2.mem ((c.tc : Thread nD τ).loc main_v387) = Step.R_main_v387 (it (start m c) 4) (m ((c.tc : Thread nD τ).loc main_arg17)) (m ((c.tc : Thread nD τ).loc main_arg18))
      ∧ r.2.mem ((c.tc : Thread nD τ).loc main_v419) = Step.R_main_v419 (it (start m c) 4) (m ((c.tc : Thread nD τ).loc main_arg17)) (m ((c.tc : Thread nD τ).loc main_arg18))
      ∧ r.2.mem ((c.tc : Thread nD τ).loc main_v451) = Step.R_main_v451 (it (start m c) 4) (m ((c.tc : Thread nD τ).loc main_arg17)) (m ((c.tc : Thread nD τ).loc main_arg18))
      ∧ r.2.mem ((c.tc : Thread nD τ).loc main_v483) = Step.R_main_v483 (it (start m c) 4) (m ((c.tc : Thread nD τ).loc main_arg17)) (m ((c.tc : Thread nD τ).loc main_arg18))
      ∧ r.2.mem ((c.tc : Thread nD τ).loc main_v515) = Step.R_main_v515 (it (start m c) 4) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => by
    have hs := (iter_state m c 4).1
    have hc := h c
    clear h
    rw [← hs]
    refine ⟨hc.1.trans ?_, hc.2.1.trans ?_, hc.2.2.1.trans ?_, hc.2.2.2.1.trans ?_, hc.2.2.2.2.1.trans ?_, hc.2.2.2.2.2.1.trans ?_, hc.2.2.2.2.2.2.1.trans ?_, hc.2.2.2.2.2.2.2.1.trans ?_, hc.2.2.2.2.2.2.2.2.1.trans ?_, hc.2.2.2.2.2.2.2.2.2.1.trans ?_, hc.2.2.2.2.2.2.2.2.2.2.1.trans ?_, hc.2.2.2.2.2.2.2.2.2.2.2.1.trans ?_, hc.2.2.2.2.2.2.2.2.2.2.2.2.1.trans ?_, hc.2.2.2.2.2.2.2.2.2.2.2.2.2.1.trans ?_, hc.2.2.2.2.2.2.2.2.2.2.2.2.2.2.1.trans ?_, hc.2.2.2.2.2.2.2.2.2.2.2.2.2.2.2⟩
    · rw [← iter_main_arg13 m c 4, ← iter_main_arg14 m c 4]; rfl
    · rw [← iter_main_arg13 m c 4, ← iter_main_arg14 m c 4]; rfl
    · rw [← iter_main_arg13 m c 4, ← iter_main_arg14 m c 4]; rfl
    · rw [← iter_main_arg13 m c 4, ← iter_main_arg14 m c 4]; rfl
    · rw [← iter_main_arg13 m c 4, ← iter_main_arg14 m c 4]; rfl
    · rw [← iter_main_arg15 m c 4, ← iter_main_arg16 m c 4, ← iter_main_arg19 m c 4]; rfl
    · rw [← iter_main_arg15 m c 4, ← iter_main_arg16 m c 4, ← iter_main_arg19 m c 4]; rfl
    · rw [← iter_main_arg15 m c 4, ← iter_main_arg16 m c 4, ← iter_main_arg19 m c 4]; rfl
    · rw [← iter_main_arg15 m c 4, ← iter_main_arg16 m c 4, ← iter_main_arg19 m c 4]; rfl
    · rw [← iter_main_arg15 m c 4, ← iter_main_arg16 m c 4, ← iter_main_arg19 m c 4]; rfl
    · rw [← iter_main_arg17 m c 4, ← iter_main_arg18 m c 4]; rfl
    · rw [← iter_main_arg17 m c 4, ← iter_main_arg18 m c 4]; rfl
    · rw [← iter_main_arg17 m c 4, ← iter_main_arg18 m c 4]; rfl
    · rw [← iter_main_arg17 m c 4, ← iter_main_arg18 m c 4]; rfl
    · rw [← iter_main_arg17 m c 4, ← iter_main_arg18 m c 4]; rfl
    ) (Cert.ReferenceIdeal.Value.run (F := Ideal) m ρ)

end Cert.Proof.RefRun
-- ==== Proof.PreRead.lean ====
/-
  The precondition read: the features and the towers' parameters are real numbers.
-/
module

public import proofs.«01_k».proof.Defs
public import proofs.«01_k».proof.Proof.Spec
public import Idealize.ShloMosaic.Lib.ReduceAll
public import Idealize.ShloMosaic.Lib.Pointwise
public import Idealize.ShloMosaic.Lib.Affine

@[expose] public section

noncomputable section

namespace Cert.Proof.PreRead

open Idealize.ShloMosaic hiding ix0 ix1 ix2 ix3 ix4 ix5
open Idealize.ShloMosaic.ValueIdx
open Cert.Proof.Spec Cert.Pre_finite

/-- The side conditions of the precondition's operations. -/
theorem facts : Cert.Pre_finite.Facts :=
  ⟨by decide, by decide, by decide, by decide, by decide, by decide, by decide, by decide, by decide, by decide, by decide, by decide, by decide, by decide, by decide⟩

/-- An extended real whose difference with itself is zero is a real number. -/
theorem real_of_sub {x : EReal} (h : x - x = 0) : IsR x := by
  induction x with
  | bot => exact absurd h (by decide)
  | coe r => exact ⟨r, rfl⟩
  | top => exact absurd h (by decide)

/-- One array's clause. -/
theorem clause {s : Shape} (x : s.Idx → EReal) {axes : List (Fin s.rank)} (hb : (⟨0, ![]⟩ : Shape).BroadcastsInDim s (![] : Fin 0 → Fin s.rank))
    (hr : s.ReducesTo axes ⟨0, ![]⟩) (hz : 0 < (⟨0, ![]⟩ : Shape).numel) (i : (⟨0, ![]⟩ : Shape).Idx)
    (h : Host.reduce IntOp.andi (cmpf (F := Ideal) (φ := .f32) .oeq (subf (F := Ideal) (φ := .f32) x x)
      (broadcastInDim s ![] hb (constant (F := Ideal) ⟨0, ![]⟩ .f32 0x00000000#32))) (constantI ⟨0, ![]⟩ 1 1#1) hr hz i = 1#1) :
    ∀ j, IsR (x j) := fun j => by
  have e := Host.reduce_andi_all _ _ hr hz i h j
  have e2 : BitVec.ofBool (decide (x j - x j = Ideal.ofBits .f32 0x00000000#32)) = 1#1 := e
  rw [Ideal.ofBits_zero_f32] at e2
  by_cases hh : x j - x j = 0
  · exact real_of_sub hh
  · rw [decide_eq_false hh] at e2; exact absurd e2 (by decide)

/-- Both halves of a conjunction. -/
theorem both {a b : (⟨0, ![]⟩ : Shape).Idx → BitVec 1} {i : (⟨0, ![]⟩ : Shape).Idx} (h : andi a b i = 1#1) : a i = 1#1 ∧ b i = 1#1 :=
  IntOp.andi_eq_one.1 h

attribute [local instance] facts in
/-- The precondition at its arrays. -/
theorem all_real {x0 : FVec Ideal S1x256x64x64 .f32} {x1 : FVec Ideal S1x256x32x32 .f32} {x2 : FVec Ideal S1x256x16x16 .f32}
    {x3 : FVec Ideal S1x256x8x8 .f32} {x4 : FVec Ideal S1x256x4x4 .f32} {x5 : FVec Ideal S4x256x256x3x3 .f32} {x6 x7 x8 : FVec Ideal S4x256 .f32}
    {x9 : FVec Ideal S4x256x256x3x3 .f32} {x10 x11 x12 : FVec Ideal S4x256 .f32} {x13 : FVec Ideal S80x256x3x3 .f32} {x14 : FVec Ideal S80 .f32}
    {x15 : FVec Ideal S4x256x3x3 .f32} {x16 : FVec Ideal S4 .f32} {x17 : FVec Ideal S1x256x3x3 .f32} {x18 : FVec Ideal S1 .f32} {x19 : FVec Ideal S5 .f32}
    (h : Cert.Pre_finite.fn (F := Ideal) x0 x1 x2 x3 x4 x5 x6 x7 x8 x9 x10 x11 x12 x13 x14 x15 x16 x17 x18 x19 = fun _ => 1#1) :
    (∀ j, IsR (x0 j)) ∧ (∀ j, IsR (x1 j)) ∧ (∀ j, IsR (x2 j)) ∧ (∀ j, IsR (x3 j)) ∧ (∀ j, IsR (x4 j)) ∧ (∀ j, IsR (x5 j)) ∧ (∀ j, IsR (x6 j))
      ∧ (∀ j, IsR (x7 j)) ∧ (∀ j, IsR (x8 j)) ∧ (∀ j, IsR (x9 j)) ∧ (∀ j, IsR (x10 j)) ∧ (∀ j, IsR (x11 j)) ∧ (∀ j, IsR (x12 j)) := by
  have h := congrFun h ix0
  unfold Cert.Pre_finite.fn Cert.Pre_finite.fn_part1 Cert.Pre_finite.fn_part2 Cert.Pre_finite.fn_part3 at h
  have r12 := clause x12 Facts.bcast_S_S4x256 Facts.reducesTo_S4x256_S_d0_1 Facts.h_S_ ix0 (both h).2
  replace h := (both h).1
  have r11 := clause x11 Facts.bcast_S_S4x256 Facts.reducesTo_S4x256_S_d0_1 Facts.h_S_ ix0 (both h).2
  replace h := (both h).1
  have r10 := clause x10 Facts.bcast_S_S4x256 Facts.reducesTo_S4x256_S_d0_1 Facts.h_S_ ix0 (both h).2
  replace h := (both h).1
  have r9 := clause x9 Facts.bcast_S_S4x256x256x3x3 Facts.reducesTo_S4x256x256x3x3_S_d0_1_2_3_4 Facts.h_S_ ix0 (both h).2
  replace h := (both h).1
  have r8 := clause x8 Facts.bcast_S_S4x256 Facts.reducesTo_S4x256_S_d0_1 Facts.h_S_ ix0 (both h).2
  replace h := (both h).1
  have r7 := clause x7 Facts.bcast_S_S4x256 Facts.reducesTo_S4x256_S_d0_1 Facts.h_S_ ix0 (both h).2
  replace h := (both h).1
  have r6 := clause x6 Facts.bcast_S_S4x256 Facts.reducesTo_S4x256_S_d0_1 Facts.h_S_ ix0 (both h).2
  replace h := (both h).1
  have r5 := clause x5 Facts.bcast_S_S4x256x256x3x3 Facts.reducesTo_S4x256x256x3x3_S_d0_1_2_3_4 Facts.h_S_ ix0 (both h).2
  replace h := (both h).1
  have r4 := clause x4 Facts.bcast_S_S1x256x4x4 Facts.reducesTo_S1x256x4x4_S_d0_1_2_3 Facts.h_S_ ix0 (both h).2
  replace h := (both h).1
  have r3 := clause x3 Facts.bcast_S_S1x256x8x8 Facts.reducesTo_S1x256x8x8_S_d0_1_2_3 Facts.h_S_ ix0 (both h).2
  replace h := (both h).1
  have r2 := clause x2 Facts.bcast_S_S1x256x16x16 Facts.reducesTo_S1x256x16x16_S_d0_1_2_3 Facts.h_S_ ix0 (both h).2
  replace h := (both h).1
  have r1 := clause x1 Facts.bcast_S_S1x256x32x32 Facts.reducesTo_S1x256x32x32_S_d0_1_2_3 Facts.h_S_ ix0 (both h).2
  have r0 := clause x0 Facts.bcast_S_S1x256x64x64 Facts.reducesTo_S1x256x64x64_S_d0_1_2_3 Facts.h_S_ ix0 (both h).1
  exact ⟨r0, r1, r2, r3, r4, r5, r6, r7, r8, r9, r10, r11, r12⟩

end Cert.Proof.PreRead

end
-- ==== Proof.KernelMath.lean ====
/-
  What the kernel's blocks compute over the extended reals.  A unit's buffer holds an image of `H` rows and columns
  when each of its rows is a pixel of the image with its border of zeros, after a margin; a layer takes a buffer that
  holds an image to one that holds the layer of that image, and the head is a convolution of it.
-/
module

public import proofs.«01_k».proof.Proof.Final
public import proofs.«01_k».proof.Proof.Spec
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pointwise.Reduce
public import Idealize.ShloMosaic.Lib.Pipeline.Value

@[expose] public section

noncomputable section

namespace Cert.Proof.Blocks

open Idealize.ShloMosaic hiding ix0 ix1 ix2 ix3 ix4 ix5
open Idealize.ShloMosaic.ValueIdx Cert.Proof.Spec
open scoped BigOperators

/-! ## Pixels of a padded image -/

/-- The padded channel at pixel number `q`, counted along rows of `H + 2`. -/
def atPix {H : ℕ} (f : Fin H → Fin H → EReal) (q : ℕ) : EReal := padP f (q / (H + 2)) (q % (H + 2))

theorem atPix_mk {H : ℕ} (f : Fin H → Fin H → EReal) (a b : ℕ) (hb : b < H + 2) : atPix f (a * (H + 2) + b) = padP f a b := by
  unfold atPix
  have e1 : (a * (H + 2) + b) / (H + 2) = a := by
    rw [Nat.mul_comm, Nat.mul_add_div (by omega), Nat.div_eq_of_lt hb, Nat.add_zero]
  have e2 : (a * (H + 2) + b) % (H + 2) = b := by
    rw [Nat.mul_comm, Nat.mul_add_mod, Nat.mod_eq_of_lt hb]
  rw [e1, e2]

theorem padP_in {H : ℕ} (f : Fin H → Fin H → EReal) (h v : Fin H) : padP f (h.1 + 1) (v.1 + 1) = f h v := by
  unfold padP
  rw [dif_pos ⟨⟨by omega, by omega⟩, by omega, by omega⟩]
  rfl

theorem padP_out {H : ℕ} (f : Fin H → Fin H → EReal) {a b : ℕ} (h : ¬ ((1 ≤ a ∧ a ≤ H) ∧ (1 ≤ b ∧ b ≤ H))) : padP f a b = 0 :=
  dif_neg h

/-- The number of the pixel of an image's row `h` and column `v`. -/
abbrev pix (H h v : ℕ) : ℕ := (h + 1) * (H + 2) + (v + 1)

theorem atPix_in {H : ℕ} (f : Fin H → Fin H → EReal) (h v : Fin H) : atPix f (pix H h v) = f h v := by
  rw [atPix_mk _ _ _ (by omega), padP_in]

theorem atPix_zero {H : ℕ} (f : Fin H → Fin H → EReal) : atPix f 0 = 0 := padP_out _ (by simp)

theorem atPix_far {H : ℕ} (f : Fin H → Fin H → EReal) {q : ℕ} (hq : (H + 2) * (H + 2) ≤ q) : atPix f q = 0 := by
  refine padP_out _ fun h => ?_
  have : H + 2 ≤ q / (H + 2) := (Nat.le_div_iff_mul_le (by omega)).2 hq
  omega

/-- A pixel number is of a pixel of the image, or every padded channel is zero there. -/
theorem pix_cases {H : ℕ} (q : ℕ) : (∃ h v : Fin H, q = pix H h v) ∨ ∀ f : Fin H → Fin H → EReal, atPix f q = 0 := by
  by_cases h : (1 ≤ q / (H + 2) ∧ q / (H + 2) ≤ H) ∧ (1 ≤ q % (H + 2) ∧ q % (H + 2) ≤ H)
  · refine .inl ⟨⟨q / (H + 2) - 1, by omega⟩, ⟨q % (H + 2) - 1, by omega⟩, ?_⟩
    show q = (q / (H + 2) - 1 + 1) * (H + 2) + (q % (H + 2) - 1 + 1)
    rw [Nat.sub_add_cancel h.1.1, Nat.sub_add_cancel h.2.1, Nat.mul_comm]
    exact (Nat.div_add_mod q (H + 2)).symm
  · exact .inr fun f => padP_out f h

theorem pix_lt {H : ℕ} (h v : Fin H) : pix H h v < (H + 2) * (H + 2) := by
  have h1 : (h.1 + 1) * (H + 2) + (H + 2) ≤ (H + 2) * (H + 2) := by
    rw [← Nat.succ_mul]; exact Nat.mul_le_mul_right _ (by omega)
  unfold pix
  omega

/-- A sum whose first and last terms are zero. -/
theorem sum_border {H : ℕ} (g : ℕ → EReal) (h0 : g 0 = 0) (hl : g (H + 1) = 0) :
    ∑ a : Fin (H + 2), g a.1 = ∑ h : Fin H, g (h.1 + 1) := by
  rw [Fin.sum_univ_succ (fun a : Fin (H + 2) => g a.1), Fin.sum_univ_castSucc (fun a : Fin (H + 1) => g a.succ.1)]
  show g 0 + (_ + g (H + 1)) = _
  rw [h0, hl, zero_add, add_zero]
  rfl

/-- The sum over all pixels is the sum over the image's rows and columns. -/
theorem sum_atPix {H : ℕ} (f : Fin H → Fin H → EReal) {n : ℕ} (hn : n = (H + 2) * (H + 2)) :
    ∑ q : Fin n, atPix f q.1 = ∑ h, ∑ v, f h v := by
  subst hn
  rw [← Equiv.sum_comp finProdFinEquiv (fun q : Fin ((H + 2) * (H + 2)) => atPix f q.1), Fintype.sum_prod_type]
  have e : ∀ a b : Fin (H + 2), atPix f (finProdFinEquiv (a, b)).1 = padP f a.1 b.1 := fun a b => by
    have : (finProdFinEquiv (a, b)).1 = a.1 * (H + 2) + b.1 := by
      simp [finProdFinEquiv]; ring
    rw [this, atPix_mk _ _ _ b.2]
  simp only [e]
  rw [sum_border (fun a => ∑ b : Fin (H + 2), padP f a b.1) (Finset.sum_eq_zero fun b _ => padP_out _ (by simp))
    (Finset.sum_eq_zero fun b _ => padP_out _ (by simp))]
  refine Finset.sum_congr rfl fun h _ => ?_
  rw [sum_border (fun b => padP f (h.1 + 1) b) (padP_out _ (by simp)) (padP_out _ (by simp))]
  exact Finset.sum_congr rfl fun v _ => padP_in f h v

/-! ## Reading the blocks at an index -/

/-- An index of three coordinates at a position of a stack of one matrix. -/
theorem shapeCast_43_apply {a b : ℕ} (x : (S4 1 1 a b).Idx → EReal) (h : (S4 1 1 a b).ShapeCasts (S2 a b)) (i : Fin a) (j : Fin b) :
    shapeCast (S2 a b) x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem bcast_col_apply {n a : ℕ} (v : (S2 n 1).Idx → EReal) (i : Fin n) (j : Fin a) :
    broadcastTo (S2 n a) v bcast_col (ix2 i j) = v (ix2 i (0 : Fin 1)) := by
  unfold broadcastTo
  refine congrArg v (funext fun d => Fin.ext ?_)
  match d with
  | ⟨0, _⟩ =>
    split_ifs with h1
    · have : n = 1 := h1
      show 0 = i.1
      omega
    · rfl
  | ⟨1, _⟩ => rfl

/-- The parameters of layer `i` in tower `t`, as the kernel's tables hold them. -/
def layV (V : ParV Ideal) (t : Fin 2) (i : Fin 4) : Lay where
  w o a b c := V.tw (ix4 t ⟨9 * i.1 + (3 * a.1 + b.1), by omega⟩ c o)
  b o := V.bb (ix4 t i (0 : Fin 1) o)
  g o := V.gg (ix4 t i (0 : Fin 1) o)
  e o := V.be (ix4 t i (0 : Fin 1) o)

/-- The kernel's tower: the four layers in turn. -/
def towK {H : ℕ} (cnt : EReal) (L : Fin 4 → Lay) (x : Img H) : Img H :=
  layK cnt (Ideal.ofBits .f32 0x3727C5AC#32) (L 3) (layK cnt (Ideal.ofBits .f32 0x3727C5AC#32) (L 2)
    (layK cnt (Ideal.ofBits .f32 0x3727C5AC#32) (L 1) (layK cnt (Ideal.ofBits .f32 0x3727C5AC#32) (L 0) x)))

/-- The head at a pixel of the image, from the tower's image. -/
def headE {H : ℕ} (V : ParV Ideal) (t : Fin 2) (l : Fin 5) (x : Img H) (o : Fin 128) (h v : Fin H) : EReal :=
  (V.rs (ix3 t (0 : Fin 1) o)) * max ((convE x (fun i j c => V.hw (ix4 t ⟨0 + (3 * i.1 + j.1), by omega⟩ c o)) h.1 v.1 + V.hb (ix3 t (0 : Fin 1) o))
      * V.sv (ix4 t l (0 : Fin 1) o)) 0
    + (1 - V.rs (ix3 t (0 : Fin 1) o)) * ((convE x (fun i j c => V.hw (ix4 t ⟨0 + (3 * i.1 + j.1), by omega⟩ c o)) h.1 v.1 + V.hb (ix3 t (0 : Fin 1) o))
      * V.sv (ix4 t l (0 : Fin 1) o))

variable {sig : RefSig} (u : Unt sig) {H : ℕ} (hW : u.Wp = H + 2) (hN : u.Np = (H + 2) * (H + 2))

/-- The buffer `X` holds the image `x`. -/
def Holds (X : (S2 u.T 256).Idx → EReal) (x : Img H) : Prop :=
  ∀ (r : Fin u.T) (c : Fin 256), X (ix2 r c) = atPix (x c) (r.1 - (H + 3))

theorem at_apply (X : (S2 u.T 256).Idx → EReal) (r : ℕ) (h : r ≤ 2 * u.Wp + 2) (q : Fin u.Np) (c : Fin 256) :
    u.at_ (F := Ideal) X r h (ix2 q c) = X (ix2 ⟨r + q.1, Nat.lt_of_lt_of_le (Nat.add_lt_add_left q.2 r) (u.row_le h)⟩ c) := by
  refine congrArg X (funext fun d => Fin.ext ?_)
  match d with
  | ⟨0, _⟩ => show r + 1 * q.1 = r + q.1; omega
  | ⟨1, _⟩ => show 0 + 1 * c.1 = c.1; omega

theorem wt_apply {m n : ℕ} (W : (S4 2 m 256 n).Idx → EReal) (j : ℕ) (h : j < m) (c : Fin 256) (o : Fin n) :
    u.wt (F := Ideal) W j h (ix4 (0 : Fin 1) (0 : Fin 1) c o) = W (ix4 ⟨u.ti, u.hti⟩ ⟨j, h⟩ c o) := by
  refine congrArg W (funext fun d => Fin.ext ?_)
  match d with
  | ⟨0, _⟩ => show u.ti + 1 * 0 = u.ti; omega
  | ⟨1, _⟩ => show j + 1 * 0 = j; omega
  | ⟨2, _⟩ => show 0 + 1 * c.1 = c.1; omega
  | ⟨3, _⟩ => show 0 + 1 * o.1 = o.1; omega

include hW in
/-- One tap at a pixel of the image. -/
theorem tapOf_apply {X : (S2 u.T 256).Idx → EReal} {x : Img H} (hX : Holds u X x) {m n : ℕ} (W : (S4 2 m 256 n).Idx → EReal)
    (r : ℕ) (hr : r ≤ 2 * u.Wp + 2) (j : ℕ) (hj : j < m) (q : Fin u.Np) (o : Fin n) (h v : Fin H) (hq : q.1 = pix H h v) (a b : ℕ)
    (hb : b ≤ 2) (e : r = a * (H + 2) + b) :
    u.tapOf (F := Ideal) X W r hr j hj (ix2 q o)
      = tapE x (fun c => W (ix4 ⟨u.ti, u.hti⟩ ⟨j, hj⟩ c o)) (h.1 + a) (v.1 + b) := by
  unfold Unt.tapOf Unt.tapV
  refine (Ideal.matmul_plain_apply none _ _ _ q o).trans ?_
  rw [constant_apply, Ideal.ofBits_zero_f32, zero_add]
  unfold tapE
  refine Finset.sum_congr rfl fun c _ => ?_
  rw [at_apply u, hX, shapeCast_43_apply, wt_apply]
  congr 1
  rw [← atPix_mk (x c) (h.1 + a) (v.1 + b) (by omega)]
  congr 1
  show r + q.1 - (H + 3) = _
  rw [e, hq]
  unfold pix
  rw [Nat.add_mul h.1 a, Nat.succ_mul]
  omega

include hW in
/-- The convolution at a pixel of the image. -/
theorem convOf_apply {X : (S2 u.T 256).Idx → EReal} {x : Img H} (hX : Holds u X x) {m n : ℕ} (W : (S4 2 m 256 n).Idx → EReal)
    (base : ℕ) (hb : base + 9 ≤ m) (q : Fin u.Np) (o : Fin n) (h v : Fin H) (hq : q.1 = pix H h v) :
    u.convOf (F := Ideal) X W base hb (ix2 q o)
      = convE x (fun i j c => W (ix4 ⟨u.ti, u.hti⟩ ⟨base + (3 * i.1 + j.1), by omega⟩ c o)) h.1 v.1 := by
  unfold Unt.convOf
  simp only [addf_apply]
  rw [tapOf_apply u hW hX W 0 _ _ _ q o h v hq 0 0 (by omega) (by omega),
    tapOf_apply u hW hX W 1 _ _ _ q o h v hq 0 1 (by omega) (by omega),
    tapOf_apply u hW hX W 2 _ _ _ q o h v hq 0 2 (by omega) (by omega),
    tapOf_apply u hW hX W u.Wp _ _ _ q o h v hq 1 0 (by omega) (by omega),
    tapOf_apply u hW hX W (u.Wp + 1) _ _ _ q o h v hq 1 1 (by omega) (by omega),
    tapOf_apply u hW hX W (u.Wp + 2) _ _ _ q o h v hq 1 2 (by omega) (by omega),
    tapOf_apply u hW hX W (2 * u.Wp) _ _ _ q o h v hq 2 0 (by omega) (by omega),
    tapOf_apply u hW hX W (2 * u.Wp + 1) _ _ _ q o h v hq 2 1 (by omega) (by omega),
    tapOf_apply u hW hX W (2 * u.Wp + 2) _ _ _ q o h v hq 2 2 (by omega) (by omega)]
  rfl

/-! ## The normalisation -/

/-- The matrix that joins the channels of a group. -/
def IsGm (gm : (S2 256 256).Idx → EReal) : Prop := ∀ a b : Fin 256, gm (ix2 a b) = if a.1 / 8 = b.1 / 8 then 1 else 0

include hN in
/-- The sum of every group of an image's channels. -/
theorem gnSum_apply {gm : (S2 256 256).Idx → EReal} (hgm : IsGm gm) {y : (S2 u.Np 256).Idx → EReal} {Y : Img H}
    (hy : ∀ (q : Fin u.Np) (c : Fin 256), y (ix2 q c) = atPix (Y c) q.1) (c : Fin 256) :
    u.gnSum (F := Ideal) gm y (ix2 (0 : Fin 1) c) = gsum Y c := by
  unfold Unt.gnSum
  refine (Ideal.matmul_plain_apply none _ _ _ (0 : Fin 1) c).trans ?_
  rw [constant_apply, Ideal.ofBits_zero_f32, zero_add]
  unfold gsum
  refine Finset.sum_congr rfl fun k _ => ?_
  rw [hgm, shapeCast_a_1a_apply]
  have e : multiReduction (F := Ideal) .add [0] ⟨1, ![256]⟩ (y : FVec Ideal (S2 u.Np 256) .f32) 0x00000000#32 reduces_rows (.inl rfl) rfl (ix1 k)
      = ∑ h, ∑ v, Y k h v := by
    refine (Ideal.reduceAdd_r2_a0 reduces_rows y (ix1 k)).trans ?_
    rw [← sum_atPix (Y k) hN]
    exact Finset.sum_congr rfl fun q _ => hy q k
  rw [e]
  split_ifs
  · rw [mul_one]
  · rw [mul_zero]

theorem bt_apply (b : (S4 2 4 1 256).Idx → EReal) (i : Fin 4) (z : Fin 1) (c : Fin 256) :
    u.bt (F := Ideal) b i.1 i.2 (ix4 (0 : Fin 1) (0 : Fin 1) z c) = b (ix4 ⟨u.ti, u.hti⟩ i (0 : Fin 1) c) := by
  refine congrArg b (funext fun d => Fin.ext ?_)
  match d with
  | ⟨0, _⟩ => show u.ti + 1 * 0 = u.ti; omega
  | ⟨1, _⟩ => show i.1 + 1 * 0 = i.1; omega
  | ⟨2, _⟩ => show 0 + 1 * z.1 = 0; omega
  | ⟨3, _⟩ => show 0 + 1 * c.1 = c.1; omega

/-- The mask that is one on the image and zero on its border. -/
def IsMask (H : ℕ) {n : ℕ} (mask : (S2 n 1).Idx → EReal) : Prop :=
  ∀ q : Fin n, mask (ix2 q (0 : Fin 1)) = atPix (H := H) (fun _ _ => 1) q.1

theorem ld_mask {n : ℕ} (mask : (S2 n 1).Idx → EReal) :
    (View.ld (Val := Elt Ideal) (e' := EltTy.f32) mask (Rect.unit (s := S2 n 1) ![0, 0] (S2 n 1).size (inb2 (Nat.zero_add _).le)) : (S2 n 1).Idx → EReal) = mask := by
  funext y
  refine congrArg mask (funext fun d => Fin.ext ?_)
  match d with
  | ⟨0, _⟩ => show 0 + 1 * (y 0).1 = (y 0).1; omega
  | ⟨1, _⟩ => show 0 + 1 * (y 1).1 = (y 1).1; omega

theorem ld_gm (V : ParV Ideal) : gmV V = V.gm := by
  funext y
  refine congrArg V.gm (funext fun d => Fin.ext ?_)
  match d with
  | ⟨0, _⟩ => show 0 + 1 * (y 0).1 = (y 0).1; omega
  | ⟨1, _⟩ => show 0 + 1 * (y 1).1 = (y 1).1; omega

include hW in
/-- The masked convolution with its bias, at every pixel. -/
theorem gnY_apply {X : (S2 u.T 256).Idx → EReal} {x : Img H} (hX : Holds u X x) (V : ParV Ideal) {mask : (S2 u.Np 1).Idx → EReal}
    (hm : IsMask H mask) (i : Fin 4) (q : Fin u.Np) (o : Fin 256) :
    u.gnY (F := Ideal) (u.convOf X V.tw (9 * i.1) (by omega)) mask (u.bt V.bb i.1 i.2) (ix2 q o)
      = atPix (convB (layV V ⟨u.ti, u.hti⟩ i) x o) q.1 := by
  unfold Unt.gnY
  rw [mulf_apply, addf_apply]
  erw [bcast_col_apply mask q o]
  rw [hm]
  rcases pix_cases (H := H) q.1 with ⟨h, v, hq⟩ | hz
  · rw [convOf_apply u hW hX V.tw _ _ q o h v hq]
    erw [broadcastTo_1b_ab_apply, shapeCast_43_apply, bt_apply]
    rw [hq, atPix_in, atPix_in, mul_one]
    rfl
  · rw [hz, hz, mul_zero]

include hW hN in
/-- The layer's value at every pixel. -/
theorem gnV_apply {X : (S2 u.T 256).Idx → EReal} {x : Img H} (hX : Holds u X x) (V : ParV Ideal) (hgm : IsGm V.gm)
    {mask : (S2 u.Np 1).Idx → EReal} (hm : IsMask H mask) (i : Fin 4) (q : Fin u.Np) (o : Fin 256) :
    u.gnV (F := Ideal) V.gm (u.convOf X V.tw (9 * i.1) (by omega)) mask (u.bt V.bb i.1 i.2) (u.bt V.gg i.1 i.2) (u.bt V.be i.1 i.2) (ix2 q o)
      = atPix (layK (Ideal.ofBits .f32 u.cnt) (Ideal.ofBits .f32 0x3727C5AC#32) (layV V ⟨u.ti, u.hti⟩ i) x o) q.1 := by
  set L := layV V ⟨u.ti, u.hti⟩ i with hL
  set y := u.gnY (F := Ideal) (u.convOf X V.tw (9 * i.1) (by omega)) mask (u.bt V.bb i.1 i.2) with hy
  have hyq : ∀ (q : Fin u.Np) (c : Fin 256), y (ix2 q c) = atPix (convB L x c) q.1 := fun q c => gnY_apply u hW hX V hm i q c
  have hyy : ∀ (q : Fin u.Np) (c : Fin 256), (mulf (F := Ideal) (φ := .f32) y y) (ix2 q c)
      = atPix ((fun k a b => convB L x k a b * convB L x k a b : Img H) c) q.1 := fun q c => by
    rw [mulf_apply, hyq]
    rcases pix_cases (H := H) q.1 with ⟨h, v, hq⟩ | hz
    · rw [hq, atPix_in, atPix_in]
    · rw [hz, hz, mul_zero]
  have hmean : ∀ c, u.gnMean (F := Ideal) V.gm y (ix2 (0 : Fin 1) c) = gsum (convB L x) c * Ideal.ofBits .f32 u.cnt := fun c => by
    unfold Unt.gnMean
    rw [mulf_apply, gnSum_apply u hN hgm hyq]
    rfl
  have hsq : ∀ c, u.gnMean (F := Ideal) V.gm (mulf y y) (ix2 (0 : Fin 1) c)
      = gsum (fun k a b => convB L x k a b * convB L x k a b) c * Ideal.ofBits .f32 u.cnt := fun c => by
    unfold Unt.gnMean
    rw [mulf_apply, gnSum_apply u hN hgm hyy]
    rfl
  have hA : ∀ c, u.gnA (F := Ideal) V.gm y (u.bt V.gg i.1 i.2) (ix2 (0 : Fin 1) c)
      = facK (Ideal.ofBits .f32 u.cnt) (Ideal.ofBits .f32 0x3727C5AC#32) L.g (convB L x) c := fun c => by
    unfold Unt.gnA
    rw [mulf_apply, shapeCast_43_apply, bt_apply]
    show Ideal.rsqrt (u.gnMean (F := Ideal) V.gm (mulf y y) (ix2 (0 : Fin 1) c)
      - u.gnMean (F := Ideal) V.gm y (ix2 (0 : Fin 1) c) * u.gnMean (F := Ideal) V.gm y (ix2 (0 : Fin 1) c) + Ideal.ofBits .f32 0x3727C5AC#32) * _ = _
    rw [hmean, hsq]
    rfl
  unfold Unt.gnV
  rw [truncf_apply, mulf_apply, maximumf_apply, addf_apply, mulf_apply]
  erw [bcast_col_apply mask q o, broadcastTo_1b_ab_apply, broadcastTo_1b_ab_apply]
  rw [subf_apply, mulf_apply, ← hy, hA, hmean, shapeCast_43_apply, bt_apply, hm, hyq]
  rcases pix_cases (H := H) q.1 with ⟨h, v, hq⟩ | hz
  · rw [hq, atPix_in, atPix_in, atPix_in, mul_one]
    show max _ (Ideal.ofBits .f32 0x00000000#32) = _
    rw [Ideal.ofBits_zero_f32]
    rfl
  · rw [hz (fun _ _ => 1), mul_zero, hz]

/-! ## The buffer -/

include hW hN in
/-- Putting an image's pixels in a buffer that holds an image. -/
theorem putOf_holds {X : (S2 u.T 256).Idx → EReal} {x z : Img H} (hX : Holds u X x) {v : (S2 u.Np 256).Idx → EReal}
    (hv : ∀ (q : Fin u.Np) (c : Fin 256), v (ix2 q c) = atPix (z c) q.1) : Holds u (u.putOf (F := Ideal) X v) z := by
  intro r c
  have hT := u.hT
  unfold Unt.putOf
  by_cases hr : u.Wp ≤ r.1 ∧ r.1 < u.Wp + (u.Np + 2)
  · have hemb : (Rect.unit (s := S2 u.T 256) ![u.Wp, 0] (S2 (u.Np + 2) 256).size (inb2 u.row_le')).emb
        (ix2 (n0 := u.Np + 2) ⟨r.1 - u.Wp, by omega⟩ c) = ix2 r c := by
      funext d; apply Fin.ext
      match d with
      | ⟨0, _⟩ => show u.Wp + 1 * (r.1 - u.Wp) = r.1; omega
      | ⟨1, _⟩ => show 0 + 1 * c.1 = c.1; omega
    rw [← hemb]
    refine (over_emb X (Rect.unit (s := S2 u.T 256) ![u.Wp, 0] (S2 (u.Np + 2) 256).size (inb2 u.row_le')) _ _).trans ?_
    unfold updateSlice
    split_ifs with hin
    · have h0 := hin (0 : Fin 2)
      have h0' : 1 ≤ r.1 - u.Wp ∧ r.1 - u.Wp < 1 + u.Np := h0
      have e : shapeCast (S2 u.Np 256) v (casts_self _) = v := by
        funext j; exact shapeCast_apply v (casts_self _) j j rfl
      rw [e]
      have e2 : ∀ w : (S2 u.Np 256).Idx, (w 0).1 = r.1 - u.Wp - 1 → (w 1).1 = c.1 → v w = atPix (z c) (r.1 - (H + 3)) := by
        intro w h1 h2
        refine (congrArg v (ValueIdx.eq_ix2 w)).trans ((hv (w 0) (w 1)).trans ?_)
        have : w 1 = c := Fin.ext h2
        rw [this]
        congr 1
        rw [h1]; omega
      refine e2 _ ?_ ?_
      · rfl
      · show c.1 - 0 = c.1; omega
    · have h0 : r.1 = u.Wp ∨ u.Wp + 1 + u.Np ≤ r.1 := by
        by_contra hc
        refine hin fun a => ?_
        match a with
        | ⟨0, _⟩ => show 1 ≤ r.1 - u.Wp ∧ r.1 - u.Wp < 1 + u.Np; omega
        | ⟨1, _⟩ => show 0 ≤ c.1 ∧ c.1 < 0 + 256; omega
      have e3 : ∀ f : Fin H → Fin H → EReal, atPix f (r.1 - (H + 3)) = 0 := fun f => by
        rcases h0 with h0 | h0
        · have : r.1 - (H + 3) = 0 := by omega
          rw [this, atPix_zero]
        · exact atPix_far f (by omega)
      refine Eq.trans (?_ : _ = X (ix2 r c)) ?_
      · exact congrArg X hemb
      · rw [hX, e3, e3]
  · rw [over_of_not]
    · rw [hX]
      have e3 : ∀ f : Fin H → Fin H → EReal, atPix f (r.1 - (H + 3)) = 0 := fun f => by
        by_cases h0 : r.1 < u.Wp
        · have : r.1 - (H + 3) = 0 := by omega
          rw [this, atPix_zero]
        · exact atPix_far f (by omega)
      rw [e3, e3]
    · intro j hj
      have h0 := congrArg Fin.val (congrFun hj (0 : Fin 2))
      have h1 : u.Wp + 1 * (j 0).1 = r.1 := h0
      have h2 : (j 0).1 < u.Np + 2 := (j 0).2
      omega

include hW hN in
/-- The buffer after the level's image is put in it holds that image. -/
theorem fillOf_holds {v : (S2 u.Np 256).Idx → EReal} {z : Img H} (hv : ∀ (q : Fin u.Np) (c : Fin 256), v (ix2 q c) = atPix (z c) q.1) :
    Holds u (u.fillOf (F := Ideal) v) z := by
  unfold Unt.fillOf
  refine putOf_holds u hW hN (x := fun _ _ _ => 0) ?_ ?_
  · intro r c
    have h0 : atPix (fun _ _ : Fin H => (0 : EReal)) (r.1 - (H + 3)) = 0 := by
      unfold atPix padP; split_ifs <;> rfl
    rw [h0]
    exact Ideal.ofBits_zero_bf16
  · intro q c
    rw [← hv]
    refine (shapeCast_apply _ (casts_self _) (ix2 q c) (ix2 q c) rfl).trans ?_
    refine congrArg v (funext fun d => Fin.ext ?_)
    match d with
    | ⟨0, _⟩ => show 0 + 1 * q.1 = q.1; omega
    | ⟨1, _⟩ => show 0 + 1 * c.1 = c.1; omega

include hW hN in
/-- One layer takes a buffer that holds an image to one that holds the layer of the image. -/
theorem layerOf_holds {X : (S2 u.T 256).Idx → EReal} {x : Img H} (hX : Holds u X x) (V : ParV Ideal) (hgm : IsGm V.gm)
    {mask : (S2 u.Np 1).Idx → EReal} (hm : IsMask H mask) (i : Fin 4) :
    Holds u (layerOf V u mask i X)
      (layK (Ideal.ofBits .f32 u.cnt) (Ideal.ofBits .f32 0x3727C5AC#32) (layV V ⟨u.ti, u.hti⟩ i) x) := by
  unfold layerOf Unt.gnOf
  refine putOf_holds u hW hN hX fun q c => ?_
  rw [ld_gm]
  erw [ld_mask mask]
  exact gnV_apply u hW hN hX V hgm hm i q c

include hW hN in
/-- The buffer after its four layers holds the tower's image. -/
theorem towerOf_holds (V : ParV Ideal) (hgm : IsGm V.gm) {v : (S2 u.Np 256).Idx → EReal} {x : Img H}
    (hv : ∀ (q : Fin u.Np) (c : Fin 256), v (ix2 q c) = atPix (x c) q.1) {mask : (S2 u.Np 1).Idx → EReal} (hm : IsMask H mask) :
    Holds u (towerOf V u v mask) (towK (Ideal.ofBits .f32 u.cnt) (layV V ⟨u.ti, u.hti⟩) x) :=
  layerOf_holds u hW hN (layerOf_holds u hW hN (layerOf_holds u hW hN (layerOf_holds u hW hN (fillOf_holds u hW hN hv) V hgm hm 0)
    V hgm hm 1) V hgm hm 2) V hgm hm 3

/-! ## The head -/

theorem ht_apply (b : (S3 2 1 128).Idx → EReal) (z : Fin 1) (c : Fin 128) :
    u.ht (F := Ideal) b (ix3 (0 : Fin 1) z c) = b (ix3 ⟨u.ti, u.hti⟩ (0 : Fin 1) c) := by
  refine congrArg b (funext fun d => Fin.ext ?_)
  match d with
  | ⟨0, _⟩ => show u.ti + 1 * 0 = u.ti; omega
  | ⟨1, _⟩ => show 0 + 1 * z.1 = 0; omega
  | ⟨2, _⟩ => show 0 + 1 * c.1 = c.1; omega

theorem st_apply (b : (S4 2 5 1 128).Idx → EReal) (z : Fin 1) (c : Fin 128) :
    u.st (F := Ideal) b (ix4 (0 : Fin 1) (0 : Fin 1) z c) = b (ix4 ⟨u.ti, u.hti⟩ ⟨u.l, u.hl⟩ (0 : Fin 1) c) := by
  refine congrArg b (funext fun d => Fin.ext ?_)
  match d with
  | ⟨0, _⟩ => show u.ti + 1 * 0 = u.ti; omega
  | ⟨1, _⟩ => show u.l + 1 * 0 = u.l; omega
  | ⟨2, _⟩ => show 0 + 1 * z.1 = 0; omega
  | ⟨3, _⟩ => show 0 + 1 * c.1 = c.1; omega

include hW in
/-- What the head stores at a pixel of the image. -/
theorem headOf_apply {X : (S2 u.T 256).Idx → EReal} {x : Img H} (hX : Holds u X x) (V : ParV Ideal) (q : Fin u.Np) (o : Fin 128)
    (h v : Fin H) (hq : q.1 = pix H h v) :
    u.headOf (F := Ideal) V X (ix3 (0 : Fin 1) q o) = headE V ⟨u.ti, u.hti⟩ ⟨u.l, u.hl⟩ x o h v := by
  unfold Unt.headOf
  rw [shapeCast_ab_1ab_apply]
  unfold Unt.headV
  rw [truncf_apply, addf_apply, mulf_apply, mulf_apply, maximumf_apply, mulf_apply, addf_apply]
  erw [broadcastTo_1b_ab_apply, broadcastTo_1b_ab_apply, broadcastTo_1b_ab_apply, broadcastTo_1b_ab_apply]
  rw [subf_apply, convOf_apply u hW hX V.hw _ _ q o h v hq, shapeCast_1ab_ab_apply, shapeCast_1ab_ab_apply, shapeCast_43_apply, ht_apply, ht_apply, st_apply]
  show _ * max _ (Ideal.ofBits .f32 0x00000000#32) + (Ideal.ofBits .f32 0x3F800000#32 - _) * _ = _
  rw [Ideal.ofBits_zero_f32, Ideal.ofBits_one_f32]
  rfl

/-- A level's result at tower `t` and a pixel of the image. -/
theorem outOf_apply (V : ParV Ideal) (L : Lev sig) (hW : L.Wp = H + 2) (hN : L.Np = (H + 2) * (H + 2)) (hgm : IsGm V.gm)
    {v : (S2 L.Np 256).Idx → EReal} {x : Img H} (hv : ∀ (q : Fin L.Np) (c : Fin 256), v (ix2 q c) = atPix (x c) q.1)
    {mask : (S2 L.Np 1).Idx → EReal} (hm : IsMask H mask) (t : Fin 2) (q : Fin L.Np) (o : Fin 128) (a b : Fin H) (hq : q.1 = pix H a b) :
    outOf (F := Ideal) V L v mask (ix3 t q o)
      = headE V t ⟨L.l, L.hl⟩ (towK (Ideal.ofBits .f32 L.cnt) (layV V t) x) o a b := by
  have key : ∀ t : Fin 2, (L.unit t).headOf (F := Ideal) V (towerOf V (L.unit t) v mask) (i3 (0 : Fin 1) q o)
      = headE V t ⟨L.l, L.hl⟩ (towK (Ideal.ofBits .f32 L.cnt) (layV V t) x) o a b := fun t => by
    have e : (i3 (0 : Fin 1) q o : (S3 1 L.Np 128).Idx) = ix3 (0 : Fin 1) q o := by
      funext d; match d with
      | ⟨0, _⟩ => rfl
      | ⟨1, _⟩ => rfl
      | ⟨2, _⟩ => rfl
    refine (congrArg ((L.unit t).headOf (F := Ideal) V (towerOf V (L.unit t) v mask)) e).trans ?_
    exact headOf_apply (L.unit t) hW (towerOf_holds (L.unit t) hW hN V hgm hv hm) V q o a b hq
  unfold outOf stack
  match t with
  | ⟨0, _⟩ => exact (if_pos rfl).trans (key 0)
  | ⟨1, _⟩ => exact (if_neg (by show ¬ (1 = 0); omega)).trans (key 1)

end Cert.Proof.Blocks

end
-- ==== Proof.HostOps.lean ====
/-
  The kernel's host code, operation by operation for any size of image: what the arrays it prepares hold at each
  element, and what the results read of the kernel's output.
-/
module

public import proofs.«01_k».proof.Proof.KernelMath
public import proofs.«01_k».proof.Proof.RefOps

@[expose] public section

noncomputable section

namespace Cert.Proof.HostOps

open Idealize.ShloMosaic hiding ix0 ix1 ix2 ix3 ix4 ix5
open Idealize.ShloMosaic.ValueIdx
open Cert.Proof.Spec Cert.Proof.Blocks

/-! ## Shapes moved -/

/-- A channel-last image, from one that has the channels first. -/
theorem last_apply {O H : ℕ} (ht : (⟨3, ![O, H, H]⟩ : Shape).Transposes [1, 2, 0] ⟨3, ![H, H, O]⟩)
    (x : (⟨3, ![O, H, H]⟩ : Shape).Idx → EReal) (a b : Fin H) (c : Fin O) :
    transpose ⟨3, ![H, H, O]⟩ [1, 2, 0] x ht (ix3 a b c) = x (ix3 c a b) := by
  refine transpose_apply [1, 2, 0] x ht _ _ fun d => ?_
  match d with
  | ⟨0, _⟩ => rfl
  | ⟨1, _⟩ => rfl
  | ⟨2, _⟩ => rfl

/-- A channel-first image, from one that has the channels last. -/
theorem first_apply {O H : ℕ} (ht : (⟨3, ![H, H, O]⟩ : Shape).Transposes [2, 0, 1] ⟨3, ![O, H, H]⟩)
    (x : (⟨3, ![H, H, O]⟩ : Shape).Idx → EReal) (c : Fin O) (a b : Fin H) :
    transpose ⟨3, ![O, H, H]⟩ [2, 0, 1] x ht (ix3 c a b) = x (ix3 a b c) := by
  refine transpose_apply [2, 0, 1] x ht _ _ fun d => ?_
  match d with
  | ⟨0, _⟩ => rfl
  | ⟨1, _⟩ => rfl
  | ⟨2, _⟩ => rfl

/-- Over the reals a float cast keeps the number. -/
theorem truncf_at {s : Shape} (x : s.Idx → EReal) (h : FTy.bits .bf16 < FTy.bits .f32) (i : s.Idx) :
    (truncf (F := Ideal) (φ := .f32) .bf16 x h : s.Idx → EReal) i = x i := rfl

/-- The image with its border of zeros, one row per pixel. -/
theorem kx_apply {H N : ℕ} (hN : N = (H + 2) * (H + 2)) (x : (⟨4, ![1, 256, H, H]⟩ : Shape).Idx → EReal)
    (h1 : (⟨4, ![1, 256, H, H]⟩ : Shape).ShapeCasts ⟨3, ![256, H, H]⟩)
    (h2 : (⟨3, ![256, H, H]⟩ : Shape).Transposes [1, 2, 0] ⟨3, ![H, H, 256]⟩)
    (h3 : (⟨3, ![H, H, 256]⟩ : Shape).Pads (![1, 1, 0] : Fin 3 → Nat) ![1, 1, 0] ![0, 0, 0] ⟨3, ![H + 2, H + 2, 256]⟩)
    (h4 : 0 < (⟨0, ![]⟩ : Shape).numel) (h5 : (⟨3, ![H + 2, H + 2, 256]⟩ : Shape).ShapeCasts ⟨2, ![N, 256]⟩)
    (h6 : FTy.bits .bf16 < FTy.bits .f32) (q : Fin N) (c : Fin 256) :
    truncf (F := Ideal) .bf16 (shapeCast ⟨2, ![N, 256]⟩ (pad ⟨3, ![H + 2, H + 2, 256]⟩ ![1, 1, 0] ![1, 1, 0] ![0, 0, 0]
      (transpose ⟨3, ![H, H, 256]⟩ [1, 2, 0] (shapeCast ⟨3, ![256, H, H]⟩ x h1) h2) RefOps.zeroS h3 h4) h5) h6 (ix2 q c)
      = atPix (fun h v => x (ix4 (0 : Fin 1) c h v)) q.1 := by
  have hpos : 0 < H + 2 := by omega
  have hq : q.1 / (H + 2) < H + 2 := Nat.div_lt_of_lt_mul (by rw [← hN]; exact q.2)
  have hr : q.1 % (H + 2) < H + 2 := Nat.mod_lt _ hpos
  refine (truncf_at _ _ _).trans ?_
  refine (shapeCast_apply _ h5 (ix2 q c) (ix3 (⟨q.1 / (H + 2), hq⟩ : Fin (H + 2)) (⟨q.1 % (H + 2), hr⟩ : Fin (H + 2)) c) ?_).trans ?_
  · rw [Shape.rowMajor_val_three, Shape.rowMajor_val_two]
    show (q.1 / (H + 2) * (H + 2) + q.1 % (H + 2)) * 256 + c.1 = q.1 * 256 + c.1
    rw [Nat.div_add_mod']
  unfold atPix padP
  split_ifs with h
  · refine (pad_apply_of_inside _ _ _ _ RefOps.zeroS h3 h4 _
      (ix3 (⟨q.1 / (H + 2) - 1, by omega⟩ : Fin H) (⟨q.1 % (H + 2) - 1, by omega⟩ : Fin H) c) fun d => ?_).trans ?_
    · match d with
      | ⟨0, _⟩ => show q.1 / (H + 2) = 1 + (q.1 / (H + 2) - 1) * (0 + 1); omega
      | ⟨1, _⟩ => show q.1 % (H + 2) = 1 + (q.1 % (H + 2) - 1) * (0 + 1); omega
      | ⟨2, _⟩ => show c.1 = 0 + c.1 * (0 + 1); omega
    · rw [last_apply, RefOps.unlead_apply]
  · by_cases k : 1 ≤ q.1 / (H + 2) ∧ q.1 / (H + 2) ≤ H
    · refine (pad_apply_of_not_inside _ _ _ _ RefOps.zeroS h3 h4 _ (1 : Fin 3) ?_).trans (RefOps.zeroS_apply _)
      rintro ⟨p, _, r⟩
      have p' : 1 ≤ q.1 % (H + 2) := p
      have r' : (q.1 % (H + 2) - 1) / (0 + 1) < H := r
      rw [Nat.div_one] at r'
      exact h ⟨k, p', by omega⟩
    · refine (pad_apply_of_not_inside _ _ _ _ RefOps.zeroS h3 h4 _ (0 : Fin 3) ?_).trans (RefOps.zeroS_apply _)
      rintro ⟨p, _, r⟩
      have p' : 1 ≤ q.1 / (H + 2) := p
      have r' : (q.1 / (H + 2) - 1) / (0 + 1) < H := r
      rw [Nat.div_one] at r'
      exact k ⟨p', by omega⟩

/-- A tower's weights, a matrix for each layer and tap. -/
theorem ktw_apply (w : (⟨5, ![4, 256, 256, 3, 3]⟩ : Shape).Idx → EReal)
    (h1 : (⟨5, ![4, 256, 256, 3, 3]⟩ : Shape).Transposes [0, 3, 4, 2, 1] ⟨5, ![4, 3, 3, 256, 256]⟩)
    (h2 : (⟨5, ![4, 3, 3, 256, 256]⟩ : Shape).ShapeCasts ⟨3, ![36, 256, 256]⟩)
    (h3 : FTy.bits .bf16 < FTy.bits .f32) (i : Fin 4) (a b : Fin 3) (c o : Fin 256) :
    truncf (F := Ideal) .bf16 (shapeCast ⟨3, ![36, 256, 256]⟩ (transpose ⟨5, ![4, 3, 3, 256, 256]⟩ [0, 3, 4, 2, 1] w h1) h2) h3
      (ix3 (⟨9 * i.1 + (3 * a.1 + b.1), by omega⟩ : Fin 36) c o) = w (ix5 i o c a b) := by
  refine (truncf_at _ _ _).trans ?_
  refine (shapeCast_apply _ h2 _ (ix5 i a b c o) ?_).trans ?_
  · rw [Shape.rowMajor_val_five, Shape.rowMajor_val_three]
    show (((i.1 * 3 + a.1) * 3 + b.1) * 256 + c.1) * 256 + o.1 = ((9 * i.1 + (3 * a.1 + b.1)) * 256 + c.1) * 256 + o.1
    omega
  · refine transpose_apply [0, 3, 4, 2, 1] w h1 _ _ fun d => ?_
    match d with
    | ⟨0, _⟩ => rfl
    | ⟨1, _⟩ => rfl
    | ⟨2, _⟩ => rfl
    | ⟨3, _⟩ => rfl
    | ⟨4, _⟩ => rfl

/-- One row per layer, with an axis of one between. -/
theorem krow_apply (x : (⟨2, ![4, 256]⟩ : Shape).Idx → EReal) (h : (⟨2, ![4, 256]⟩ : Shape).ShapeCasts ⟨3, ![4, 1, 256]⟩)
    (i : Fin 4) (o : Fin 256) : shapeCast ⟨3, ![4, 1, 256]⟩ x h (ix3 i (0 : Fin 1) o) = x (ix2 i o) := by
  refine shapeCast_apply x h _ _ ?_
  rw [Shape.rowMajor_val_two, Shape.rowMajor_val_three]
  show i.1 * 256 + o.1 = (i.1 * 1 + 0) * 256 + o.1
  omega

/-! ## The two towers' arrays, one after the other -/

/-- Two arrays of three axes, stacked. -/
theorem pair3_apply {n p q : ℕ} {α : Type} (x y : (⟨3, ![n, p, q]⟩ : Shape).Idx → α)
    (hb : (⟨3, ![n, p, q]⟩ : Shape).BroadcastsInDim ⟨4, ![1, n, p, q]⟩ (![1, 2, 3] : Fin 3 → Fin 4))
    (hc : Shape.Concatenates [⟨4, ![1, n, p, q]⟩, ⟨4, ![1, n, p, q]⟩] ⟨4, ![2, n, p, q]⟩ (0 : Fin 4))
    (t : Fin 2) (a : Fin n) (b : Fin p) (c : Fin q) :
    concatenate ⟨4, ![2, n, p, q]⟩ (0 : Fin 4) [⟨⟨4, ![1, n, p, q]⟩, broadcastInDim ⟨4, ![1, n, p, q]⟩ ![1, 2, 3] hb x⟩,
      ⟨⟨4, ![1, n, p, q]⟩, broadcastInDim ⟨4, ![1, n, p, q]⟩ ![1, 2, 3] hb y⟩] hc (ix4 t a b c)
      = (![x, y] : Fin 2 → _) t (ix3 a b c) := by
  have one : ∀ z : (⟨3, ![n, p, q]⟩ : Shape).Idx → α,
      broadcastInDim ⟨4, ![1, n, p, q]⟩ ![1, 2, 3] hb z (ix4 (0 : Fin 1) a b c) = z (ix3 a b c) := fun z => by
    refine broadcastInDim_apply _ hb z _ _ fun d => ?_
    match d with
    | ⟨0, _⟩ => show a.1 = if n = 1 then 0 else a.1; split_ifs <;> omega
    | ⟨1, _⟩ => show b.1 = if p = 1 then 0 else b.1; split_ifs <;> omega
    | ⟨2, _⟩ => show c.1 = if q = 1 then 0 else c.1; split_ifs <;> omega
  match t with
  | ⟨0, _⟩ =>
    refine (concatenate_pair_apply_left (t := ⟨4, ![2, n, p, q]⟩) (0 : Fin 4) _ _ hc _ rfl (ix4 (0 : Fin 1) a b c) fun d => ?_).trans (one x)
    match d with
    | ⟨0, _⟩ => rfl
    | ⟨1, _⟩ => rfl
    | ⟨2, _⟩ => rfl
    | ⟨3, _⟩ => rfl
  | ⟨1, _⟩ =>
    refine (concatenate_pair_apply_right (t := ⟨4, ![2, n, p, q]⟩) (0 : Fin 4) _ _ hc _ rfl rfl (ix4 (0 : Fin 1) a b c) (fun d hd => ?_) rfl).trans (one y)
    match d with
    | ⟨0, _⟩ => exact absurd rfl hd
    | ⟨1, _⟩ => rfl
    | ⟨2, _⟩ => rfl
    | ⟨3, _⟩ => rfl

/-- Two arrays of two axes, stacked. -/
theorem pair2_apply {n p : ℕ} {α : Type} (x y : (⟨2, ![n, p]⟩ : Shape).Idx → α)
    (hb : (⟨2, ![n, p]⟩ : Shape).BroadcastsInDim ⟨3, ![1, n, p]⟩ (![1, 2] : Fin 2 → Fin 3))
    (hc : Shape.Concatenates [⟨3, ![1, n, p]⟩, ⟨3, ![1, n, p]⟩] ⟨3, ![2, n, p]⟩ (0 : Fin 3))
    (t : Fin 2) (a : Fin n) (b : Fin p) :
    concatenate ⟨3, ![2, n, p]⟩ (0 : Fin 3) [⟨⟨3, ![1, n, p]⟩, broadcastInDim ⟨3, ![1, n, p]⟩ ![1, 2] hb x⟩,
      ⟨⟨3, ![1, n, p]⟩, broadcastInDim ⟨3, ![1, n, p]⟩ ![1, 2] hb y⟩] hc (ix3 t a b)
      = (![x, y] : Fin 2 → _) t (ix2 a b) := by
  have one : ∀ z : (⟨2, ![n, p]⟩ : Shape).Idx → α,
      broadcastInDim ⟨3, ![1, n, p]⟩ ![1, 2] hb z (ix3 (0 : Fin 1) a b) = z (ix2 a b) := fun z => by
    refine broadcastInDim_apply _ hb z _ _ fun d => ?_
    match d with
    | ⟨0, _⟩ => show a.1 = if n = 1 then 0 else a.1; split_ifs <;> omega
    | ⟨1, _⟩ => show b.1 = if p = 1 then 0 else b.1; split_ifs <;> omega
  match t with
  | ⟨0, _⟩ =>
    refine (concatenate_pair_apply_left (t := ⟨3, ![2, n, p]⟩) (0 : Fin 3) _ _ hc _ rfl (ix3 (0 : Fin 1) a b) fun d => ?_).trans (one x)
    match d with
    | ⟨0, _⟩ => rfl
    | ⟨1, _⟩ => rfl
    | ⟨2, _⟩ => rfl
  | ⟨1, _⟩ =>
    refine (concatenate_pair_apply_right (t := ⟨3, ![2, n, p]⟩) (0 : Fin 3) _ _ hc _ rfl rfl (ix3 (0 : Fin 1) a b) (fun d hd => ?_) rfl).trans (one y)
    match d with
    | ⟨0, _⟩ => exact absurd rfl hd
    | ⟨1, _⟩ => rfl
    | ⟨2, _⟩ => rfl

/-! ## The heads' arrays -/

/-- A head's weights, a matrix for each tap, in its first lanes. -/
theorem khw_apply {O P : ℕ} (hO : O ≤ 128) (w : (⟨4, ![O, 256, 3, 3]⟩ : Shape).Idx → EReal) {u : Shape} (z : u.Idx → EReal)
    (h1 : (⟨4, ![O, 256, 3, 3]⟩ : Shape).Transposes [2, 3, 1, 0] ⟨4, ![3, 3, 256, O]⟩)
    (h2 : (⟨4, ![3, 3, 256, O]⟩ : Shape).ShapeCasts ⟨3, ![9, 256, O]⟩)
    (h3 : (⟨3, ![9, 256, O]⟩ : Shape).Pads (![0, 0, 0] : Fin 3 → Nat) ![0, 0, P] ![0, 0, 0] ⟨3, ![9, 256, 128]⟩)
    (h4 : 0 < u.numel) (h5 : FTy.bits .bf16 < FTy.bits .f32) (i j : Fin 3) (c : Fin 256) (o : Fin O) :
    truncf (F := Ideal) .bf16 (pad ⟨3, ![9, 256, 128]⟩ ![0, 0, 0] ![0, 0, P] ![0, 0, 0]
      (shapeCast ⟨3, ![9, 256, O]⟩ (transpose ⟨4, ![3, 3, 256, O]⟩ [2, 3, 1, 0] w h1) h2) z h3 h4) h5
      (ix3 (⟨0 + (3 * i.1 + j.1), by omega⟩ : Fin 9) c (⟨o.1, by omega⟩ : Fin 128)) = w (ix4 o c i j) := by
  refine (pad_apply_of_inside _ _ _ _ z h3 h4 _ (ix3 (⟨3 * i.1 + j.1, by omega⟩ : Fin 9) c o) fun d => ?_).trans ?_
  · match d with
    | ⟨0, _⟩ => show 0 + (3 * i.1 + j.1) = 0 + (3 * i.1 + j.1) * (0 + 1); omega
    | ⟨1, _⟩ => show c.1 = 0 + c.1 * (0 + 1); omega
    | ⟨2, _⟩ => show o.1 = 0 + o.1 * (0 + 1); omega
  refine (shapeCast_apply _ h2 _ (ix4 i j c o) ?_).trans ?_
  · rw [Shape.rowMajor_val_four, Shape.rowMajor_val_three]
    show ((i.1 * 3 + j.1) * 256 + c.1) * O + o.1 = ((3 * i.1 + j.1) * 256 + c.1) * O + o.1
    rw [Nat.mul_comm i.1 3]
  · refine transpose_apply [2, 3, 1, 0] w h1 _ _ fun d => ?_
    match d with
    | ⟨0, _⟩ => rfl
    | ⟨1, _⟩ => rfl
    | ⟨2, _⟩ => rfl
    | ⟨3, _⟩ => rfl

/-- A head's bias, in its first lanes. -/
theorem khb_apply {O P : ℕ} (hO : O ≤ 128) (b : (⟨1, ![O]⟩ : Shape).Idx → EReal) {u : Shape} (z : u.Idx → EReal)
    (h1 : (⟨1, ![O]⟩ : Shape).Pads (![0] : Fin 1 → Nat) ![P] ![0] ⟨1, ![128]⟩) (h2 : 0 < u.numel)
    (h3 : (⟨1, ![128]⟩ : Shape).ShapeCasts ⟨2, ![1, 128]⟩) (o : Fin O) :
    shapeCast ⟨2, ![1, 128]⟩ (pad ⟨1, ![128]⟩ ![0] ![P] ![0] b z h1 h2) h3 (ix2 (0 : Fin 1) (⟨o.1, by omega⟩ : Fin 128)) = b (ix1 o) := by
  rw [shapeCast_a_1a_apply]
  refine pad_apply_of_inside _ _ _ b z h1 h2 _ (ix1 o) fun d => ?_
  match d with
  | ⟨0, _⟩ => show o.1 = 0 + o.1 * (0 + 1); omega

/-- The box head's weights and the centre head's, one after the other. -/
theorem cat4_apply (x : (⟨4, ![4, 256, 3, 3]⟩ : Shape).Idx → EReal) (y : (⟨4, ![1, 256, 3, 3]⟩ : Shape).Idx → EReal)
    (hc : Shape.Concatenates [⟨4, ![4, 256, 3, 3]⟩, ⟨4, ![1, 256, 3, 3]⟩] ⟨4, ![5, 256, 3, 3]⟩ (0 : Fin 4)) (c : Fin 256) (i j : Fin 3) :
    (∀ o : Fin 4, concatenate ⟨4, ![5, 256, 3, 3]⟩ (0 : Fin 4) [⟨⟨4, ![4, 256, 3, 3]⟩, x⟩, ⟨⟨4, ![1, 256, 3, 3]⟩, y⟩] hc
        (ix4 (⟨o.1, by omega⟩ : Fin 5) c i j) = x (ix4 o c i j))
      ∧ concatenate ⟨4, ![5, 256, 3, 3]⟩ (0 : Fin 4) [⟨⟨4, ![4, 256, 3, 3]⟩, x⟩, ⟨⟨4, ![1, 256, 3, 3]⟩, y⟩] hc (ix4 (4 : Fin 5) c i j)
        = y (ix4 (0 : Fin 1) c i j) := by
  constructor
  · intro o
    refine concatenate_pair_apply_left (t := ⟨4, ![5, 256, 3, 3]⟩) (0 : Fin 4) _ _ hc _ rfl (ix4 o c i j) fun d => ?_
    match d with
    | ⟨0, _⟩ => rfl
    | ⟨1, _⟩ => rfl
    | ⟨2, _⟩ => rfl
    | ⟨3, _⟩ => rfl
  · refine concatenate_pair_apply_right (t := ⟨4, ![5, 256, 3, 3]⟩) (0 : Fin 4) _ _ hc _ rfl rfl (ix4 (0 : Fin 1) c i j) (fun d hd => ?_) rfl
    match d with
    | ⟨0, _⟩ => exact absurd rfl hd
    | ⟨1, _⟩ => rfl
    | ⟨2, _⟩ => rfl
    | ⟨3, _⟩ => rfl

/-- The box head's bias and the centre head's, one after the other. -/
theorem cat1_apply (x : (⟨1, ![4]⟩ : Shape).Idx → EReal) (y : (⟨1, ![1]⟩ : Shape).Idx → EReal)
    (hc : Shape.Concatenates [⟨1, ![4]⟩, ⟨1, ![1]⟩] ⟨1, ![5]⟩ (0 : Fin 1)) :
    (∀ o : Fin 4, concatenate ⟨1, ![5]⟩ (0 : Fin 1) [⟨⟨1, ![4]⟩, x⟩, ⟨⟨1, ![1]⟩, y⟩] hc (ix1 (⟨o.1, by omega⟩ : Fin 5)) = x (ix1 o))
      ∧ concatenate ⟨1, ![5]⟩ (0 : Fin 1) [⟨⟨1, ![4]⟩, x⟩, ⟨⟨1, ![1]⟩, y⟩] hc (ix1 (4 : Fin 5)) = y (ix1 (0 : Fin 1)) := by
  constructor
  · intro o
    refine concatenate_pair_apply_left (t := ⟨1, ![5]⟩) (0 : Fin 1) _ _ hc _ rfl (ix1 o) fun d => ?_
    match d with
    | ⟨0, _⟩ => rfl
  · refine concatenate_pair_apply_right (t := ⟨1, ![5]⟩) (0 : Fin 1) _ _ hc _ rfl rfl (ix1 (0 : Fin 1)) (fun d hd => ?_) rfl
    match d with
    | ⟨0, _⟩ => exact absurd rfl hd

/-- The scale of each level in the lanes that are scaled, one in the others. -/
theorem ksv_apply (s : (⟨1, ![5]⟩ : Shape).Idx → EReal) (k : (⟨3, ![1, 1, 128]⟩ : Shape).Idx → BitVec 1) (z : (⟨0, ![]⟩ : Shape).Idx → EReal)
    (h1 : (⟨1, ![5]⟩ : Shape).BroadcastsInDim ⟨3, ![5, 1, 1]⟩ (![0] : Fin 1 → Fin 3))
    (h2 : (⟨3, ![5, 1, 1]⟩ : Shape).BroadcastsInDim ⟨3, ![5, 1, 128]⟩ (![0, 1, 2] : Fin 3 → Fin 3))
    (h3 : (⟨3, ![1, 1, 128]⟩ : Shape).BroadcastsInDim ⟨3, ![5, 1, 128]⟩ (![0, 1, 2] : Fin 3 → Fin 3))
    (h4 : (⟨0, ![]⟩ : Shape).BroadcastsInDim ⟨3, ![5, 1, 128]⟩ (![] : Fin 0 → Fin 3)) (l : Fin 5) (o : Fin 128) :
    select (broadcastInDim ⟨3, ![5, 1, 128]⟩ ![0, 1, 2] h3 k)
      (broadcastInDim ⟨3, ![5, 1, 128]⟩ ![0, 1, 2] h2 (broadcastInDim ⟨3, ![5, 1, 1]⟩ ![0] h1 s))
      (broadcastInDim ⟨3, ![5, 1, 128]⟩ ![] h4 z) (ix3 l (0 : Fin 1) o)
      = if k (ix3 (0 : Fin 1) (0 : Fin 1) o) = 1#1 then s (ix1 l) else z ix0 := by
  have ek : broadcastInDim ⟨3, ![5, 1, 128]⟩ ![0, 1, 2] h3 k (ix3 l (0 : Fin 1) o) = k (ix3 (0 : Fin 1) (0 : Fin 1) o) := by
    refine broadcastInDim_apply _ h3 k _ _ fun d => ?_
    match d with
    | ⟨0, _⟩ => rfl
    | ⟨1, _⟩ => rfl
    | ⟨2, _⟩ => rfl
  have es : broadcastInDim ⟨3, ![5, 1, 128]⟩ ![0, 1, 2] h2 (broadcastInDim ⟨3, ![5, 1, 1]⟩ ![0] h1 s) (ix3 l (0 : Fin 1) o) = s (ix1 l) := by
    refine (broadcastInDim_apply _ h2 _ _ (ix3 l (0 : Fin 1) (0 : Fin 1)) fun d => ?_).trans (broadcastInDim_apply _ h1 s _ _ fun d => ?_)
    · match d with
      | ⟨0, _⟩ => rfl
      | ⟨1, _⟩ => rfl
      | ⟨2, _⟩ => rfl
    · match d with
      | ⟨0, _⟩ => rfl
  have ez : broadcastInDim ⟨3, ![5, 1, 128]⟩ ![] h4 z (ix3 l (0 : Fin 1) o) = z ix0 := broadcastInDim_scalar_apply h4 z _
  unfold select Scalar.select
  rw [ek, es, ez]
  rfl

/-! ## Reading the results off the kernel's output -/

section Suffix
variable {H N : ℕ} (r : (⟨3, ![2, N, 128]⟩ : Shape).Idx → EReal) (h0 : FTy.bits .bf16 < FTy.bits .f32)
  (h1 : (⟨3, ![2, N, 128]⟩ : Shape).ShapeCasts ⟨4, ![2, H + 2, H + 2, 128]⟩)

/-- The kernel's output as two padded images. -/
theorem sq_apply (hN : N = (H + 2) * (H + 2)) (t : Fin 2) (a b : Fin (H + 2)) (o : Fin 128) (q : Fin N) (hq : q.1 = a.1 * (H + 2) + b.1) :
    shapeCast ⟨4, ![2, H + 2, H + 2, 128]⟩ (extf (F := Ideal) (φ := .bf16) .f32 r h0) h1 (ix4 t a b o) = r (ix3 t q o) := by
  refine shapeCast_apply _ h1 _ _ ?_
  rw [Shape.rowMajor_val_three, Shape.rowMajor_val_four]
  show (t.1 * N + q.1) * 128 + o.1 = ((t.1 * (H + 2) + a.1) * (H + 2) + b.1) * 128 + o.1
  rw [hq, hN]
  ring

/-- The middle of one of the two padded images, its first lanes. -/
theorem mid_apply {O : ℕ} (hO : O ≤ 128) (hN : N = (H + 2) * (H + 2)) (t : Fin 2)
    (h2 : (⟨4, ![2, H + 2, H + 2, 128]⟩ : Shape).Slices ![t.1, 1, 1, 0] ⟨4, ![1, H, H, O]⟩)
    (h3 : (⟨4, ![1, H, H, O]⟩ : Shape).ShapeCasts ⟨3, ![H, H, O]⟩) (a b : Fin H) (o : Fin O) (q : Fin N) (hq : q.1 = pix H a b) :
    shapeCast ⟨3, ![H, H, O]⟩ (extractStridedSlice ⟨4, ![1, H, H, O]⟩ ![t.1, 1, 1, 0]
      (shapeCast ⟨4, ![2, H + 2, H + 2, 128]⟩ (extf (F := Ideal) (φ := .bf16) .f32 r h0) h1) h2) h3 (ix3 a b o)
      = r (ix3 t q (⟨o.1, by omega⟩ : Fin 128)) := by
  rw [shapeCast_1abc_abc_apply]
  refine (extractStridedSlice_apply _ _ h2 _ (ix4 t (⟨a.1 + 1, by omega⟩ : Fin (H + 2)) (⟨b.1 + 1, by omega⟩ : Fin (H + 2)) (⟨o.1, by omega⟩ : Fin 128))
    fun d => ?_).trans (sq_apply r h0 h1 hN t _ _ _ q hq)
  match d with
  | ⟨0, _⟩ => show t.1 = t.1 + 0; omega
  | ⟨1, _⟩ => show a.1 + 1 = 1 + a.1; omega
  | ⟨2, _⟩ => show b.1 + 1 = 1 + b.1; omega
  | ⟨3, _⟩ => show o.1 = 0 + o.1; omega

/-- Some of the lanes of a channel-last image. -/
theorem lanes_apply {O Q k : ℕ} (hk : k + O ≤ Q) (x : (⟨3, ![H, H, Q]⟩ : Shape).Idx → EReal)
    (h2 : (⟨3, ![H, H, Q]⟩ : Shape).Slices ![0, 0, k] ⟨3, ![H, H, O]⟩) (a b : Fin H) (o : Fin O) :
    extractStridedSlice ⟨3, ![H, H, O]⟩ ![0, 0, k] x h2 (ix3 a b o) = x (ix3 a b (⟨k + o.1, by omega⟩ : Fin Q)) := by
  refine extractStridedSlice_apply _ x h2 _ _ fun d => ?_
  match d with
  | ⟨0, _⟩ => show a.1 = 0 + a.1; omega
  | ⟨1, _⟩ => show b.1 = 0 + b.1; omega
  | ⟨2, _⟩ => rfl

end Suffix

end Cert.Proof.HostOps
-- ==== Proof.Lits.lean ====
/-
  The constant tables of the kernel's host code in closed form: the five border masks, the matrix that joins the
  channels of one group, and the two lane tables of the head.
-/
module

public import proofs.«01_k».proof.KernelIdeal

@[expose] public section

noncomputable section

namespace Cert.Proof.Lits

open Idealize.ShloMosaic Cert.KernelIdeal

/-- The word of one where the proposition holds, of zero elsewhere. -/
def one (p : Bool) : BitVec 32 := if p then 0x3F800000#32 else 0x00000000#32

/-- Whether row `a`, column `b` is inside the border of a padded image of `H` rows and columns. -/
def inside (H a b : ℕ) : Bool := (1 ≤ a && a ≤ H) && (1 ≤ b && b ≤ H)

theorem lt_sq {n a b : ℕ} (ha : a < n) (hb : b < n) : a * n + b < n * n :=
  calc a * n + b < a * n + n := Nat.add_lt_add_left hb _
    _ = (a + 1) * n := (Nat.succ_mul a n).symm
    _ ≤ n * n := Nat.mul_le_mul_right n ha

set_option maxRecDepth 100000 in
theorem lit0_eq : ∀ a b : Fin 66, lit0 ⟨a.1 * 66 + b.1, lt_sq a.2 b.2⟩ = one (inside 64 a.1 b.1) := by decide +kernel

set_option maxRecDepth 100000 in
theorem lit1_eq : ∀ a b : Fin 34, lit1 ⟨a.1 * 34 + b.1, lt_sq a.2 b.2⟩ = one (inside 32 a.1 b.1) := by decide +kernel

set_option maxRecDepth 100000 in
theorem lit2_eq : ∀ a b : Fin 18, lit2 ⟨a.1 * 18 + b.1, lt_sq a.2 b.2⟩ = one (inside 16 a.1 b.1) := by decide +kernel

set_option maxRecDepth 100000 in
theorem lit3_eq : ∀ a b : Fin 10, lit3 ⟨a.1 * 10 + b.1, lt_sq a.2 b.2⟩ = one (inside 8 a.1 b.1) := by decide +kernel

set_option maxRecDepth 100000 in
theorem lit4_eq : ∀ a b : Fin 6, lit4 ⟨a.1 * 6 + b.1, lt_sq a.2 b.2⟩ = one (inside 4 a.1 b.1) := by decide +kernel

theorem lit5_eq : ∀ a : Fin 128, lit5 a = if a.1 < 4 then 1#1 else 0#1 := by decide +kernel

theorem lit6_eq : ∀ a : Fin 128, lit6 a = one (a.1 < 4) := by decide +kernel

end Cert.Proof.Lits
-- ==== Proof.Lit7.lean ====
/-
  The constant matrix of the kernel's host code that joins the channels of one group, in closed form.
-/
module

public import proofs.«01_k».proof.Proof.Lits
public import Mathlib.Tactic.FinCases

@[expose] public section

noncomputable section

namespace Cert.Proof.Lits

open Idealize.ShloMosaic Cert.KernelIdeal

theorem lt7 {k r b : ℕ} (hk : k < 32) (hr : r < 8) (hb : b < 256) : (k * 8 + r) * 256 + b < 65536 := by omega

set_option maxHeartbeats 0 in
/-- Two channels are joined exactly where they lie in the same group of eight; read eight rows at a time. -/
theorem lit7_rows (k : Fin 32) : ∀ (r : Fin 8) (b : Fin 256),
    lit7 ⟨(k.1 * 8 + r.1) * 256 + b.1, lt7 k.2 r.2 b.2⟩ = one (k.1 == b.1 / 8) := by
  fin_cases k <;> decide +kernel

/-- Two channels are joined exactly where they lie in the same group of eight. -/
theorem lit7_eq (a b : Fin 256) : lit7 ⟨a.1 * 256 + b.1, lt_sq a.2 b.2⟩ = one (a.1 / 8 == b.1 / 8) := by
  have h := lit7_rows ⟨a.1 / 8, by omega⟩ ⟨a.1 % 8, by omega⟩ b
  have e : a.1 / 8 * 8 + a.1 % 8 = a.1 := by omega
  rw [← h]
  congr 1
  apply Fin.ext
  show a.1 * 256 + b.1 = (a.1 / 8 * 8 + a.1 % 8) * 256 + b.1
  rw [e]

end Cert.Proof.Lits
-- ==== Proof.HostKernel.lean ====
/-
  What the launch finds in the kernel's operands: the host operations before it, read at an index.
-/
module

public import proofs.«01_k».proof.Proof.LaunchKernelIdeal
public import proofs.«01_k».proof.Proof.HostOps
public import proofs.«01_k».proof.Proof.Lit7
public import Idealize.ShloMosaic.Lib.StableHlo.RunRead
public import Idealize.ShloMosaic.Lib.Pipeline.ValueKit.Point
public import Idealize.ShloMosaic.Lib.Pipeline.ValueKit.Geometry

@[expose] public section

noncomputable section

namespace Cert.Proof.HostKernel

open Cert.KernelIdeal Cert.KernelIdeal.Gen
open Idealize.ShloMosaic hiding ix0 ix1 ix2 ix3 ix4 ix5
open Idealize.ShloMosaic.ValueIdx
open Cert.Proof.Spec Cert.Proof.Lits
open Idealize.ShloMosaic.TcCoe Idealize.ShloMosaic.Tactic Idealize.ShloMosaic.StableHlo

variable (m : (ℓ : Loc nD τ sig) → Buf (Elt Ideal) ℓ) (c : Dev nD)

/-! ## The arguments -/

/-- Argument 0. -/
abbrev a0 : (⟨4, ![1, 256, 64, 64]⟩ : Shape).Idx → EReal := m (c, Proc.devRef .tc main_arg0)
/-- Argument 1. -/
abbrev a1 : (⟨4, ![1, 256, 32, 32]⟩ : Shape).Idx → EReal := m (c, Proc.devRef .tc main_arg1)
/-- Argument 2. -/
abbrev a2 : (⟨4, ![1, 256, 16, 16]⟩ : Shape).Idx → EReal := m (c, Proc.devRef .tc main_arg2)
/-- Argument 3. -/
abbrev a3 : (⟨4, ![1, 256, 8, 8]⟩ : Shape).Idx → EReal := m (c, Proc.devRef .tc main_arg3)
/-- Argument 4. -/
abbrev a4 : (⟨4, ![1, 256, 4, 4]⟩ : Shape).Idx → EReal := m (c, Proc.devRef .tc main_arg4)
/-- Argument 5. -/
abbrev a5 : (⟨5, ![4, 256, 256, 3, 3]⟩ : Shape).Idx → EReal := m (c, Proc.devRef .tc main_arg5)
/-- Argument 6. -/
abbrev a6 : (⟨2, ![4, 256]⟩ : Shape).Idx → EReal := m (c, Proc.devRef .tc main_arg6)
/-- Argument 7. -/
abbrev a7 : (⟨2, ![4, 256]⟩ : Shape).Idx → EReal := m (c, Proc.devRef .tc main_arg7)
/-- Argument 8. -/
abbrev a8 : (⟨2, ![4, 256]⟩ : Shape).Idx → EReal := m (c, Proc.devRef .tc main_arg8)
/-- Argument 9. -/
abbrev a9 : (⟨5, ![4, 256, 256, 3, 3]⟩ : Shape).Idx → EReal := m (c, Proc.devRef .tc main_arg9)
/-- Argument 10. -/
abbrev a10 : (⟨2, ![4, 256]⟩ : Shape).Idx → EReal := m (c, Proc.devRef .tc main_arg10)
/-- Argument 11. -/
abbrev a11 : (⟨2, ![4, 256]⟩ : Shape).Idx → EReal := m (c, Proc.devRef .tc main_arg11)
/-- Argument 12. -/
abbrev a12 : (⟨2, ![4, 256]⟩ : Shape).Idx → EReal := m (c, Proc.devRef .tc main_arg12)
/-- Argument 13. -/
abbrev a13 : (⟨4, ![80, 256, 3, 3]⟩ : Shape).Idx → EReal := m (c, Proc.devRef .tc main_arg13)
/-- Argument 14. -/
abbrev a14 : (⟨1, ![80]⟩ : Shape).Idx → EReal := m (c, Proc.devRef .tc main_arg14)
/-- Argument 15. -/
abbrev a15 : (⟨4, ![4, 256, 3, 3]⟩ : Shape).Idx → EReal := m (c, Proc.devRef .tc main_arg15)
/-- Argument 16. -/
abbrev a16 : (⟨1, ![4]⟩ : Shape).Idx → EReal := m (c, Proc.devRef .tc main_arg16)
/-- Argument 17. -/
abbrev a17 : (⟨4, ![1, 256, 3, 3]⟩ : Shape).Idx → EReal := m (c, Proc.devRef .tc main_arg17)
/-- Argument 18. -/
abbrev a18 : (⟨1, ![1]⟩ : Shape).Idx → EReal := m (c, Proc.devRef .tc main_arg18)
/-- Argument 19. -/
abbrev a19 : (⟨1, ![5]⟩ : Shape).Idx → EReal := m (c, Proc.devRef .tc main_arg19)

/-! ## The feature maps and the masks -/

/-- The image of level 0, pixel by pixel: the feature map with a border of zeros. -/
theorem x0_at (q : Fin 4356) (j : Fin 256) :
    (V m c main_v4 (ix2 q j) : EReal) = Blocks.atPix (H := 64) (fun h v => a0 m c (ix4 (0 : Fin 1) j h v)) q.1 := by
  show StableHlo.after _ _ (Proc.devRef .tc main_v4) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  exact HostOps.kx_apply (H := 64) (N := 4356) rfl (a0 m c) shapeCasts_S1x256x64x64_S256x64x64 transposes_S256x64x64_S64x64x256_1_2_0
    pads_S64x64x256_S66x66x256_110_110_000 h_S_ shapeCasts_S66x66x256_S4356x256 bitsLt_bf16_f32 q j
/-- The image of level 1, pixel by pixel: the feature map with a border of zeros. -/
theorem x1_at (q : Fin 1156) (j : Fin 256) :
    (V m c main_v9 (ix2 q j) : EReal) = Blocks.atPix (H := 32) (fun h v => a1 m c (ix4 (0 : Fin 1) j h v)) q.1 := by
  show StableHlo.after _ _ (Proc.devRef .tc main_v9) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  exact HostOps.kx_apply (H := 32) (N := 1156) rfl (a1 m c) shapeCasts_S1x256x32x32_S256x32x32 transposes_S256x32x32_S32x32x256_1_2_0
    pads_S32x32x256_S34x34x256_110_110_000 h_S_ shapeCasts_S34x34x256_S1156x256 bitsLt_bf16_f32 q j
/-- The image of level 2, pixel by pixel: the feature map with a border of zeros. -/
theorem x2_at (q : Fin 324) (j : Fin 256) :
    (V m c main_v14 (ix2 q j) : EReal) = Blocks.atPix (H := 16) (fun h v => a2 m c (ix4 (0 : Fin 1) j h v)) q.1 := by
  show StableHlo.after _ _ (Proc.devRef .tc main_v14) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  exact HostOps.kx_apply (H := 16) (N := 324) rfl (a2 m c) shapeCasts_S1x256x16x16_S256x16x16 transposes_S256x16x16_S16x16x256_1_2_0
    pads_S16x16x256_S18x18x256_110_110_000 h_S_ shapeCasts_S18x18x256_S324x256 bitsLt_bf16_f32 q j
/-- The image of level 3, pixel by pixel: the feature map with a border of zeros. -/
theorem x3_at (q : Fin 100) (j : Fin 256) :
    (V m c main_v19 (ix2 q j) : EReal) = Blocks.atPix (H := 8) (fun h v => a3 m c (ix4 (0 : Fin 1) j h v)) q.1 := by
  show StableHlo.after _ _ (Proc.devRef .tc main_v19) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  exact HostOps.kx_apply (H := 8) (N := 100) rfl (a3 m c) shapeCasts_S1x256x8x8_S256x8x8 transposes_S256x8x8_S8x8x256_1_2_0
    pads_S8x8x256_S10x10x256_110_110_000 h_S_ shapeCasts_S10x10x256_S100x256 bitsLt_bf16_f32 q j
/-- The image of level 4, pixel by pixel: the feature map with a border of zeros. -/
theorem x4_at (q : Fin 36) (j : Fin 256) :
    (V m c main_v24 (ix2 q j) : EReal) = Blocks.atPix (H := 4) (fun h v => a4 m c (ix4 (0 : Fin 1) j h v)) q.1 := by
  show StableHlo.after _ _ (Proc.devRef .tc main_v24) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  exact HostOps.kx_apply (H := 4) (N := 36) rfl (a4 m c) shapeCasts_S1x256x4x4_S256x4x4 transposes_S256x4x4_S4x4x256_1_2_0
    pads_S4x4x256_S6x6x256_110_110_000 h_S_ shapeCasts_S6x6x256_S36x256 bitsLt_bf16_f32 q j

/-- A word of the tables that are ones and zeros. -/
theorem ofBits_one (p : Bool) : (Ideal.ofBits .f32 (one p) : EReal) = if p then 1 else 0 := by
  cases p
  · exact Ideal.ofBits_zero_f32
  · exact Ideal.ofBits_one_f32

/-- A mask's word at a pixel of the padded image. -/
theorem inside_pad (H q : ℕ) :
    (Ideal.ofBits .f32 (one (inside H (q / (H + 2)) (q % (H + 2)))) : EReal) = Blocks.atPix (H := H) (fun _ _ => 1) q := by
  rw [ofBits_one]
  unfold Blocks.atPix padP inside
  by_cases h : (1 ≤ q / (H + 2) ∧ q / (H + 2) ≤ H) ∧ 1 ≤ q % (H + 2) ∧ q % (H + 2) ≤ H
  · rw [dif_pos h, if_pos (by simpa using h)]
  · rw [dif_neg h, if_neg (by simpa using h)]

/-- The position of an entry of a column. -/
theorem row_col {n w : ℕ} (hw : 0 < w) (q : Fin n) : ((⟨2, ![n, 1]⟩ : Shape).rowMajor (ix2 q (0 : Fin 1))).1 = q.1 / w * w + q.1 % w := by
  refine (Shape.rowMajor_val_two _).trans ?_
  show q.1 * 1 + 0 = _
  rw [Nat.mul_comm (q.1 / w), Nat.div_add_mod]; omega

/-- The mask of level 0 is one inside the border and zero on it. -/
theorem mask0_at : Blocks.IsMask 64 (n := 4356) (V m c main_cst) := fun q => by
  show StableHlo.after _ _ (Proc.devRef .tc main_cst) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine Eq.trans (congrArg (Ideal.ofBits .f32) (Eq.trans (congrArg lit0 (Fin.ext ?_))
    (lit0_eq ⟨q.1 / 66, by have := q.2; omega⟩ ⟨q.1 % 66, Nat.mod_lt _ (by decide)⟩))) (inside_pad 64 q.1)
  exact row_col (w := 66) (by decide) q
/-- The mask of level 1 is one inside the border and zero on it. -/
theorem mask1_at : Blocks.IsMask 32 (n := 1156) (V m c main_cst_0) := fun q => by
  show StableHlo.after _ _ (Proc.devRef .tc main_cst_0) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine Eq.trans (congrArg (Ideal.ofBits .f32) (Eq.trans (congrArg lit1 (Fin.ext ?_))
    (lit1_eq ⟨q.1 / 34, by have := q.2; omega⟩ ⟨q.1 % 34, Nat.mod_lt _ (by decide)⟩))) (inside_pad 32 q.1)
  exact row_col (w := 34) (by decide) q
/-- The mask of level 2 is one inside the border and zero on it. -/
theorem mask2_at : Blocks.IsMask 16 (n := 324) (V m c main_cst_1) := fun q => by
  show StableHlo.after _ _ (Proc.devRef .tc main_cst_1) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine Eq.trans (congrArg (Ideal.ofBits .f32) (Eq.trans (congrArg lit2 (Fin.ext ?_))
    (lit2_eq ⟨q.1 / 18, by have := q.2; omega⟩ ⟨q.1 % 18, Nat.mod_lt _ (by decide)⟩))) (inside_pad 16 q.1)
  exact row_col (w := 18) (by decide) q
/-- The mask of level 3 is one inside the border and zero on it. -/
theorem mask3_at : Blocks.IsMask 8 (n := 100) (V m c main_cst_2) := fun q => by
  show StableHlo.after _ _ (Proc.devRef .tc main_cst_2) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine Eq.trans (congrArg (Ideal.ofBits .f32) (Eq.trans (congrArg lit3 (Fin.ext ?_))
    (lit3_eq ⟨q.1 / 10, by have := q.2; omega⟩ ⟨q.1 % 10, Nat.mod_lt _ (by decide)⟩))) (inside_pad 8 q.1)
  exact row_col (w := 10) (by decide) q
/-- The mask of level 4 is one inside the border and zero on it. -/
theorem mask4_at : Blocks.IsMask 4 (n := 36) (V m c main_cst_3) := fun q => by
  show StableHlo.after _ _ (Proc.devRef .tc main_cst_3) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine Eq.trans (congrArg (Ideal.ofBits .f32) (Eq.trans (congrArg lit4 (Fin.ext ?_))
    (lit4_eq ⟨q.1 / 6, by have := q.2; omega⟩ ⟨q.1 % 6, Nat.mod_lt _ (by decide)⟩))) (inside_pad 4 q.1)
  exact row_col (w := 6) (by decide) q

/-- The table that joins the channels of a group. -/
theorem gm_at : Blocks.IsGm (V m c main_cst_5) := fun a b => by
  show StableHlo.after _ _ (Proc.devRef .tc main_cst_5) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine Eq.trans (congrArg (Ideal.ofBits .f32) (Eq.trans (congrArg lit7 (Fin.ext ?_)) (lit7_eq a b))) ?_
  · exact (Shape.rowMajor_val_two _).trans rfl
  · rw [ofBits_one]
    by_cases h : a.1 / 8 = b.1 / 8
    · rw [if_pos h, if_pos (by simpa using h)]
    · rw [if_neg h, if_neg (by simpa using h)]

/-! ## The towers' parameters -/

/-- The two towers' weights, biases, and normalisation's factors and terms. -/
abbrev tws : Fin 2 → (⟨5, ![4, 256, 256, 3, 3]⟩ : Shape).Idx → EReal := ![a5 m c, a9 m c]
@[inherit_doc tws] abbrev bbs : Fin 2 → (⟨2, ![4, 256]⟩ : Shape).Idx → EReal := ![a6 m c, a10 m c]
@[inherit_doc tws] abbrev ggs : Fin 2 → (⟨2, ![4, 256]⟩ : Shape).Idx → EReal := ![a7 m c, a11 m c]
@[inherit_doc tws] abbrev bes : Fin 2 → (⟨2, ![4, 256]⟩ : Shape).Idx → EReal := ![a8 m c, a12 m c]

/-- The towers' weights, layer by layer and tap by tap. -/
theorem tw_at (s : Fin 2) (i : Fin 4) (a b : Fin 3) (j o : Fin 256) :
    (V m c main_v33 (ix4 s (⟨9 * i.1 + (3 * a.1 + b.1), by omega⟩ : Fin 36) j o) : EReal) = tws m c s (ix5 i o j a b) := by
  show StableHlo.after _ _ (Proc.devRef .tc main_v33) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S36x256x256_S1x36x256x256_1_2_3 concatenates_S1x36x256x256_S1x36x256x256_S2x36x256x256_d0 s _ _ _).trans ?_
  match s with
  | 0 => exact HostOps.ktw_apply (a5 m c) transposes_S4x256x256x3x3_S4x3x3x256x256_0_3_4_2_1 shapeCasts_S4x3x3x256x256_S36x256x256 bitsLt_bf16_f32 i a b j o
  | 1 => exact HostOps.ktw_apply (a9 m c) transposes_S4x256x256x3x3_S4x3x3x256x256_0_3_4_2_1 shapeCasts_S4x3x3x256x256_S36x256x256 bitsLt_bf16_f32 i a b j o

/-- The towers' biases. -/
theorem bb_at (s : Fin 2) (i : Fin 4) (o : Fin 256) :
    (V m c main_v38 (ix4 s i (0 : Fin 1) o) : EReal) = bbs m c s (ix2 i o) := by
  show StableHlo.after _ _ (Proc.devRef .tc main_v38) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S4x1x256_S1x4x1x256_1_2_3 concatenates_S1x4x1x256_S1x4x1x256_S2x4x1x256_d0 s _ _ _).trans ?_
  match s with
  | 0 => exact HostOps.krow_apply (a6 m c) shapeCasts_S4x256_S4x1x256 i o
  | 1 => exact HostOps.krow_apply (a10 m c) shapeCasts_S4x256_S4x1x256 i o

/-- The towers' gains. -/
theorem gg_at (s : Fin 2) (i : Fin 4) (o : Fin 256) :
    (V m c main_v43 (ix4 s i (0 : Fin 1) o) : EReal) = ggs m c s (ix2 i o) := by
  show StableHlo.after _ _ (Proc.devRef .tc main_v43) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S4x1x256_S1x4x1x256_1_2_3 concatenates_S1x4x1x256_S1x4x1x256_S2x4x1x256_d0 s _ _ _).trans ?_
  match s with
  | 0 => exact HostOps.krow_apply (a7 m c) shapeCasts_S4x256_S4x1x256 i o
  | 1 => exact HostOps.krow_apply (a11 m c) shapeCasts_S4x256_S4x1x256 i o

/-- The towers' offsets. -/
theorem be_at (s : Fin 2) (i : Fin 4) (o : Fin 256) :
    (V m c main_v48 (ix4 s i (0 : Fin 1) o) : EReal) = bes m c s (ix2 i o) := by
  show StableHlo.after _ _ (Proc.devRef .tc main_v48) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S4x1x256_S1x4x1x256_1_2_3 concatenates_S1x4x1x256_S1x4x1x256_S2x4x1x256_d0 s _ _ _).trans ?_
  match s with
  | 0 => exact HostOps.krow_apply (a8 m c) shapeCasts_S4x256_S4x1x256 i o
  | 1 => exact HostOps.krow_apply (a12 m c) shapeCasts_S4x256_S4x1x256 i o

end Cert.Proof.HostKernel
-- ==== Proof.HostHeads.lean ====
/-
  What the launch finds in the heads' operands, read at an index.
-/
module

public import proofs.«01_k».proof.Proof.HostKernel

@[expose] public section

noncomputable section

namespace Cert.Proof.HostKernel

open Cert.KernelIdeal Cert.KernelIdeal.Gen
open Idealize.ShloMosaic hiding ix0 ix1 ix2 ix3 ix4 ix5
open Idealize.ShloMosaic.ValueIdx
open Cert.Proof.Spec Cert.Proof.Lits
open Idealize.ShloMosaic.TcCoe Idealize.ShloMosaic.Tactic Idealize.ShloMosaic.StableHlo

variable (m : (ℓ : Loc nD τ sig) → Buf (Elt Ideal) ℓ) (c : Dev nD)

/-! ## The heads' parameters -/

/-- The second tower's two heads, one after the other. -/
abbrev headW : (⟨4, ![5, 256, 3, 3]⟩ : Shape).Idx → EReal :=
  concatenate ⟨4, ![5, 256, 3, 3]⟩ (0 : Fin 4) [⟨⟨4, ![4, 256, 3, 3]⟩, a15 m c⟩, ⟨⟨4, ![1, 256, 3, 3]⟩, a17 m c⟩] concatenates_S4x256x3x3_S1x256x3x3_S5x256x3x3_d0

/-- Their biases. -/
abbrev headB : (⟨1, ![5]⟩ : Shape).Idx → EReal :=
  concatenate ⟨1, ![5]⟩ (0 : Fin 1) [⟨⟨1, ![4]⟩, a16 m c⟩, ⟨⟨1, ![1]⟩, a18 m c⟩] concatenates_S4_S1_S5_d0

/-- The first tower's head weights, tap by tap, are the class scores' weights. -/
theorem hw0_at (i j : Fin 3) (ch : Fin 256) (o : Fin 80) :
    (V m c main_v60 (ix4 (0 : Fin 2) (⟨0 + (3 * i.1 + j.1), by omega⟩ : Fin 9) ch (⟨o.1, by omega⟩ : Fin 128)) : EReal) = a13 m c (ix4 o ch i j) := by
  show StableHlo.after _ _ (Proc.devRef .tc main_v60) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S9x256x128_S1x9x256x128_1_2_3 concatenates_S1x9x256x128_S1x9x256x128_S2x9x256x128_d0 0 _ _ _).trans ?_
  exact HostOps.khw_apply (O := 80) (P := 48) (by decide) (a13 m c) _ transposes_S80x256x3x3_S3x3x256x80_2_3_1_0 shapeCasts_S3x3x256x80_S9x256x80
    pads_S9x256x80_S9x256x128_000_000_0480 h_S_ bitsLt_bf16_f32 i j ch o

set_option maxHeartbeats 2000000 in
/-- The second tower's head weights. -/
theorem hws_at (i j : Fin 3) (ch : Fin 256) (o : Fin 5) :
    (V m c main_v60 (ix4 (1 : Fin 2) (⟨0 + (3 * i.1 + j.1), by omega⟩ : Fin 9) ch (⟨o.1, by omega⟩ : Fin 128)) : EReal) = headW m c (ix4 o ch i j) := by
  show StableHlo.after _ _ (Proc.devRef .tc main_v60) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S9x256x128_S1x9x256x128_1_2_3 concatenates_S1x9x256x128_S1x9x256x128_S2x9x256x128_d0 1 _ _ _).trans ?_
  exact HostOps.khw_apply (O := 5) (P := 123) (by decide) (headW m c) _ transposes_S5x256x3x3_S3x3x256x5_2_3_1_0 shapeCasts_S3x3x256x5_S9x256x5
    pads_S9x256x5_S9x256x128_000_000_01230 h_S_ bitsLt_bf16_f32 i j ch o

/-- The second tower's first four lanes hold the boxes' weights. -/
theorem hw1_at (i j : Fin 3) (ch : Fin 256) (o : Fin 4) :
    (V m c main_v60 (ix4 (1 : Fin 2) (⟨0 + (3 * i.1 + j.1), by omega⟩ : Fin 9) ch (⟨o.1, by omega⟩ : Fin 128)) : EReal) = a15 m c (ix4 o ch i j) :=
  (hws_at m c i j ch ⟨o.1, by omega⟩).trans ((HostOps.cat4_apply (a15 m c) (a17 m c) concatenates_S4x256x3x3_S1x256x3x3_S5x256x3x3_d0 ch i j).1 o)

/-- Its fifth lane holds the centre score's weights. -/
theorem hw2_at (i j : Fin 3) (ch : Fin 256) :
    (V m c main_v60 (ix4 (1 : Fin 2) (⟨0 + (3 * i.1 + j.1), by omega⟩ : Fin 9) ch (⟨(4 : Fin 5).1, by decide⟩ : Fin 128)) : EReal) = a17 m c (ix4 (0 : Fin 1) ch i j) :=
  (hws_at m c i j ch 4).trans (HostOps.cat4_apply (a15 m c) (a17 m c) concatenates_S4x256x3x3_S1x256x3x3_S5x256x3x3_d0 ch i j).2

/-- The first tower's head biases are the class scores' biases. -/
theorem hb0_at (o : Fin 80) : (V m c main_v68 (ix3 (0 : Fin 2) (0 : Fin 1) (⟨o.1, by omega⟩ : Fin 128)) : EReal) = a14 m c (ix1 o) := by
  show StableHlo.after _ _ (Proc.devRef .tc main_v68) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair2_apply _ _ bcast_S1x128_S1x1x128_1_2 concatenates_S1x1x128_S1x1x128_S2x1x128_d0 0 _ _).trans ?_
  exact HostOps.khb_apply (O := 80) (P := 48) (by decide) (a14 m c) _ pads_S80_S128_0480 h_S_ shapeCasts_S128_S1x128 o

set_option maxHeartbeats 2000000 in
/-- The second tower's biases. -/
theorem hbs_at (o : Fin 5) : (V m c main_v68 (ix3 (1 : Fin 2) (0 : Fin 1) (⟨o.1, by omega⟩ : Fin 128)) : EReal) = headB m c (ix1 o) := by
  show StableHlo.after _ _ (Proc.devRef .tc main_v68) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair2_apply _ _ bcast_S1x128_S1x1x128_1_2 concatenates_S1x1x128_S1x1x128_S2x1x128_d0 1 _ _).trans ?_
  exact HostOps.khb_apply (O := 5) (P := 123) (by decide) (headB m c) _ pads_S5_S128_01230 h_S_ shapeCasts_S128_S1x128 o

/-- The second tower's first four lanes hold the boxes' biases. -/
theorem hb1_at (o : Fin 4) : (V m c main_v68 (ix3 (1 : Fin 2) (0 : Fin 1) (⟨o.1, by omega⟩ : Fin 128)) : EReal) = a16 m c (ix1 o) :=
  (hbs_at m c ⟨o.1, by omega⟩).trans ((HostOps.cat1_apply (a16 m c) (a18 m c) concatenates_S4_S1_S5_d0).1 o)

/-- Its fifth lane holds the centre score's bias. -/
theorem hb2_at : (V m c main_v68 (ix3 (1 : Fin 2) (0 : Fin 1) (⟨(4 : Fin 5).1, by decide⟩ : Fin 128)) : EReal) = a18 m c (ix1 (0 : Fin 1)) :=
  (hbs_at m c 4).trans (HostOps.cat1_apply (a16 m c) (a18 m c) concatenates_S4_S1_S5_d0).2

/-- The first tower's lanes are scaled by one. -/
theorem sv0_at (l : Fin 5) (o : Fin 128) : (V m c main_v74 (ix4 (0 : Fin 2) l (0 : Fin 1) o) : EReal) = (1 : EReal) := by
  show StableHlo.after _ _ (Proc.devRef .tc main_v74) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S5x1x128_S1x5x1x128_1_2_3 concatenates_S1x5x1x128_S1x5x1x128_S2x5x1x128_d0 0 _ _ _).trans ?_
  exact (broadcastInDim_scalar_apply bcast_S_S5x1x128 (constant (F := Ideal) S_ .f32 0x3F800000#32) (ix3 l (0 : Fin 1) o)).trans Ideal.ofBits_one_f32

/-- The second tower's first four lanes are scaled by the level's scale, the others by one. -/
theorem sv1_at (l : Fin 5) (o : Fin 128) : (V m c main_v74 (ix4 (1 : Fin 2) l (0 : Fin 1) o) : EReal) = if o.1 < 4 then a19 m c (ix1 l) else (1 : EReal) := by
  show StableHlo.after _ _ (Proc.devRef .tc main_v74) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair3_apply _ _ bcast_S5x1x128_S1x5x1x128_1_2_3 concatenates_S1x5x1x128_S1x5x1x128_S2x5x1x128_d0 1 _ _ _).trans ?_
  refine (HostOps.ksv_apply (a19 m c) (fun i => lit5 (S1x1x128.rowMajor i)) (constant (F := Ideal) S_ .f32 0x3F800000#32) bcast_S5_S5x1x1_0 bcast_S5x1x1_S5x1x128_0_1_2 bcast_S1x1x128_S5x1x128_0_1_2 bcast_S_S5x1x128 l o).trans ?_
  have e : lit5 ((⟨3, ![1, 1, 128]⟩ : Shape).rowMajor (ix3 (0 : Fin 1) (0 : Fin 1) o)) = if o.1 < 4 then 1#1 else 0#1 := by
    refine Eq.trans (congrArg lit5 (Fin.ext ?_)) (lit5_eq o)
    refine (Shape.rowMajor_val_three _).trans ?_
    show (0 * 1 + 0) * 128 + o.1 = o.1; omega
  refine Eq.trans (if_congr (Eq.congr e rfl) rfl Ideal.ofBits_one_f32) ?_
  by_cases h : o.1 < 4
  · rw [if_pos h, if_pos h, if_pos rfl]
  · rw [if_neg h, if_neg h, if_neg (by decide)]

/-- No lane of the first tower is rectified. -/
theorem rs0_at (o : Fin 128) : (V m c main_v78 (ix3 (0 : Fin 2) (0 : Fin 1) o) : EReal) = (0 : EReal) := by
  show StableHlo.after _ _ (Proc.devRef .tc main_v78) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair2_apply _ _ bcast_S1x128_S1x1x128_1_2 concatenates_S1x1x128_S1x1x128_S2x1x128_d0 0 _ _).trans ?_
  exact (broadcastInDim_scalar_apply bcast_S_S1x128 (constant (F := Ideal) S_ .f32 0x00000000#32) (ix2 (0 : Fin 1) o)).trans Ideal.ofBits_zero_f32

/-- The second tower's first four lanes are rectified, no others. -/
theorem rs1_at (o : Fin 128) : (V m c main_v78 (ix3 (1 : Fin 2) (0 : Fin 1) o) : EReal) = if o.1 < 4 then (1 : EReal) else 0 := by
  show StableHlo.after _ _ (Proc.devRef .tc main_v78) _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_reads_simp
  refine (HostOps.pair2_apply _ _ bcast_S1x128_S1x1x128_1_2 concatenates_S1x1x128_S1x1x128_S2x1x128_d0 1 _ _).trans ?_
  refine Eq.trans (congrArg (Ideal.ofBits .f32) (Eq.trans (congrArg lit6 (Fin.ext ?_)) (lit6_eq o))) ?_
  · refine (Shape.rowMajor_val_two _).trans ?_
    show 0 * 128 + o.1 = o.1; omega
  · rw [ofBits_one]
    by_cases h : o.1 < 4
    · rw [if_pos h, if_pos (by simpa using h)]
    · rw [if_neg h, if_neg (by simpa using h)]

end Cert.Proof.HostKernel
-- ==== Proof.HostBlocks.lean ====
/-
  The blocks that the kernel's body sees are the whole operands.
-/
module

public import proofs.«01_k».proof.Proof.LaunchKernelIdeal
public import Idealize.ShloMosaic.Lib.Pipeline.ValueKit.Point
public import Idealize.ShloMosaic.Lib.Pipeline.ValueKit.Geometry
public import proofs.«01_k».proof.Proof.HostOps

@[expose] public section

noncomputable section

namespace Cert.Proof.HostKernel

open Cert.KernelIdeal Cert.KernelIdeal.Gen
open Idealize.ShloMosaic hiding ix0 ix1 ix2 ix3 ix4 ix5
open Idealize.ShloMosaic.ValueIdx
open Cert.Proof.Spec
open Idealize.ShloMosaic.TcCoe Idealize.ShloMosaic.Tactic Idealize.ShloMosaic.StableHlo

variable (m : (ℓ : Loc nD τ sig) → Buf (Elt Ideal) ℓ) (c : Dev nD)

/-! ## The blocks are whole arrays -/

variable (t : Fin cfg0.N)

/-- The window of the image of level 0 stays at block zero. -/
theorem idx0 : ∀ t, win0_0.index t = ![0, 0] := by decide +kernel
set_option maxHeartbeats 1000000 in
/-- The block of the image of level 0 is the whole operand. -/
theorem blk0 (a : Fin 4356) (b : Fin 256) : iblk m c 0 t (ix2 a b) = V m c main_v4 (ix2 a b) := by
  blk_ext [iblk, idx0 t]
/-- The window of the image of level 1 stays at block zero. -/
theorem idx1 : ∀ t, win0_1.index t = ![0, 0] := by decide +kernel
set_option maxHeartbeats 1000000 in
/-- The block of the image of level 1 is the whole operand. -/
theorem blk1 (a : Fin 1156) (b : Fin 256) : iblk m c 1 t (ix2 a b) = V m c main_v9 (ix2 a b) := by
  blk_ext [iblk, idx1 t]
/-- The window of the image of level 2 stays at block zero. -/
theorem idx2 : ∀ t, win0_2.index t = ![0, 0] := by decide +kernel
set_option maxHeartbeats 1000000 in
/-- The block of the image of level 2 is the whole operand. -/
theorem blk2 (a : Fin 324) (b : Fin 256) : iblk m c 2 t (ix2 a b) = V m c main_v14 (ix2 a b) := by
  blk_ext [iblk, idx2 t]
/-- The window of the image of level 3 stays at block zero. -/
theorem idx3 : ∀ t, win0_3.index t = ![0, 0] := by decide +kernel
set_option maxHeartbeats 1000000 in
/-- The block of the image of level 3 is the whole operand. -/
theorem blk3 (a : Fin 100) (b : Fin 256) : iblk m c 3 t (ix2 a b) = V m c main_v19 (ix2 a b) := by
  blk_ext [iblk, idx3 t]
/-- The window of the image of level 4 stays at block zero. -/
theorem idx4 : ∀ t, win0_4.index t = ![0, 0] := by decide +kernel
set_option maxHeartbeats 1000000 in
/-- The block of the image of level 4 is the whole operand. -/
theorem blk4 (a : Fin 36) (b : Fin 256) : iblk m c 4 t (ix2 a b) = V m c main_v24 (ix2 a b) := by
  blk_ext [iblk, idx4 t]
/-- The towers' weights are read at block zero. -/
theorem idx5 : ∀ t, win0_5.index t = ![0, 0, 0, 0] := by decide +kernel
set_option maxHeartbeats 1000000 in
/-- The block of the towers' weights is the whole operand. -/
theorem blk5 (a : Fin 2) (b : Fin 36) (d : Fin 256) (e : Fin 256) : iblk m c 5 t (ix4 a b d e) = V m c main_v33 (ix4 a b d e) := by
  blk_ext [iblk, idx5 t]
/-- The towers' biases are read at block zero. -/
theorem idx6 : ∀ t, win0_6.index t = ![0, 0, 0, 0] := by decide +kernel
set_option maxHeartbeats 1000000 in
/-- The block of the towers' biases is the whole operand. -/
theorem blk6 (a : Fin 2) (b : Fin 4) (d : Fin 1) (e : Fin 256) : iblk m c 6 t (ix4 a b d e) = V m c main_v38 (ix4 a b d e) := by
  blk_ext [iblk, idx6 t]
/-- The towers' gains are read at block zero. -/
theorem idx7 : ∀ t, win0_7.index t = ![0, 0, 0, 0] := by decide +kernel
set_option maxHeartbeats 1000000 in
/-- The block of the towers' gains is the whole operand. -/
theorem blk7 (a : Fin 2) (b : Fin 4) (d : Fin 1) (e : Fin 256) : iblk m c 7 t (ix4 a b d e) = V m c main_v43 (ix4 a b d e) := by
  blk_ext [iblk, idx7 t]
/-- The towers' offsets are read at block zero. -/
theorem idx8 : ∀ t, win0_8.index t = ![0, 0, 0, 0] := by decide +kernel
set_option maxHeartbeats 1000000 in
/-- The block of the towers' offsets is the whole operand. -/
theorem blk8 (a : Fin 2) (b : Fin 4) (d : Fin 1) (e : Fin 256) : iblk m c 8 t (ix4 a b d e) = V m c main_v48 (ix4 a b d e) := by
  blk_ext [iblk, idx8 t]
/-- The heads' weights are read at block zero. -/
theorem idx9 : ∀ t, win0_9.index t = ![0, 0, 0, 0] := by decide +kernel
set_option maxHeartbeats 1000000 in
/-- The block of the heads' weights is the whole operand. -/
theorem blk9 (a : Fin 2) (b : Fin 9) (d : Fin 256) (e : Fin 128) : iblk m c 9 t (ix4 a b d e) = V m c main_v60 (ix4 a b d e) := by
  blk_ext [iblk, idx9 t]
/-- The heads' biases are read at block zero. -/
theorem idx10 : ∀ t, win0_10.index t = ![0, 0, 0] := by decide +kernel
set_option maxHeartbeats 1000000 in
/-- The block of the heads' biases is the whole operand. -/
theorem blk10 (a : Fin 2) (b : Fin 1) (d : Fin 128) : iblk m c 10 t (ix3 a b d) = V m c main_v68 (ix3 a b d) := by
  blk_ext [iblk, idx10 t]
/-- The window of the heads' scales stays at block zero. -/
theorem idx11 : ∀ t, win0_11.index t = ![0, 0, 0, 0] := by decide +kernel
set_option maxHeartbeats 1000000 in
/-- The block of the heads' scales is the whole operand. -/
theorem blk11 (a : Fin 2) (b : Fin 5) (d : Fin 1) (e : Fin 128) : iblk m c 11 t (ix4 a b d e) = V m c main_v74 (ix4 a b d e) := by
  blk_ext [iblk, idx11 t]
/-- The heads' rectification flags are read at block zero. -/
theorem idx12 : ∀ t, win0_12.index t = ![0, 0, 0] := by decide +kernel
set_option maxHeartbeats 1000000 in
/-- The block of the heads' rectification flags is the whole operand. -/
theorem blk12 (a : Fin 2) (b : Fin 1) (d : Fin 128) : iblk m c 12 t (ix3 a b d) = V m c main_v78 (ix3 a b d) := by
  blk_ext [iblk, idx12 t]
/-- The window of the group matrix stays at block zero. -/
theorem idx13 : ∀ t, win0_13.index t = ![0, 0] := by decide +kernel
set_option maxHeartbeats 1000000 in
/-- The block of the group matrix is the whole operand. -/
theorem blk13 (a : Fin 256) (b : Fin 256) : iblk m c 13 t (ix2 a b) = V m c main_cst_5 (ix2 a b) := by
  blk_ext [iblk, idx13 t]
/-- The window of the mask of level 0 stays at block zero. -/
theorem idx14 : ∀ t, win0_14.index t = ![0, 0] := by decide +kernel
set_option maxHeartbeats 1000000 in
/-- The block of the mask of level 0 is the whole operand. -/
theorem blk14 (a : Fin 4356) (b : Fin 1) : iblk m c 14 t (ix2 a b) = V m c main_cst (ix2 a b) := by
  blk_ext [iblk, idx14 t]
/-- The window of the mask of level 1 stays at block zero. -/
theorem idx15 : ∀ t, win0_15.index t = ![0, 0] := by decide +kernel
set_option maxHeartbeats 1000000 in
/-- The block of the mask of level 1 is the whole operand. -/
theorem blk15 (a : Fin 1156) (b : Fin 1) : iblk m c 15 t (ix2 a b) = V m c main_cst_0 (ix2 a b) := by
  blk_ext [iblk, idx15 t]
/-- The window of the mask of level 2 stays at block zero. -/
theorem idx16 : ∀ t, win0_16.index t = ![0, 0] := by decide +kernel
set_option maxHeartbeats 1000000 in
/-- The block of the mask of level 2 is the whole operand. -/
theorem blk16 (a : Fin 324) (b : Fin 1) : iblk m c 16 t (ix2 a b) = V m c main_cst_1 (ix2 a b) := by
  blk_ext [iblk, idx16 t]
/-- The window of the mask of level 3 stays at block zero. -/
theorem idx17 : ∀ t, win0_17.index t = ![0, 0] := by decide +kernel
set_option maxHeartbeats 1000000 in
/-- The block of the mask of level 3 is the whole operand. -/
theorem blk17 (a : Fin 100) (b : Fin 1) : iblk m c 17 t (ix2 a b) = V m c main_cst_2 (ix2 a b) := by
  blk_ext [iblk, idx17 t]
/-- The window of the mask of level 4 stays at block zero. -/
theorem idx18 : ∀ t, win0_18.index t = ![0, 0] := by decide +kernel
set_option maxHeartbeats 1000000 in
/-- The block of the mask of level 4 is the whole operand. -/
theorem blk18 (a : Fin 36) (b : Fin 1) : iblk m c 18 t (ix2 a b) = V m c main_cst_3 (ix2 a b) := by
  blk_ext [iblk, idx18 t]

end Cert.Proof.HostKernel
-- ==== Proof.HostOut.lean ====
/-
  What the kernel leaves in its outputs, and the host operations after it read at an index.
-/
module

public import proofs.«01_k».proof.Proof.LaunchKernelIdeal
public import proofs.«01_k».proof.Proof.HostOps
public import Idealize.ShloMosaic.Lib.StableHlo.RunRead
public import Idealize.ShloMosaic.Lib.Pipeline.ValueKit.Point
public import Idealize.ShloMosaic.Lib.Pipeline.ValueKit.Geometry

@[expose] public section

noncomputable section

namespace Cert.Proof.HostKernel

open Cert.KernelIdeal Cert.KernelIdeal.Gen
open Idealize.ShloMosaic hiding ix0 ix1 ix2 ix3 ix4 ix5
open Idealize.ShloMosaic.ValueIdx
open Cert.Proof.LaunchKernelIdeal Cert.Proof.Blocks
open Idealize.ShloMosaic.TcCoe Idealize.ShloMosaic.Tactic Idealize.ShloMosaic.StableHlo

variable (m : (ℓ : Loc nD τ sig) → Buf (Elt Ideal) ℓ) (c : Dev nD)

/-! ## The outputs -/

/-- The window of level 0's result stays at block zero. -/
theorem idx19 : ∀ t, win0_19.index t = ![0, 0, 0] := by decide +kernel

/-- The launch leaves level 0's result in its output. -/
theorem arr0 : (dats m 0 c).arrAt 19 (cfgs 0).N = (res m c t0_0 0 : (⟨3, ![2, 4356, 128]⟩ : Shape).Idx → EReal) := by
  refine (dats m 0 c).arrAt_eq_of_covers 19 _ (by decide +kernel) fun t hf y => ?_
  blk_simp
  rw [after0_19, fin_N0 t]
  refine congrArg (res m c t0_0 0) (funext fun d => Fin.ext ?_)
  blk_simp [idx19]
  match d with
  | ⟨0, _⟩ => simp
  | ⟨1, _⟩ => simp
  | ⟨2, _⟩ => simp

/-- The window of level 1's result stays at block zero. -/
theorem idx20 : ∀ t, win0_20.index t = ![0, 0, 0] := by decide +kernel

/-- The launch leaves level 1's result in its output. -/
theorem arr1 : (dats m 0 c).arrAt 20 (cfgs 0).N = (res m c t0_0 1 : (⟨3, ![2, 1156, 128]⟩ : Shape).Idx → EReal) := by
  refine (dats m 0 c).arrAt_eq_of_covers 20 _ (by decide +kernel) fun t hf y => ?_
  blk_simp
  rw [after0_20, fin_N0 t]
  refine congrArg (res m c t0_0 1) (funext fun d => Fin.ext ?_)
  blk_simp [idx20]
  match d with
  | ⟨0, _⟩ => simp
  | ⟨1, _⟩ => simp
  | ⟨2, _⟩ => simp

/-- The window of level 2's result stays at block zero. -/
theorem idx21 : ∀ t, win0_21.index t = ![0, 0, 0] := by decide +kernel

/-- The launch leaves level 2's result in its output. -/
theorem arr2 : (dats m 0 c).arrAt 21 (cfgs 0).N = (res m c t0_0 2 : (⟨3, ![2, 324, 128]⟩ : Shape).Idx → EReal) := by
  refine (dats m 0 c).arrAt_eq_of_covers 21 _ (by decide +kernel) fun t hf y => ?_
  blk_simp
  rw [after0_21, fin_N0 t]
  refine congrArg (res m c t0_0 2) (funext fun d => Fin.ext ?_)
  blk_simp [idx21]
  match d with
  | ⟨0, _⟩ => simp
  | ⟨1, _⟩ => simp
  | ⟨2, _⟩ => simp

/-- The window of level 3's result stays at block zero. -/
theorem idx22 : ∀ t, win0_22.index t = ![0, 0, 0] := by decide +kernel

/-- The launch leaves level 3's result in its output. -/
theorem arr3 : (dats m 0 c).arrAt 22 (cfgs 0).N = (res m c t0_0 3 : (⟨3, ![2, 100, 128]⟩ : Shape).Idx → EReal) := by
  refine (dats m 0 c).arrAt_eq_of_covers 22 _ (by decide +kernel) fun t hf y => ?_
  blk_simp
  rw [after0_22, fin_N0 t]
  refine congrArg (res m c t0_0 3) (funext fun d => Fin.ext ?_)
  blk_simp [idx22]
  match d with
  | ⟨0, _⟩ => simp
  | ⟨1, _⟩ => simp
  | ⟨2, _⟩ => simp

/-- The window of level 4's result stays at block zero. -/
theorem idx23 : ∀ t, win0_23.index t = ![0, 0, 0] := by decide +kernel

/-- The launch leaves level 4's result in its output. -/
theorem arr4 : (dats m 0 c).arrAt 23 (cfgs 0).N = (res m c t0_0 4 : (⟨3, ![2, 36, 128]⟩ : Shape).Idx → EReal) := by
  refine (dats m 0 c).arrAt_eq_of_covers 23 _ (by decide +kernel) fun t hf y => ?_
  blk_simp
  rw [after0_23, fin_N0 t]
  refine congrArg (res m c t0_0 4) (funext fun d => Fin.ext ?_)
  blk_simp [idx23]
  match d with
  | ⟨0, _⟩ => simp
  | ⟨1, _⟩ => simp
  | ⟨2, _⟩ => simp

/-! ## The results -/

/-- Level 0's class scores are the first tower's lanes at the image's pixels. -/
theorem logits0_at (i : Fin 1) (o : Fin 80) (h v : Fin 64) :
    (Pipeline.afterTail₀ cfgs (dats m) 0 (V0 m) [hostOps1] c main_v85 (ix4 i o h v) : EReal)
      = (res m c t0_0 0 : (⟨3, ![2, 4356, 128]⟩ : Shape).Idx → EReal) (ix3 (0 : Fin 2) (⟨pix 64 h v, pix_lt h v⟩ : Fin 4356) (⟨o.1, by omega⟩ : Fin 128)) := by
  unfold Pipeline.afterTail₀
  simp only [hostOps1, List.flatten_cons, List.flatten_nil, List.append_nil, List.cons_append, List.nil_append]
  after_reads_simp
  refine (RefOps.lead_apply bcast_S80x64x64_S1x80x64x64_1_2_3 _ i o h v).trans ?_
  refine (HostOps.first_apply transposes_S64x64x80_S80x64x64_2_0_1 _ o h v).trans ?_
  refine (HostOps.mid_apply (H := 64) (N := 4356) (O := 80) _ bitsLt_bf16_f32 shapeCasts_S2x4356x128_S2x66x66x128 (by decide) rfl 0 slices_S2x66x66x128_S1x64x64x80_0_1_1_0 shapeCasts_S1x64x64x80_S64x64x80 h v o ⟨pix 64 h v, pix_lt h v⟩ rfl).trans ?_
  exact (congrFun ((Pipeline.withArrays_arr spec0 winFacts0.arr_inj c (V0 m c) (fun w => (dats m 0 c).arrAt w (cfgs 0).N) 19).trans (arr0 m c)) _)

/-- Level 0's boxes are the second tower's first four lanes at the image's pixels. -/
theorem bbox0_at (i : Fin 1) (o : Fin 4) (h v : Fin 64) :
    (Pipeline.afterTail₀ cfgs (dats m) 0 (V0 m) [hostOps1] c main_v90 (ix4 i o h v) : EReal)
      = (res m c t0_0 0 : (⟨3, ![2, 4356, 128]⟩ : Shape).Idx → EReal) (ix3 (1 : Fin 2) (⟨pix 64 h v, pix_lt h v⟩ : Fin 4356) (⟨0 + o.1, by omega⟩ : Fin 128)) := by
  unfold Pipeline.afterTail₀
  simp only [hostOps1, List.flatten_cons, List.flatten_nil, List.append_nil, List.cons_append, List.nil_append]
  after_reads_simp
  refine (RefOps.lead_apply bcast_S4x64x64_S1x4x64x64_1_2_3 _ i o h v).trans ?_
  refine (HostOps.first_apply transposes_S64x64x4_S4x64x64_2_0_1 _ o h v).trans ?_
  refine (HostOps.lanes_apply (N := 0) (O := 4) (Q := 5) (k := 0) (by decide) _ slices_S64x64x5_S64x64x4_0_0_0 h v o).trans ?_
  refine (HostOps.mid_apply (H := 64) (N := 4356) (O := 5) _ bitsLt_bf16_f32 shapeCasts_S2x4356x128_S2x66x66x128 (by decide) rfl 1 slices_S2x66x66x128_S1x64x64x5_1_1_1_0 shapeCasts_S1x64x64x5_S64x64x5 h v (⟨0 + o.1, by omega⟩ : Fin 5) ⟨pix 64 h v, pix_lt h v⟩ rfl).trans ?_
  exact (congrFun ((Pipeline.withArrays_arr spec0 winFacts0.arr_inj c (V0 m c) (fun w => (dats m 0 c).arrAt w (cfgs 0).N) 19).trans (arr0 m c)) _)

/-- Level 0's centre score is the second tower's fifth lane at the image's pixels. -/
theorem ctr0_at (i : Fin 1) (o : Fin 1) (h v : Fin 64) :
    (Pipeline.afterTail₀ cfgs (dats m) 0 (V0 m) [hostOps1] c main_v93 (ix4 i o h v) : EReal)
      = (res m c t0_0 0 : (⟨3, ![2, 4356, 128]⟩ : Shape).Idx → EReal) (ix3 (1 : Fin 2) (⟨pix 64 h v, pix_lt h v⟩ : Fin 4356) (⟨4 + o.1, by omega⟩ : Fin 128)) := by
  unfold Pipeline.afterTail₀
  simp only [hostOps1, List.flatten_cons, List.flatten_nil, List.append_nil, List.cons_append, List.nil_append]
  after_reads_simp
  refine (RefOps.lead_apply bcast_S1x64x64_S1x1x64x64_1_2_3 _ i o h v).trans ?_
  refine (HostOps.first_apply transposes_S64x64x1_S1x64x64_2_0_1 _ o h v).trans ?_
  refine (HostOps.lanes_apply (N := 0) (O := 1) (Q := 5) (k := 4) (by decide) _ slices_S64x64x5_S64x64x1_0_0_4 h v o).trans ?_
  refine (HostOps.mid_apply (H := 64) (N := 4356) (O := 5) _ bitsLt_bf16_f32 shapeCasts_S2x4356x128_S2x66x66x128 (by decide) rfl 1 slices_S2x66x66x128_S1x64x64x5_1_1_1_0 shapeCasts_S1x64x64x5_S64x64x5 h v (⟨4 + o.1, by omega⟩ : Fin 5) ⟨pix 64 h v, pix_lt h v⟩ rfl).trans ?_
  exact (congrFun ((Pipeline.withArrays_arr spec0 winFacts0.arr_inj c (V0 m c) (fun w => (dats m 0 c).arrAt w (cfgs 0).N) 19).trans (arr0 m c)) _)

/-- Level 1's class scores are the first tower's lanes at the image's pixels. -/
theorem logits1_at (i : Fin 1) (o : Fin 80) (h v : Fin 32) :
    (Pipeline.afterTail₀ cfgs (dats m) 0 (V0 m) [hostOps1] c main_v99 (ix4 i o h v) : EReal)
      = (res m c t0_0 1 : (⟨3, ![2, 1156, 128]⟩ : Shape).Idx → EReal) (ix3 (0 : Fin 2) (⟨pix 32 h v, pix_lt h v⟩ : Fin 1156) (⟨o.1, by omega⟩ : Fin 128)) := by
  unfold Pipeline.afterTail₀
  simp only [hostOps1, List.flatten_cons, List.flatten_nil, List.append_nil, List.cons_append, List.nil_append]
  after_reads_simp
  refine (RefOps.lead_apply bcast_S80x32x32_S1x80x32x32_1_2_3 _ i o h v).trans ?_
  refine (HostOps.first_apply transposes_S32x32x80_S80x32x32_2_0_1 _ o h v).trans ?_
  refine (HostOps.mid_apply (H := 32) (N := 1156) (O := 80) _ bitsLt_bf16_f32 shapeCasts_S2x1156x128_S2x34x34x128 (by decide) rfl 0 slices_S2x34x34x128_S1x32x32x80_0_1_1_0 shapeCasts_S1x32x32x80_S32x32x80 h v o ⟨pix 32 h v, pix_lt h v⟩ rfl).trans ?_
  exact (congrFun ((Pipeline.withArrays_arr spec0 winFacts0.arr_inj c (V0 m c) (fun w => (dats m 0 c).arrAt w (cfgs 0).N) 20).trans (arr1 m c)) _)

/-- Level 1's boxes are the second tower's first four lanes at the image's pixels. -/
theorem bbox1_at (i : Fin 1) (o : Fin 4) (h v : Fin 32) :
    (Pipeline.afterTail₀ cfgs (dats m) 0 (V0 m) [hostOps1] c main_v104 (ix4 i o h v) : EReal)
      = (res m c t0_0 1 : (⟨3, ![2, 1156, 128]⟩ : Shape).Idx → EReal) (ix3 (1 : Fin 2) (⟨pix 32 h v, pix_lt h v⟩ : Fin 1156) (⟨0 + o.1, by omega⟩ : Fin 128)) := by
  unfold Pipeline.afterTail₀
  simp only [hostOps1, List.flatten_cons, List.flatten_nil, List.append_nil, List.cons_append, List.nil_append]
  after_reads_simp
  refine (RefOps.lead_apply bcast_S4x32x32_S1x4x32x32_1_2_3 _ i o h v).trans ?_
  refine (HostOps.first_apply transposes_S32x32x4_S4x32x32_2_0_1 _ o h v).trans ?_
  refine (HostOps.lanes_apply (N := 0) (O := 4) (Q := 5) (k := 0) (by decide) _ slices_S32x32x5_S32x32x4_0_0_0 h v o).trans ?_
  refine (HostOps.mid_apply (H := 32) (N := 1156) (O := 5) _ bitsLt_bf16_f32 shapeCasts_S2x1156x128_S2x34x34x128 (by decide) rfl 1 slices_S2x34x34x128_S1x32x32x5_1_1_1_0 shapeCasts_S1x32x32x5_S32x32x5 h v (⟨0 + o.1, by omega⟩ : Fin 5) ⟨pix 32 h v, pix_lt h v⟩ rfl).trans ?_
  exact (congrFun ((Pipeline.withArrays_arr spec0 winFacts0.arr_inj c (V0 m c) (fun w => (dats m 0 c).arrAt w (cfgs 0).N) 20).trans (arr1 m c)) _)

/-- Level 1's centre score is the second tower's fifth lane at the image's pixels. -/
theorem ctr1_at (i : Fin 1) (o : Fin 1) (h v : Fin 32) :
    (Pipeline.afterTail₀ cfgs (dats m) 0 (V0 m) [hostOps1] c main_v107 (ix4 i o h v) : EReal)
      = (res m c t0_0 1 : (⟨3, ![2, 1156, 128]⟩ : Shape).Idx → EReal) (ix3 (1 : Fin 2) (⟨pix 32 h v, pix_lt h v⟩ : Fin 1156) (⟨4 + o.1, by omega⟩ : Fin 128)) := by
  unfold Pipeline.afterTail₀
  simp only [hostOps1, List.flatten_cons, List.flatten_nil, List.append_nil, List.cons_append, List.nil_append]
  after_reads_simp
  refine (RefOps.lead_apply bcast_S1x32x32_S1x1x32x32_1_2_3 _ i o h v).trans ?_
  refine (HostOps.first_apply transposes_S32x32x1_S1x32x32_2_0_1 _ o h v).trans ?_
  refine (HostOps.lanes_apply (N := 0) (O := 1) (Q := 5) (k := 4) (by decide) _ slices_S32x32x5_S32x32x1_0_0_4 h v o).trans ?_
  refine (HostOps.mid_apply (H := 32) (N := 1156) (O := 5) _ bitsLt_bf16_f32 shapeCasts_S2x1156x128_S2x34x34x128 (by decide) rfl 1 slices_S2x34x34x128_S1x32x32x5_1_1_1_0 shapeCasts_S1x32x32x5_S32x32x5 h v (⟨4 + o.1, by omega⟩ : Fin 5) ⟨pix 32 h v, pix_lt h v⟩ rfl).trans ?_
  exact (congrFun ((Pipeline.withArrays_arr spec0 winFacts0.arr_inj c (V0 m c) (fun w => (dats m 0 c).arrAt w (cfgs 0).N) 20).trans (arr1 m c)) _)

/-- Level 2's class scores are the first tower's lanes at the image's pixels. -/
theorem logits2_at (i : Fin 1) (o : Fin 80) (h v : Fin 16) :
    (Pipeline.afterTail₀ cfgs (dats m) 0 (V0 m) [hostOps1] c main_v113 (ix4 i o h v) : EReal)
      = (res m c t0_0 2 : (⟨3, ![2, 324, 128]⟩ : Shape).Idx → EReal) (ix3 (0 : Fin 2) (⟨pix 16 h v, pix_lt h v⟩ : Fin 324) (⟨o.1, by omega⟩ : Fin 128)) := by
  unfold Pipeline.afterTail₀
  simp only [hostOps1, List.flatten_cons, List.flatten_nil, List.append_nil, List.cons_append, List.nil_append]
  after_reads_simp
  refine (RefOps.lead_apply bcast_S80x16x16_S1x80x16x16_1_2_3 _ i o h v).trans ?_
  refine (HostOps.first_apply transposes_S16x16x80_S80x16x16_2_0_1 _ o h v).trans ?_
  refine (HostOps.mid_apply (H := 16) (N := 324) (O := 80) _ bitsLt_bf16_f32 shapeCasts_S2x324x128_S2x18x18x128 (by decide) rfl 0 slices_S2x18x18x128_S1x16x16x80_0_1_1_0 shapeCasts_S1x16x16x80_S16x16x80 h v o ⟨pix 16 h v, pix_lt h v⟩ rfl).trans ?_
  exact (congrFun ((Pipeline.withArrays_arr spec0 winFacts0.arr_inj c (V0 m c) (fun w => (dats m 0 c).arrAt w (cfgs 0).N) 21).trans (arr2 m c)) _)

/-- Level 2's boxes are the second tower's first four lanes at the image's pixels. -/
theorem bbox2_at (i : Fin 1) (o : Fin 4) (h v : Fin 16) :
    (Pipeline.afterTail₀ cfgs (dats m) 0 (V0 m) [hostOps1] c main_v118 (ix4 i o h v) : EReal)
      = (res m c t0_0 2 : (⟨3, ![2, 324, 128]⟩ : Shape).Idx → EReal) (ix3 (1 : Fin 2) (⟨pix 16 h v, pix_lt h v⟩ : Fin 324) (⟨0 + o.1, by omega⟩ : Fin 128)) := by
  unfold Pipeline.afterTail₀
  simp only [hostOps1, List.flatten_cons, List.flatten_nil, List.append_nil, List.cons_append, List.nil_append]
  after_reads_simp
  refine (RefOps.lead_apply bcast_S4x16x16_S1x4x16x16_1_2_3 _ i o h v).trans ?_
  refine (HostOps.first_apply transposes_S16x16x4_S4x16x16_2_0_1 _ o h v).trans ?_
  refine (HostOps.lanes_apply (N := 0) (O := 4) (Q := 5) (k := 0) (by decide) _ slices_S16x16x5_S16x16x4_0_0_0 h v o).trans ?_
  refine (HostOps.mid_apply (H := 16) (N := 324) (O := 5) _ bitsLt_bf16_f32 shapeCasts_S2x324x128_S2x18x18x128 (by decide) rfl 1 slices_S2x18x18x128_S1x16x16x5_1_1_1_0 shapeCasts_S1x16x16x5_S16x16x5 h v (⟨0 + o.1, by omega⟩ : Fin 5) ⟨pix 16 h v, pix_lt h v⟩ rfl).trans ?_
  exact (congrFun ((Pipeline.withArrays_arr spec0 winFacts0.arr_inj c (V0 m c) (fun w => (dats m 0 c).arrAt w (cfgs 0).N) 21).trans (arr2 m c)) _)

/-- Level 2's centre score is the second tower's fifth lane at the image's pixels. -/
theorem ctr2_at (i : Fin 1) (o : Fin 1) (h v : Fin 16) :
    (Pipeline.afterTail₀ cfgs (dats m) 0 (V0 m) [hostOps1] c main_v121 (ix4 i o h v) : EReal)
      = (res m c t0_0 2 : (⟨3, ![2, 324, 128]⟩ : Shape).Idx → EReal) (ix3 (1 : Fin 2) (⟨pix 16 h v, pix_lt h v⟩ : Fin 324) (⟨4 + o.1, by omega⟩ : Fin 128)) := by
  unfold Pipeline.afterTail₀
  simp only [hostOps1, List.flatten_cons, List.flatten_nil, List.append_nil, List.cons_append, List.nil_append]
  after_reads_simp
  refine (RefOps.lead_apply bcast_S1x16x16_S1x1x16x16_1_2_3 _ i o h v).trans ?_
  refine (HostOps.first_apply transposes_S16x16x1_S1x16x16_2_0_1 _ o h v).trans ?_
  refine (HostOps.lanes_apply (N := 0) (O := 1) (Q := 5) (k := 4) (by decide) _ slices_S16x16x5_S16x16x1_0_0_4 h v o).trans ?_
  refine (HostOps.mid_apply (H := 16) (N := 324) (O := 5) _ bitsLt_bf16_f32 shapeCasts_S2x324x128_S2x18x18x128 (by decide) rfl 1 slices_S2x18x18x128_S1x16x16x5_1_1_1_0 shapeCasts_S1x16x16x5_S16x16x5 h v (⟨4 + o.1, by omega⟩ : Fin 5) ⟨pix 16 h v, pix_lt h v⟩ rfl).trans ?_
  exact (congrFun ((Pipeline.withArrays_arr spec0 winFacts0.arr_inj c (V0 m c) (fun w => (dats m 0 c).arrAt w (cfgs 0).N) 21).trans (arr2 m c)) _)

/-- Level 3's class scores are the first tower's lanes at the image's pixels. -/
theorem logits3_at (i : Fin 1) (o : Fin 80) (h v : Fin 8) :
    (Pipeline.afterTail₀ cfgs (dats m) 0 (V0 m) [hostOps1] c main_v127 (ix4 i o h v) : EReal)
      = (res m c t0_0 3 : (⟨3, ![2, 100, 128]⟩ : Shape).Idx → EReal) (ix3 (0 : Fin 2) (⟨pix 8 h v, pix_lt h v⟩ : Fin 100) (⟨o.1, by omega⟩ : Fin 128)) := by
  unfold Pipeline.afterTail₀
  simp only [hostOps1, List.flatten_cons, List.flatten_nil, List.append_nil, List.cons_append, List.nil_append]
  after_reads_simp
  refine (RefOps.lead_apply bcast_S80x8x8_S1x80x8x8_1_2_3 _ i o h v).trans ?_
  refine (HostOps.first_apply transposes_S8x8x80_S80x8x8_2_0_1 _ o h v).trans ?_
  refine (HostOps.mid_apply (H := 8) (N := 100) (O := 80) _ bitsLt_bf16_f32 shapeCasts_S2x100x128_S2x10x10x128 (by decide) rfl 0 slices_S2x10x10x128_S1x8x8x80_0_1_1_0 shapeCasts_S1x8x8x80_S8x8x80 h v o ⟨pix 8 h v, pix_lt h v⟩ rfl).trans ?_
  exact (congrFun ((Pipeline.withArrays_arr spec0 winFacts0.arr_inj c (V0 m c) (fun w => (dats m 0 c).arrAt w (cfgs 0).N) 22).trans (arr3 m c)) _)

/-- Level 3's boxes are the second tower's first four lanes at the image's pixels. -/
theorem bbox3_at (i : Fin 1) (o : Fin 4) (h v : Fin 8) :
    (Pipeline.afterTail₀ cfgs (dats m) 0 (V0 m) [hostOps1] c main_v132 (ix4 i o h v) : EReal)
      = (res m c t0_0 3 : (⟨3, ![2, 100, 128]⟩ : Shape).Idx → EReal) (ix3 (1 : Fin 2) (⟨pix 8 h v, pix_lt h v⟩ : Fin 100) (⟨0 + o.1, by omega⟩ : Fin 128)) := by
  unfold Pipeline.afterTail₀
  simp only [hostOps1, List.flatten_cons, List.flatten_nil, List.append_nil, List.cons_append, List.nil_append]
  after_reads_simp
  refine (RefOps.lead_apply bcast_S4x8x8_S1x4x8x8_1_2_3 _ i o h v).trans ?_
  refine (HostOps.first_apply transposes_S8x8x4_S4x8x8_2_0_1 _ o h v).trans ?_
  refine (HostOps.lanes_apply (N := 0) (O := 4) (Q := 5) (k := 0) (by decide) _ slices_S8x8x5_S8x8x4_0_0_0 h v o).trans ?_
  refine (HostOps.mid_apply (H := 8) (N := 100) (O := 5) _ bitsLt_bf16_f32 shapeCasts_S2x100x128_S2x10x10x128 (by decide) rfl 1 slices_S2x10x10x128_S1x8x8x5_1_1_1_0 shapeCasts_S1x8x8x5_S8x8x5 h v (⟨0 + o.1, by omega⟩ : Fin 5) ⟨pix 8 h v, pix_lt h v⟩ rfl).trans ?_
  exact (congrFun ((Pipeline.withArrays_arr spec0 winFacts0.arr_inj c (V0 m c) (fun w => (dats m 0 c).arrAt w (cfgs 0).N) 22).trans (arr3 m c)) _)

/-- Level 3's centre score is the second tower's fifth lane at the image's pixels. -/
theorem ctr3_at (i : Fin 1) (o : Fin 1) (h v : Fin 8) :
    (Pipeline.afterTail₀ cfgs (dats m) 0 (V0 m) [hostOps1] c main_v135 (ix4 i o h v) : EReal)
      = (res m c t0_0 3 : (⟨3, ![2, 100, 128]⟩ : Shape).Idx → EReal) (ix3 (1 : Fin 2) (⟨pix 8 h v, pix_lt h v⟩ : Fin 100) (⟨4 + o.1, by omega⟩ : Fin 128)) := by
  unfold Pipeline.afterTail₀
  simp only [hostOps1, List.flatten_cons, List.flatten_nil, List.append_nil, List.cons_append, List.nil_append]
  after_reads_simp
  refine (RefOps.lead_apply bcast_S1x8x8_S1x1x8x8_1_2_3 _ i o h v).trans ?_
  refine (HostOps.first_apply transposes_S8x8x1_S1x8x8_2_0_1 _ o h v).trans ?_
  refine (HostOps.lanes_apply (N := 0) (O := 1) (Q := 5) (k := 4) (by decide) _ slices_S8x8x5_S8x8x1_0_0_4 h v o).trans ?_
  refine (HostOps.mid_apply (H := 8) (N := 100) (O := 5) _ bitsLt_bf16_f32 shapeCasts_S2x100x128_S2x10x10x128 (by decide) rfl 1 slices_S2x10x10x128_S1x8x8x5_1_1_1_0 shapeCasts_S1x8x8x5_S8x8x5 h v (⟨4 + o.1, by omega⟩ : Fin 5) ⟨pix 8 h v, pix_lt h v⟩ rfl).trans ?_
  exact (congrFun ((Pipeline.withArrays_arr spec0 winFacts0.arr_inj c (V0 m c) (fun w => (dats m 0 c).arrAt w (cfgs 0).N) 22).trans (arr3 m c)) _)

/-- Level 4's class scores are the first tower's lanes at the image's pixels. -/
theorem logits4_at (i : Fin 1) (o : Fin 80) (h v : Fin 4) :
    (Pipeline.afterTail₀ cfgs (dats m) 0 (V0 m) [hostOps1] c main_v141 (ix4 i o h v) : EReal)
      = (res m c t0_0 4 : (⟨3, ![2, 36, 128]⟩ : Shape).Idx → EReal) (ix3 (0 : Fin 2) (⟨pix 4 h v, pix_lt h v⟩ : Fin 36) (⟨o.1, by omega⟩ : Fin 128)) := by
  unfold Pipeline.afterTail₀
  simp only [hostOps1, List.flatten_cons, List.flatten_nil, List.append_nil, List.cons_append, List.nil_append]
  after_reads_simp
  refine (RefOps.lead_apply bcast_S80x4x4_S1x80x4x4_1_2_3 _ i o h v).trans ?_
  refine (HostOps.first_apply transposes_S4x4x80_S80x4x4_2_0_1 _ o h v).trans ?_
  refine (HostOps.mid_apply (H := 4) (N := 36) (O := 80) _ bitsLt_bf16_f32 shapeCasts_S2x36x128_S2x6x6x128 (by decide) rfl 0 slices_S2x6x6x128_S1x4x4x80_0_1_1_0 shapeCasts_S1x4x4x80_S4x4x80 h v o ⟨pix 4 h v, pix_lt h v⟩ rfl).trans ?_
  exact (congrFun ((Pipeline.withArrays_arr spec0 winFacts0.arr_inj c (V0 m c) (fun w => (dats m 0 c).arrAt w (cfgs 0).N) 23).trans (arr4 m c)) _)

/-- Level 4's boxes are the second tower's first four lanes at the image's pixels. -/
theorem bbox4_at (i : Fin 1) (o : Fin 4) (h v : Fin 4) :
    (Pipeline.afterTail₀ cfgs (dats m) 0 (V0 m) [hostOps1] c main_v146 (ix4 i o h v) : EReal)
      = (res m c t0_0 4 : (⟨3, ![2, 36, 128]⟩ : Shape).Idx → EReal) (ix3 (1 : Fin 2) (⟨pix 4 h v, pix_lt h v⟩ : Fin 36) (⟨0 + o.1, by omega⟩ : Fin 128)) := by
  unfold Pipeline.afterTail₀
  simp only [hostOps1, List.flatten_cons, List.flatten_nil, List.append_nil, List.cons_append, List.nil_append]
  after_reads_simp
  refine (RefOps.lead_apply bcast_S4x4x4_S1x4x4x4_1_2_3 _ i o h v).trans ?_
  refine (HostOps.first_apply transposes_S4x4x4_S4x4x4_2_0_1 _ o h v).trans ?_
  refine (HostOps.lanes_apply (N := 0) (O := 4) (Q := 5) (k := 0) (by decide) _ slices_S4x4x5_S4x4x4_0_0_0 h v o).trans ?_
  refine (HostOps.mid_apply (H := 4) (N := 36) (O := 5) _ bitsLt_bf16_f32 shapeCasts_S2x36x128_S2x6x6x128 (by decide) rfl 1 slices_S2x6x6x128_S1x4x4x5_1_1_1_0 shapeCasts_S1x4x4x5_S4x4x5 h v (⟨0 + o.1, by omega⟩ : Fin 5) ⟨pix 4 h v, pix_lt h v⟩ rfl).trans ?_
  exact (congrFun ((Pipeline.withArrays_arr spec0 winFacts0.arr_inj c (V0 m c) (fun w => (dats m 0 c).arrAt w (cfgs 0).N) 23).trans (arr4 m c)) _)

/-- Level 4's centre score is the second tower's fifth lane at the image's pixels. -/
theorem ctr4_at (i : Fin 1) (o : Fin 1) (h v : Fin 4) :
    (Pipeline.afterTail₀ cfgs (dats m) 0 (V0 m) [hostOps1] c main_v149 (ix4 i o h v) : EReal)
      = (res m c t0_0 4 : (⟨3, ![2, 36, 128]⟩ : Shape).Idx → EReal) (ix3 (1 : Fin 2) (⟨pix 4 h v, pix_lt h v⟩ : Fin 36) (⟨4 + o.1, by omega⟩ : Fin 128)) := by
  unfold Pipeline.afterTail₀
  simp only [hostOps1, List.flatten_cons, List.flatten_nil, List.append_nil, List.cons_append, List.nil_append]
  after_reads_simp
  refine (RefOps.lead_apply bcast_S1x4x4_S1x1x4x4_1_2_3 _ i o h v).trans ?_
  refine (HostOps.first_apply transposes_S4x4x1_S1x4x4_2_0_1 _ o h v).trans ?_
  refine (HostOps.lanes_apply (N := 0) (O := 1) (Q := 5) (k := 4) (by decide) _ slices_S4x4x5_S4x4x1_0_0_4 h v o).trans ?_
  refine (HostOps.mid_apply (H := 4) (N := 36) (O := 5) _ bitsLt_bf16_f32 shapeCasts_S2x36x128_S2x6x6x128 (by decide) rfl 1 slices_S2x6x6x128_S1x4x4x5_1_1_1_0 shapeCasts_S1x4x4x5_S4x4x5 h v (⟨4 + o.1, by omega⟩ : Fin 5) ⟨pix 4 h v, pix_lt h v⟩ rfl).trans ?_
  exact (congrFun ((Pipeline.withArrays_arr spec0 winFacts0.arr_inj c (V0 m c) (fun w => (dats m 0 c).arrAt w (cfgs 0).N) 23).trans (arr4 m c)) _)

end Cert.Proof.HostKernel
-- ==== Proof.Words.lean ====
/-
  The programs' number constants as real numbers.
-/
module

public import proofs.«01_k».proof.Proof.KernelMath
public import proofs.«01_k».proof.Proof.RefValue
public import Idealize.ShloMosaic.Lib.IdealHost

@[expose] public section

noncomputable section

namespace Cert.Proof.Words

open Idealize.ShloMosaic Cert.Proof.Spec

/-! ## The reference's divisors: eight channels of every pixel -/

/-- The divisor at 64 rows and columns. -/
theorem n64 : Ideal.ofBits .f32 0x47000000#32 = ((8 * (64 : ℕ) * (64 : ℕ) : ℝ) : EReal) := by
  simp [Ideal.ofBits, Ideal.ieee, -EReal.coe_mul]; norm_num
/-- The divisor at 32 rows and columns. -/
theorem n32 : Ideal.ofBits .f32 0x46000000#32 = ((8 * (32 : ℕ) * (32 : ℕ) : ℝ) : EReal) := by
  simp [Ideal.ofBits, Ideal.ieee, -EReal.coe_mul]; norm_num
/-- The divisor at 16 rows and columns. -/
theorem n16 : Ideal.ofBits .f32 0x45000000#32 = ((8 * (16 : ℕ) * (16 : ℕ) : ℝ) : EReal) := by
  simp [Ideal.ofBits, Ideal.ieee, -EReal.coe_mul]; norm_num
/-- The divisor at 8 rows and columns. -/
theorem n8 : Ideal.ofBits .f32 0x44000000#32 = ((8 * (8 : ℕ) * (8 : ℕ) : ℝ) : EReal) := by
  simp [Ideal.ofBits, Ideal.ieee, -EReal.coe_mul]; norm_num
/-- The divisor at 4 rows and columns. -/
theorem n4 : Ideal.ofBits .f32 0x43000000#32 = ((8 * (4 : ℕ) * (4 : ℕ) : ℝ) : EReal) := by
  simp [Ideal.ofBits, Ideal.ieee, -EReal.coe_mul]; norm_num

/-! ## The kernel's factors: their inverses -/

/-- The factor at 64 rows and columns. -/
theorem c64 : Ideal.ofBits .f32 0x38000000#32 = ((1 / (8 * (64 : ℕ) * (64 : ℕ)) : ℝ) : EReal) := by
  simp [Ideal.ofBits, Ideal.ieee, -EReal.coe_mul]; norm_num
/-- The factor at 32 rows and columns. -/
theorem c32 : Ideal.ofBits .f32 0x39000000#32 = ((1 / (8 * (32 : ℕ) * (32 : ℕ)) : ℝ) : EReal) := by
  simp [Ideal.ofBits, Ideal.ieee, -EReal.coe_mul]; norm_num
/-- The factor at 16 rows and columns. -/
theorem c16 : Ideal.ofBits .f32 0x3A000000#32 = ((1 / (8 * (16 : ℕ) * (16 : ℕ)) : ℝ) : EReal) := by
  simp [Ideal.ofBits, Ideal.ieee, -EReal.coe_mul]; norm_num
/-- The factor at 8 rows and columns. -/
theorem c8 : Ideal.ofBits .f32 0x3B000000#32 = ((1 / (8 * (8 : ℕ) * (8 : ℕ)) : ℝ) : EReal) := by
  simp [Ideal.ofBits, Ideal.ieee, -EReal.coe_mul]; norm_num
/-- The factor at 4 rows and columns. -/
theorem c4 : Ideal.ofBits .f32 0x3C000000#32 = ((1 / (8 * (4 : ℕ) * (4 : ℕ)) : ℝ) : EReal) := by
  simp [Ideal.ofBits, Ideal.ieee, -EReal.coe_mul]; norm_num

/-- The term under the root is a positive real. -/
theorem eps_pos : ∃ r : ℝ, 0 < r ∧ Ideal.ofBits .f32 0x3727C5AC#32 = r :=
  ⟨10995116 / 2 ^ 40, by norm_num, by simp [Ideal.ofBits, Ideal.ieee, -EReal.coe_mul]; norm_num⟩

/-! ## The two towers agree -/

/-- On real numbers the kernel's four layers are the reference's. -/
theorem tow_eq {H : ℕ} (hH : 0 < H) {N cnt : EReal} (hN : N = ((8 * H * H : ℝ) : EReal)) (hc : cnt = ((1 / (8 * H * H) : ℝ) : EReal))
    {L : Fin 4 → Lay} (hL : ∀ i, FinL (L i)) {x : Img H} (hx : FinI x) : Blocks.towK cnt L x = RefValue.towR N L x := by
  have h0 := lay_eq hH hN hc eps_pos (hL 0) hx
  have h1 := lay_eq hH hN hc eps_pos (hL 1) h0.2
  have h2 := lay_eq hH hN hc eps_pos (hL 2) h1.2
  have h3 := lay_eq hH hN hc eps_pos (hL 3) h2.2
  unfold Blocks.towK RefValue.towR
  rw [h0.1, h1.1, h2.1, h3.1]

end Cert.Proof.Words

end
-- ==== Proof.Value.lean ====
/-
  The kernel's results on real numbers: each is a head over the reference's tower of the level's feature map.
-/
module

public import proofs.«01_k».proof.Proof.HostHeads
public import proofs.«01_k».proof.Proof.HostBlocks
public import proofs.«01_k».proof.Proof.HostOut
public import proofs.«01_k».proof.Proof.Words

@[expose] public section

noncomputable section

namespace Cert.Proof.HostKernel

open Cert.KernelIdeal Cert.KernelIdeal.Gen
open Idealize.ShloMosaic hiding ix0 ix1 ix2 ix3 ix4 ix5
open Idealize.ShloMosaic.ValueIdx
open Cert.Proof.Spec Cert.Proof.Blocks
open Cert.Proof.LaunchKernelIdeal (dats parV msk res args)
open Cert.Proof.RefValue (lay4 lay_ext towR)

attribute [local irreducible] Idealize.ShloMosaic.StableHlo.after Cert.KernelIdeal.Gen.iblk

/-! ## The head, by the lane it fills -/

/-- A lane that neither scales nor rectifies. -/
theorem head_plain {H : ℕ} {P : ParV Ideal} {t : Fin 2} {l : Fin 5} {X : Img H} {o : Fin 128} {h v : Fin H}
    {w : Fin 3 → Fin 3 → Fin 256 → EReal} {b : EReal} (hr : P.rs (ix3 t (0 : Fin 1) o) = (0 : EReal)) (hs : P.sv (ix4 t l (0 : Fin 1) o) = (1 : EReal))
    (hb : P.hb (ix3 t (0 : Fin 1) o) = b) (hw : ∀ i j c, P.hw (ix4 t ⟨0 + (3 * i.1 + j.1), by omega⟩ c o) = w i j c) :
    headE P t l X o h v = convE X w h.1 v.1 + b := by
  obtain rfl : (fun i j c => P.hw (ix4 t ⟨0 + (3 * i.1 + j.1), by omega⟩ c o)) = w := funext fun i => funext fun j => funext fun c => hw i j c
  unfold headE
  rw [hr, hs, hb, zero_mul, zero_add, sub_zero, one_mul, mul_one]

/-- A lane that scales and rectifies. -/
theorem head_rect {H : ℕ} {P : ParV Ideal} {t : Fin 2} {l : Fin 5} {X : Img H} {o : Fin 128} {h v : Fin H}
    {w : Fin 3 → Fin 3 → Fin 256 → EReal} {b s : EReal} (hr : P.rs (ix3 t (0 : Fin 1) o) = (1 : EReal)) (hs : P.sv (ix4 t l (0 : Fin 1) o) = s)
    (hb : P.hb (ix3 t (0 : Fin 1) o) = b) (hw : ∀ i j c, P.hw (ix4 t ⟨0 + (3 * i.1 + j.1), by omega⟩ c o) = w i j c) :
    headE P t l X o h v = max ((convE X w h.1 v.1 + b) * s) 0 := by
  obtain rfl : (fun i j c => P.hw (ix4 t ⟨0 + (3 * i.1 + j.1), by omega⟩ c o)) = w := funext fun i => funext fun j => funext fun c => hw i j c
  have e : (1 : EReal) - 1 = 0 := EReal.sub_self (by decide) (by decide)
  unfold headE
  rw [hr, hs, hb, e, zero_mul, add_zero, one_mul]

variable (m : (ℓ : Loc nD τ sig) → Buf (Elt Ideal) ℓ) (c : Dev nD)

/-- The parameters that the kernel's body reads. -/
abbrev par : ParV Ideal := parV m c t0_0

/-- The layers of tower `s`, from the arguments. -/
abbrev lays (s : Fin 2) : Fin 4 → Lay := lay4 (tws m c s) (bbs m c s) (ggs m c s) (bes m c s)

/-- The body's tables hold those layers. -/
theorem lay_at (s : Fin 2) : layV (par m c) s = lays m c s := funext fun i =>
  lay_ext (fun o a b j => (blk5 m c t0_0 s _ j o).trans (tw_at m c s i a b j o)) (fun o => (blk6 m c t0_0 s i 0 o).trans (bb_at m c s i o))
    (fun o => (blk7 m c t0_0 s i 0 o).trans (gg_at m c s i o)) (fun o => (blk8 m c t0_0 s i 0 o).trans (be_at m c s i o))

/-- The class scores' lanes. -/
theorem head_logits {H : ℕ} (l : Fin 5) (X : Img H) (o : Fin 80) (h v : Fin H) :
    headE (par m c) 0 l X (⟨o.1, by omega⟩ : Fin 128) h v = convE X (fun i j ch => a13 m c (ix4 o ch i j)) h.1 v.1 + a14 m c (ix1 o) :=
  head_plain ((blk12 m c t0_0 0 0 _).trans (rs0_at m c _)) ((blk11 m c t0_0 0 l 0 _).trans (sv0_at m c l _))
    ((blk10 m c t0_0 0 0 _).trans (hb0_at m c o)) fun i j ch => (blk9 m c t0_0 0 _ ch _).trans (hw0_at m c i j ch o)

/-- The boxes' lanes. -/
theorem head_bbox {H : ℕ} (l : Fin 5) (X : Img H) (o : Fin 4) (h v : Fin H) :
    headE (par m c) 1 l X (⟨o.1, by omega⟩ : Fin 128) h v
      = max ((convE X (fun i j ch => a15 m c (ix4 o ch i j)) h.1 v.1 + a16 m c (ix1 o)) * a19 m c (ix1 l)) 0 :=
  head_rect ((blk12 m c t0_0 1 0 _).trans ((rs1_at m c _).trans (if_pos o.2))) ((blk11 m c t0_0 1 l 0 _).trans ((sv1_at m c l _).trans (if_pos o.2)))
    ((blk10 m c t0_0 1 0 _).trans (hb1_at m c o)) fun i j ch => (blk9 m c t0_0 1 _ ch _).trans (hw1_at m c i j ch o)

/-- The centre scores' lane. -/
theorem head_ctr {H : ℕ} (l : Fin 5) (X : Img H) (o : Fin 1) (h v : Fin H) :
    headE (par m c) 1 l X (⟨4 + o.1, by omega⟩ : Fin 128) h v = convE X (fun i j ch => a17 m c (ix4 o ch i j)) h.1 v.1 + a18 m c (ix1 o) := by
  obtain rfl : o = 0 := Subsingleton.elim _ _
  exact head_plain ((blk12 m c t0_0 1 0 _).trans ((rs1_at m c _).trans (if_neg (by decide)))) ((blk11 m c t0_0 1 l 0 _).trans ((sv1_at m c l _).trans (if_neg (by decide))))
    ((blk10 m c t0_0 1 0 _).trans (hb2_at m c)) fun i j ch => (blk9 m c t0_0 1 _ ch _).trans (hw2_at m c i j ch)

/-! ## The levels -/

/-- A feature map without its batch axis. -/
def im {H : ℕ} (a : (⟨4, ![1, 256, H, H]⟩ : Shape).Idx → EReal) : Img H := fun ch h v => a (ix4 (0 : Fin 1) ch h v)

/-- The towers' parameters are real numbers. -/
def FinP : Prop := ∀ s i, FinL (lays m c s i)

/-- What a level is to its feature map `x` and the reference's divisor `N`. -/
structure Lv (L : Lev sig) (v : (S2 L.Np 256).Idx → EReal) (mask : (S2 L.Np 1).Idx → EReal) (l : Fin 5) {H : ℕ} (x : Img H) (N : EReal) : Prop where
  hl : (⟨L.l, L.hl⟩ : Fin 5) = l
  hH : 0 < H
  hW : L.Wp = H + 2
  hN : L.Np = (H + 2) * (H + 2)
  hv : ∀ (q : Fin L.Np) (c : Fin 256), v (ix2 q c) = atPix (x c) q.1
  hm : IsMask H mask
  hD : N = ((8 * H * H : ℝ) : EReal)
  hc : Ideal.ofBits .f32 L.cnt = ((1 / (8 * H * H) : ℝ) : EReal)

variable {m c}

/-- The body's result for a level is the head over the reference's tower. -/
theorem Lv.out {L : Lev sig} {v : (S2 L.Np 256).Idx → EReal} {mask : (S2 L.Np 1).Idx → EReal} {l : Fin 5} {H : ℕ} {x : Img H} {N : EReal}
    (k : Lv L v mask l x N) (hp : FinP m c) (hx : FinI x) (s : Fin 2) (q : Fin L.Np) (o : Fin 128) (a b : Fin H) (hq : q.1 = pix H a b) :
    outOf (F := Ideal) (par m c) L v mask (ix3 s q o) = headE (par m c) s l (towR N (lays m c s) x) o a b := by
  have hg : IsGm (par m c).gm := fun a b => (blk13 m c t0_0 a b).trans (gm_at m c a b)
  refine (outOf_apply (par m c) L k.hW k.hN hg k.hv k.hm s q o a b hq).trans ?_
  rw [k.hl, lay_at m c s, Words.tow_eq k.hH k.hD k.hc (hp s) hx]

variable (m c)

/-- Level 0. -/
theorem lv0 : Lv ((args t0_0).levs 0) (LaunchKernelIdeal.img m c t0_0 0) (msk m c t0_0 0) 0 (im (a0 m c)) (Ideal.ofBits .f32 0x47000000#32) where
  hl := rfl
  hH := by decide
  hW := rfl
  hN := rfl
  hv q j := (blk0 m c t0_0 q j).trans (x0_at m c q j)
  hm q := (blk14 m c t0_0 q 0).trans (mask0_at m c q)
  hD := Words.n64
  hc := Words.c64

/-- Level 1. -/
theorem lv1 : Lv ((args t0_0).levs 1) (LaunchKernelIdeal.img m c t0_0 1) (msk m c t0_0 1) 1 (im (a1 m c)) (Ideal.ofBits .f32 0x46000000#32) where
  hl := rfl
  hH := by decide
  hW := rfl
  hN := rfl
  hv q j := (blk1 m c t0_0 q j).trans (x1_at m c q j)
  hm q := (blk15 m c t0_0 q 0).trans (mask1_at m c q)
  hD := Words.n32
  hc := Words.c32

/-- Level 2. -/
theorem lv2 : Lv ((args t0_0).levs 2) (LaunchKernelIdeal.img m c t0_0 2) (msk m c t0_0 2) 2 (im (a2 m c)) (Ideal.ofBits .f32 0x45000000#32) where
  hl := rfl
  hH := by decide
  hW := rfl
  hN := rfl
  hv q j := (blk2 m c t0_0 q j).trans (x2_at m c q j)
  hm q := (blk16 m c t0_0 q 0).trans (mask2_at m c q)
  hD := Words.n16
  hc := Words.c16

/-- Level 3. -/
theorem lv3 : Lv ((args t0_0).levs 3) (LaunchKernelIdeal.img m c t0_0 3) (msk m c t0_0 3) 3 (im (a3 m c)) (Ideal.ofBits .f32 0x44000000#32) where
  hl := rfl
  hH := by decide
  hW := rfl
  hN := rfl
  hv q j := (blk3 m c t0_0 q j).trans (x3_at m c q j)
  hm q := (blk17 m c t0_0 q 0).trans (mask3_at m c q)
  hD := Words.n8
  hc := Words.c8

/-- Level 4. -/
theorem lv4 : Lv ((args t0_0).levs 4) (LaunchKernelIdeal.img m c t0_0 4) (msk m c t0_0 4) 4 (im (a4 m c)) (Ideal.ofBits .f32 0x43000000#32) where
  hl := rfl
  hH := by decide
  hW := rfl
  hN := rfl
  hv q j := (blk4 m c t0_0 q j).trans (x4_at m c q j)
  hm q := (blk18 m c t0_0 q 0).trans (mask4_at m c q)
  hD := Words.n4
  hc := Words.c4

end Cert.Proof.HostKernel

end
-- ==== Proof.Results.lean ====
/-
  The kernel and the reference leave the same results.
-/
module

public import proofs.«01_k».proof.Proof.Value
public import proofs.«01_k».proof.Proof.RefRun
public import proofs.«01_k».proof.Proof.PreRead

@[expose] public section

noncomputable section

namespace Cert.Proof.Results

open Cert.KernelIdeal Cert.KernelIdeal.Gen
open Idealize.ShloMosaic hiding ix0 ix1 ix2 ix3 ix4 ix5
open Idealize.ShloMosaic.ValueIdx
open Idealize.ShloMosaic.TcCoe Idealize.SL.Sem
open Cert.Proof.Spec Cert.Proof.HostKernel
open Cert.Proof.LaunchKernelIdeal (dats run_main frame_all)
open Cert.Proof.RefValue (it towR)
open Cert.ReferenceIdeal (Step.State)

attribute [local irreducible] Idealize.ShloMosaic.StableHlo.after Cert.KernelIdeal.Gen.iblk

variable (m : (ℓ : Loc nD τ sig) → Buf (Elt Ideal) ℓ) (c : Dev nD)

/-! ## The reference's towers on the kernel's arguments -/

/-- The reference's first state, from the kernel's arguments. -/
def S0 : Cert.ReferenceIdeal.Step.State Ideal :=
  Cert.ReferenceIdeal.Step.init (F := Ideal) (a5 m c) (a6 m c) (a7 m c) (a8 m c) (a9 m c) (a10 m c) (a11 m c) (a12 m c) (a0 m c) (a1 m c) (a2 m c) (a3 m c) (a4 m c)

/-- A feature map that loses its batch axis. -/
theorem unlead {H : ℕ} (hc : (⟨4, ![1, 256, H, H]⟩ : Shape).ShapeCasts ⟨3, ![256, H, H]⟩) (y : (⟨4, ![1, 256, H, H]⟩ : Shape).Idx → EReal) :
    RefOps.img (shapeCast ⟨3, ![256, H, H]⟩ y hc) = im y :=
  funext fun ch => funext fun h => funext fun v => RefOps.unlead_apply hc y ch h v

/-- Level 0 leaves the reference's loop as the classification tower's image. -/
theorem cls0 : RefOps.img (it (S0 m c) 4).main_v5_9 = towR (Ideal.ofBits .f32 0x47000000#32) (lays m c 0) (im (a0 m c)) :=
  (RefValue.cls64 (S0 m c)).trans (congrArg (towR _ (lays m c 0)) (unlead _ (a0 m c)))
/-- Level 0 leaves the reference's loop as the box tower's image. -/
theorem box0 : RefOps.img (it (S0 m c) 4).main_v5_14 = towR (Ideal.ofBits .f32 0x47000000#32) (lays m c 1) (im (a0 m c)) :=
  (RefValue.box64 (S0 m c)).trans (congrArg (towR _ (lays m c 1)) (unlead _ (a0 m c)))
/-- Level 1 leaves the reference's loop as the classification tower's image. -/
theorem cls1 : RefOps.img (it (S0 m c) 4).main_v5_10 = towR (Ideal.ofBits .f32 0x46000000#32) (lays m c 0) (im (a1 m c)) :=
  (RefValue.cls32 (S0 m c)).trans (congrArg (towR _ (lays m c 0)) (unlead _ (a1 m c)))
/-- Level 1 leaves the reference's loop as the box tower's image. -/
theorem box1 : RefOps.img (it (S0 m c) 4).main_v5_15 = towR (Ideal.ofBits .f32 0x46000000#32) (lays m c 1) (im (a1 m c)) :=
  (RefValue.box32 (S0 m c)).trans (congrArg (towR _ (lays m c 1)) (unlead _ (a1 m c)))
/-- Level 2 leaves the reference's loop as the classification tower's image. -/
theorem cls2 : RefOps.img (it (S0 m c) 4).main_v5_11 = towR (Ideal.ofBits .f32 0x45000000#32) (lays m c 0) (im (a2 m c)) :=
  (RefValue.cls16 (S0 m c)).trans (congrArg (towR _ (lays m c 0)) (unlead _ (a2 m c)))
/-- Level 2 leaves the reference's loop as the box tower's image. -/
theorem box2 : RefOps.img (it (S0 m c) 4).main_v5_16 = towR (Ideal.ofBits .f32 0x45000000#32) (lays m c 1) (im (a2 m c)) :=
  (RefValue.box16 (S0 m c)).trans (congrArg (towR _ (lays m c 1)) (unlead _ (a2 m c)))
/-- Level 3 leaves the reference's loop as the classification tower's image. -/
theorem cls3 : RefOps.img (it (S0 m c) 4).main_v5_12 = towR (Ideal.ofBits .f32 0x44000000#32) (lays m c 0) (im (a3 m c)) :=
  (RefValue.cls8 (S0 m c)).trans (congrArg (towR _ (lays m c 0)) (unlead _ (a3 m c)))
/-- Level 3 leaves the reference's loop as the box tower's image. -/
theorem box3 : RefOps.img (it (S0 m c) 4).main_v5_17 = towR (Ideal.ofBits .f32 0x44000000#32) (lays m c 1) (im (a3 m c)) :=
  (RefValue.box8 (S0 m c)).trans (congrArg (towR _ (lays m c 1)) (unlead _ (a3 m c)))
/-- Level 4 leaves the reference's loop as the classification tower's image. -/
theorem cls4 : RefOps.img (it (S0 m c) 4).main_v5_13 = towR (Ideal.ofBits .f32 0x43000000#32) (lays m c 0) (im (a4 m c)) :=
  (RefValue.cls4 (S0 m c)).trans (congrArg (towR _ (lays m c 0)) (unlead _ (a4 m c)))
/-- Level 4 leaves the reference's loop as the box tower's image. -/
theorem box4 : RefOps.img (it (S0 m c) 4).main_v5_18 = towR (Ideal.ofBits .f32 0x43000000#32) (lays m c 1) (im (a4 m c)) :=
  (RefValue.box4 (S0 m c)).trans (congrArg (towR _ (lays m c 1)) (unlead _ (a4 m c)))

/-! ## The arguments are real numbers -/

/-- The feature maps and the towers' parameters are real numbers. -/
structure Reals : Prop where
  x0 : FinI (im (a0 m c))
  x1 : FinI (im (a1 m c))
  x2 : FinI (im (a2 m c))
  x3 : FinI (im (a3 m c))
  x4 : FinI (im (a4 m c))
  p : FinP m c

attribute [local instance] PreRead.facts in
/-- The precondition says so. -/
theorem reals (h : Cert.Pre_finite.fn (F := Ideal) (a0 m c) (a1 m c) (a2 m c) (a3 m c) (a4 m c) (a5 m c) (a6 m c) (a7 m c) (a8 m c) (a9 m c)
    (a10 m c) (a11 m c) (a12 m c) (a13 m c) (a14 m c) (a15 m c) (a16 m c) (a17 m c) (a18 m c) (a19 m c) = fun _ => 1#1) : Reals m c := by
  obtain ⟨r0, r1, r2, r3, r4, r5, r6, r7, r8, r9, r10, r11, r12⟩ := PreRead.all_real h
  refine ⟨fun _ _ _ => r0 _, fun _ _ _ => r1 _, fun _ _ _ => r2 _, fun _ _ _ => r3 _, fun _ _ _ => r4 _, fun s i => ?_⟩
  match s with
  | 0 => exact ⟨fun _ _ _ _ => r5 _, fun _ => r6 _, fun _ => r7 _, fun _ => r8 _⟩
  | 1 => exact ⟨fun _ _ _ _ => r9 _, fun _ => r10 _, fun _ => r11 _, fun _ => r12 _⟩

/-! ## The results, one by one -/

/-- What the kernel's program leaves in a buffer. -/
abbrev fin (b : Ref sig .tc) := Pipeline.afterTail₀ cfgs (dats m) 0 (V0 m) [hostOps1] c b

/-- An index by its coordinates. -/
theorem ix4_of {n0 n1 n2 n3 : ℕ} (x : (⟨4, ![n0, n1, n2, n3]⟩ : Shape).Idx) : ∃ (i : Fin n0) (o : Fin n1) (h : Fin n2) (v : Fin n3), x = ix4 i o h v :=
  ⟨_, _, _, _, ValueIdx.eq_ix4 x⟩

variable {m c}

/-- Level 0's class scores agree. -/
theorem logits0 (r : Reals m c) : fin m c main_v85 = Cert.ReferenceIdeal.Step.R_main_v37 (it (S0 m c) 4) (a13 m c) (a14 m c) := funext fun (x : (⟨4, ![1, 80, 64, 64]⟩ : Shape).Idx) => by
  obtain ⟨i, o, h, v, rfl⟩ := ix4_of x
  refine (logits0_at m c i o h v).trans (((lv0 m c).out r.p r.x0 0 _ _ h v rfl).trans ((head_logits m c 0 _ o h v).trans ?_))
  refine Eq.trans ?_ (RefValue.logits64 (it (S0 m c) 4) (a13 m c) (a14 m c) i o h v).symm
  rw [cls0]
/-- Level 0's boxes agree. -/
theorem bbox0 (r : Reals m c) : fin m c main_v90 = Cert.ReferenceIdeal.Step.R_main_v203 (it (S0 m c) 4) (a15 m c) (a16 m c) (a19 m c) := funext fun (x : (⟨4, ![1, 4, 64, 64]⟩ : Shape).Idx) => by
  obtain ⟨i, o, h, v, rfl⟩ := ix4_of x
  have e : (⟨0 + o.1, by omega⟩ : Fin 128) = ⟨o.1, by omega⟩ := Fin.ext (Nat.zero_add _)
  refine (bbox0_at m c i o h v).trans (((lv0 m c).out r.p r.x0 1 _ _ h v rfl).trans ?_)
  rw [e]
  refine (head_bbox m c 0 _ o h v).trans ?_
  refine Eq.trans ?_ (RefValue.bbox64 (it (S0 m c) 4) (a15 m c) (a16 m c) (a19 m c) i o h v).symm
  rw [box0]
/-- Level 0's centre scores agree. -/
theorem ctr0 (r : Reals m c) : fin m c main_v93 = Cert.ReferenceIdeal.Step.R_main_v387 (it (S0 m c) 4) (a17 m c) (a18 m c) := funext fun (x : (⟨4, ![1, 1, 64, 64]⟩ : Shape).Idx) => by
  obtain ⟨i, o, h, v, rfl⟩ := ix4_of x
  refine (ctr0_at m c i o h v).trans (((lv0 m c).out r.p r.x0 1 _ _ h v rfl).trans ((head_ctr m c 0 _ o h v).trans ?_))
  refine Eq.trans ?_ (RefValue.ctr64 (it (S0 m c) 4) (a17 m c) (a18 m c) i o h v).symm
  rw [box0]
/-- Level 1's class scores agree. -/
theorem logits1 (r : Reals m c) : fin m c main_v99 = Cert.ReferenceIdeal.Step.R_main_v69 (it (S0 m c) 4) (a13 m c) (a14 m c) := funext fun (x : (⟨4, ![1, 80, 32, 32]⟩ : Shape).Idx) => by
  obtain ⟨i, o, h, v, rfl⟩ := ix4_of x
  refine (logits1_at m c i o h v).trans (((lv1 m c).out r.p r.x1 0 _ _ h v rfl).trans ((head_logits m c 1 _ o h v).trans ?_))
  refine Eq.trans ?_ (RefValue.logits32 (it (S0 m c) 4) (a13 m c) (a14 m c) i o h v).symm
  rw [cls1]
/-- Level 1's boxes agree. -/
theorem bbox1 (r : Reals m c) : fin m c main_v104 = Cert.ReferenceIdeal.Step.R_main_v241 (it (S0 m c) 4) (a15 m c) (a16 m c) (a19 m c) := funext fun (x : (⟨4, ![1, 4, 32, 32]⟩ : Shape).Idx) => by
  obtain ⟨i, o, h, v, rfl⟩ := ix4_of x
  have e : (⟨0 + o.1, by omega⟩ : Fin 128) = ⟨o.1, by omega⟩ := Fin.ext (Nat.zero_add _)
  refine (bbox1_at m c i o h v).trans (((lv1 m c).out r.p r.x1 1 _ _ h v rfl).trans ?_)
  rw [e]
  refine (head_bbox m c 1 _ o h v).trans ?_
  refine Eq.trans ?_ (RefValue.bbox32 (it (S0 m c) 4) (a15 m c) (a16 m c) (a19 m c) i o h v).symm
  rw [box1]
/-- Level 1's centre scores agree. -/
theorem ctr1 (r : Reals m c) : fin m c main_v107 = Cert.ReferenceIdeal.Step.R_main_v419 (it (S0 m c) 4) (a17 m c) (a18 m c) := funext fun (x : (⟨4, ![1, 1, 32, 32]⟩ : Shape).Idx) => by
  obtain ⟨i, o, h, v, rfl⟩ := ix4_of x
  refine (ctr1_at m c i o h v).trans (((lv1 m c).out r.p r.x1 1 _ _ h v rfl).trans ((head_ctr m c 1 _ o h v).trans ?_))
  refine Eq.trans ?_ (RefValue.ctr32 (it (S0 m c) 4) (a17 m c) (a18 m c) i o h v).symm
  rw [box1]
/-- Level 2's class scores agree. -/
theorem logits2 (r : Reals m c) : fin m c main_v113 = Cert.ReferenceIdeal.Step.R_main_v101 (it (S0 m c) 4) (a13 m c) (a14 m c) := funext fun (x : (⟨4, ![1, 80, 16, 16]⟩ : Shape).Idx) => by
  obtain ⟨i, o, h, v, rfl⟩ := ix4_of x
  refine (logits2_at m c i o h v).trans (((lv2 m c).out r.p r.x2 0 _ _ h v rfl).trans ((head_logits m c 2 _ o h v).trans ?_))
  refine Eq.trans ?_ (RefValue.logits16 (it (S0 m c) 4) (a13 m c) (a14 m c) i o h v).symm
  rw [cls2]
/-- Level 2's boxes agree. -/
theorem bbox2 (r : Reals m c) : fin m c main_v118 = Cert.ReferenceIdeal.Step.R_main_v279 (it (S0 m c) 4) (a15 m c) (a16 m c) (a19 m c) := funext fun (x : (⟨4, ![1, 4, 16, 16]⟩ : Shape).Idx) => by
  obtain ⟨i, o, h, v, rfl⟩ := ix4_of x
  have e : (⟨0 + o.1, by omega⟩ : Fin 128) = ⟨o.1, by omega⟩ := Fin.ext (Nat.zero_add _)
  refine (bbox2_at m c i o h v).trans (((lv2 m c).out r.p r.x2 1 _ _ h v rfl).trans ?_)
  rw [e]
  refine (head_bbox m c 2 _ o h v).trans ?_
  refine Eq.trans ?_ (RefValue.bbox16 (it (S0 m c) 4) (a15 m c) (a16 m c) (a19 m c) i o h v).symm
  rw [box2]
/-- Level 2's centre scores agree. -/
theorem ctr2 (r : Reals m c) : fin m c main_v121 = Cert.ReferenceIdeal.Step.R_main_v451 (it (S0 m c) 4) (a17 m c) (a18 m c) := funext fun (x : (⟨4, ![1, 1, 16, 16]⟩ : Shape).Idx) => by
  obtain ⟨i, o, h, v, rfl⟩ := ix4_of x
  refine (ctr2_at m c i o h v).trans (((lv2 m c).out r.p r.x2 1 _ _ h v rfl).trans ((head_ctr m c 2 _ o h v).trans ?_))
  refine Eq.trans ?_ (RefValue.ctr16 (it (S0 m c) 4) (a17 m c) (a18 m c) i o h v).symm
  rw [box2]
/-- Level 3's class scores agree. -/
theorem logits3 (r : Reals m c) : fin m c main_v127 = Cert.ReferenceIdeal.Step.R_main_v133 (it (S0 m c) 4) (a13 m c) (a14 m c) := funext fun (x : (⟨4, ![1, 80, 8, 8]⟩ : Shape).Idx) => by
  obtain ⟨i, o, h, v, rfl⟩ := ix4_of x
  refine (logits3_at m c i o h v).trans (((lv3 m c).out r.p r.x3 0 _ _ h v rfl).trans ((head_logits m c 3 _ o h v).trans ?_))
  refine Eq.trans ?_ (RefValue.logits8 (it (S0 m c) 4) (a13 m c) (a14 m c) i o h v).symm
  rw [cls3]
/-- Level 3's boxes agree. -/
theorem bbox3 (r : Reals m c) : fin m c main_v132 = Cert.ReferenceIdeal.Step.R_main_v317 (it (S0 m c) 4) (a15 m c) (a16 m c) (a19 m c) := funext fun (x : (⟨4, ![1, 4, 8, 8]⟩ : Shape).Idx) => by
  obtain ⟨i, o, h, v, rfl⟩ := ix4_of x
  have e : (⟨0 + o.1, by omega⟩ : Fin 128) = ⟨o.1, by omega⟩ := Fin.ext (Nat.zero_add _)
  refine (bbox3_at m c i o h v).trans (((lv3 m c).out r.p r.x3 1 _ _ h v rfl).trans ?_)
  rw [e]
  refine (head_bbox m c 3 _ o h v).trans ?_
  refine Eq.trans ?_ (RefValue.bbox8 (it (S0 m c) 4) (a15 m c) (a16 m c) (a19 m c) i o h v).symm
  rw [box3]
/-- Level 3's centre scores agree. -/
theorem ctr3 (r : Reals m c) : fin m c main_v135 = Cert.ReferenceIdeal.Step.R_main_v483 (it (S0 m c) 4) (a17 m c) (a18 m c) := funext fun (x : (⟨4, ![1, 1, 8, 8]⟩ : Shape).Idx) => by
  obtain ⟨i, o, h, v, rfl⟩ := ix4_of x
  refine (ctr3_at m c i o h v).trans (((lv3 m c).out r.p r.x3 1 _ _ h v rfl).trans ((head_ctr m c 3 _ o h v).trans ?_))
  refine Eq.trans ?_ (RefValue.ctr8 (it (S0 m c) 4) (a17 m c) (a18 m c) i o h v).symm
  rw [box3]
/-- Level 4's class scores agree. -/
theorem logits4 (r : Reals m c) : fin m c main_v141 = Cert.ReferenceIdeal.Step.R_main_v165 (it (S0 m c) 4) (a13 m c) (a14 m c) := funext fun (x : (⟨4, ![1, 80, 4, 4]⟩ : Shape).Idx) => by
  obtain ⟨i, o, h, v, rfl⟩ := ix4_of x
  refine (logits4_at m c i o h v).trans (((lv4 m c).out r.p r.x4 0 _ _ h v rfl).trans ((head_logits m c 4 _ o h v).trans ?_))
  refine Eq.trans ?_ (RefValue.logits4 (it (S0 m c) 4) (a13 m c) (a14 m c) i o h v).symm
  rw [cls4]
/-- Level 4's boxes agree. -/
theorem bbox4 (r : Reals m c) : fin m c main_v146 = Cert.ReferenceIdeal.Step.R_main_v355 (it (S0 m c) 4) (a15 m c) (a16 m c) (a19 m c) := funext fun (x : (⟨4, ![1, 4, 4, 4]⟩ : Shape).Idx) => by
  obtain ⟨i, o, h, v, rfl⟩ := ix4_of x
  have e : (⟨0 + o.1, by omega⟩ : Fin 128) = ⟨o.1, by omega⟩ := Fin.ext (Nat.zero_add _)
  refine (bbox4_at m c i o h v).trans (((lv4 m c).out r.p r.x4 1 _ _ h v rfl).trans ?_)
  rw [e]
  refine (head_bbox m c 4 _ o h v).trans ?_
  refine Eq.trans ?_ (RefValue.bbox4 (it (S0 m c) 4) (a15 m c) (a16 m c) (a19 m c) i o h v).symm
  rw [box4]
/-- Level 4's centre scores agree. -/
theorem ctr4 (r : Reals m c) : fin m c main_v149 = Cert.ReferenceIdeal.Step.R_main_v515 (it (S0 m c) 4) (a17 m c) (a18 m c) := funext fun (x : (⟨4, ![1, 1, 4, 4]⟩ : Shape).Idx) => by
  obtain ⟨i, o, h, v, rfl⟩ := ix4_of x
  refine (ctr4_at m c i o h v).trans (((lv4 m c).out r.p r.x4 1 _ _ h v rfl).trans ((head_ctr m c 4 _ o h v).trans ?_))
  refine Eq.trans ?_ (RefValue.ctr4 (it (S0 m c) 4) (a17 m c) (a18 m c) i o h v).symm
  rw [box4]

end Cert.Proof.Results

end
-- ==== Proof.Runs.lean ====
/-
  The two programs' runs, each ending with the same fifteen functions of the kernel's arguments.
-/
module

public import proofs.«01_k».proof.Proof.Results

@[expose] public section

noncomputable section

namespace Cert.Proof.Runs

open Idealize.ShloMosaic Idealize.ShloMosaic.TcCoe Idealize.SL.Sem

attribute [local irreducible] Idealize.ShloMosaic.StableHlo.after Cert.KernelIdeal.Gen.iblk

/-- A function of three arguments takes equals to equals. -/
theorem cong3 {A B C D : Type} (f : A → B → C → D) {a a' : A} {b b' : B} {c c' : C} (ha : a = a') (hb : b = b') (hc : c = c') :
    f a b c = f a' b' c' := by subst ha; subst hb; subst hc; rfl

/-- And of four. -/
theorem cong4 {A B C D E : Type} (f : A → B → C → D → E) {a a' : A} {b b' : B} {c c' : C} {d d' : D} (ha : a = a') (hb : b = b') (hc : c = c')
    (hd : d = d') : f a b c d = f a' b' c' d' := by subst ha; subst hb; subst hc; subst hd; rfl

/-- The reference's first state depends on its arguments alone. -/
theorem init_congr {x5 y5 : FVec Ideal Cert.ReferenceIdeal.S4x256x256x3x3 .f32} {x6 y6 : FVec Ideal Cert.ReferenceIdeal.S4x256 .f32} {x7 y7 : FVec Ideal Cert.ReferenceIdeal.S4x256 .f32} {x8 y8 : FVec Ideal Cert.ReferenceIdeal.S4x256 .f32} {x9 y9 : FVec Ideal Cert.ReferenceIdeal.S4x256x256x3x3 .f32} {x10 y10 : FVec Ideal Cert.ReferenceIdeal.S4x256 .f32} {x11 y11 : FVec Ideal Cert.ReferenceIdeal.S4x256 .f32} {x12 y12 : FVec Ideal Cert.ReferenceIdeal.S4x256 .f32} {x0 y0 : FVec Ideal Cert.ReferenceIdeal.S1x256x64x64 .f32} {x1 y1 : FVec Ideal Cert.ReferenceIdeal.S1x256x32x32 .f32} {x2 y2 : FVec Ideal Cert.ReferenceIdeal.S1x256x16x16 .f32} {x3 y3 : FVec Ideal Cert.ReferenceIdeal.S1x256x8x8 .f32} {x4 y4 : FVec Ideal Cert.ReferenceIdeal.S1x256x4x4 .f32}
    (h5 : x5 = y5) (h6 : x6 = y6) (h7 : x7 = y7) (h8 : x8 = y8) (h9 : x9 = y9) (h10 : x10 = y10) (h11 : x11 = y11) (h12 : x12 = y12) (h0 : x0 = y0) (h1 : x1 = y1) (h2 : x2 = y2) (h3 : x3 = y3) (h4 : x4 = y4) :
    Cert.ReferenceIdeal.Step.init (F := Ideal) x5 x6 x7 x8 x9 x10 x11 x12 x0 x1 x2 x3 x4 = Cert.ReferenceIdeal.Step.init (F := Ideal) y5 y6 y7 y8 y9 y10 y11 y12 y0 y1 y2 y3 y4 := by
  subst h5; subst h6; subst h7; subst h8; subst h9; subst h10; subst h11; subst h12; subst h0; subst h1; subst h2; subst h3; subst h4; rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's memory has the kernel's arguments. -/
structure Agree (c : Dev Cert.ReferenceIdeal.nD) : Prop where
  e0 : (m' ((c.tc : Thread Cert.ReferenceIdeal.nD Cert.ReferenceIdeal.τ).loc Cert.ReferenceIdeal.main_arg0) : FVec Ideal Cert.ReferenceIdeal.S1x256x64x64 .f32) = HostKernel.a0 m c
  e1 : (m' ((c.tc : Thread Cert.ReferenceIdeal.nD Cert.ReferenceIdeal.τ).loc Cert.ReferenceIdeal.main_arg1) : FVec Ideal Cert.ReferenceIdeal.S1x256x32x32 .f32) = HostKernel.a1 m c
  e2 : (m' ((c.tc : Thread Cert.ReferenceIdeal.nD Cert.ReferenceIdeal.τ).loc Cert.ReferenceIdeal.main_arg2) : FVec Ideal Cert.ReferenceIdeal.S1x256x16x16 .f32) = HostKernel.a2 m c
  e3 : (m' ((c.tc : Thread Cert.ReferenceIdeal.nD Cert.ReferenceIdeal.τ).loc Cert.ReferenceIdeal.main_arg3) : FVec Ideal Cert.ReferenceIdeal.S1x256x8x8 .f32) = HostKernel.a3 m c
  e4 : (m' ((c.tc : Thread Cert.ReferenceIdeal.nD Cert.ReferenceIdeal.τ).loc Cert.ReferenceIdeal.main_arg4) : FVec Ideal Cert.ReferenceIdeal.S1x256x4x4 .f32) = HostKernel.a4 m c
  e5 : (m' ((c.tc : Thread Cert.ReferenceIdeal.nD Cert.ReferenceIdeal.τ).loc Cert.ReferenceIdeal.main_arg5) : FVec Ideal Cert.ReferenceIdeal.S4x256x256x3x3 .f32) = HostKernel.a5 m c
  e6 : (m' ((c.tc : Thread Cert.ReferenceIdeal.nD Cert.ReferenceIdeal.τ).loc Cert.ReferenceIdeal.main_arg6) : FVec Ideal Cert.ReferenceIdeal.S4x256 .f32) = HostKernel.a6 m c
  e7 : (m' ((c.tc : Thread Cert.ReferenceIdeal.nD Cert.ReferenceIdeal.τ).loc Cert.ReferenceIdeal.main_arg7) : FVec Ideal Cert.ReferenceIdeal.S4x256 .f32) = HostKernel.a7 m c
  e8 : (m' ((c.tc : Thread Cert.ReferenceIdeal.nD Cert.ReferenceIdeal.τ).loc Cert.ReferenceIdeal.main_arg8) : FVec Ideal Cert.ReferenceIdeal.S4x256 .f32) = HostKernel.a8 m c
  e9 : (m' ((c.tc : Thread Cert.ReferenceIdeal.nD Cert.ReferenceIdeal.τ).loc Cert.ReferenceIdeal.main_arg9) : FVec Ideal Cert.ReferenceIdeal.S4x256x256x3x3 .f32) = HostKernel.a9 m c
  e10 : (m' ((c.tc : Thread Cert.ReferenceIdeal.nD Cert.ReferenceIdeal.τ).loc Cert.ReferenceIdeal.main_arg10) : FVec Ideal Cert.ReferenceIdeal.S4x256 .f32) = HostKernel.a10 m c
  e11 : (m' ((c.tc : Thread Cert.ReferenceIdeal.nD Cert.ReferenceIdeal.τ).loc Cert.ReferenceIdeal.main_arg11) : FVec Ideal Cert.ReferenceIdeal.S4x256 .f32) = HostKernel.a11 m c
  e12 : (m' ((c.tc : Thread Cert.ReferenceIdeal.nD Cert.ReferenceIdeal.τ).loc Cert.ReferenceIdeal.main_arg12) : FVec Ideal Cert.ReferenceIdeal.S4x256 .f32) = HostKernel.a12 m c
  e13 : (m' ((c.tc : Thread Cert.ReferenceIdeal.nD Cert.ReferenceIdeal.τ).loc Cert.ReferenceIdeal.main_arg13) : FVec Ideal Cert.ReferenceIdeal.S80x256x3x3 .f32) = HostKernel.a13 m c
  e14 : (m' ((c.tc : Thread Cert.ReferenceIdeal.nD Cert.ReferenceIdeal.τ).loc Cert.ReferenceIdeal.main_arg14) : FVec Ideal Cert.ReferenceIdeal.S80 .f32) = HostKernel.a14 m c
  e15 : (m' ((c.tc : Thread Cert.ReferenceIdeal.nD Cert.ReferenceIdeal.τ).loc Cert.ReferenceIdeal.main_arg15) : FVec Ideal Cert.ReferenceIdeal.S4x256x3x3 .f32) = HostKernel.a15 m c
  e16 : (m' ((c.tc : Thread Cert.ReferenceIdeal.nD Cert.ReferenceIdeal.τ).loc Cert.ReferenceIdeal.main_arg16) : FVec Ideal Cert.ReferenceIdeal.S4 .f32) = HostKernel.a16 m c
  e17 : (m' ((c.tc : Thread Cert.ReferenceIdeal.nD Cert.ReferenceIdeal.τ).loc Cert.ReferenceIdeal.main_arg17) : FVec Ideal Cert.ReferenceIdeal.S1x256x3x3 .f32) = HostKernel.a17 m c
  e18 : (m' ((c.tc : Thread Cert.ReferenceIdeal.nD Cert.ReferenceIdeal.τ).loc Cert.ReferenceIdeal.main_arg18) : FVec Ideal Cert.ReferenceIdeal.S1 .f32) = HostKernel.a18 m c
  e19 : (m' ((c.tc : Thread Cert.ReferenceIdeal.nD Cert.ReferenceIdeal.τ).loc Cert.ReferenceIdeal.main_arg19) : FVec Ideal Cert.ReferenceIdeal.S5 .f32) = HostKernel.a19 m c

/-- On such memories the reference's loop runs from the same state. -/
theorem start_eq {c : Dev Cert.ReferenceIdeal.nD} (e : Agree m m' c) : RefRun.start m' c = Results.S0 m c :=
  init_congr e.e5 e.e6 e.e7 e.e8 e.e9 e.e10 e.e11 e.e12 e.e0 e.e1 e.e2 e.e3 e.e4

variable {m m'}

/-- And to the same state. -/
theorem it_eq {c : Dev Cert.ReferenceIdeal.nD} (e : Agree m m' c) : RefValue.it (RefRun.start m' c) 4 = RefValue.it (Results.S0 m c) 4 := by
  rw [start_eq m m' e]

/-- The kernel's run from finite arguments. -/
theorem kernel_run (hr : ∀ c, Results.Reals m c) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v85) = Cert.ReferenceIdeal.Step.R_main_v37 (RefValue.it (Results.S0 m c) 4) (HostKernel.a13 m c) (HostKernel.a14 m c)
      ∧ r.2.mem ((c.tc : Thread Cert.KernelIdeal.nD Cert.KernelIdeal.τ).loc Cert.KernelIdeal.main_v99) = Cert.ReferenceIdeal.Step.R_main_v69 (RefValue.it (Results.S0 m c) 4) (HostKernel.a13 m c) (HostKernel.a14 m c)
      ∧ r.2.mem ((c.tc : Thread Cert.KernelIdeal.nD Cert.KernelIdeal.τ).loc Cert.KernelIdeal.main_v113) = Cert.ReferenceIdeal.Step.R_main_v101 (RefValue.it (Results.S0 m c) 4) (HostKernel.a13 m c) (HostKernel.a14 m c)
      ∧ r.2.mem ((c.tc : Thread Cert.KernelIdeal.nD Cert.KernelIdeal.τ).loc Cert.KernelIdeal.main_v127) = Cert.ReferenceIdeal.Step.R_main_v133 (RefValue.it (Results.S0 m c) 4) (HostKernel.a13 m c) (HostKernel.a14 m c)
      ∧ r.2.mem ((c.tc : Thread Cert.KernelIdeal.nD Cert.KernelIdeal.τ).loc Cert.KernelIdeal.main_v141) = Cert.ReferenceIdeal.Step.R_main_v165 (RefValue.it (Results.S0 m c) 4) (HostKernel.a13 m c) (HostKernel.a14 m c)
      ∧ r.2.mem ((c.tc : Thread Cert.KernelIdeal.nD Cert.KernelIdeal.τ).loc Cert.KernelIdeal.main_v90) = Cert.ReferenceIdeal.Step.R_main_v203 (RefValue.it (Results.S0 m c) 4) (HostKernel.a15 m c) (HostKernel.a16 m c) (HostKernel.a19 m c)
      ∧ r.2.mem ((c.tc : Thread Cert.KernelIdeal.nD Cert.KernelIdeal.τ).loc Cert.KernelIdeal.main_v104) = Cert.ReferenceIdeal.Step.R_main_v241 (RefValue.it (Results.S0 m c) 4) (HostKernel.a15 m c) (HostKernel.a16 m c) (HostKernel.a19 m c)
      ∧ r.2.mem ((c.tc : Thread Cert.KernelIdeal.nD Cert.KernelIdeal.τ).loc Cert.KernelIdeal.main_v118) = Cert.ReferenceIdeal.Step.R_main_v279 (RefValue.it (Results.S0 m c) 4) (HostKernel.a15 m c) (HostKernel.a16 m c) (HostKernel.a19 m c)
      ∧ r.2.mem ((c.tc : Thread Cert.KernelIdeal.nD Cert.KernelIdeal.τ).loc Cert.KernelIdeal.main_v132) = Cert.ReferenceIdeal.Step.R_main_v317 (RefValue.it (Results.S0 m c) 4) (HostKernel.a15 m c) (HostKernel.a16 m c) (HostKernel.a19 m c)
      ∧ r.2.mem ((c.tc : Thread Cert.KernelIdeal.nD Cert.KernelIdeal.τ).loc Cert.KernelIdeal.main_v146) = Cert.ReferenceIdeal.Step.R_main_v355 (RefValue.it (Results.S0 m c) 4) (HostKernel.a15 m c) (HostKernel.a16 m c) (HostKernel.a19 m c)
      ∧ r.2.mem ((c.tc : Thread Cert.KernelIdeal.nD Cert.KernelIdeal.τ).loc Cert.KernelIdeal.main_v93) = Cert.ReferenceIdeal.Step.R_main_v387 (RefValue.it (Results.S0 m c) 4) (HostKernel.a17 m c) (HostKernel.a18 m c)
      ∧ r.2.mem ((c.tc : Thread Cert.KernelIdeal.nD Cert.KernelIdeal.τ).loc Cert.KernelIdeal.main_v107) = Cert.ReferenceIdeal.Step.R_main_v419 (RefValue.it (Results.S0 m c) 4) (HostKernel.a17 m c) (HostKernel.a18 m c)
      ∧ r.2.mem ((c.tc : Thread Cert.KernelIdeal.nD Cert.KernelIdeal.τ).loc Cert.KernelIdeal.main_v121) = Cert.ReferenceIdeal.Step.R_main_v451 (RefValue.it (Results.S0 m c) 4) (HostKernel.a17 m c) (HostKernel.a18 m c)
      ∧ r.2.mem ((c.tc : Thread Cert.KernelIdeal.nD Cert.KernelIdeal.τ).loc Cert.KernelIdeal.main_v135) = Cert.ReferenceIdeal.Step.R_main_v483 (RefValue.it (Results.S0 m c) 4) (HostKernel.a17 m c) (HostKernel.a18 m c)
      ∧ r.2.mem ((c.tc : Thread Cert.KernelIdeal.nD Cert.KernelIdeal.τ).loc Cert.KernelIdeal.main_v149) = Cert.ReferenceIdeal.Step.R_main_v515 (RefValue.it (Results.S0 m c) 4) (HostKernel.a17 m c) (HostKernel.a18 m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)) :=
  (θ_run Cert.KernelIdeal.defs _ _).mono (fun r h c => ⟨((h.1.1 c).2 Cert.KernelIdeal.main_v85 (Pipeline.mem_restRefs_of _ rfl (by decide))).trans (Results.logits0 (hr c)),
      ((h.1.1 c).2 Cert.KernelIdeal.main_v99 (Pipeline.mem_restRefs_of _ rfl (by decide))).trans (Results.logits1 (hr c)),
      ((h.1.1 c).2 Cert.KernelIdeal.main_v113 (Pipeline.mem_restRefs_of _ rfl (by decide))).trans (Results.logits2 (hr c)),
      ((h.1.1 c).2 Cert.KernelIdeal.main_v127 (Pipeline.mem_restRefs_of _ rfl (by decide))).trans (Results.logits3 (hr c)),
      ((h.1.1 c).2 Cert.KernelIdeal.main_v141 (Pipeline.mem_restRefs_of _ rfl (by decide))).trans (Results.logits4 (hr c)),
      ((h.1.1 c).2 Cert.KernelIdeal.main_v90 (Pipeline.mem_restRefs_of _ rfl (by decide))).trans (Results.bbox0 (hr c)),
      ((h.1.1 c).2 Cert.KernelIdeal.main_v104 (Pipeline.mem_restRefs_of _ rfl (by decide))).trans (Results.bbox1 (hr c)),
      ((h.1.1 c).2 Cert.KernelIdeal.main_v118 (Pipeline.mem_restRefs_of _ rfl (by decide))).trans (Results.bbox2 (hr c)),
      ((h.1.1 c).2 Cert.KernelIdeal.main_v132 (Pipeline.mem_restRefs_of _ rfl (by decide))).trans (Results.bbox3 (hr c)),
      ((h.1.1 c).2 Cert.KernelIdeal.main_v146 (Pipeline.mem_restRefs_of _ rfl (by decide))).trans (Results.bbox4 (hr c)),
      ((h.1.1 c).2 Cert.KernelIdeal.main_v93 (Pipeline.mem_restRefs_of _ rfl (by decide))).trans (Results.ctr0 (hr c)),
      ((h.1.1 c).2 Cert.KernelIdeal.main_v107 (Pipeline.mem_restRefs_of _ rfl (by decide))).trans (Results.ctr1 (hr c)),
      ((h.1.1 c).2 Cert.KernelIdeal.main_v121 (Pipeline.mem_restRefs_of _ rfl (by decide))).trans (Results.ctr2 (hr c)),
      ((h.1.1 c).2 Cert.KernelIdeal.main_v135 (Pipeline.mem_restRefs_of _ rfl (by decide))).trans (Results.ctr3 (hr c)),
      ((h.1.1 c).2 Cert.KernelIdeal.main_v149 (Pipeline.mem_restRefs_of _ rfl (by decide))).trans (Results.ctr4 (hr c)),
      h.2.1 c⟩) (θ_run_and (LaunchKernelIdeal.run_main m g) (LaunchKernelIdeal.frame_all m g))

/-- The reference's run from the same arguments. -/
theorem ref_run (e : ∀ c, Agree m m' c) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v37) = Cert.ReferenceIdeal.Step.R_main_v37 (RefValue.it (Results.S0 m c) 4) (HostKernel.a13 m c) (HostKernel.a14 m c)
      ∧ r.2.mem ((c.tc : Thread Cert.ReferenceIdeal.nD Cert.ReferenceIdeal.τ).loc Cert.ReferenceIdeal.main_v69) = Cert.ReferenceIdeal.Step.R_main_v69 (RefValue.it (Results.S0 m c) 4) (HostKernel.a13 m c) (HostKernel.a14 m c)
      ∧ r.2.mem ((c.tc : Thread Cert.ReferenceIdeal.nD Cert.ReferenceIdeal.τ).loc Cert.ReferenceIdeal.main_v101) = Cert.ReferenceIdeal.Step.R_main_v101 (RefValue.it (Results.S0 m c) 4) (HostKernel.a13 m c) (HostKernel.a14 m c)
      ∧ r.2.mem ((c.tc : Thread Cert.ReferenceIdeal.nD Cert.ReferenceIdeal.τ).loc Cert.ReferenceIdeal.main_v133) = Cert.ReferenceIdeal.Step.R_main_v133 (RefValue.it (Results.S0 m c) 4) (HostKernel.a13 m c) (HostKernel.a14 m c)
      ∧ r.2.mem ((c.tc : Thread Cert.ReferenceIdeal.nD Cert.ReferenceIdeal.τ).loc Cert.ReferenceIdeal.main_v165) = Cert.ReferenceIdeal.Step.R_main_v165 (RefValue.it (Results.S0 m c) 4) (HostKernel.a13 m c) (HostKernel.a14 m c)
      ∧ r.2.mem ((c.tc : Thread Cert.ReferenceIdeal.nD Cert.ReferenceIdeal.τ).loc Cert.ReferenceIdeal.main_v203) = Cert.ReferenceIdeal.Step.R_main_v203 (RefValue.it (Results.S0 m c) 4) (HostKernel.a15 m c) (HostKernel.a16 m c) (HostKernel.a19 m c)
      ∧ r.2.mem ((c.tc : Thread Cert.ReferenceIdeal.nD Cert.ReferenceIdeal.τ).loc Cert.ReferenceIdeal.main_v241) = Cert.ReferenceIdeal.Step.R_main_v241 (RefValue.it (Results.S0 m c) 4) (HostKernel.a15 m c) (HostKernel.a16 m c) (HostKernel.a19 m c)
      ∧ r.2.mem ((c.tc : Thread Cert.ReferenceIdeal.nD Cert.ReferenceIdeal.τ).loc Cert.ReferenceIdeal.main_v279) = Cert.ReferenceIdeal.Step.R_main_v279 (RefValue.it (Results.S0 m c) 4) (HostKernel.a15 m c) (HostKernel.a16 m c) (HostKernel.a19 m c)
      ∧ r.2.mem ((c.tc : Thread Cert.ReferenceIdeal.nD Cert.ReferenceIdeal.τ).loc Cert.ReferenceIdeal.main_v317) = Cert.ReferenceIdeal.Step.R_main_v317 (RefValue.it (Results.S0 m c) 4) (HostKernel.a15 m c) (HostKernel.a16 m c) (HostKernel.a19 m c)
      ∧ r.2.mem ((c.tc : Thread Cert.ReferenceIdeal.nD Cert.ReferenceIdeal.τ).loc Cert.ReferenceIdeal.main_v355) = Cert.ReferenceIdeal.Step.R_main_v355 (RefValue.it (Results.S0 m c) 4) (HostKernel.a15 m c) (HostKernel.a16 m c) (HostKernel.a19 m c)
      ∧ r.2.mem ((c.tc : Thread Cert.ReferenceIdeal.nD Cert.ReferenceIdeal.τ).loc Cert.ReferenceIdeal.main_v387) = Cert.ReferenceIdeal.Step.R_main_v387 (RefValue.it (Results.S0 m c) 4) (HostKernel.a17 m c) (HostKernel.a18 m c)
      ∧ r.2.mem ((c.tc : Thread Cert.ReferenceIdeal.nD Cert.ReferenceIdeal.τ).loc Cert.ReferenceIdeal.main_v419) = Cert.ReferenceIdeal.Step.R_main_v419 (RefValue.it (Results.S0 m c) 4) (HostKernel.a17 m c) (HostKernel.a18 m c)
      ∧ r.2.mem ((c.tc : Thread Cert.ReferenceIdeal.nD Cert.ReferenceIdeal.τ).loc Cert.ReferenceIdeal.main_v451) = Cert.ReferenceIdeal.Step.R_main_v451 (RefValue.it (Results.S0 m c) 4) (HostKernel.a17 m c) (HostKernel.a18 m c)
      ∧ r.2.mem ((c.tc : Thread Cert.ReferenceIdeal.nD Cert.ReferenceIdeal.τ).loc Cert.ReferenceIdeal.main_v483) = Cert.ReferenceIdeal.Step.R_main_v483 (RefValue.it (Results.S0 m c) 4) (HostKernel.a17 m c) (HostKernel.a18 m c)
      ∧ r.2.mem ((c.tc : Thread Cert.ReferenceIdeal.nD Cert.ReferenceIdeal.τ).loc Cert.ReferenceIdeal.main_v515) = Cert.ReferenceIdeal.Step.R_main_v515 (RefValue.it (Results.S0 m c) 4) (HostKernel.a17 m c) (HostKernel.a18 m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)) :=
  (θ_run Cert.ReferenceIdeal.defs _ _).mono (fun r h c => ⟨((h c).1).trans (cong3 Cert.ReferenceIdeal.Step.R_main_v37 (it_eq (e c)) (e c).e13 (e c).e14),
      ((h c).2.1).trans (cong3 Cert.ReferenceIdeal.Step.R_main_v69 (it_eq (e c)) (e c).e13 (e c).e14),
      ((h c).2.2.1).trans (cong3 Cert.ReferenceIdeal.Step.R_main_v101 (it_eq (e c)) (e c).e13 (e c).e14),
      ((h c).2.2.2.1).trans (cong3 Cert.ReferenceIdeal.Step.R_main_v133 (it_eq (e c)) (e c).e13 (e c).e14),
      ((h c).2.2.2.2.1).trans (cong3 Cert.ReferenceIdeal.Step.R_main_v165 (it_eq (e c)) (e c).e13 (e c).e14),
      ((h c).2.2.2.2.2.1).trans (cong4 Cert.ReferenceIdeal.Step.R_main_v203 (it_eq (e c)) (e c).e15 (e c).e16 (e c).e19),
      ((h c).2.2.2.2.2.2.1).trans (cong4 Cert.ReferenceIdeal.Step.R_main_v241 (it_eq (e c)) (e c).e15 (e c).e16 (e c).e19),
      ((h c).2.2.2.2.2.2.2.1).trans (cong4 Cert.ReferenceIdeal.Step.R_main_v279 (it_eq (e c)) (e c).e15 (e c).e16 (e c).e19),
      ((h c).2.2.2.2.2.2.2.2.1).trans (cong4 Cert.ReferenceIdeal.Step.R_main_v317 (it_eq (e c)) (e c).e15 (e c).e16 (e c).e19),
      ((h c).2.2.2.2.2.2.2.2.2.1).trans (cong4 Cert.ReferenceIdeal.Step.R_main_v355 (it_eq (e c)) (e c).e15 (e c).e16 (e c).e19),
      ((h c).2.2.2.2.2.2.2.2.2.2.1).trans (cong3 Cert.ReferenceIdeal.Step.R_main_v387 (it_eq (e c)) (e c).e17 (e c).e18),
      ((h c).2.2.2.2.2.2.2.2.2.2.2.1).trans (cong3 Cert.ReferenceIdeal.Step.R_main_v419 (it_eq (e c)) (e c).e17 (e c).e18),
      ((h c).2.2.2.2.2.2.2.2.2.2.2.2.1).trans (cong3 Cert.ReferenceIdeal.Step.R_main_v451 (it_eq (e c)) (e c).e17 (e c).e18),
      ((h c).2.2.2.2.2.2.2.2.2.2.2.2.2.1).trans (cong3 Cert.ReferenceIdeal.Step.R_main_v483 (it_eq (e c)) (e c).e17 (e c).e18),
      ((h c).2.2.2.2.2.2.2.2.2.2.2.2.2.2.1).trans (cong3 Cert.ReferenceIdeal.Step.R_main_v515 (it_eq (e c)) (e c).e17 (e c).e18),
      (h c).2.2.2.2.2.2.2.2.2.2.2.2.2.2.2⟩) (RefRun.run_spec m' g')

end Cert.Proof.Runs

end
-- ==== Proof.Algebraic.lean ====
/-
  The two programs' runs side by side.
-/
module

public import proofs.«01_k».proof.Defs
public import proofs.«01_k».proof.Proof.Runs

@[expose] public section

noncomputable section

namespace Cert.Proof.Algebraic

open Idealize.ShloMosaic Idealize.ShloMosaic.TcCoe Idealize.SL.Sem

attribute [local irreducible] Idealize.ShloMosaic.StableHlo.after Cert.KernelIdeal.Gen.iblk

/-- Fifteen values and what two runs say of them. -/
theorem pack {V0 V1 V2 V3 V4 V5 V6 V7 V8 V9 V10 V11 V12 V13 V14 : Type} {P Q : V0 → V1 → V2 → V3 → V4 → V5 → V6 → V7 → V8 → V9 → V10 → V11 → V12 → V13 → V14 → Prop} (v0 : V0) (v1 : V1) (v2 : V2) (v3 : V3) (v4 : V4) (v5 : V5) (v6 : V6) (v7 : V7) (v8 : V8) (v9 : V9) (v10 : V10) (v11 : V11) (v12 : V12) (v13 : V13) (v14 : V14)
    (p : P v0 v1 v2 v3 v4 v5 v6 v7 v8 v9 v10 v11 v12 v13 v14) (q : Q v0 v1 v2 v3 v4 v5 v6 v7 v8 v9 v10 v11 v12 v13 v14) :
    ∃ (v0 : V0) (v1 : V1) (v2 : V2) (v3 : V3) (v4 : V4) (v5 : V5) (v6 : V6) (v7 : V7) (v8 : V8) (v9 : V9) (v10 : V10) (v11 : V11) (v12 : V12) (v13 : V13) (v14 : V14), P v0 v1 v2 v3 v4 v5 v6 v7 v8 v9 v10 v11 v12 v13 v14 ∧ Q v0 v1 v2 v3 v4 v5 v6 v7 v8 v9 v10 v11 v12 v13 v14 :=
  ⟨v0, v1, v2, v3, v4, v5, v6, v7, v8, v9, v10, v11, v12, v13, v14, p, q⟩

/-- From finite memories that agree on the arguments, the kernel and the reference leave the same fifteen results. -/
theorem algebraic : Cert.algebraic_KernelIdeal_ReferenceIdeal_pre_finite (hKernelIdeal := Cert.KernelIdeal.Gen.facts)
    (hReferenceIdeal := Cert.ReferenceIdeal.Gen.facts) (hPre_finite := PreRead.facts) := fun m g m' g' hp hE =>
  pack (fun c => Cert.ReferenceIdeal.Step.R_main_v37 (RefValue.it (Results.S0 m c) 4) (HostKernel.a13 m c) (HostKernel.a14 m c))
      (fun c => Cert.ReferenceIdeal.Step.R_main_v69 (RefValue.it (Results.S0 m c) 4) (HostKernel.a13 m c) (HostKernel.a14 m c))
      (fun c => Cert.ReferenceIdeal.Step.R_main_v101 (RefValue.it (Results.S0 m c) 4) (HostKernel.a13 m c) (HostKernel.a14 m c))
      (fun c => Cert.ReferenceIdeal.Step.R_main_v133 (RefValue.it (Results.S0 m c) 4) (HostKernel.a13 m c) (HostKernel.a14 m c))
      (fun c => Cert.ReferenceIdeal.Step.R_main_v165 (RefValue.it (Results.S0 m c) 4) (HostKernel.a13 m c) (HostKernel.a14 m c))
      (fun c => Cert.ReferenceIdeal.Step.R_main_v203 (RefValue.it (Results.S0 m c) 4) (HostKernel.a15 m c) (HostKernel.a16 m c) (HostKernel.a19 m c))
      (fun c => Cert.ReferenceIdeal.Step.R_main_v241 (RefValue.it (Results.S0 m c) 4) (HostKernel.a15 m c) (HostKernel.a16 m c) (HostKernel.a19 m c))
      (fun c => Cert.ReferenceIdeal.Step.R_main_v279 (RefValue.it (Results.S0 m c) 4) (HostKernel.a15 m c) (HostKernel.a16 m c) (HostKernel.a19 m c))
      (fun c => Cert.ReferenceIdeal.Step.R_main_v317 (RefValue.it (Results.S0 m c) 4) (HostKernel.a15 m c) (HostKernel.a16 m c) (HostKernel.a19 m c))
      (fun c => Cert.ReferenceIdeal.Step.R_main_v355 (RefValue.it (Results.S0 m c) 4) (HostKernel.a15 m c) (HostKernel.a16 m c) (HostKernel.a19 m c))
      (fun c => Cert.ReferenceIdeal.Step.R_main_v387 (RefValue.it (Results.S0 m c) 4) (HostKernel.a17 m c) (HostKernel.a18 m c))
      (fun c => Cert.ReferenceIdeal.Step.R_main_v419 (RefValue.it (Results.S0 m c) 4) (HostKernel.a17 m c) (HostKernel.a18 m c))
      (fun c => Cert.ReferenceIdeal.Step.R_main_v451 (RefValue.it (Results.S0 m c) 4) (HostKernel.a17 m c) (HostKernel.a18 m c))
      (fun c => Cert.ReferenceIdeal.Step.R_main_v483 (RefValue.it (Results.S0 m c) 4) (HostKernel.a17 m c) (HostKernel.a18 m c))
      (fun c => Cert.ReferenceIdeal.Step.R_main_v515 (RefValue.it (Results.S0 m c) 4) (HostKernel.a17 m c) (HostKernel.a18 m c))
    (Runs.kernel_run (fun c => Results.reals m c (hp c)) g)
    (Runs.ref_run (fun c => ⟨(hE c).1, (hE c).2.1, (hE c).2.2.1, (hE c).2.2.2.1, (hE c).2.2.2.2.1, (hE c).2.2.2.2.2.1, (hE c).2.2.2.2.2.2.1, (hE c).2.2.2.2.2.2.2.1, (hE c).2.2.2.2.2.2.2.2.1, (hE c).2.2.2.2.2.2.2.2.2.1, (hE c).2.2.2.2.2.2.2.2.2.2.1, (hE c).2.2.2.2.2.2.2.2.2.2.2.1, (hE c).2.2.2.2.2.2.2.2.2.2.2.2.1, (hE c).2.2.2.2.2.2.2.2.2.2.2.2.2.1, (hE c).2.2.2.2.2.2.2.2.2.2.2.2.2.2.1, (hE c).2.2.2.2.2.2.2.2.2.2.2.2.2.2.2.1, (hE c).2.2.2.2.2.2.2.2.2.2.2.2.2.2.2.2.1, (hE c).2.2.2.2.2.2.2.2.2.2.2.2.2.2.2.2.2.1, (hE c).2.2.2.2.2.2.2.2.2.2.2.2.2.2.2.2.2.2.1, (hE c).2.2.2.2.2.2.2.2.2.2.2.2.2.2.2.2.2.2.2⟩) g')

end Cert.Proof.Algebraic

end
-- ==== Proof.lean ====
/-
  The claim's parts put together.
-/
module

public import proofs.«01_k».proof.Defs
public import proofs.«01_k».proof.Proof.LaunchKernel
public import proofs.«01_k».proof.Proof.LaunchKernelIdeal
public import proofs.«01_k».proof.Proof.RefRun
public import proofs.«01_k».proof.Proof.PreRead
public import proofs.«01_k».proof.Proof.Algebraic

@[expose] public section

open Idealize.ShloMosaic Idealize.SL.Sem

/-- The reference runs, leaves its arguments as they were and ends with every semaphore at zero. -/
theorem Cert.Proof.ref_frame : Cert.quiescent_ReferenceIdeal (hReferenceIdeal := Cert.ReferenceIdeal.Gen.facts) :=
  fun m ρ _ => (θ_run Cert.ReferenceIdeal.defs _ _).mono
    (fun r h => ⟨fun c => (h c).2.2.2.2.2.2.2.2.2.2.2.2.2.2.2, Idealize.ShloMosaic.sem_eq_zero_of_no_sems (by decide) r.2⟩)
    (Cert.Proof.RefRun.run_spec m ρ)

/-- The claim. -/
theorem Cert.Proof.claim : Cert.Claim :=
  ⟨Cert.Kernel.Gen.facts, Cert.KernelIdeal.Gen.facts, Cert.ReferenceIdeal.Gen.facts, Cert.Proof.PreRead.facts,
    fun m ρ _ => Cert.Proof.LaunchKernel.frame_all m ρ,
    fun m ρ _ => Cert.Proof.LaunchKernelIdeal.frame_all m ρ,
    fun m ρ _ => Cert.Proof.LaunchKernelIdeal.frame_all m ρ,
    Cert.Proof.ref_frame,
    fun m ρ _ => Cert.Proof.ref_frame m ρ trivial,
    trivial, Cert.Proof.Algebraic.algebraic⟩
